-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0_0) = v0 c
          ∧ r.2.mem ((c.tc : Thread Cert.Reference3Ideal.nD Cert.Reference3Ideal.τ).loc Cert.Reference3Ideal.main_v0_1) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0_0) = v0 c
          ∧ r.2.mem ((c.tc : Thread Cert.Reference4Ideal.nD Cert.Reference4Ideal.τ).loc Cert.Reference4Ideal.main_v0_1) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S3x200x336x256 : Shape := ⟨4, ![3, 200, 336, 256]⟩
abbrev S1 : Shape := ⟨1, ![1]⟩
abbrev S256x384 : Shape := ⟨2, ![256, 384]⟩
abbrev S384 : Shape := ⟨1, ![384]⟩
abbrev S3x3x384x384 : Shape := ⟨4, ![3, 3, 384, 384]⟩
abbrev S300x168x384 : Shape := ⟨3, ![300, 168, 384]⟩
abbrev S600x336x256 : Shape := ⟨3, ![600, 336, 256]⟩
abbrev S1x384 : Shape := ⟨2, ![1, 384]⟩
abbrev S3456x384 : Shape := ⟨2, ![3456, 384]⟩
abbrev S600x336x384 : Shape := ⟨3, ![600, 336, 384]⟩
abbrev S8x336x256 : Shape := ⟨3, ![8, 336, 256]⟩
abbrev S4x168x384 : Shape := ⟨3, ![4, 168, 384]⟩
abbrev S8x336x384 : Shape := ⟨3, ![8, 336, 384]⟩
abbrev S4x3x336x128 : Shape := ⟨4, ![4, 3, 336, 128]⟩
abbrev S2x3x368x128 : Shape := ⟨4, ![2, 3, 368, 128]⟩
abbrev S6x352x1152 : Shape := ⟨3, ![6, 352, 1152]⟩
abbrev S4x336x384 : Shape := ⟨3, ![4, 336, 384]⟩
abbrev S2 : Shape := ⟨1, ![2]⟩
abbrev S_ : Shape := ⟨0, ![]⟩
abbrev S1x168x384 : Shape := ⟨3, ![1, 168, 384]⟩
abbrev S168x384 : Shape := ⟨2, ![168, 384]⟩
abbrev S168x128 : Shape := ⟨2, ![168, 128]⟩
abbrev S1x1x168x128 : Shape := ⟨4, ![1, 1, 168, 128]⟩
abbrev S1x352x1152 : Shape := ⟨3, ![1, 352, 1152]⟩
abbrev S352x1152 : Shape := ⟨2, ![352, 1152]⟩
abbrev S256x128 : Shape := ⟨2, ![256, 128]⟩
abbrev S256x512 : Shape := ⟨2, ![256, 512]⟩
abbrev S1x336x256 : Shape := ⟨3, ![1, 336, 256]⟩
abbrev S336x256 : Shape := ⟨2, ![336, 256]⟩
abbrev S336x512 : Shape := ⟨2, ![336, 512]⟩
abbrev S336x128 : Shape := ⟨2, ![336, 128]⟩
abbrev S1x128 : Shape := ⟨2, ![1, 128]⟩
abbrev S1x1x336x128 : Shape := ⟨4, ![1, 1, 336, 128]⟩
abbrev S1x336x128 : Shape := ⟨3, ![1, 336, 128]⟩
abbrev S1x1x352x128 : Shape := ⟨4, ![1, 1, 352, 128]⟩
abbrev S352x128 : Shape := ⟨2, ![352, 128]⟩
abbrev S1x352x128 : Shape := ⟨3, ![1, 352, 128]⟩
abbrev S2x352x1152 : Shape := ⟨3, ![2, 352, 1152]⟩
abbrev S704x1152 : Shape := ⟨2, ![704, 1152]⟩
abbrev S704x3456 : Shape := ⟨2, ![704, 3456]⟩
abbrev S704x384 : Shape := ⟨2, ![704, 384]⟩
abbrev S336x384 : Shape := ⟨2, ![336, 384]⟩
abbrev S1x336x384 : Shape := ⟨3, ![1, 336, 384]⟩

abbrev nBuf : Space → Nat
  | .hbm => 20
  | .vmem => 18
  | .smem => 4
  | _ => 0

abbrev bufTy : (tb : Table) → Fin (tcTables nBuf tb) → BufTy
  | .hbm, ⟨0, _⟩ => ⟨S3x200x336x256, .fp8e4m3⟩
  | .hbm, ⟨1, _⟩ => ⟨S1, .f32⟩
  | .hbm, ⟨2, _⟩ => ⟨S256x384, .fp8e4m3⟩
  | .hbm, ⟨3, _⟩ => ⟨S384, .f32⟩
  | .hbm, ⟨4, _⟩ => ⟨S384, .f32⟩
  | .hbm, ⟨5, _⟩ => ⟨S3x3x384x384, .fp8e4m3⟩
  | .hbm, ⟨6, _⟩ => ⟨S384, .f32⟩
  | .hbm, ⟨7, _⟩ => ⟨S384, .f32⟩
  | .hbm, ⟨8, _⟩ => ⟨S1, .f32⟩
  | .hbm, ⟨9, _⟩ => ⟨S1, .f32⟩
  | .hbm, ⟨10, _⟩ => ⟨S300x168x384, .fp8e4m3⟩
  | .hbm, ⟨11, _⟩ => ⟨S1, .f32⟩
  | .hbm, ⟨12, _⟩ => ⟨S600x336x256, .fp8e4m3⟩
  | .hbm, ⟨13, _⟩ => ⟨S1x384, .f32⟩
  | .hbm, ⟨14, _⟩ => ⟨S1x384, .f32⟩
  | .hbm, ⟨15, _⟩ => ⟨S3456x384, .fp8e4m3⟩
  | .hbm, ⟨16, _⟩ => ⟨S1x384, .f32⟩
  | .hbm, ⟨17, _⟩ => ⟨S1x384, .f32⟩
  | .hbm, ⟨18, _⟩ => ⟨S600x336x384, .bf16⟩
  | .hbm, ⟨19, _⟩ => ⟨S600x336x384, .fp8e4m3⟩
  | .local _ .vmem, ⟨0, _⟩ => ⟨S8x336x256, .fp8e4m3⟩
  | .local _ .vmem, ⟨1, _⟩ => ⟨S8x336x256, .fp8e4m3⟩
  | .local _ .vmem, ⟨2, _⟩ => ⟨S256x384, .fp8e4m3⟩
  | .local _ .vmem, ⟨3, _⟩ => ⟨S1x384, .f32⟩
  | .local _ .vmem, ⟨4, _⟩ => ⟨S1x384, .f32⟩
  | .local _ .vmem, ⟨5, _⟩ => ⟨S3456x384, .fp8e4m3⟩
  | .local _ .vmem, ⟨6, _⟩ => ⟨S1x384, .f32⟩
  | .local _ .vmem, ⟨7, _⟩ => ⟨S1x384, .f32⟩
  | .local _ .vmem, ⟨8, _⟩ => ⟨S4x168x384, .fp8e4m3⟩
  | .local _ .vmem, ⟨9, _⟩ => ⟨S4x168x384, .fp8e4m3⟩
  | .local _ .vmem, ⟨10, _⟩ => ⟨S8x336x384, .fp8e4m3⟩
  | .local _ .vmem, ⟨11, _⟩ => ⟨S8x336x384, .fp8e4m3⟩
  | .local _ .vmem, ⟨12, _⟩ => ⟨S4x3x336x128, .f32⟩
  | .local _ .vmem, ⟨13, _⟩ => ⟨S2x3x368x128, .f32⟩
  | .local _ .vmem, ⟨14, _⟩ => ⟨S6x352x1152, .fp8e4m3⟩
  | .local _ .vmem, ⟨15, _⟩ => ⟨S6x352x1152, .fp8e4m3⟩
  | .local _ .vmem, ⟨16, _⟩ => ⟨S4x336x384, .bf16⟩
  | .local _ .vmem, ⟨17, _⟩ => ⟨S4x336x384, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S3x200x336x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg12_0 : Ref sig .tc := ⟨.vmem, 10, rfl⟩
abbrev cc0_stg12_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg1_0 : Ref sig .tc := ⟨.smem, 0, rfl⟩
abbrev cc0_stg8_0 : Ref sig .tc := ⟨.smem, 1, rfl⟩
abbrev cc0_stg9_0 : Ref sig .tc := ⟨.smem, 2, rfl⟩
abbrev cc0_stg11_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![76], ![false]⟩

def k0_cond2 (i : grid0.Coords) : BitVec 1 :=
  let arg0 : BitVec 32 := BitVec.ofNat 32 (i 0).val
  let c2_i32 : BitVec 32 := 2#32
  let v5 : BitVec 1 := Scalar.cmpi .sge arg0 c2_i32
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg0 : BitVec 32 := BitVec.ofNat 32 (i 0).val
  let c1_i32_1088 : BitVec 32 := 1#32
  let v1309 : BitVec 32 := Scalar.subi arg0 c1_i32_1088
  let c8_i32 : BitVec 32 := 8#32
  let v1310 : BitVec 32 := Scalar.muli v1309 c8_i32
  let c4_i32 : BitVec 32 := 4#32
  let v1311 : BitVec 32 := Scalar.subi v1310 c4_i32
  let c0_i32_1090 : BitVec 32 := 0#32
  let c0_i32_1091 : BitVec 32 := 0#32
  ![v1311.toNat, 0, 0]
def k0_cond3 (i : grid0.Coords) : BitVec 1 :=
  let arg0 : BitVec 32 := BitVec.ofNat 32 (i 0).val
  let c1_i32 : BitVec 32 := 1#32
  let v8 : BitVec 1 := Scalar.cmpi .sge arg0 c1_i32
  let v9 : BitVec 32 := Scalar.extui v8
  let c0_i32_3 : BitVec 32 := 0#32
  let v10 : BitVec 1 := Scalar.cmpi .ne v9 c0_i32_3
  v10

def k0_off2 (i : grid0.Coords) : Fin 3 → Nat :=
  let arg0 : BitVec 32 := BitVec.ofNat 32 (i 0).val
  let c1_i32_1088 : BitVec 32 := 1#32
  let v1309 : BitVec 32 := Scalar.subi arg0 c1_i32_1088
  let c8_i32 : BitVec 32 := 8#32
  let v1310 : BitVec 32 := Scalar.muli v1309 c8_i32
  let c0_i32_1090 : BitVec 32 := 0#32
  let c0_i32_1091 : BitVec 32 := 0#32
  ![v1310.toNat, 0, 0]
def k0_cond4 (i : grid0.Coords) : BitVec 1 :=
  let arg0 : BitVec 32 := BitVec.ofNat 32 (i 0).val
  let c1_i32_1083 : BitVec 32 := 1#32
  let v1300 : BitVec 1 := Scalar.cmpi .sge arg0 c1_i32_1083
  let v1301 : BitVec 32 := Scalar.extui v1300
  let c0_i32_1084 : BitVec 32 := 0#32
  let v1302 : BitVec 1 := Scalar.cmpi .ne v1301 c0_i32_1084
  v1302

def k0_off3 (i : grid0.Coords) : Fin 3 → Nat :=
  let arg0 : BitVec 32 := BitVec.ofNat 32 (i 0).val
  let c8_i32 : BitVec 32 := 8#32
  let v1309 : BitVec 32 := Scalar.muli arg0 c8_i32
  let c4_i32 : BitVec 32 := 4#32
  let v1310 : BitVec 32 := Scalar.subi v1309 c4_i32
  let c0_i32_1089 : BitVec 32 := 0#32
  let c0_i32_1090 : BitVec 32 := 0#32
  ![v1310.toNat, 0, 0]
def k0_cond5 (i : grid0.Coords) : BitVec 1 :=
  let arg0 : BitVec 32 := BitVec.ofNat 32 (i 0).val
  let c75_i32 : BitVec 32 := 75#32
  let v1303 : BitVec 1 := Scalar.cmpi .slt arg0 c75_i32
  let v1304 : BitVec 32 := Scalar.extui v1303
  let c0_i32_1085 : BitVec 32 := 0#32
  let v1305 : BitVec 1 := Scalar.cmpi .ne v1304 c0_i32_1085
  v1305

def k0_off4 (i : grid0.Coords) : Fin 3 → Nat :=
  let arg0 : BitVec 32 := BitVec.ofNat 32 (i 0).val
  let c8_i32 : BitVec 32 := 8#32
  let v1309 : BitVec 32 := Scalar.muli arg0 c8_i32
  let c0_i32_1089 : BitVec 32 := 0#32
  let c0_i32_1090 : BitVec 32 := 0#32
  ![v1309.toNat, 0, 0]
def k0_cond6 (i : grid0.Coords) : BitVec 1 :=
  let arg0 : BitVec 32 := BitVec.ofNat 32 (i 0).val
  let c75_i32_1086 : BitVec 32 := 75#32
  let v1306 : BitVec 1 := Scalar.cmpi .eq arg0 c75_i32_1086
  let v1307 : BitVec 32 := Scalar.extui v1306
  let c0_i32_1087 : BitVec 32 := 0#32
  let v1308 : BitVec 1 := Scalar.cmpi .ne v1307 c0_i32_1087
  v1308

def k0_off5 (i : grid0.Coords) : Fin 3 → Nat :=
  let arg0 : BitVec 32 := BitVec.ofNat 32 (i 0).val
  let c8_i32 : BitVec 32 := 8#32
  let v1309 : BitVec 32 := Scalar.muli arg0 c8_i32
  let c4_i32 : BitVec 32 := 4#32
  let v1310 : BitVec 32 := Scalar.subi v1309 c4_i32
  let c0_i32_1089 : BitVec 32 := 0#32
  let c0_i32_1090 : BitVec 32 := 0#32
  ![v1310.toNat, 0, 0]
def cc0_transform_0 (i : grid0.Coords) : Fin 3 → Nat :=
  let arg0 : BitVec 32 := BitVec.ofNat 32 (i 0).val
  let c74_i32 : BitVec 32 := 74#32
  let v0 : BitVec 32 := Scalar.minsi arg0 c74_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c74_i32 : BitVec 32 := 74#32
  let v0 : BitVec 32 := Scalar.minsi arg0 c74_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c74_i32 : BitVec 32 := 74#32
  let v0 : BitVec 32 := Scalar.minsi arg0 c74_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S8x336x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3456x384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x168x384 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x336x384 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S3x200x336x256 : Shape := ⟨4, ![3, 200, 336, 256]⟩
abbrev S1 : Shape := ⟨1, ![1]⟩
abbrev S256x384 : Shape := ⟨2, ![256, 384]⟩
abbrev S384 : Shape := ⟨1, ![384]⟩
abbrev S3x3x384x384 : Shape := ⟨4, ![3, 3, 384, 384]⟩
abbrev S300x168x384 : Shape := ⟨3, ![300, 168, 384]⟩
abbrev S600x336x384 : Shape := ⟨3, ![600, 336, 384]⟩
abbrev S3x200x336x384 : Shape := ⟨4, ![3, 200, 336, 384]⟩
abbrev S1x1x1x384 : Shape := ⟨4, ![1, 1, 1, 384]⟩
abbrev S3x100x168x384 : Shape := ⟨4, ![3, 100, 168, 384]⟩
abbrev S3x100x2x168x2x384 : Shape := ⟨6, ![3, 100, 2, 168, 2, 384]⟩
abbrev S3x100x1x168x1x384 : Shape := ⟨6, ![3, 100, 1, 168, 1, 384]⟩
abbrev S3x1x336x384 : Shape := ⟨4, ![3, 1, 336, 384]⟩
abbrev S3x201x336x384 : Shape := ⟨4, ![3, 201, 336, 384]⟩
abbrev S3x202x336x384 : Shape := ⟨4, ![3, 202, 336, 384]⟩
abbrev S3x202x1x384 : Shape := ⟨4, ![3, 202, 1, 384]⟩
abbrev S3x202x337x384 : Shape := ⟨4, ![3, 202, 337, 384]⟩
abbrev S3x202x338x384 : Shape := ⟨4, ![3, 202, 338, 384]⟩
abbrev S1x1x384x384 : Shape := ⟨4, ![1, 1, 384, 384]⟩
abbrev S384x384 : Shape := ⟨2, ![384, 384]⟩

abbrev nBuf : Space → Nat
  | .hbm => 14
  | .vmem => 14
  | .smem => 0
  | _ => 0

abbrev bufTy : (tb : Table) → Fin (tcTables nBuf tb) → BufTy
  | .hbm, ⟨0, _⟩ => ⟨S3x200x336x256, .fp8e4m3⟩
  | .hbm, ⟨1, _⟩ => ⟨S1, .f32⟩
  | .hbm, ⟨2, _⟩ => ⟨S256x384, .fp8e4m3⟩
  | .hbm, ⟨3, _⟩ => ⟨S384, .f32⟩
  | .hbm, ⟨4, _⟩ => ⟨S384, .f32⟩
  | .hbm, ⟨5, _⟩ => ⟨S3x3x384x384, .fp8e4m3⟩
  | .hbm, ⟨6, _⟩ => ⟨S384, .f32⟩
  | .hbm, ⟨7, _⟩ => ⟨S384, .f32⟩
  | .hbm, ⟨8, _⟩ => ⟨S1, .f32⟩
  | .hbm, ⟨9, _⟩ => ⟨S1, .f32⟩
  | .hbm, ⟨10, _⟩ => ⟨S300x168x384, .fp8e4m3⟩
  | .hbm, ⟨11, _⟩ => ⟨S1, .f32⟩
  | .hbm, ⟨12, _⟩ => ⟨S600x336x384, .bf16⟩
  | .hbm, ⟨13, _⟩ => ⟨S600x336x384, .fp8e4m3⟩
  | .local _ .vmem, ⟨0, _⟩ => ⟨S3x200x336x256, .fp8e4m3⟩
  | .local _ .vmem, ⟨1, _⟩ => ⟨S1, .f32⟩
  | .local _ .vmem, ⟨2, _⟩ => ⟨S256x384, .fp8e4m3⟩
  | .local _ .vmem, ⟨3, _⟩ => ⟨S384, .f32⟩
  | .local _ .vmem, ⟨4, _⟩ => ⟨S384, .f32⟩
  | .local _ .vmem, ⟨5, _⟩ => ⟨S3x3x384x384, .fp8e4m3⟩
  | .local _ .vmem, ⟨6, _⟩ => ⟨S384, .f32⟩
  | .local _ .vmem, ⟨7, _⟩ => ⟨S384, .f32⟩
  | .local _ .vmem, ⟨8, _⟩ => ⟨S1, .f32⟩
  | .local _ .vmem, ⟨9, _⟩ => ⟨S1, .f32⟩
  | .local _ .vmem, ⟨10, _⟩ => ⟨S300x168x384, .fp8e4m3⟩
  | .local _ .vmem, ⟨11, _⟩ => ⟨S1, .f32⟩
  | .local _ .vmem, ⟨12, _⟩ => ⟨S600x336x384, .bf16⟩
  | .local _ .vmem, ⟨13, _⟩ => ⟨S600x336x384, .fp8e4m3⟩
  | _, _ => ⟨S3x200x336x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3x200x336x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3x384x384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S300x168x384 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S600x336x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S600x336x384 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Kernel3.lean ====
abbrev S3x100x168x512 : Shape := ⟨4, ![3, 100, 168, 512]⟩
abbrev S1 : Shape := ⟨1, ![1]⟩
abbrev S512x384 : Shape := ⟨2, ![512, 384]⟩
abbrev S384 : Shape := ⟨1, ![384]⟩
abbrev S3x3x384x384 : Shape := ⟨4, ![3, 3, 384, 384]⟩
abbrev S150x84x384 : Shape := ⟨3, ![150, 84, 384]⟩
abbrev S300x168x512 : Shape := ⟨3, ![300, 168, 512]⟩
abbrev S1x384 : Shape := ⟨2, ![1, 384]⟩
abbrev S3456x384 : Shape := ⟨2, ![3456, 384]⟩
abbrev S300x168x384 : Shape := ⟨3, ![300, 168, 384]⟩
abbrev S10x168x512 : Shape := ⟨3, ![10, 168, 512]⟩
abbrev S5x84x384 : Shape := ⟨3, ![5, 84, 384]⟩
abbrev S10x168x384 : Shape := ⟨3, ![10, 168, 384]⟩
abbrev S5x3x168x128 : Shape := ⟨4, ![5, 3, 168, 128]⟩
abbrev S2x3x208x128 : Shape := ⟨4, ![2, 3, 208, 128]⟩
abbrev S7x192x1152 : Shape := ⟨3, ![7, 192, 1152]⟩
abbrev S5x168x384 : Shape := ⟨3, ![5, 168, 384]⟩
abbrev S2 : Shape := ⟨1, ![2]⟩
abbrev S_ : Shape := ⟨0, ![]⟩
abbrev S1x84x384 : Shape := ⟨3, ![1, 84, 384]⟩
abbrev S84x384 : Shape := ⟨2, ![84, 384]⟩
abbrev S84x128 : Shape := ⟨2, ![84, 128]⟩
abbrev S1x1x84x128 : Shape := ⟨4, ![1, 1, 84, 128]⟩
abbrev S1x192x1152 : Shape := ⟨3, ![1, 192, 1152]⟩
abbrev S192x1152 : Shape := ⟨2, ![192, 1152]⟩
abbrev S512x128 : Shape := ⟨2, ![512, 128]⟩
abbrev S512x512 : Shape := ⟨2, ![512, 512]⟩
abbrev S1x168x512 : Shape := ⟨3, ![1, 168, 512]⟩
abbrev S168x512 : Shape := ⟨2, ![168, 512]⟩
abbrev S168x128 : Shape := ⟨2, ![168, 128]⟩
abbrev S1x128 : Shape := ⟨2, ![1, 128]⟩
abbrev S1x1x168x128 : Shape := ⟨4, ![1, 1, 168, 128]⟩
abbrev S1x168x128 : Shape := ⟨3, ![1, 168, 128]⟩
abbrev S1x1x192x128 : Shape := ⟨4, ![1, 1, 192, 128]⟩
abbrev S192x128 : Shape := ⟨2, ![192, 128]⟩
abbrev S1x192x128 : Shape := ⟨3, ![1, 192, 128]⟩
abbrev S2x192x1152 : Shape := ⟨3, ![2, 192, 1152]⟩
abbrev S384x1152 : Shape := ⟨2, ![384, 1152]⟩
abbrev S384x3456 : Shape := ⟨2, ![384, 3456]⟩
abbrev S384x384 : Shape := ⟨2, ![384, 384]⟩
abbrev S168x384 : Shape := ⟨2, ![168, 384]⟩
abbrev S1x168x384 : Shape := ⟨3, ![1, 168, 384]⟩
abbrev S192x3456 : Shape := ⟨2, ![192, 3456]⟩
abbrev S192x384 : Shape := ⟨2, ![192, 384]⟩

abbrev nBuf : Space → Nat
  | .hbm => 20
  | .vmem => 18
  | .smem => 4
  | _ => 0

abbrev bufTy : (tb : Table) → Fin (tcTables nBuf tb) → BufTy
  | .hbm, ⟨0, _⟩ => ⟨S3x100x168x512, .fp8e4m3⟩
  | .hbm, ⟨1, _⟩ => ⟨S1, .f32⟩
  | .hbm, ⟨2, _⟩ => ⟨S512x384, .fp8e4m3⟩
  | .hbm, ⟨3, _⟩ => ⟨S384, .f32⟩
  | .hbm, ⟨4, _⟩ => ⟨S384, .f32⟩
  | .hbm, ⟨5, _⟩ => ⟨S3x3x384x384, .fp8e4m3⟩
  | .hbm, ⟨6, _⟩ => ⟨S384, .f32⟩
  | .hbm, ⟨7, _⟩ => ⟨S384, .f32⟩
  | .hbm, ⟨8, _⟩ => ⟨S1, .f32⟩
  | .hbm, ⟨9, _⟩ => ⟨S1, .f32⟩
  | .hbm, ⟨10, _⟩ => ⟨S150x84x384, .fp8e4m3⟩
  | .hbm, ⟨11, _⟩ => ⟨S1, .f32⟩
  | .hbm, ⟨12, _⟩ => ⟨S300x168x512, .fp8e4m3⟩
  | .hbm, ⟨13, _⟩ => ⟨S1x384, .f32⟩
  | .hbm, ⟨14, _⟩ => ⟨S1x384, .f32⟩
  | .hbm, ⟨15, _⟩ => ⟨S3456x384, .fp8e4m3⟩
  | .hbm, ⟨16, _⟩ => ⟨S1x384, .f32⟩
  | .hbm, ⟨17, _⟩ => ⟨S1x384, .f32⟩
  | .hbm, ⟨18, _⟩ => ⟨S300x168x384, .bf16⟩
  | .hbm, ⟨19, _⟩ => ⟨S300x168x384, .fp8e4m3⟩
  | .local _ .vmem, ⟨0, _⟩ => ⟨S10x168x512, .fp8e4m3⟩
  | .local _ .vmem, ⟨1, _⟩ => ⟨S10x168x512, .fp8e4m3⟩
  | .local _ .vmem, ⟨2, _⟩ => ⟨S512x384, .fp8e4m3⟩
  | .local _ .vmem, ⟨3, _⟩ => ⟨S1x384, .f32⟩
  | .local _ .vmem, ⟨4, _⟩ => ⟨S1x384, .f32⟩
  | .local _ .vmem, ⟨5, _⟩ => ⟨S3456x384, .fp8e4m3⟩
  | .local _ .vmem, ⟨6, _⟩ => ⟨S1x384, .f32⟩
  | .local _ .vmem, ⟨7, _⟩ => ⟨S1x384, .f32⟩
  | .local _ .vmem, ⟨8, _⟩ => ⟨S5x84x384, .fp8e4m3⟩
  | .local _ .vmem, ⟨9, _⟩ => ⟨S5x84x384, .fp8e4m3⟩
  | .local _ .vmem, ⟨10, _⟩ => ⟨S10x168x384, .fp8e4m3⟩
  | .local _ .vmem, ⟨11, _⟩ => ⟨S10x168x384, .fp8e4m3⟩
  | .local _ .vmem, ⟨12, _⟩ => ⟨S5x3x168x128, .f32⟩
  | .local _ .vmem, ⟨13, _⟩ => ⟨S2x3x208x128, .f32⟩
  | .local _ .vmem, ⟨14, _⟩ => ⟨S7x192x1152, .fp8e4m3⟩
  | .local _ .vmem, ⟨15, _⟩ => ⟨S7x192x1152, .fp8e4m3⟩
  | .local _ .vmem, ⟨16, _⟩ => ⟨S5x168x384, .bf16⟩
  | .local _ .vmem, ⟨17, _⟩ => ⟨S5x168x384, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S3x100x168x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg12_0 : Ref sig .tc := ⟨.vmem, 10, rfl⟩
abbrev cc0_stg12_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg1_0 : Ref sig .tc := ⟨.smem, 0, rfl⟩
abbrev cc0_stg8_0 : Ref sig .tc := ⟨.smem, 1, rfl⟩
abbrev cc0_stg9_0 : Ref sig .tc := ⟨.smem, 2, rfl⟩
abbrev cc0_stg11_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c2_i32 : BitVec 32 := 2#32
  let v5 : BitVec 1 := Scalar.cmpi .sge arg0 c2_i32
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg0 : BitVec 32 := BitVec.ofNat 32 (i 0).val
  let c1_i32_1365 : BitVec 32 := 1#32
  let v1631 : BitVec 32 := Scalar.subi arg0 c1_i32_1365
  let c10_i32_1366 : BitVec 32 := 10#32
  let v1632 : BitVec 32 := Scalar.muli v1631 c10_i32_1366
  let c5_i32 : BitVec 32 := 5#32
  let v1633 : BitVec 32 := Scalar.subi v1632 c5_i32
  let c0_i32_1368 : BitVec 32 := 0#32
  let c0_i32_1369 : BitVec 32 := 0#32
  ![v1633.toNat, 0, 0]
def k0_cond3 (i : grid0.Coords) : BitVec 1 :=
  let arg0 : BitVec 32 := BitVec.ofNat 32 (i 0).val
  let c1_i32 : BitVec 32 := 1#32
  let v8 : BitVec 1 := Scalar.cmpi .sge arg0 c1_i32
  let v9 : BitVec 32 := Scalar.extui v8
  let c0_i32_3 : BitVec 32 := 0#32
  let v10 : BitVec 1 := Scalar.cmpi .ne v9 c0_i32_3
  v10

def k0_off2 (i : grid0.Coords) : Fin 3 → Nat :=
  let arg0 : BitVec 32 := BitVec.ofNat 32 (i 0).val
  let c1_i32_1365 : BitVec 32 := 1#32
  let v1631 : BitVec 32 := Scalar.subi arg0 c1_i32_1365
  let c10_i32_1366 : BitVec 32 := 10#32
  let v1632 : BitVec 32 := Scalar.muli v1631 c10_i32_1366
  let c0_i32_1368 : BitVec 32 := 0#32
  let c0_i32_1369 : BitVec 32 := 0#32
  ![v1632.toNat, 0, 0]
def k0_cond4 (i : grid0.Coords) : BitVec 1 :=
  let arg0 : BitVec 32 := BitVec.ofNat 32 (i 0).val
  let c1_i32_1360 : BitVec 32 := 1#32
  let v1622 : BitVec 1 := Scalar.cmpi .sge arg0 c1_i32_1360
  let v1623 : BitVec 32 := Scalar.extui v1622
  let c0_i32_1361 : BitVec 32 := 0#32
  let v1624 : BitVec 1 := Scalar.cmpi .ne v1623 c0_i32_1361
  v1624

def k0_off3 (i : grid0.Coords) : Fin 3 → Nat :=
  let arg0 : BitVec 32 := BitVec.ofNat 32 (i 0).val
  let c10_i32_1365 : BitVec 32 := 10#32
  let v1631 : BitVec 32 := Scalar.muli arg0 c10_i32_1365
  let c5_i32 : BitVec 32 := 5#32
  let v1632 : BitVec 32 := Scalar.subi v1631 c5_i32
  let c0_i32_1367 : BitVec 32 := 0#32
  let c0_i32_1368 : BitVec 32 := 0#32
  ![v1632.toNat, 0, 0]
def k0_cond5 (i : grid0.Coords) : BitVec 1 :=
  let arg0 : BitVec 32 := BitVec.ofNat 32 (i 0).val
  let c30_i32 : BitVec 32 := 30#32
  let v1625 : BitVec 1 := Scalar.cmpi .slt arg0 c30_i32
  let v1626 : BitVec 32 := Scalar.extui v1625
  let c0_i32_1362 : BitVec 32 := 0#32
  let v1627 : BitVec 1 := Scalar.cmpi .ne v1626 c0_i32_1362
  v1627

def k0_off4 (i : grid0.Coords) : Fin 3 → Nat :=
  let arg0 : BitVec 32 := BitVec.ofNat 32 (i 0).val
  let c10_i32_1365 : BitVec 32 := 10#32
  let v1631 : BitVec 32 := Scalar.muli arg0 c10_i32_1365
  let c0_i32_1367 : BitVec 32 := 0#32
  let c0_i32_1368 : BitVec 32 := 0#32
  ![v1631.toNat, 0, 0]
def k0_cond6 (i : grid0.Coords) : BitVec 1 :=
  let arg0 : BitVec 32 := BitVec.ofNat 32 (i 0).val
  let c30_i32_1363 : BitVec 32 := 30#32
  let v1628 : BitVec 1 := Scalar.cmpi .eq arg0 c30_i32_1363
  let v1629 : BitVec 32 := Scalar.extui v1628
  let c0_i32_1364 : BitVec 32 := 0#32
  let v1630 : BitVec 1 := Scalar.cmpi .ne v1629 c0_i32_1364
  v1630

def k0_off5 (i : grid0.Coords) : Fin 3 → Nat :=
  let arg0 : BitVec 32 := BitVec.ofNat 32 (i 0).val
  let c10_i32_1365 : BitVec 32 := 10#32
  let v1631 : BitVec 32 := Scalar.muli arg0 c10_i32_1365
  let c5_i32 : BitVec 32 := 5#32
  let v1632 : BitVec 32 := Scalar.subi v1631 c5_i32
  let c0_i32_1367 : BitVec 32 := 0#32
  let c0_i32_1368 : BitVec 32 := 0#32
  ![v1632.toNat, 0, 0]
def cc0_transform_0 (i : grid0.Coords) : Fin 3 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S10x168x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3456x384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5x84x384 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S10x168x384 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S3x100x168x512 : Shape := ⟨4, ![3, 100, 168, 512]⟩
abbrev S1 : Shape := ⟨1, ![1]⟩
abbrev S512x384 : Shape := ⟨2, ![512, 384]⟩
abbrev S384 : Shape := ⟨1, ![384]⟩
abbrev S3x3x384x384 : Shape := ⟨4, ![3, 3, 384, 384]⟩
abbrev S150x84x384 : Shape := ⟨3, ![150, 84, 384]⟩
abbrev S300x168x384 : Shape := ⟨3, ![300, 168, 384]⟩
abbrev S3x100x168x384 : Shape := ⟨4, ![3, 100, 168, 384]⟩
abbrev S1x1x1x384 : Shape := ⟨4, ![1, 1, 1, 384]⟩
abbrev S3x50x84x384 : Shape := ⟨4, ![3, 50, 84, 384]⟩
abbrev S3x50x2x84x2x384 : Shape := ⟨6, ![3, 50, 2, 84, 2, 384]⟩
abbrev S3x50x1x84x1x384 : Shape := ⟨6, ![3, 50, 1, 84, 1, 384]⟩
abbrev S3x1x168x384 : Shape := ⟨4, ![3, 1, 168, 384]⟩
abbrev S3x101x168x384 : Shape := ⟨4, ![3, 101, 168, 384]⟩
abbrev S3x102x168x384 : Shape := ⟨4, ![3, 102, 168, 384]⟩
abbrev S3x102x1x384 : Shape := ⟨4, ![3, 102, 1, 384]⟩
abbrev S3x102x169x384 : Shape := ⟨4, ![3, 102, 169, 384]⟩
abbrev S3x102x170x384 : Shape := ⟨4, ![3, 102, 170, 384]⟩
abbrev S1x1x384x384 : Shape := ⟨4, ![1, 1, 384, 384]⟩
abbrev S384x384 : Shape := ⟨2, ![384, 384]⟩

abbrev nBuf : Space → Nat
  | .hbm => 14
  | .vmem => 14
  | .smem => 0
  | _ => 0

abbrev bufTy : (tb : Table) → Fin (tcTables nBuf tb) → BufTy
  | .hbm, ⟨0, _⟩ => ⟨S3x100x168x512, .fp8e4m3⟩
  | .hbm, ⟨1, _⟩ => ⟨S1, .f32⟩
  | .hbm, ⟨2, _⟩ => ⟨S512x384, .fp8e4m3⟩
  | .hbm, ⟨3, _⟩ => ⟨S384, .f32⟩
  | .hbm, ⟨4, _⟩ => ⟨S384, .f32⟩
  | .hbm, ⟨5, _⟩ => ⟨S3x3x384x384, .fp8e4m3⟩
  | .hbm, ⟨6, _⟩ => ⟨S384, .f32⟩
  | .hbm, ⟨7, _⟩ => ⟨S384, .f32⟩
  | .hbm, ⟨8, _⟩ => ⟨S1, .f32⟩
  | .hbm, ⟨9, _⟩ => ⟨S1, .f32⟩
  | .hbm, ⟨10, _⟩ => ⟨S150x84x384, .fp8e4m3⟩
  | .hbm, ⟨11, _⟩ => ⟨S1, .f32⟩
  | .hbm, ⟨12, _⟩ => ⟨S300x168x384, .bf16⟩
  | .hbm, ⟨13, _⟩ => ⟨S300x168x384, .fp8e4m3⟩
  | .local _ .vmem, ⟨0, _⟩ => ⟨S3x100x168x512, .fp8e4m3⟩
  | .local _ .vmem, ⟨1, _⟩ => ⟨S1, .f32⟩
  | .local _ .vmem, ⟨2, _⟩ => ⟨S512x384, .fp8e4m3⟩
  | .local _ .vmem, ⟨3, _⟩ => ⟨S384, .f32⟩
  | .local _ .vmem, ⟨4, _⟩ => ⟨S384, .f32⟩
  | .local _ .vmem, ⟨5, _⟩ => ⟨S3x3x384x384, .fp8e4m3⟩
  | .local _ .vmem, ⟨6, _⟩ => ⟨S384, .f32⟩
  | .local _ .vmem, ⟨7, _⟩ => ⟨S384, .f32⟩
  | .local _ .vmem, ⟨8, _⟩ => ⟨S1, .f32⟩
  | .local _ .vmem, ⟨9, _⟩ => ⟨S1, .f32⟩
  | .local _ .vmem, ⟨10, _⟩ => ⟨S150x84x384, .fp8e4m3⟩
  | .local _ .vmem, ⟨11, _⟩ => ⟨S1, .f32⟩
  | .local _ .vmem, ⟨12, _⟩ => ⟨S300x168x384, .bf16⟩
  | .local _ .vmem, ⟨13, _⟩ => ⟨S300x168x384, .fp8e4m3⟩
  | _, _ => ⟨S3x100x168x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3x100x168x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3x384x384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S150x84x384 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S300x168x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S300x168x384 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Kernel4.lean ====
abbrev S3x50x84x1024 : Shape := ⟨4, ![3, 50, 84, 1024]⟩
abbrev S1 : Shape := ⟨1, ![1]⟩
abbrev S1024x384 : Shape := ⟨2, ![1024, 384]⟩
abbrev S384 : Shape := ⟨1, ![384]⟩
abbrev S3x3x384x384 : Shape := ⟨4, ![3, 3, 384, 384]⟩
abbrev S75x42x384 : Shape := ⟨3, ![75, 42, 384]⟩
abbrev S150x84x1024 : Shape := ⟨3, ![150, 84, 1024]⟩
abbrev S1x384 : Shape := ⟨2, ![1, 384]⟩
abbrev S3456x384 : Shape := ⟨2, ![3456, 384]⟩
abbrev S150x84x384 : Shape := ⟨3, ![150, 84, 384]⟩
abbrev S10x84x1024 : Shape := ⟨3, ![10, 84, 1024]⟩
abbrev S5x42x384 : Shape := ⟨3, ![5, 42, 384]⟩
abbrev S10x84x384 : Shape := ⟨3, ![10, 84, 384]⟩
abbrev S5x3x88x128 : Shape := ⟨4, ![5, 3, 88, 128]⟩
abbrev S2x3x112x128 : Shape := ⟨4, ![2, 3, 112, 128]⟩
abbrev S7x96x1152 : Shape := ⟨3, ![7, 96, 1152]⟩
abbrev S5x84x384 : Shape := ⟨3, ![5, 84, 384]⟩
abbrev S2 : Shape := ⟨1, ![2]⟩
abbrev S_ : Shape := ⟨0, ![]⟩
abbrev S1x42x384 : Shape := ⟨3, ![1, 42, 384]⟩
abbrev S42x384 : Shape := ⟨2, ![42, 384]⟩
abbrev S42x128 : Shape := ⟨2, ![42, 128]⟩
abbrev S1x1x42x128 : Shape := ⟨4, ![1, 1, 42, 128]⟩
abbrev S1x96x1152 : Shape := ⟨3, ![1, 96, 1152]⟩
abbrev S96x1152 : Shape := ⟨2, ![96, 1152]⟩
abbrev S1024x128 : Shape := ⟨2, ![1024, 128]⟩
abbrev S1024x512 : Shape := ⟨2, ![1024, 512]⟩
abbrev S1x84x1024 : Shape := ⟨3, ![1, 84, 1024]⟩
abbrev S84x1024 : Shape := ⟨2, ![84, 1024]⟩
abbrev S84x512 : Shape := ⟨2, ![84, 512]⟩
abbrev S84x128 : Shape := ⟨2, ![84, 128]⟩
abbrev S1x128 : Shape := ⟨2, ![1, 128]⟩
abbrev S1x1x84x128 : Shape := ⟨4, ![1, 1, 84, 128]⟩
abbrev S1x84x128 : Shape := ⟨3, ![1, 84, 128]⟩
abbrev S1x1x96x128 : Shape := ⟨4, ![1, 1, 96, 128]⟩
abbrev S96x128 : Shape := ⟨2, ![96, 128]⟩
abbrev S1x96x128 : Shape := ⟨3, ![1, 96, 128]⟩
abbrev S2x96x1152 : Shape := ⟨3, ![2, 96, 1152]⟩
abbrev S192x1152 : Shape := ⟨2, ![192, 1152]⟩
abbrev S192x3456 : Shape := ⟨2, ![192, 3456]⟩
abbrev S192x384 : Shape := ⟨2, ![192, 384]⟩
abbrev S84x384 : Shape := ⟨2, ![84, 384]⟩
abbrev S1x84x384 : Shape := ⟨3, ![1, 84, 384]⟩
abbrev S96x3456 : Shape := ⟨2, ![96, 3456]⟩
abbrev S96x384 : Shape := ⟨2, ![96, 384]⟩

abbrev nBuf : Space → Nat
  | .hbm => 20
  | .vmem => 18
  | .smem => 4
  | _ => 0

abbrev bufTy : (tb : Table) → Fin (tcTables nBuf tb) → BufTy
  | .hbm, ⟨0, _⟩ => ⟨S3x50x84x1024, .fp8e4m3⟩
  | .hbm, ⟨1, _⟩ => ⟨S1, .f32⟩
  | .hbm, ⟨2, _⟩ => ⟨S1024x384, .fp8e4m3⟩
  | .hbm, ⟨3, _⟩ => ⟨S384, .f32⟩
  | .hbm, ⟨4, _⟩ => ⟨S384, .f32⟩
  | .hbm, ⟨5, _⟩ => ⟨S3x3x384x384, .fp8e4m3⟩
  | .hbm, ⟨6, _⟩ => ⟨S384, .f32⟩
  | .hbm, ⟨7, _⟩ => ⟨S384, .f32⟩
  | .hbm, ⟨8, _⟩ => ⟨S1, .f32⟩
  | .hbm, ⟨9, _⟩ => ⟨S1, .f32⟩
  | .hbm, ⟨10, _⟩ => ⟨S75x42x384, .fp8e4m3⟩
  | .hbm, ⟨11, _⟩ => ⟨S1, .f32⟩
  | .hbm, ⟨12, _⟩ => ⟨S150x84x1024, .fp8e4m3⟩
  | .hbm, ⟨13, _⟩ => ⟨S1x384, .f32⟩
  | .hbm, ⟨14, _⟩ => ⟨S1x384, .f32⟩
  | .hbm, ⟨15, _⟩ => ⟨S3456x384, .fp8e4m3⟩
  | .hbm, ⟨16, _⟩ => ⟨S1x384, .f32⟩
  | .hbm, ⟨17, _⟩ => ⟨S1x384, .f32⟩
  | .hbm, ⟨18, _⟩ => ⟨S150x84x384, .bf16⟩
  | .hbm, ⟨19, _⟩ => ⟨S150x84x384, .fp8e4m3⟩
  | .local _ .vmem, ⟨0, _⟩ => ⟨S10x84x1024, .fp8e4m3⟩
  | .local _ .vmem, ⟨1, _⟩ => ⟨S10x84x1024, .fp8e4m3⟩
  | .local _ .vmem, ⟨2, _⟩ => ⟨S1024x384, .fp8e4m3⟩
  | .local _ .vmem, ⟨3, _⟩ => ⟨S1x384, .f32⟩
  | .local _ .vmem, ⟨4, _⟩ => ⟨S1x384, .f32⟩
  | .local _ .vmem, ⟨5, _⟩ => ⟨S3456x384, .fp8e4m3⟩
  | .local _ .vmem, ⟨6, _⟩ => ⟨S1x384, .f32⟩
  | .local _ .vmem, ⟨7, _⟩ => ⟨S1x384, .f32⟩
  | .local _ .vmem, ⟨8, _⟩ => ⟨S5x42x384, .fp8e4m3⟩
  | .local _ .vmem, ⟨9, _⟩ => ⟨S5x42x384, .fp8e4m3⟩
  | .local _ .vmem, ⟨10, _⟩ => ⟨S10x84x384, .fp8e4m3⟩
  | .local _ .vmem, ⟨11, _⟩ => ⟨S10x84x384, .fp8e4m3⟩
  | .local _ .vmem, ⟨12, _⟩ => ⟨S5x3x88x128, .f32⟩
  | .local _ .vmem, ⟨13, _⟩ => ⟨S2x3x112x128, .f32⟩
  | .local _ .vmem, ⟨14, _⟩ => ⟨S7x96x1152, .fp8e4m3⟩
  | .local _ .vmem, ⟨15, _⟩ => ⟨S7x96x1152, .fp8e4m3⟩
  | .local _ .vmem, ⟨16, _⟩ => ⟨S5x84x384, .bf16⟩
  | .local _ .vmem, ⟨17, _⟩ => ⟨S5x84x384, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S3x50x84x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg12_0 : Ref sig .tc := ⟨.vmem, 10, rfl⟩
abbrev cc0_stg12_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg1_0 : Ref sig .tc := ⟨.smem, 0, rfl⟩
abbrev cc0_stg8_0 : Ref sig .tc := ⟨.smem, 1, rfl⟩
abbrev cc0_stg9_0 : Ref sig .tc := ⟨.smem, 2, rfl⟩
abbrev cc0_stg11_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let v5 : BitVec 1 := Scalar.cmpi .sge arg0 c2_i32
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg0 : BitVec 32 := BitVec.ofNat 32 (i 0).val
  let c1_i32_1365 : BitVec 32 := 1#32
  let v1631 : BitVec 32 := Scalar.subi arg0 c1_i32_1365
  let c10_i32 : BitVec 32 := 10#32
  let v1632 : BitVec 32 := Scalar.muli v1631 c10_i32
  let c5_i32_1366 : BitVec 32 := 5#32
  let v1633 : BitVec 32 := Scalar.subi v1632 c5_i32_1366
  let c0_i32_1368 : BitVec 32 := 0#32
  let c0_i32_1369 : BitVec 32 := 0#32
  ![v1633.toNat, 0, 0]
def k0_cond3 (i : grid0.Coords) : BitVec 1 :=
  let arg0 : BitVec 32 := BitVec.ofNat 32 (i 0).val
  let c1_i32 : BitVec 32 := 1#32
  let v8 : BitVec 1 := Scalar.cmpi .sge arg0 c1_i32
  let v9 : BitVec 32 := Scalar.extui v8
  let c0_i32_3 : BitVec 32 := 0#32
  let v10 : BitVec 1 := Scalar.cmpi .ne v9 c0_i32_3
  v10

def k0_off2 (i : grid0.Coords) : Fin 3 → Nat :=
  let arg0 : BitVec 32 := BitVec.ofNat 32 (i 0).val
  let c1_i32_1365 : BitVec 32 := 1#32
  let v1631 : BitVec 32 := Scalar.subi arg0 c1_i32_1365
  let c10_i32 : BitVec 32 := 10#32
  let v1632 : BitVec 32 := Scalar.muli v1631 c10_i32
  let c0_i32_1367 : BitVec 32 := 0#32
  let c0_i32_1368 : BitVec 32 := 0#32
  ![v1632.toNat, 0, 0]
def k0_cond4 (i : grid0.Coords) : BitVec 1 :=
  let arg0 : BitVec 32 := BitVec.ofNat 32 (i 0).val
  let c1_i32_1360 : BitVec 32 := 1#32
  let v1622 : BitVec 1 := Scalar.cmpi .sge arg0 c1_i32_1360
  let v1623 : BitVec 32 := Scalar.extui v1622
  let c0_i32_1361 : BitVec 32 := 0#32
  let v1624 : BitVec 1 := Scalar.cmpi .ne v1623 c0_i32_1361
  v1624

def k0_off3 (i : grid0.Coords) : Fin 3 → Nat :=
  let arg0 : BitVec 32 := BitVec.ofNat 32 (i 0).val
  let c10_i32 : BitVec 32 := 10#32
  let v1631 : BitVec 32 := Scalar.muli arg0 c10_i32
  let c5_i32_1365 : BitVec 32 := 5#32
  let v1632 : BitVec 32 := Scalar.subi v1631 c5_i32_1365
  let c0_i32_1367 : BitVec 32 := 0#32
  let c0_i32_1368 : BitVec 32 := 0#32
  ![v1632.toNat, 0, 0]
def k0_cond5 (i : grid0.Coords) : BitVec 1 :=
  let arg0 : BitVec 32 := BitVec.ofNat 32 (i 0).val
  let c15_i32 : BitVec 32 := 15#32
  let v1625 : BitVec 1 := Scalar.cmpi .slt arg0 c15_i32
  let v1626 : BitVec 32 := Scalar.extui v1625
  let c0_i32_1362 : BitVec 32 := 0#32
  let v1627 : BitVec 1 := Scalar.cmpi .ne v1626 c0_i32_1362
  v1627

def k0_off4 (i : grid0.Coords) : Fin 3 → Nat :=
  let arg0 : BitVec 32 := BitVec.ofNat 32 (i 0).val
  let c10_i32 : BitVec 32 := 10#32
  let v1631 : BitVec 32 := Scalar.muli arg0 c10_i32
  let c0_i32_1366 : BitVec 32 := 0#32
  let c0_i32_1367 : BitVec 32 := 0#32
  ![v1631.toNat, 0, 0]
def k0_cond6 (i : grid0.Coords) : BitVec 1 :=
  let arg0 : BitVec 32 := BitVec.ofNat 32 (i 0).val
  let c15_i32_1363 : BitVec 32 := 15#32
  let v1628 : BitVec 1 := Scalar.cmpi .eq arg0 c15_i32_1363
  let v1629 : BitVec 32 := Scalar.extui v1628
  let c0_i32_1364 : BitVec 32 := 0#32
  let v1630 : BitVec 1 := Scalar.cmpi .ne v1629 c0_i32_1364
  v1630

def k0_off5 (i : grid0.Coords) : Fin 3 → Nat :=
  let arg0 : BitVec 32 := BitVec.ofNat 32 (i 0).val
  let c10_i32 : BitVec 32 := 10#32
  let v1631 : BitVec 32 := Scalar.muli arg0 c10_i32
  let c5_i32_1365 : BitVec 32 := 5#32
  let v1632 : BitVec 32 := Scalar.subi v1631 c5_i32_1365
  let c0_i32_1367 : BitVec 32 := 0#32
  let c0_i32_1368 : BitVec 32 := 0#32
  ![v1632.toNat, 0, 0]
def cc0_transform_0 (i : grid0.Coords) : Fin 3 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S10x84x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3456x384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5x42x384 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S10x84x384 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S3x50x84x1024 : Shape := ⟨4, ![3, 50, 84, 1024]⟩
abbrev S1 : Shape := ⟨1, ![1]⟩
abbrev S1024x384 : Shape := ⟨2, ![1024, 384]⟩
abbrev S384 : Shape := ⟨1, ![384]⟩
abbrev S3x3x384x384 : Shape := ⟨4, ![3, 3, 384, 384]⟩
abbrev S75x42x384 : Shape := ⟨3, ![75, 42, 384]⟩
abbrev S150x84x384 : Shape := ⟨3, ![150, 84, 384]⟩
abbrev S3x50x84x384 : Shape := ⟨4, ![3, 50, 84, 384]⟩
abbrev S1x1x1x384 : Shape := ⟨4, ![1, 1, 1, 384]⟩
abbrev S3x25x42x384 : Shape := ⟨4, ![3, 25, 42, 384]⟩
abbrev S3x25x2x42x2x384 : Shape := ⟨6, ![3, 25, 2, 42, 2, 384]⟩
abbrev S3x25x1x42x1x384 : Shape := ⟨6, ![3, 25, 1, 42, 1, 384]⟩
abbrev S3x1x84x384 : Shape := ⟨4, ![3, 1, 84, 384]⟩
abbrev S3x51x84x384 : Shape := ⟨4, ![3, 51, 84, 384]⟩
abbrev S3x52x84x384 : Shape := ⟨4, ![3, 52, 84, 384]⟩
abbrev S3x52x1x384 : Shape := ⟨4, ![3, 52, 1, 384]⟩
abbrev S3x52x85x384 : Shape := ⟨4, ![3, 52, 85, 384]⟩
abbrev S3x52x86x384 : Shape := ⟨4, ![3, 52, 86, 384]⟩
abbrev S1x1x384x384 : Shape := ⟨4, ![1, 1, 384, 384]⟩
abbrev S384x384 : Shape := ⟨2, ![384, 384]⟩

abbrev nBuf : Space → Nat
  | .hbm => 14
  | .vmem => 14
  | .smem => 0
  | _ => 0

abbrev bufTy : (tb : Table) → Fin (tcTables nBuf tb) → BufTy
  | .hbm, ⟨0, _⟩ => ⟨S3x50x84x1024, .fp8e4m3⟩
  | .hbm, ⟨1, _⟩ => ⟨S1, .f32⟩
  | .hbm, ⟨2, _⟩ => ⟨S1024x384, .fp8e4m3⟩
  | .hbm, ⟨3, _⟩ => ⟨S384, .f32⟩
  | .hbm, ⟨4, _⟩ => ⟨S384, .f32⟩
  | .hbm, ⟨5, _⟩ => ⟨S3x3x384x384, .fp8e4m3⟩
  | .hbm, ⟨6, _⟩ => ⟨S384, .f32⟩
  | .hbm, ⟨7, _⟩ => ⟨S384, .f32⟩
  | .hbm, ⟨8, _⟩ => ⟨S1, .f32⟩
  | .hbm, ⟨9, _⟩ => ⟨S1, .f32⟩
  | .hbm, ⟨10, _⟩ => ⟨S75x42x384, .fp8e4m3⟩
  | .hbm, ⟨11, _⟩ => ⟨S1, .f32⟩
  | .hbm, ⟨12, _⟩ => ⟨S150x84x384, .bf16⟩
  | .hbm, ⟨13, _⟩ => ⟨S150x84x384, .fp8e4m3⟩
  | .local _ .vmem, ⟨0, _⟩ => ⟨S3x50x84x1024, .fp8e4m3⟩
  | .local _ .vmem, ⟨1, _⟩ => ⟨S1, .f32⟩
  | .local _ .vmem, ⟨2, _⟩ => ⟨S1024x384, .fp8e4m3⟩
  | .local _ .vmem, ⟨3, _⟩ => ⟨S384, .f32⟩
  | .local _ .vmem, ⟨4, _⟩ => ⟨S384, .f32⟩
  | .local _ .vmem, ⟨5, _⟩ => ⟨S3x3x384x384, .fp8e4m3⟩
  | .local _ .vmem, ⟨6, _⟩ => ⟨S384, .f32⟩
  | .local _ .vmem, ⟨7, _⟩ => ⟨S384, .f32⟩
  | .local _ .vmem, ⟨8, _⟩ => ⟨S1, .f32⟩
  | .local _ .vmem, ⟨9, _⟩ => ⟨S1, .f32⟩
  | .local _ .vmem, ⟨10, _⟩ => ⟨S75x42x384, .fp8e4m3⟩
  | .local _ .vmem, ⟨11, _⟩ => ⟨S1, .f32⟩
  | .local _ .vmem, ⟨12, _⟩ => ⟨S150x84x384, .bf16⟩
  | .local _ .vmem, ⟨13, _⟩ => ⟨S150x84x384, .fp8e4m3⟩
  | _, _ => ⟨S3x50x84x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3x50x84x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3x384x384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S75x42x384 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S150x84x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S150x84x384 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Rules.lean ====
/-
  The rules by which the proof steps through the kernel's loads and stores.

  A buffer seen through a memref is held as `owns c m fullShare X`: `X` is the function of the indices that the memref
  reads. A load through a rectangle yields `X` at the rectangle's indices and changes nothing; a store through a
  rectangle replaces `X` by `r.overlay X w`, which is `w` on the rectangle and `X` elsewhere.
-/
module

public import Idealize.ShloMosaic.Lib.Memref
public import Idealize.ShloMosaic.Lib.Writes
public import Idealize.ShloMosaic.Lib.Tactic

@[expose] public section

noncomputable section

namespace Cert.Rules

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} (c : Thread nD τ) {bd : Option 𝒱.V} {E : Set Name}
variable {s : Shape} {e : EltTy} {α : Type} {Q : α → sProp (MT nD τ sig Ix Val Name U Lvl)}

/-- A load: it yields the held contents at the rectangle's indices. -/
theorem owns_load {cs : CoreSpace} {m : Memref sig c.2.kind cs s e} {r : LoadRect s} {hl : m.view.LoadsAt r}
    {k : (r.shape.Idx → Val e) → Prog (TpuEff nD τ sig Val Λ c.2) α} {X : s.Idx → Val e} {q : PosShare TreeShare} :
    (owns c m q X : sProp (MT nD τ sig Ix Val Name U Lvl))
      ⊢ iprop((owns c m q X -∗ wp frame (wpE defs 𝒱 c bd) E (k (fun x => X (r.idx x))) Q)
        -∗ wp frame (wpE defs 𝒱 c bd) E (.op (.load m r hl) k) Q) := by
  unfold owns
  iintro ⟨%f, %hf, H⟩ Hk
  have hS : m.view.setOn r.set ⊆ m.view.set := by
    rw [← View.setOn_univ]; exact Finset.map_subset_map.mpr (Finset.subset_univ _)
  have hk : m.view.readAt Val r f = fun x => X (r.idx x) := by subst hf; rfl
  iapply (wp_load 𝒱 c bd E (k := k) (hl := hl) (Q := Q) (f := f) (q := q) hS) $$ H
  iintro H
  rw [hk]
  iapply Hk
  iexists f
  isplitr
  · ipureintro; exact hf
  · iexact H

/-- What a view reads after a store through a rectangle of it. -/
theorem read_write_overlay {κ : Kind} {sp : Space} (m : Memref sig κ sp s e) (r : Rect s) (f : m.view.ty.Contents Val) (w : r.shape.Idx → Val e) :
    m.view.read Val ((m.access r).write Val f w Finset.univ) = r.overlay (m.view.read Val f) w := by
  funext j
  have h := (View.writes_singleton (v := m.view) (Val := Val) (f := f) r w)
  change m.view.read Val (m.view.writes Val f [⟨r, w⟩]) j = _
  by_cases hj : j ∈ r.set
  · obtain ⟨i, rfl⟩ := r.exists_idx_of_mem hj
    change m.view.read Val _ (r.emb i) = r.overlay _ w (r.emb i)
    rw [Rect.overlay_emb]
    exact View.read_writes_cons_emb (v := m.view) (Val := Val) (f := f) r w [] i
  · rw [Rect.overlay_of_not_mem _ _ _ hj]
    exact View.read_writes_cons_miss (v := m.view) (Val := Val) (f := f) ⟨r, w⟩ [] j hj

/-- A store: the held contents are overlaid by what is stored. -/
theorem owns_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  have hS : (m.access r).setOn Finset.univ ⊆ m.view.set := Memref.setOn_access_subset m r Finset.univ
  iapply (wp_store 𝒱 c bd E (k := k) (hx := hx) (hm := hm) (Q := Q) (f := f) (w := w) (Mk := Finset.univ) (S := m.view.set) hS) $$ H
  iintro H
  iapply Hk
  iexists _
  isplitr; swap
  · iexact H
  · ipureintro; rw [← hf]; exact read_write_overlay m r f w

/-! ## A buffer of which a part is known

The kernel rewrites its buffers rectangle by rectangle. `part c m V D`: the buffer is held, and at the indices in `D` it
holds what `V` says. A store of `V`'s own values on a rectangle adds the rectangle to `D`; a load through a rectangle
within `D` yields `V`'s values. -/

/-- The buffer, known to hold `V` at the indices in `D`. -/
def part {cs : CoreSpace} (m : Memref sig c.2.kind cs s e) (V : s.Idx → Val e) (D : s.Idx → Prop) : sProp (MT nD τ sig Ix Val Name U Lvl) :=
  iprop(∃ X, ⌜∀ j, D j → X j = V j⌝ ∗ owns c m fullShare X)

/-- Some contents, known on the part. -/
theorem part_elim {cs : CoreSpace} {m : Memref sig c.2.kind cs s e} {V : s.Idx → Val e} {D : s.Idx → Prop} :
    (part c m V D : sProp (MT nD τ sig Ix Val Name U Lvl)) ⊢ iprop(∃ X, ⌜∀ j, D j → X j = V j⌝ ∗ owns c m fullShare X) := .rfl

/-- Knowing less, or the same of another function. -/
theorem part_mono {cs : CoreSpace} {m : Memref sig c.2.kind cs s e} {V V' : s.Idx → Val e} {D D' : s.Idx → Prop}
    (h : ∀ j, D' j → D j ∧ V j = V' j) :
    (part c m V D : sProp (MT nD τ sig Ix Val Name U Lvl)) ⊢ part c m V' D' := by
  unfold part
  iintro ⟨%X, %hX, H⟩
  iexists X
  isplitr
  · ipureintro; exact fun j hj => (hX j (h j hj).1).trans (h j hj).2
  · iexact H

/-- Knowing all. -/
theorem part_owns {cs : CoreSpace} {m : Memref sig c.2.kind cs s e} {V : s.Idx → Val e} {D : s.Idx → Prop} (h : ∀ j, D j) :
    (part c m V D : sProp (MT nD τ sig Ix Val Name U Lvl)) ⊢ owns c m fullShare V := by
  unfold part
  iintro ⟨%X, %hX, H⟩
  rw [show X = V from funext fun j => hX j (h j)]
  iexact H

/-- A buffer held whole is known on any part at its contents. -/
theorem owns_part {cs : CoreSpace} {m : Memref sig c.2.kind cs s e} {X V : s.Idx → Val e} {D : s.Idx → Prop} (h : ∀ j, D j → X j = V j) :
    (owns c m fullShare X : sProp (MT nD τ sig Ix Val Name U Lvl)) ⊢ part c m V D := by
  unfold part
  iintro H
  iexists X
  isplitr
  · ipureintro; exact h
  · iexact H

/-- A load within the known part. -/
theorem part_load {cs : CoreSpace} {m : Memref sig c.2.kind cs s e} {r : LoadRect s} {hl : m.view.LoadsAt r}
    {k : (r.shape.Idx → Val e) → Prog (TpuEff nD τ sig Val Λ c.2) α} {V : s.Idx → Val e} {D : s.Idx → Prop} (h : ∀ x, D (r.idx x)) :
    (part c m V D : sProp (MT nD τ sig Ix Val Name U Lvl))
      ⊢ iprop((part c m V D -∗ wp frame (wpE defs 𝒱 c bd) E (k (fun x => V (r.idx x))) Q)
        -∗ wp frame (wpE defs 𝒱 c bd) E (.op (.load m r hl) k) Q) := by
  unfold part
  iintro ⟨%X, %hX, H⟩ Hk
  iapply (owns_load c (k := k) (hl := hl) (Q := Q)) $$ H
  iintro H
  rw [show (fun x => X (r.idx x)) = fun x => V (r.idx x) from funext fun x => hX _ (h x)]
  iapply Hk
  iexists X
  isplitr
  · ipureintro; exact hX
  · iexact H

/-- A load whose value is not used. -/
theorem part_load_any {cs : CoreSpace} {m : Memref sig c.2.kind cs s e} {r : LoadRect s} {hl : m.view.LoadsAt r}
    {p : Prog (TpuEff nD τ sig Val Λ c.2) α} {V : s.Idx → Val e} {D : s.Idx → Prop} :
    (part c m V D : sProp (MT nD τ sig Ix Val Name U Lvl))
      ⊢ iprop((part c m V D -∗ wp frame (wpE defs 𝒱 c bd) E p Q)
        -∗ wp frame (wpE defs 𝒱 c bd) E (.op (.load m r hl) fun _ => p) Q) := by
  unfold part
  iintro ⟨%X, %hX, H⟩ Hk
  iapply (owns_load c (k := fun _ => p) (hl := hl) (Q := Q)) $$ H
  iintro H
  iapply Hk
  iexists X
  isplitr
  · ipureintro; exact hX
  · iexact H

/-- A store of the known function's own values: the rectangle is known thereafter. -/
theorem part_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {V : s.Idx → Val e} {D D' : s.Idx → Prop}
    (hw : ∀ x, w x = V (r.emb x)) (hD : ∀ j, D' j → D j ∨ j ∈ r.set) :
    (part c m V D : sProp (MT nD τ sig Ix Val Name U Lvl))
      ⊢ iprop((part c m V D' -∗ wp frame (wpE defs 𝒱 c bd) E (k ⟨⟩) Q)
        -∗ wp frame (wpE defs 𝒱 c bd) E (.op (.store m r w Finset.univ hx hm) k) Q) := by
  unfold part
  iintro ⟨%X, %hX, H⟩ Hk
  iapply (owns_store c (k := k) (hx := hx) (hm := hm) (Q := Q)) $$ H
  iintro H
  iapply Hk
  iexists _
  isplitr; swap
  · iexact H
  · ipureintro
    intro j hj
    by_cases hr : j ∈ r.set
    · obtain ⟨x, rfl⟩ := r.exists_idx_of_mem hr
      change r.overlay X w (r.emb x) = V (r.emb x)
      rw [Rect.overlay_emb]; exact hw x
    · rw [Rect.overlay_of_not_mem _ _ _ hr]
      rcases hD j hj with h | h
      · exact hX j h
      · exact absurd h hr

end

end Cert.Rules
-- ==== Proof.BodyIdeal.lean ====
/-
  The kernel's straight-line middle, told by its regularities.

  Between the waits at its head and the transfers at its tail the kernel at one grid point is one straight line of
  loads and stores, printed unrolled. Here the same line is put together from a few programs, each a function of the
  row, the chunk or the tap it serves: `upRow` writes one up-sampled row of the coarser level's codes, `quantRow`
  computes, quantises and lays out one row of codes, `copyRow` copies one laid-out row between the two operands of the
  convolution, `convGroup` convolves two rows. `mid` is their composition, and `mid_eq` in `RunIdeal` says that the
  printed kernel is head, `mid`, tail.
-/
module

public import proofs.«01_k».proof.Proof.Gen.KernelIdeal.Skeleton
public import proofs.«01_k».proof.Proof.Rules

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The type of the kernel's programs. -/
abbrev PR (F : FTy → Type) (α : Type) := Prog (TpuEff nD τ sig (Elt F) Λ₀ .tc) α

/-! ## Rectangles, and the evidence their accesses take -/

theorem inb3 {a b c a' b' c' x y z : ℕ} (h0 : x + a' ≤ a) (h1 : y + b' ≤ b) (h2 : z + c' ≤ c) :
    ∀ i : Fin 3, (![x, y, z] : Fin 3 → ℕ) i + (![a', b', c'] : Fin 3 → ℕ) i ≤ (![a, b, c] : Fin 3 → ℕ) i := by
  intro i; match i with
  | 0 => exact h0
  | 1 => exact h1
  | 2 => exact h2

theorem inb4 {a b c d a' b' c' d' x y z w : ℕ} (h0 : x + a' ≤ a) (h1 : y + b' ≤ b) (h2 : z + c' ≤ c) (h3 : w + d' ≤ d) :
    ∀ i : Fin 4, (![x, y, z, w] : Fin 4 → ℕ) i + (![a', b', c', d'] : Fin 4 → ℕ) i ≤ (![a, b, c, d] : Fin 4 → ℕ) i := by
  intro i; match i with
  | 0 => exact h0
  | 1 => exact h1
  | 2 => exact h2
  | 3 => exact h3

/-- Row `k`, parity `par` of the columns, chunk `c` of the up-sampled rows. -/
abbrev rUp (k c par : ℕ) (hk : k < 4) (hc : c < 3) (hp : par < 2) : Rect S4x3x336x128 :=
  ⟨⟨![k, c, par, 0], S1x1x168x128.size, ![1, 1, 2, 1], by
    intro i; right; match i with
    | 0 => show k + 1 * (1 - 1) < 4; omega
    | 1 => show c + 1 * (1 - 1) < 3; omega
    | 2 => show par + 2 * (168 - 1) < 336; omega
    | 3 => show 0 + 1 * (128 - 1) < 128; omega⟩, spos_1_1_2_1⟩

/-- Row `k` of the block of the coarser level's codes. -/
abbrev rQ3 (k : ℕ) (hk : k < 4) : Rect S4x168x384 := Rect.unit (s := S4x168x384) ![k, 0, 0] S1x168x384.size (inb3 (by omega) (by omega) (by omega))
/-- Row `r` of the block of the input's codes. -/
abbrev rC (r : ℕ) (hr : r < 8) : Rect S8x336x256 := Rect.unit (s := S8x336x256) ![r, 0, 0] S1x336x256.size (inb3 (by omega) (by omega) (by omega))
/-- Chunk `c` of row `k` of the up-sampled rows. -/
abbrev rU (k c : ℕ) (hk : k < 4) (hc : c < 3) : Rect S4x3x336x128 :=
  Rect.unit (s := S4x3x336x128) ![k, c, 0, 0] S1x1x336x128.size (inb4 (by omega) (by omega) (by omega) (by omega))
/-- Chunk `c` (lanes `128c …`) of row `r` of the block of codes. -/
abbrev rCode (r l : ℕ) (hr : r < 8) (hl : l ≤ 256) : Rect S8x336x384 :=
  Rect.unit (s := S8x336x384) ![r, 0, l] S1x336x128.size (inb3 (by omega) (by omega) (by omega))
/-- Chunk `c` of slot `s` of the quantised rows, from position 8. -/
abbrev rQw (s c : ℕ) (hs : s < 2) (hc : c < 3) : Rect S2x3x368x128 :=
  Rect.unit (s := S2x3x368x128) ![s, c, 8, 0] S1x1x336x128.size (inb4 (by omega) (by omega) (by omega) (by omega))
/-- The same, read from position `p`. -/
abbrev rQr (s c p : ℕ) (hs : s < 2) (hc : c < 3) (hp : p < 10) : Rect S2x3x368x128 :=
  Rect.unit (s := S2x3x368x128) ![s, c, p, 0] S1x1x352x128.size (inb4 (by omega) (by omega) (by omega) (by omega))
/-- Lanes `l …` of laid-out row `x`. -/
abbrev rX (x l : ℕ) (hx : x < 6) (hl : l ≤ 1024) : Rect S6x352x1152 :=
  Rect.unit (s := S6x352x1152) ![x, 0, l] S1x352x128.size (inb3 (by omega) (by omega) (by omega))
/-- The whole of laid-out row `x`. -/
abbrev rXrow (x : ℕ) (hx : x < 6) : Rect S6x352x1152 :=
  Rect.unit (s := S6x352x1152) ![x, 0, 0] S1x352x1152.size (inb3 (by omega) (by omega) (by omega))
/-- Laid-out rows `x` and `x + 1`. -/
abbrev rXtwo (x : ℕ) (hx : x < 5) : Rect S6x352x1152 :=
  Rect.unit (s := S6x352x1152) ![x, 0, 0] S2x352x1152.size (inb3 (by omega) (by omega) (by omega))
/-- Row `o` of the four output rows. -/
abbrev rO (o : ℕ) (ho : o < 4) : Rect S4x336x384 :=
  Rect.unit (s := S4x336x384) ![o, 0, 0] S1x336x384.size (inb3 (by omega) (by omega) (by omega))

theorem packed_rCode : ∀ (r l : ℕ) (hr : r < 8) (hl : l ≤ 256), (rCode r l hr hl).PackedRows (EltTy.packing .fp8e4m3) :=
  fun r l hr hl => by
    refine .inr ⟨(by decide : 2 ≤ S8x336x384.rank), rfl, .inl ⟨Nat.dvd_zero _, ?_⟩⟩
    show EltTy.packing .fp8e4m3 ∣ 336
    decide
theorem packed_rX : ∀ (x l : ℕ) (hx : x < 6) (hl : l ≤ 1024), (rX x l hx hl).PackedRows (EltTy.packing .fp8e4m3) :=
  fun r l hr hl => by
    refine .inr ⟨(by decide : 2 ≤ S6x352x1152.rank), rfl, .inl ⟨Nat.dvd_zero _, ?_⟩⟩
    show EltTy.packing .fp8e4m3 ∣ 352
    decide
theorem packed_rXrow : ∀ (x : ℕ) (hx : x < 6), (rXrow x hx).PackedRows (EltTy.packing .fp8e4m3) :=
  fun r hr => by
    refine .inr ⟨(by decide : 2 ≤ S6x352x1152.rank), rfl, .inl ⟨Nat.dvd_zero _, ?_⟩⟩
    show EltTy.packing .fp8e4m3 ∣ 352
    decide
theorem packed_rO : ∀ (o : ℕ) (ho : o < 4), (rO o ho).PackedRows (EltTy.packing .bf16) :=
  fun r hr => by
    refine .inr ⟨(by decide : 2 ≤ S4x336x384.rank), rfl, .inl ⟨Nat.dvd_zero _, ?_⟩⟩
    show EltTy.packing .bf16 ∣ 336
    decide

/-- A slice of a two-axis shape: the bounds of its two axes. -/
theorem slices2 {a b a' b' x y : ℕ} (h0 : x + a' ≤ a) (h1 : y + b' ≤ b) : (⟨2, ![a, b]⟩ : Shape).Slices ![x, y] ⟨2, ![a', b']⟩ := by
  refine ⟨rfl, fun i => ?_⟩
  match i with
  | 0 => exact h0
  | 1 => exact h1

/-! ## The programs -/

section

variable (arg1 : Memref sig .tc .vmem S8x336x256 .fp8e4m3) (arg3 : Memref sig .tc .vmem S256x384 .fp8e4m3)
  (arg6 : Memref sig .tc .vmem S3456x384 .fp8e4m3) (arg11 : Memref sig .tc .vmem S4x168x384 .fp8e4m3)
  (arg14 : Memref sig .tc .vmem S8x336x384 .fp8e4m3) (h14 : arg14.IsWhole)
  (arg15 : Memref sig .tc .vmem S4x3x336x128 .f32) (arg16 : Memref sig .tc .vmem S2x3x368x128 .f32)

/-- One store of up-sampled values: the columns of parity `par`, chunk `c`, row `k`. -/
def upStore (k c par : ℕ) (hk : k < 4) (hc : c < 3) (hp : par < 2) (v : FVec F S168x128 .f32) : PR F PUnit := do
  let _ : Vec F S1x1x168x128 .f32 ← Prog.lift (.load arg15 (rUp k c par hk hc hp).toLoadRect (View.loadsAt_vmem h_S1x1x168x128))
  Prog.lift (.store arg15 (rUp k c par hk hc hp) (shapeCast S1x1x168x128 v shapeCasts_S168x128_S1x1x168x128) Finset.univ
    (View.stores_vmem_bits_univ h_S1x1x168x128 rfl) (.inl rfl))

/-- The dequantised codes of one row of the coarser level. -/
def deq (qs : Elt F .f32) (q : Vec F S1x168x384 .fp8e4m3) : FVec F S168x384 .f32 :=
  mulf (extf .f32 (shapeCast S168x384 q shapeCasts_S1x168x384_S168x384) bitsLt_fp8e4m3_f32) (broadcast S168x384 qs)

/-- Chunk `c` of a dequantised row. -/
abbrev deqChunk (c : ℕ) (hc : c < 3) (v : FVec F S168x384 .f32) : FVec F S168x128 .f32 :=
  extractStridedSlice S168x128 ![0, 128 * c] v (slices2 (by omega) (by omega))

/-- Both parities of chunk `c`. -/
def upChunk (k c : ℕ) (hk : k < 4) (hc : c < 3) (v : FVec F S168x384 .f32) : PR F PUnit := do
  upStore arg15 k c 0 hk hc (by omega) (deqChunk c hc v)
  upStore arg15 k c 1 hk hc (by omega) (deqChunk c hc v)

/-- One up-sampled row: a row of the coarser level's codes, dequantised, each column twice. -/
def upRow (k : ℕ) (hk : k < 4) (qs : Elt F .f32) : PR F PUnit := do
  let q : Vec F S1x168x384 .fp8e4m3 ← Prog.lift (.load arg11 (rQ3 k hk).toLoadRect (View.loadsAt_vmem h_S1x168x384))
  upChunk arg15 k 0 hk (by omega) (deq qs q)
  upChunk arg15 k 1 hk (by omega) (deq qs q)
  upChunk arg15 k 2 hk (by omega) (deq qs q)

/-- The lateral product of one row. -/
def latDot (w : Vec F S256x384 .fp8e4m3) (w' : Vec F S256x128 .fp8e4m3) (x : Vec F S1x336x256 .fp8e4m3) : FVec F S336x512 .f32 :=
  matmul dot_S336x256_S256x512_S336x512_1_0_0_1_n_n none (shapeCast S336x256 x shapeCasts_S1x336x256_S336x256)
    (concatenate S256x512 1 [⟨S256x384, w⟩, ⟨S256x128, w'⟩] concatenates_S256x384_S256x128_S256x512_d1) (constant S336x512 .f32 0x00000000#32)

/-- Chunk `c` of the merged row: scaled, biased, the up-sampled row added. -/
def merged (c : ℕ) (hc : c < 3) (sc bi : FVec F S1x384 .f32) (y : FVec F S336x512 .f32) (u : Vec F S1x1x336x128 .f32) : FVec F S336x128 .f32 :=
  addf (addf (mulf (extractStridedSlice S336x128 ![0, 128 * c] y (slices2 (by omega) (by omega)))
      (broadcastTo S336x128 (extractStridedSlice S1x128 ![0, 128 * c] sc (slices2 (by omega) (by omega))) broadcasts_S1x128_S336x128))
    (broadcastTo S336x128 (extractStridedSlice S1x128 ![0, 128 * c] bi (slices2 (by omega) (by omega))) broadcasts_S1x128_S336x128))
    (shapeCast S336x128 u shapeCasts_S1x1x336x128_S336x128)

/-- The quantiser before its rounding: the merged values over the scale, clipped to ±448. -/
def clipped (inv : Elt F .f32) (v : FVec F S336x128 .f32) : FVec F S336x128 .f32 :=
  minimumf (broadcast S336x128 (Scalar.ofBits .f32 0x43E00000#32))
    (maximumf (broadcast S336x128 (Scalar.ofBits .f32 0xC3E00000#32)) (mulf v (broadcast S336x128 inv)))

/-- One chunk of a row is stored: as codes, and unrounded for the layout. -/
def quantStore (r s c l : ℕ) (hr : r < 8) (hs : s < 2) (hc : c < 3) (hl : l ≤ 256) (v : FVec F S336x128 .f32) : PR F PUnit := do
  let _ : Vec F S1x336x128 .fp8e4m3 ← Prog.lift (.load arg14 (rCode r l hr hl).toLoadRect (View.loadsAt_vmem h_S1x336x128))
  Prog.lift (.store arg14 (rCode r l hr hl) (shapeCast S1x336x128 (truncf .fp8e4m3 v bitsLt_fp8e4m3_f32) shapeCasts_S336x128_S1x336x128) Finset.univ
    (View.stores_vmem h_S1x336x128 (h14.storeExact_slice rfl _ (packed_rCode r l hr hl)) (fun _ => rfl)) (.inl rfl))
  let _ : Vec F S1x1x336x128 .f32 ← Prog.lift (.load arg16 (rQw s c hs hc).toLoadRect (View.loadsAt_vmem h_S1x1x336x128))
  Prog.lift (.store arg16 (rQw s c hs hc) (shapeCast S1x1x336x128 v shapeCasts_S336x128_S1x1x336x128) Finset.univ
    (View.stores_vmem_bits_univ h_S1x1x336x128 rfl) (.inl rfl))

/-- One tap of one chunk of a row is laid out: what the quantised row holds from position `p` on. -/
def tapStore (x : Memref sig .tc .vmem S6x352x1152 .fp8e4m3) (hx : x.IsWhole) (s c p k l : ℕ) (hs : s < 2) (hc : c < 3) (hp : p < 10) (hk : k < 6) (hl : l ≤ 1024) :
    PR F PUnit := do
  let v : Vec F S1x1x352x128 .f32 ← Prog.lift (.load arg16 (rQr s c p hs hc hp).toLoadRect (View.loadsAt_vmem h_S1x1x352x128))
  let _ : Vec F S1x352x128 .fp8e4m3 ← Prog.lift (.load x (rX k l hk hl).toLoadRect (View.loadsAt_vmem h_S1x352x128))
  Prog.lift (.store x (rX k l hk hl)
    (shapeCast S1x352x128 (truncf .fp8e4m3 (shapeCast S352x128 v shapeCasts_S1x1x352x128_S352x128) bitsLt_fp8e4m3_f32) shapeCasts_S352x128_S1x352x128) Finset.univ
    (View.stores_vmem h_S1x352x128 (hx.storeExact_slice rfl _ (packed_rX k l hk hl)) (fun _ => rfl)) (.inl rfl))

/-- The three taps of one chunk. -/
def tapChunk (x : Memref sig .tc .vmem S6x352x1152 .fp8e4m3) (hx : x.IsWhole) (s c k : ℕ) (hs : s < 2) (hc : c < 3) (hk : k < 6) : PR F PUnit := do
  tapStore arg16 x hx s c 7 k (128 * c) hs hc (by omega) hk (by omega)
  tapStore arg16 x hx s c 8 k (384 + 128 * c) hs hc (by omega) hk (by omega)
  tapStore arg16 x hx s c 9 k (768 + 128 * c) hs hc (by omega) hk (by omega)

/-- One row of codes: computed, stored, laid out as row `k` of `x`. -/
def quantRow (x : Memref sig .tc .vmem S6x352x1152 .fp8e4m3) (hx : x.IsWhole) (r u s k : ℕ) (hr : r < 8) (hu : u < 4) (hs : s < 2) (hk : k < 6)
    (sc bi : FVec F S1x384 .f32) (inv : Elt F .f32) : PR F PUnit := do
  let w : Vec F S256x384 .fp8e4m3 ← Prog.lift (.load arg3 (Rect.unit (s := S256x384) ![0, 0] S256x384.size inb_S256x384_S256x384_0_0).toLoadRect (View.loadsAt_vmem h_S256x384))
  let w' : Vec F S256x128 .fp8e4m3 ← Prog.lift (.load arg3 (Rect.unit (s := S256x384) ![0, 0] S256x128.size inb_S256x384_S256x128_0_0).toLoadRect (View.loadsAt_vmem h_S256x128))
  let y : Vec F S1x336x256 .fp8e4m3 ← Prog.lift (.load arg1 (rC r hr).toLoadRect (View.loadsAt_vmem h_S1x336x256))
  let u0 : Vec F S1x1x336x128 .f32 ← Prog.lift (.load arg15 (rU u 0 hu (by omega)).toLoadRect (View.loadsAt_vmem h_S1x1x336x128))
  let u1 : Vec F S1x1x336x128 .f32 ← Prog.lift (.load arg15 (rU u 1 hu (by omega)).toLoadRect (View.loadsAt_vmem h_S1x1x336x128))
  let u2 : Vec F S1x1x336x128 .f32 ← Prog.lift (.load arg15 (rU u 2 hu (by omega)).toLoadRect (View.loadsAt_vmem h_S1x1x336x128))
  quantStore arg14 h14 arg16 r s 0 0 hr hs (by omega) (by omega) (clipped inv (merged 0 (by omega) sc bi (latDot w w' y) u0))
  quantStore arg14 h14 arg16 r s 1 128 hr hs (by omega) (by omega) (clipped inv (merged 1 (by omega) sc bi (latDot w w' y) u1))
  quantStore arg14 h14 arg16 r s 2 256 hr hs (by omega) (by omega) (clipped inv (merged 2 (by omega) sc bi (latDot w w' y) u2))
  tapChunk arg16 x hx s 0 k hs (by omega) hk
  tapChunk arg16 x hx s 1 k hs (by omega) hk
  tapChunk arg16 x hx s 2 k hs (by omega) hk

/-- A laid-out row is copied, or zeroes in its place when `keep` is off. -/
def copyKeep (src : Memref sig .tc .vmem S6x352x1152 .fp8e4m3) (dst : Memref sig .tc .vmem S6x352x1152 .fp8e4m3) (hd : dst.IsWhole) (a b : ℕ) (ha : a < 6) (hb : b < 6)
    (keep : BitVec 1) : PR F PUnit := do
  let v : Vec F S1x352x1152 .fp8e4m3 ← Prog.lift (.load src (rXrow a ha).toLoadRect (View.loadsAt_vmem h_S1x352x1152))
  let _ : Vec F S1x352x1152 .fp8e4m3 ← Prog.lift (.load dst (rXrow b hb).toLoadRect (View.loadsAt_vmem h_S1x352x1152))
  Prog.lift (.store dst (rXrow b hb)
    (shapeCast S1x352x1152 (Scalar.select keep (shapeCast S352x1152 v shapeCasts_S1x352x1152_S352x1152)
      (broadcast S352x1152 (Scalar.ofBits .fp8e4m3 0x00#8))) shapeCasts_S352x1152_S1x352x1152) Finset.univ
    (View.stores_vmem h_S1x352x1152 (hd.storeExact_slice rfl _ (packed_rXrow b hb)) (fun _ => rfl)) (.inl rfl))

/-- A laid-out row is copied. -/
def copyRow (src : Memref sig .tc .vmem S6x352x1152 .fp8e4m3) (dst : Memref sig .tc .vmem S6x352x1152 .fp8e4m3) (hd : dst.IsWhole) (a b : ℕ) (ha : a < 6) (hb : b < 6) :
    PR F PUnit := do
  let v : Vec F S1x352x1152 .fp8e4m3 ← Prog.lift (.load src (rXrow a ha).toLoadRect (View.loadsAt_vmem h_S1x352x1152))
  let _ : Vec F S1x352x1152 .fp8e4m3 ← Prog.lift (.load dst (rXrow b hb).toLoadRect (View.loadsAt_vmem h_S1x352x1152))
  Prog.lift (.store dst (rXrow b hb)
    (shapeCast S1x352x1152 (shapeCast S352x1152 v shapeCasts_S1x352x1152_S352x1152) shapeCasts_S352x1152_S1x352x1152) Finset.univ
    (View.stores_vmem h_S1x352x1152 (hd.storeExact_slice rfl _ (packed_rXrow b hb)) (fun _ => rfl)) (.inl rfl))

/-- The convolution's product for two output rows. -/
def convDot (a b c : Vec F S2x352x1152 .fp8e4m3) (w : Vec F S3456x384 .fp8e4m3) : FVec F S704x384 .f32 :=
  matmul dot_S704x3456_S3456x384_S704x384_1_0_0_1_n_n none
    (concatenate S704x3456 1 [⟨S704x1152, shapeCast S704x1152 a shapeCasts_S2x352x1152_S704x1152⟩, ⟨S704x1152, shapeCast S704x1152 b shapeCasts_S2x352x1152_S704x1152⟩,
      ⟨S704x1152, shapeCast S704x1152 c shapeCasts_S2x352x1152_S704x1152⟩] concatenates_S704x1152_S704x1152_S704x1152_S704x3456_d1)
    (shapeCast S3456x384 w shapeCasts_S3456x384_S3456x384) (constant S704x384 .f32 0x00000000#32)

/-- One output row: its part of the product, scaled, biased and rounded. -/
def outRow (l : ℕ) (hl : l ≤ 352) (so bo : FVec F S1x384 .f32) (y : FVec F S704x384 .f32) : FVec F S336x384 .bf16 :=
  truncf .bf16 (addf (mulf (extractStridedSlice S336x384 ![l, 0] y (slices2 (by omega) (by omega))) (broadcastTo S336x384 so broadcasts_S1x384_S336x384))
    (broadcastTo S336x384 bo broadcasts_S1x384_S336x384)) bitsLt_bf16_f32

/-- An output row is stored. -/
def outStore (o : Memref sig .tc .vmem S4x336x384 .bf16) (ho : o.IsWhole) (j : ℕ) (hj : j < 4) (v : FVec F S336x384 .bf16) : PR F PUnit := do
  let _ : Vec F S1x336x384 .bf16 ← Prog.lift (.load o (rO j hj).toLoadRect (View.loadsAt_vmem h_S1x336x384))
  Prog.lift (.store o (rO j hj) (shapeCast S1x336x384 v shapeCasts_S336x384_S1x336x384) Finset.univ
    (View.stores_vmem h_S1x336x384 (ho.storeExact_slice rfl _ (packed_rO j hj)) (fun _ => rfl)) (.inl rfl))

/-- Two output rows, `j` and `j + 1`. -/
def convGroup (x : Memref sig .tc .vmem S6x352x1152 .fp8e4m3) (o : Memref sig .tc .vmem S4x336x384 .bf16) (ho : o.IsWhole) (j : ℕ) (hj : j < 3)
    (so bo : FVec F S1x384 .f32) : PR F PUnit := do
  let a : Vec F S2x352x1152 .fp8e4m3 ← Prog.lift (.load x (rXtwo j (by omega)).toLoadRect (View.loadsAt_vmem h_S2x352x1152))
  let b : Vec F S2x352x1152 .fp8e4m3 ← Prog.lift (.load x (rXtwo (j + 1) (by omega)).toLoadRect (View.loadsAt_vmem h_S2x352x1152))
  let c : Vec F S2x352x1152 .fp8e4m3 ← Prog.lift (.load x (rXtwo (j + 2) (by omega)).toLoadRect (View.loadsAt_vmem h_S2x352x1152))
  let w : Vec F S3456x384 .fp8e4m3 ← Prog.lift (.load arg6 (Rect.unit (s := S3456x384) ![0, 0] S3456x384.size inb_S3456x384_S3456x384_0_0).toLoadRect (View.loadsAt_vmem h_S3456x384))
  outStore o ho j (by omega) (outRow 0 (by omega) so bo (convDot a b c w))
  outStore o ho (j + 1) (by omega) (outRow 352 (by omega) so bo (convDot a b c w))

end

/-- The scale row, the bias row, the output's scale row and bias row, the inverse scale: what the kernel reads once. -/
structure Consts (F : FTy → Type) where
  sc : FVec F S1x384 .f32
  bi : FVec F S1x384 .f32
  so : FVec F S1x384 .f32
  bo : FVec F S1x384 .f32
  inv : Elt F .f32

section

variable (arg1 : Memref sig .tc .vmem S8x336x256 .fp8e4m3) (arg2 : Memref sig .tc .smem S1 .f32) (arg3 : Memref sig .tc .vmem S256x384 .fp8e4m3)
  (arg4 arg5 : Memref sig .tc .vmem S1x384 .f32) (arg6 : Memref sig .tc .vmem S3456x384 .fp8e4m3) (arg7 arg8 : Memref sig .tc .vmem S1x384 .f32)
  (arg9 arg10 : Memref sig .tc .smem S1 .f32) (arg11 : Memref sig .tc .vmem S4x168x384 .fp8e4m3) (arg12 : Memref sig .tc .smem S1 .f32)
  (arg14 : Memref sig .tc .vmem S8x336x384 .fp8e4m3) (h14 : arg14.IsWhole)
  (arg15 : Memref sig .tc .vmem S4x3x336x128 .f32) (arg16 : Memref sig .tc .vmem S2x3x368x128 .f32)
  (arg17 : Memref sig .tc .vmem S6x352x1152 .fp8e4m3) (h17 : arg17.IsWhole) (arg18 : Memref sig .tc .vmem S6x352x1152 .fp8e4m3) (h18 : arg18.IsWhole)
  (arg19 : Memref sig .tc .vmem S4x336x384 .bf16) (h19 : arg19.IsWhole) (arg20 : Memref sig .tc .vmem S4x336x384 .bf16) (h20 : arg20.IsWhole)

/-- The four up-sampled rows. -/
def upRows : PR F PUnit := do
  let qs : Elt F .f32 ← smemLoad arg12 (Rect.unit (s := S1) ![0] S1.size inb_S1_S1_0) numel1_S1 rfl
  upRow arg11 arg15 0 (by omega) qs
  upRow arg11 arg15 1 (by omega) qs
  upRow arg11 arg15 2 (by omega) qs
  upRow arg11 arg15 3 (by omega) qs

/-- The scales and biases. -/
def readConsts : PR F (Consts F) := do
  let v116 : Elt F .f32 ← smemLoad arg2 (Rect.unit (s := S1) ![0] S1.size inb_S1_S1_0) numel1_S1 rfl
  let v117 : Vec F S1x384 .f32 ← Prog.lift (.load arg4 (Rect.unit (s := S1x384) ![0, 0] S1x384.size inb_S1x384_S1x384_0_0).toLoadRect (View.loadsAt_vmem h_S1x384))
  let v121 : Vec F S1x384 .f32 ← Prog.lift (.load arg5 (Rect.unit (s := S1x384) ![0, 0] S1x384.size inb_S1x384_S1x384_0_0).toLoadRect (View.loadsAt_vmem h_S1x384))
  let v123 : Elt F .f32 ← smemLoad arg9 (Rect.unit (s := S1) ![0] S1.size inb_S1_S1_0) numel1_S1 rfl
  let v124 : Vec F S1x384 .f32 ← Prog.lift (.load arg7 (Rect.unit (s := S1x384) ![0, 0] S1x384.size inb_S1x384_S1x384_0_0).toLoadRect (View.loadsAt_vmem h_S1x384))
  let v128 : Vec F S1x384 .f32 ← Prog.lift (.load arg8 (Rect.unit (s := S1x384) ![0, 0] S1x384.size inb_S1x384_S1x384_0_0).toLoadRect (View.loadsAt_vmem h_S1x384))
  let v130 : Elt F .f32 ← smemLoad arg10 (Rect.unit (s := S1) ![0] S1.size inb_S1_S1_0) numel1_S1 rfl
  pure ⟨mulf (broadcast S1x384 v116) (shapeCast S1x384 v117 shapeCasts_S1x384_S1x384), shapeCast S1x384 v121 shapeCasts_S1x384_S1x384,
    mulf (broadcast S1x384 v123) (shapeCast S1x384 v124 shapeCasts_S1x384_S1x384), shapeCast S1x384 v128 shapeCasts_S1x384_S1x384, v130⟩

/-- The first half: the halo row from the block before, the rows of the first half, the convolution of the half before it. -/
def midA (keep : BitVec 1) (K : Consts F) : PR F PUnit := do
  copyKeep arg18 arg17 h17 4 0 (by omega) (by omega) keep
  quantRow arg1 arg3 arg14 h14 arg15 arg16 arg17 h17 0 0 0 1 (by omega) (by omega) (by omega) (by omega) K.sc K.bi K.inv
  copyKeep arg17 arg18 h18 1 5 (by omega) (by omega) keep
  quantRow arg1 arg3 arg14 h14 arg15 arg16 arg17 h17 1 0 1 2 (by omega) (by omega) (by omega) (by omega) K.sc K.bi K.inv
  quantRow arg1 arg3 arg14 h14 arg15 arg16 arg17 h17 2 1 0 3 (by omega) (by omega) (by omega) (by omega) K.sc K.bi K.inv
  quantRow arg1 arg3 arg14 h14 arg15 arg16 arg17 h17 3 1 1 4 (by omega) (by omega) (by omega) (by omega) K.sc K.bi K.inv
  convGroup arg6 arg18 arg20 h20 0 (by omega) K.so K.bo
  convGroup arg6 arg18 arg20 h20 2 (by omega) K.so K.bo

/-- The second half: the rows of the second half, the convolution of the first half. -/
def midB (K : Consts F) : PR F PUnit := do
  copyRow arg17 arg18 h18 4 0 (by omega) (by omega)
  quantRow arg1 arg3 arg14 h14 arg15 arg16 arg18 h18 4 2 0 1 (by omega) (by omega) (by omega) (by omega) K.sc K.bi K.inv
  copyRow arg18 arg17 h17 1 5 (by omega) (by omega)
  quantRow arg1 arg3 arg14 h14 arg15 arg16 arg18 h18 5 2 1 2 (by omega) (by omega) (by omega) (by omega) K.sc K.bi K.inv
  quantRow arg1 arg3 arg14 h14 arg15 arg16 arg18 h18 6 3 0 3 (by omega) (by omega) (by omega) (by omega) K.sc K.bi K.inv
  quantRow arg1 arg3 arg14 h14 arg15 arg16 arg18 h18 7 3 1 4 (by omega) (by omega) (by omega) (by omega) K.sc K.bi K.inv
  convGroup arg6 arg17 arg19 h19 0 (by omega) K.so K.bo
  convGroup arg6 arg17 arg19 h19 2 (by omega) K.so K.bo

/-- The straight line. -/
def mid (keep : BitVec 1) : PR F PUnit := do
  upRows arg11 arg12 arg15
  let K ← readConsts arg2 arg4 arg5 arg7 arg8 arg9 arg10
  midA arg1 arg3 arg6 arg14 h14 arg15 arg16 arg17 h17 arg18 h18 arg20 h20 keep K
  midB arg1 arg3 arg6 arg14 h14 arg15 arg16 arg17 h17 arg18 h18 arg19 h19 K

end

end Cert.KernelIdeal.Hand
-- ==== Proof.ShapeIdeal.lean ====
/-
  The printed kernel is a head, the straight line `mid`, and a tail.

  The head zeroes the scratch at the first point and waits for the copies started at the point before; the tail starts
  this point's copies and, at the last point, waits for the last one. Their text is the printed skeleton's.
-/
module

public import proofs.«01_k».proof.Proof.BodyIdeal

@[expose] public section

set_option maxRecDepth 65536

noncomputable section

namespace Cert.KernelIdeal.Hand

open Cert.KernelIdeal Cert.KernelIdeal.Gen
open Idealize.ShloMosaic Idealize.ShloMosaic.TcCoe Idealize.SL.Sem

variable {F : FTy → Type} [FloatOps F]

/-- The head: at the first point the scratch is zeroed; from the second and third on the copies of the point before are
waited for. -/
def headP (i : grid0.Coords) (arg1 : Memref sig .tc .vmem S8x336x256 .fp8e4m3) (harg1 : arg1.IsWhole) (arg2 : Memref sig .tc .smem S1 .f32) (harg2 : arg2.IsWhole) (arg3 : Memref sig .tc .vmem S256x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S4x168x384 .fp8e4m3) (harg11 : arg11.IsWhole) (arg12 : Memref sig .tc .smem S1 .f32) (harg12 : arg12.IsWhole) (arg13 : Memref sig .tc .hbm S600x336x384 .bf16) (harg13 : arg13.IsWhole) (arg14 : Memref sig .tc .vmem S8x336x384 .fp8e4m3) (harg14 : arg14.IsWhole) (arg15 : Memref sig .tc .vmem S4x3x336x128 .f32) (harg15 : arg15.IsWhole) (arg16 : Memref sig .tc .vmem S2x3x368x128 .f32) (harg16 : arg16.IsWhole) (arg17 : Memref sig .tc .vmem S6x352x1152 .fp8e4m3) (harg17 : arg17.IsWhole) (arg18 : Memref sig .tc .vmem S6x352x1152 .fp8e4m3) (harg18 : arg18.IsWhole) (arg19 : Memref sig .tc .vmem S4x336x384 .bf16) (harg19 : arg19.IsWhole) (arg20 : Memref sig .tc .vmem S4x336x384 .bf16) (harg20 : arg20.IsWhole) (arg21 : DmaSems sig S2) : PR F PUnit := do
  let arg0 : BitVec 32 := BitVec.ofNat 32 (i 0).val
  let v0 : BitVec 32 := Scalar.remsi arg0 25#32
  let v1 : BitVec 1 := Scalar.cmpi .eq v0 0#32
  let v2 : BitVec 1 := Scalar.cmpi .eq arg0 0#32
  let v3 : BitVec 32 := Scalar.extui v2
  let v4 : BitVec 1 := Scalar.cmpi .ne v3 0#32
  if k0_h1 : v4 = 1#1 then do
    let v1310 : Vec F S2x3x368x128 .f32 ← Prog.lift (.load arg16 (Rect.unit (s := S2x3x368x128) ![0, 0, 0, 0] S2x3x368x128.size inb_S2x3x368x128_S2x3x368x128_0_0_0_0).toLoadRect (View.loadsAt_vmem h_S2x3x368x128))
    Prog.lift (.store arg16 (Rect.unit (s := S2x3x368x128) ![0, 0, 0, 0] S2x3x368x128.size inb_S2x3x368x128_S2x3x368x128_0_0_0_0) (k0_pay1 (F := F)) Finset.univ (View.stores_vmem_bits_univ h_S2x3x368x128 rfl) (.inl rfl))
    let v1314 : Vec F S6x352x1152 .fp8e4m3 ← Prog.lift (.load arg17 (Rect.unit (s := S6x352x1152) ![0, 0, 0] S6x352x1152.size inb_S6x352x1152_S6x352x1152_0_0_0).toLoadRect (View.loadsAt_vmem h_S6x352x1152))
    Prog.lift (.store arg17 (Rect.unit (s := S6x352x1152) ![0, 0, 0] S6x352x1152.size inb_S6x352x1152_S6x352x1152_0_0_0) (k0_pay2 (F := F)) Finset.univ (View.stores_vmem h_S6x352x1152 (harg17.storeExact_slice rfl _ packedfp8e4m3_S6x352x1152_S6x352x1152_0_0_0) (fun _ => rfl)) (.inl rfl))
    let v1318 : Vec F S6x352x1152 .fp8e4m3 ← Prog.lift (.load arg18 (Rect.unit (s := S6x352x1152) ![0, 0, 0] S6x352x1152.size inb_S6x352x1152_S6x352x1152_0_0_0).toLoadRect (View.loadsAt_vmem h_S6x352x1152))
    Prog.lift (.store arg18 (Rect.unit (s := S6x352x1152) ![0, 0, 0] S6x352x1152.size inb_S6x352x1152_S6x352x1152_0_0_0) (k0_pay3 (F := F)) Finset.univ (View.stores_vmem h_S6x352x1152 (harg18.storeExact_slice rfl _ packedfp8e4m3_S6x352x1152_S6x352x1152_0_0_0) (fun _ => rfl)) (.inl rfl))
    pure ⟨⟩
  else do
    pure ⟨⟩
  if k0_h2 : k0_cond2 i = 1#1 then do
    let v1312 : DmaSems sig S1 := arg21.slice (Rect.unit (s := S2) ![1] S1.size inb_S2_S1_1)
    let v1313 : DmaSems sig S_ := v1312.squeeze S_ squeezes_S1_S_
    let v1314 : Memref sig .tc .hbm S4x336x384 .bf16 := arg13.slice (Rect.unit (s := S600x336x384) (k0_off1 i) S4x336x384.size (k0_off1_inb i k0_h2)) (fun _ => rfl)
    Prog.lift (.waitDma2 v1313.sem arg20 v1314 harg20.wordExact (harg13.wordExact_slice rfl _ (k0_off1_wordsbf16 i k0_h2)))
    pure ⟨⟩
  else do
    pure ⟨⟩
  if k0_h3 : k0_cond3 i = 1#1 then do
    let v1311 : DmaSems sig S1 := arg21.slice (Rect.unit (s := S2) ![0] S1.size inb_S2_S1_0)
    let v1312 : DmaSems sig S_ := v1311.squeeze S_ squeezes_S1_S_
    let v1313 : Memref sig .tc .hbm S4x336x384 .bf16 := arg13.slice (Rect.unit (s := S600x336x384) (k0_off2 i) S4x336x384.size (k0_off2_inb i k0_h3)) (fun _ => rfl)
    Prog.lift (.waitDma2 v1312.sem arg19 v1313 harg19.wordExact (harg13.wordExact_slice rfl _ (k0_off2_wordsbf16 i k0_h3)))
    pure ⟨⟩
  else do
    pure ⟨⟩
  pure ⟨⟩

/-- The tail's two starts: the rows completed at this point leave for the result. -/
def startP (i : grid0.Coords) (arg1 : Memref sig .tc .vmem S8x336x256 .fp8e4m3) (harg1 : arg1.IsWhole) (arg2 : Memref sig .tc .smem S1 .f32) (harg2 : arg2.IsWhole) (arg3 : Memref sig .tc .vmem S256x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S4x168x384 .fp8e4m3) (harg11 : arg11.IsWhole) (arg12 : Memref sig .tc .smem S1 .f32) (harg12 : arg12.IsWhole) (arg13 : Memref sig .tc .hbm S600x336x384 .bf16) (harg13 : arg13.IsWhole) (arg14 : Memref sig .tc .vmem S8x336x384 .fp8e4m3) (harg14 : arg14.IsWhole) (arg15 : Memref sig .tc .vmem S4x3x336x128 .f32) (harg15 : arg15.IsWhole) (arg16 : Memref sig .tc .vmem S2x3x368x128 .f32) (harg16 : arg16.IsWhole) (arg17 : Memref sig .tc .vmem S6x352x1152 .fp8e4m3) (harg17 : arg17.IsWhole) (arg18 : Memref sig .tc .vmem S6x352x1152 .fp8e4m3) (harg18 : arg18.IsWhole) (arg19 : Memref sig .tc .vmem S4x336x384 .bf16) (harg19 : arg19.IsWhole) (arg20 : Memref sig .tc .vmem S4x336x384 .bf16) (harg20 : arg20.IsWhole) (arg21 : DmaSems sig S2) : PR F (BitVec 32) := do
  if k0_h4 : k0_cond4 i = 1#1 then do
    let v1311 : DmaSems sig S1 := arg21.slice (Rect.unit (s := S2) ![1] S1.size inb_S2_S1_1)
    let v1312 : DmaSems sig S_ := v1311.squeeze S_ squeezes_S1_S_
    let v1313 : Memref sig .tc .hbm S4x336x384 .bf16 := arg13.slice (Rect.unit (s := S600x336x384) (k0_off3 i) S4x336x384.size (k0_off3_inb i k0_h4)) (fun _ => rfl)
    Prog.lift (.enqueueDma arg20 (.here v1313) (.dma v1312.sem) harg20.wordExact (harg13.wordExact_slice rfl _ (k0_off3_wordsbf16 i k0_h4)) ⟨Or.inl rfl, trivial⟩)
    pure ⟨⟩
  else do
    pure ⟨⟩
  if k0_h5 : k0_cond5 i = 1#1 then do
    let v1310 : DmaSems sig S1 := arg21.slice (Rect.unit (s := S2) ![0] S1.size inb_S2_S1_0)
    let v1311 : DmaSems sig S_ := v1310.squeeze S_ squeezes_S1_S_
    let v1312 : Memref sig .tc .hbm S4x336x384 .bf16 := arg13.slice (Rect.unit (s := S600x336x384) (k0_off4 i) S4x336x384.size (k0_off4_inb i k0_h5)) (fun _ => rfl)
    Prog.lift (.enqueueDma arg19 (.here v1312) (.dma v1311.sem) harg19.wordExact (harg13.wordExact_slice rfl _ (k0_off4_wordsbf16 i k0_h5)) ⟨Or.inl rfl, trivial⟩)
    pure ⟨⟩
  else do
    pure ⟨⟩
  pure 75#32

/-- The last wait, at the last point only. -/
def lastP (i : grid0.Coords) (arg1 : Memref sig .tc .vmem S8x336x256 .fp8e4m3) (harg1 : arg1.IsWhole) (arg2 : Memref sig .tc .smem S1 .f32) (harg2 : arg2.IsWhole) (arg3 : Memref sig .tc .vmem S256x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S4x168x384 .fp8e4m3) (harg11 : arg11.IsWhole) (arg12 : Memref sig .tc .smem S1 .f32) (harg12 : arg12.IsWhole) (arg13 : Memref sig .tc .hbm S600x336x384 .bf16) (harg13 : arg13.IsWhole) (arg14 : Memref sig .tc .vmem S8x336x384 .fp8e4m3) (harg14 : arg14.IsWhole) (arg15 : Memref sig .tc .vmem S4x3x336x128 .f32) (harg15 : arg15.IsWhole) (arg16 : Memref sig .tc .vmem S2x3x368x128 .f32) (harg16 : arg16.IsWhole) (arg17 : Memref sig .tc .vmem S6x352x1152 .fp8e4m3) (harg17 : arg17.IsWhole) (arg18 : Memref sig .tc .vmem S6x352x1152 .fp8e4m3) (harg18 : arg18.IsWhole) (arg19 : Memref sig .tc .vmem S4x336x384 .bf16) (harg19 : arg19.IsWhole) (arg20 : Memref sig .tc .vmem S4x336x384 .bf16) (harg20 : arg20.IsWhole) (arg21 : DmaSems sig S2) : PR F PUnit := do
  if k0_h6 : k0_cond6 i = 1#1 then do
    let v1311 : DmaSems sig S1 := arg21.slice (Rect.unit (s := S2) ![1] S1.size inb_S2_S1_1)
    let v1312 : DmaSems sig S_ := v1311.squeeze S_ squeezes_S1_S_
    let v1313 : Memref sig .tc .hbm S4x336x384 .bf16 := arg13.slice (Rect.unit (s := S600x336x384) (k0_off5 i) S4x336x384.size (k0_off5_inb i k0_h6)) (fun _ => rfl)
    Prog.lift (.waitDma2 v1312.sem arg20 v1313 harg20.wordExact (harg13.wordExact_slice rfl _ (k0_off5_wordsbf16 i k0_h6)))
    pure ⟨⟩
  else do
    pure ⟨⟩
  pure ⟨⟩

/-- What follows the head in the printed first part. -/
def part1b (i : grid0.Coords) (arg1 : Memref sig .tc .vmem S8x336x256 .fp8e4m3) (harg1 : arg1.IsWhole) (arg2 : Memref sig .tc .smem S1 .f32) (harg2 : arg2.IsWhole) (arg3 : Memref sig .tc .vmem S256x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S4x168x384 .fp8e4m3) (harg11 : arg11.IsWhole) (arg12 : Memref sig .tc .smem S1 .f32) (harg12 : arg12.IsWhole) (arg13 : Memref sig .tc .hbm S600x336x384 .bf16) (harg13 : arg13.IsWhole) (arg14 : Memref sig .tc .vmem S8x336x384 .fp8e4m3) (harg14 : arg14.IsWhole) (arg15 : Memref sig .tc .vmem S4x3x336x128 .f32) (harg15 : arg15.IsWhole) (arg16 : Memref sig .tc .vmem S2x3x368x128 .f32) (harg16 : arg16.IsWhole) (arg17 : Memref sig .tc .vmem S6x352x1152 .fp8e4m3) (harg17 : arg17.IsWhole) (arg18 : Memref sig .tc .vmem S6x352x1152 .fp8e4m3) (harg18 : arg18.IsWhole) (arg19 : Memref sig .tc .vmem S4x336x384 .bf16) (harg19 : arg19.IsWhole) (arg20 : Memref sig .tc .vmem S4x336x384 .bf16) (harg20 : arg20.IsWhole) (arg21 : DmaSems sig S2) : Prog (TpuEff nD τ sig (Elt F) Λ₀ .tc) (Σ' (arg0 : BitVec 32) (v1 : BitVec 1) (v11 : Elt F .f32) (v16 : FVec F S168x384 .f32), FVec F S168x128 .f32) := do
  let arg0 : BitVec 32 := BitVec.ofNat 32 (i 0).val
  let v0 : BitVec 32 := Scalar.remsi arg0 25#32
  let v1 : BitVec 1 := Scalar.cmpi .eq v0 0#32
  let v11 : Elt F .f32 ← smemLoad arg12 (Rect.unit (s := S1) ![0] S1.size inb_S1_S1_0) numel1_S1 rfl
  let v12 : Vec F S1x168x384 .fp8e4m3 ← Prog.lift (.load arg11 (Rect.unit (s := S4x168x384) ![0, 0, 0] S1x168x384.size inb_S4x168x384_S1x168x384_0_0_0).toLoadRect (View.loadsAt_vmem h_S1x168x384))
  let v18 : Vec F S1x1x168x128 .f32 ← Prog.lift (.load arg15 (⟨![0, 0, 0, 0], S1x1x168x128.size, ![1, 1, 2, 1], inb_S4x3x336x128_S1x1x168x128_0_0_0_0_s_1_1_2_1⟩ : LoadRect S4x3x336x128) (View.loadsAt_vmem h_S1x1x168x128))
  Prog.lift (.store arg15 ⟨(⟨![0, 0, 0, 0], S1x1x168x128.size, ![1, 1, 2, 1], inb_S4x3x336x128_S1x1x168x128_0_0_0_0_s_1_1_2_1⟩ : LoadRect S4x3x336x128), spos_1_1_2_1⟩ (k0_pay6 v11 v12) Finset.univ (View.stores_vmem_bits_univ h_S1x1x168x128 rfl) (.inl rfl))
  let v21 : Vec F S1x1x168x128 .f32 ← Prog.lift (.load arg15 (⟨![0, 0, 1, 0], S1x1x168x128.size, ![1, 1, 2, 1], inb_S4x3x336x128_S1x1x168x128_0_0_1_0_s_1_1_2_1⟩ : LoadRect S4x3x336x128) (View.loadsAt_vmem h_S1x1x168x128))
  Prog.lift (.store arg15 ⟨(⟨![0, 0, 1, 0], S1x1x168x128.size, ![1, 1, 2, 1], inb_S4x3x336x128_S1x1x168x128_0_0_1_0_s_1_1_2_1⟩ : LoadRect S4x3x336x128), spos_1_1_2_1⟩ (k0_pay7 v11 v12) Finset.univ (View.stores_vmem_bits_univ h_S1x1x168x128 rfl) (.inl rfl))
  let v25 : Vec F S1x1x168x128 .f32 ← Prog.lift (.load arg15 (⟨![0, 1, 0, 0], S1x1x168x128.size, ![1, 1, 2, 1], inb_S4x3x336x128_S1x1x168x128_0_1_0_0_s_1_1_2_1⟩ : LoadRect S4x3x336x128) (View.loadsAt_vmem h_S1x1x168x128))
  Prog.lift (.store arg15 ⟨(⟨![0, 1, 0, 0], S1x1x168x128.size, ![1, 1, 2, 1], inb_S4x3x336x128_S1x1x168x128_0_1_0_0_s_1_1_2_1⟩ : LoadRect S4x3x336x128), spos_1_1_2_1⟩ (k0_pay9 v11 v12) Finset.univ (View.stores_vmem_bits_univ h_S1x1x168x128 rfl) (.inl rfl))
  pure ⟨arg0, v1, v11, k0_pay4 v11 v12, k0_pay8 v11 v12⟩

/-- Two programs that begin with the same effect agree if their continuations do. -/
theorem opc {E : Type → Type} {α β : Type} {e : E β} {k k' : β → Prog E α} (h : ∀ v, k v = k' v) : Prog.op e k = Prog.op e k' := by
  rw [funext h]

theorem part1_eq (i : grid0.Coords) (arg1 : Memref sig .tc .vmem S8x336x256 .fp8e4m3) (harg1 : arg1.IsWhole) (arg2 : Memref sig .tc .smem S1 .f32) (harg2 : arg2.IsWhole) (arg3 : Memref sig .tc .vmem S256x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S4x168x384 .fp8e4m3) (harg11 : arg11.IsWhole) (arg12 : Memref sig .tc .smem S1 .f32) (harg12 : arg12.IsWhole) (arg13 : Memref sig .tc .hbm S600x336x384 .bf16) (harg13 : arg13.IsWhole) (arg14 : Memref sig .tc .vmem S8x336x384 .fp8e4m3) (harg14 : arg14.IsWhole) (arg15 : Memref sig .tc .vmem S4x3x336x128 .f32) (harg15 : arg15.IsWhole) (arg16 : Memref sig .tc .vmem S2x3x368x128 .f32) (harg16 : arg16.IsWhole) (arg17 : Memref sig .tc .vmem S6x352x1152 .fp8e4m3) (harg17 : arg17.IsWhole) (arg18 : Memref sig .tc .vmem S6x352x1152 .fp8e4m3) (harg18 : arg18.IsWhole) (arg19 : Memref sig .tc .vmem S4x336x384 .bf16) (harg19 : arg19.IsWhole) (arg20 : Memref sig .tc .vmem S4x336x384 .bf16) (harg20 : arg20.IsWhole) (arg21 : DmaSems sig S2) :
    k0_part1_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (headP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => part1b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold k0_part1_skel headP
  by_cases h1 : Scalar.cmpi .ne (Scalar.extui (Scalar.cmpi .eq (BitVec.ofNat 32 (i 0).val) 0#32) : BitVec 32) 0#32 = 1#1 <;>
    by_cases h2 : k0_cond2 i = 1#1 <;> by_cases h3 : k0_cond3 i = 1#1 <;>
    simp only [h1, h2, h3, dite_true, dite_false] <;> rfl

/-- The bit that is on except at the first point of an image. -/
def keepBit (i : grid0.Coords) : BitVec 1 :=
  Scalar.xori (Scalar.cmpi .eq (Scalar.remsi (BitVec.ofNat 32 (i 0).val) 25#32) 0#32) 1#1

set_option maxHeartbeats 0 in
/-- The printed kernel is head, straight line, tail. -/
theorem body_eq (i : grid0.Coords) (arg1 : Memref sig .tc .vmem S8x336x256 .fp8e4m3) (harg1 : arg1.IsWhole) (arg2 : Memref sig .tc .smem S1 .f32) (harg2 : arg2.IsWhole) (arg3 : Memref sig .tc .vmem S256x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S4x168x384 .fp8e4m3) (harg11 : arg11.IsWhole) (arg12 : Memref sig .tc .smem S1 .f32) (harg12 : arg12.IsWhole) (arg13 : Memref sig .tc .hbm S600x336x384 .bf16) (harg13 : arg13.IsWhole) (arg14 : Memref sig .tc .vmem S8x336x384 .fp8e4m3) (harg14 : arg14.IsWhole) (arg15 : Memref sig .tc .vmem S4x3x336x128 .f32) (harg15 : arg15.IsWhole) (arg16 : Memref sig .tc .vmem S2x3x368x128 .f32) (harg16 : arg16.IsWhole) (arg17 : Memref sig .tc .vmem S6x352x1152 .fp8e4m3) (harg17 : arg17.IsWhole) (arg18 : Memref sig .tc .vmem S6x352x1152 .fp8e4m3) (harg18 : arg18.IsWhole) (arg19 : Memref sig .tc .vmem S4x336x384 .bf16) (harg19 : arg19.IsWhole) (arg20 : Memref sig .tc .vmem S4x336x384 .bf16) (harg20 : arg20.IsWhole) (arg21 : DmaSems sig S2) :
    cc0_level2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (headP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ =>
      (mid arg1 arg2 arg3 arg4 arg5 arg6 arg7 arg8 arg9 arg10 arg11 arg12 arg14 harg14 arg15 arg16 arg17 harg17 arg18 harg18 arg19 harg19 arg20 harg20 (keepBit i)).bind
        fun _ => (startP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => lastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  have e1 : k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (headP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => part1b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
    rw [k0_part1_eq_skeleton]; exact part1_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21
  unfold cc0_level2
  refine (congrArg (fun p => Prog.bind p _) e1).trans ((Prog.bind_assoc _ _ _).trans ?_)
  refine congrArg (Prog.bind _) (funext fun _ => ?_)
  iterate 464 refine opc fun v => ?_
  rfl

end Cert.KernelIdeal.Hand
-- ==== Proof.SpecIdeal.lean ====
/-
  What the parts of the straight line do to the buffers, and the values they leave.

  Each program of `BodyIdeal` gets a triple over parts of buffers (`Rules.part`): the functions `upV`, `codesV`,
  `quantV`, `xrowV`, `convV` say what its buffer holds when it is done, and a program adds its own rectangle to what is
  known. The continuation is kept symbolic, so the triples compose.
-/
module

public import proofs.«01_k».proof.Proof.BodyIdeal
public import Idealize.ShloMosaic.Lib.Pointwise
public import Idealize.ShloMosaic.Lib.ValueLayout

@[expose] public section

set_option maxRecDepth 16384

noncomputable section

namespace Cert.KernelIdeal.Hand

open Cert.KernelIdeal Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The values -/

/-- The up-sampled rows: row `j 0` of the coarser codes, dequantised, chunk `j 1`, at half the column. -/
def upV (qs : Elt F .f32) (Q : Vec F S4x168x384 .fp8e4m3) : Vec F S4x3x336x128 .f32 := fun j =>
  deqChunk (j 1).val (j 1).isLt (deq qs fun x => Q ((rQ3 (j 0).val (j 0).isLt).toLoadRect.idx x))
    (ix2 ⟨(j 2).val / 2, by have := (j 2).isLt; simp at this; omega⟩ (j 3))

theorem fin1 {n : ℕ} (x : Fin n) (h : n = 1 := by rfl) : x.val = 0 := by omega

/-- A one-element vector is constant. -/
theorem s1_const {α : Type} (f : S1.Idx → α) : ∃ v, f = fun _ => v :=
  ⟨f (ix1 0), funext fun i => congrArg f (by rw [eq_ix1 i]; exact congrArg ix1 (Subsingleton.elim (α := Fin 1) _ _))⟩

/-! Shape casts by unit axes, at an index. -/

theorem cast_168 {α : Type} (v : S168x128.Idx → α) (h : S168x128.ShapeCasts S1x1x168x128) (x : S1x1x168x128.Idx) :
    shapeCast S1x1x168x128 v h x = v (ix2 (x 2) (x 3)) := by pointwise
theorem cast_336 {α : Type} (v : S336x128.Idx → α) (h : S336x128.ShapeCasts S1x1x336x128) (x : S1x1x336x128.Idx) :
    shapeCast S1x1x336x128 v h x = v (ix2 (x 2) (x 3)) := by pointwise
theorem cast_336' {α : Type} (v : S1x1x336x128.Idx → α) (h : S1x1x336x128.ShapeCasts S336x128) (x : S336x128.Idx) :
    shapeCast S336x128 v h x = v (ix4 (0 : Fin 1) (0 : Fin 1) (x 0) (x 1)) := by pointwise
theorem cast_352' {α : Type} (v : S1x1x352x128.Idx → α) (h : S1x1x352x128.ShapeCasts S352x128) (x : S352x128.Idx) :
    shapeCast S352x128 v h x = v (ix4 (0 : Fin 1) (0 : Fin 1) (x 0) (x 1)) := by pointwise
theorem cast_1ab {α : Type} {a b : ℕ} (v : (⟨2, ![a, b]⟩ : Shape).Idx → α) (h : (⟨2, ![a, b]⟩ : Shape).ShapeCasts ⟨3, ![1, a, b]⟩) (x : (⟨3, ![1, a, b]⟩ : Shape).Idx) :
    shapeCast ⟨3, ![1, a, b]⟩ v h x = v (ix2 (x 1) (x 2)) := by
  rw [eq_ix3 x]; exact ValueIdx.shapeCast_ab_1ab_apply v h _ _ _
theorem cast_ab {α : Type} {a b : ℕ} (v : (⟨3, ![1, a, b]⟩ : Shape).Idx → α) (h : (⟨3, ![1, a, b]⟩ : Shape).ShapeCasts ⟨2, ![a, b]⟩) (x : (⟨2, ![a, b]⟩ : Shape).Idx) :
    shapeCast ⟨2, ![a, b]⟩ v h x = v (ix3 (0 : Fin 1) (x 0) (x 1)) := by
  rw [eq_ix2 x]; exact ValueIdx.shapeCast_1ab_ab_apply v h _ _

theorem upV_apply (qs : Elt F .f32) (Q : Vec F S4x168x384 .fp8e4m3) (j : S4x3x336x128.Idx) {k ch : ℕ} (hk : k < 4) (hc : ch < 3) (p : Fin 168) (q : Fin 128)
    (h0 : (j 0).val = k) (h1 : (j 1).val = ch) (h2 : (j 2).val / 2 = p.val) (h3 : (j 3).val = q.val) :
    upV qs Q j = deqChunk ch hc (deq qs fun x => Q ((rQ3 k hk).toLoadRect.idx x)) (ix2 p q) := by
  subst h0 h1
  unfold upV
  congr 2
  · exact Fin.ext h2
  · exact Fin.ext h3

/-- What a program's end is asked to satisfy. -/
abbrev Post (F : FTy → Type) := PUnit.{1} → sProp (MT nD τ sig Unit (Elt F) ℕ (Pipeline.UD sig nD τ) ℕ)

/-- The weakest precondition on core `c`. -/
abbrev wpc (c : Dev nD) (p : PR F PUnit.{1}) (P : Post F) : sProp 𝕄 :=
  wp frame (wpE (defs₀ (F := F)) Variants.none (c : Thread nD τ) none) Set.univ p P

/-- A buffer known in part, on core `c`. -/
abbrev prt (c : Dev nD) {cs : CoreSpace} {s : Shape} {e : EltTy} (m : Memref sig .tc cs s e) (V : s.Idx → Elt F e) (D : s.Idx → Prop) : sProp 𝕄 :=
  part (c : Thread nD τ) m V D

/-- A buffer held, on core `c`. -/
abbrev own (c : Dev nD) {cs : CoreSpace} {s : Shape} {e : EltTy} (m : Memref sig .tc cs s e) (q : PosShare TreeShare) (X : s.Idx → Elt F e) : sProp 𝕄 :=
  owns (c : Thread nD τ) m q X

theorem truncf_apply {s : Shape} {φ ψ : FTy} (v : FVec F s φ) (h : ψ.bits < φ.bits) (i : s.Idx) :
    truncf ψ v h i = FloatOps.truncf ψ h (v i) := rfl

/-- Chunk `ch` of row `r` of the block, quantised but not rounded. -/
def qv (K : Consts F) (W : Vec F S256x384 .fp8e4m3) (C : Vec F S8x336x256 .fp8e4m3) (U : Vec F S4x3x336x128 .f32) (r u ch : ℕ) (hr : r < 8) (hu : u < 4) (hc : ch < 3) :
    FVec F S336x128 .f32 :=
  clipped K.inv (merged ch hc K.sc K.bi
    (latDot (fun x => W ((Rect.unit (s := S256x384) ![0, 0] S256x384.size inb_S256x384_S256x384_0_0).toLoadRect.idx x))
      (fun x => W ((Rect.unit (s := S256x384) ![0, 0] S256x128.size inb_S256x384_S256x128_0_0).toLoadRect.idx x)) (fun x => C ((rC r hr).toLoadRect.idx x)))
    (fun x => U ((rU u ch hu hc).toLoadRect.idx x)))

/-- The block of codes. -/
def codesV (K : Consts F) (W : Vec F S256x384 .fp8e4m3) (C : Vec F S8x336x256 .fp8e4m3) (U : Vec F S4x3x336x128 .f32) : Vec F S8x336x384 .fp8e4m3 := fun j =>
  FloatOps.truncf .fp8e4m3 bitsLt_fp8e4m3_f32 (qv K W C U (j 0).val ((j 0).val / 2) ((j 2).val / 128) (j 0).isLt
    (by have h : (j 0).val < 8 := (j 0).isLt; omega) (by have h : (j 2).val < 384 := (j 2).isLt; omega)
    (ix2 (j 1) ⟨(j 2).val % 128, Nat.mod_lt _ (by omega)⟩))

/-- The unrounded row in its scratch, zeroes on both sides. -/
def quantV (K : Consts F) (W : Vec F S256x384 .fp8e4m3) (C : Vec F S8x336x256 .fp8e4m3) (U : Vec F S4x3x336x128 .f32) (r : ℕ) (hr : r < 8) :
    Vec F S2x3x368x128 .f32 := fun j =>
  if h : 8 ≤ (j 2).val ∧ (j 2).val < 344 then qv K W C U r (r / 2) (j 1).val hr (by omega) (j 1).isLt (ix2 ⟨(j 2).val - 8, by omega⟩ (j 3))
  else Scalar.ofBits .f32 0x00000000#32

/-- The positions of the scratch beside the row. -/
def border (j : S2x3x368x128.Idx) : Prop := (j 2).val < 8 ∨ 344 ≤ (j 2).val

/-- A row as the convolution reads it: at column `384 k + 128 c + x` the rounded value of chunk `c`, lane `x`, at the position `k - 1` further. -/
def xrowV (K : Consts F) (W : Vec F S256x384 .fp8e4m3) (C : Vec F S8x336x256 .fp8e4m3) (U : Vec F S4x3x336x128 .f32) (r : ℕ) (hr : r < 8) (p l : ℕ) (hp : p < 352) (hl : l < 1152) :
    Elt F .fp8e4m3 :=
  FloatOps.truncf .fp8e4m3 bitsLt_fp8e4m3_f32 (quantV K W C U r hr
    (ix4 (0 : Fin 2) ⟨l % 384 / 128, by omega⟩ ⟨p + 7 + l / 384, by omega⟩ ⟨l % 128, Nat.mod_lt _ (by omega)⟩))

/-! ## The up-sampled rows -/

section

variable (c : Dev nD) {κ : PUnit.{1} → PR F PUnit.{1}} {P : Post F}
variable (arg11 : Memref sig .tc .vmem S4x168x384 .fp8e4m3) (arg15 : Memref sig .tc .vmem S4x3x336x128 .f32)

theorem upStore_spec (k ch par : ℕ) (hk : k < 4) (hc : ch < 3) (hp : par < 2) (qs : Elt F .f32) (Q : Vec F S4x168x384 .fp8e4m3)
    (D : S4x3x336x128.Idx → Prop) :
    prt c arg15 (upV qs Q) D ⊢ iprop((prt c arg15 (upV qs Q) (fun j => D j ∨ ((j 0).val = k ∧ (j 1).val = ch ∧ (j 2).val % 2 = par)) -∗ wpc c (κ ⟨⟩) P)
      -∗ wpc c (upStore arg15 k ch par hk hc hp (deqChunk ch hc (deq qs fun x => Q ((rQ3 k hk).toLoadRect.idx x))) >>= κ) P) := by
  iintro H Hk
  unfold upStore
  iapply (part_load_any (c : Thread nD τ)) $$ H
  iintro H
  iapply (part_store (c : Thread nD τ) (D' := fun j => D j ∨ ((j 0).val = k ∧ (j 1).val = ch ∧ (j 2).val % 2 = par)) ?_ ?_) $$ H
  · intro x
    refine (cast_168 _ _ x).trans (upV_apply qs Q _ hk hc (x 2) (x 3) ?_ ?_ ?_ ?_).symm
    · have := fin1 (x 0); show k + 1 * (x 0).val = k; omega
    · have := fin1 (x 1); show ch + 1 * (x 1).val = ch; omega
    · show (par + 2 * (x 2).val) / 2 = (x 2).val; omega
    · show 0 + 1 * (x 3).val = (x 3).val; omega
  · intro j hj
    refine hj.imp_right fun h => (LoadRect.mem_set _).mpr fun a => ?_
    match a with
    | 0 => exact ⟨0, Nat.one_pos, by show _ = k + 1 * 0; omega⟩
    | 1 => exact ⟨0, Nat.one_pos, by show _ = ch + 1 * 0; omega⟩
    | 2 => exact ⟨(j 2).val / 2, (by have h2 := (j 2).isLt; show _ < 168; change _ < 336 at h2; omega), by show _ = par + 2 * _; omega⟩
    | 3 => exact ⟨(j 3).val, (j 3).isLt, by show _ = 0 + 1 * _; omega⟩
  · iintro H; iapply Hk; iexact H

theorem upChunk_spec (k ch : ℕ) (hk : k < 4) (hc : ch < 3) (qs : Elt F .f32) (Q : Vec F S4x168x384 .fp8e4m3) (D : S4x3x336x128.Idx → Prop) :
    prt c arg15 (upV qs Q) D ⊢ iprop((prt c arg15 (upV qs Q) (fun j => D j ∨ ((j 0).val = k ∧ (j 1).val = ch)) -∗ wpc c (κ ⟨⟩) P)
      -∗ wpc c (upChunk arg15 k ch hk hc (deq qs fun x => Q ((rQ3 k hk).toLoadRect.idx x)) >>= κ) P) := by
  iintro H Hk
  unfold upChunk
  simp only [Prog.bind_assoc]
  iapply (upStore_spec c arg15 k ch 0) $$ H
  iintro H
  iapply (upStore_spec c arg15 k ch 1) $$ H
  iintro H
  iapply Hk
  iapply (part_mono (c : Thread nD τ) ?_) $$ H
  intro j hj
  refine ⟨?_, rfl⟩
  rcases hj with h | ⟨h0, h1⟩
  · exact .inl (.inl h)
  · rcases Nat.mod_two_eq_zero_or_one (j 2).val with h | h
    · exact .inl (.inr ⟨h0, h1, h⟩)
    · exact .inr ⟨h0, h1, h⟩

theorem upRow_spec (k : ℕ) (hk : k < 4) (qs : Elt F .f32) (q : PosShare TreeShare) (Q : Vec F S4x168x384 .fp8e4m3) (D : S4x3x336x128.Idx → Prop) :
    iprop(own c arg11 q Q ∗ prt c arg15 (upV qs Q) D) ⊢
      iprop((iprop(own c arg11 q Q ∗ prt c arg15 (upV qs Q) (fun j => D j ∨ (j 0).val = k)) -∗ wpc c (κ ⟨⟩) P)
      -∗ wpc c (upRow arg11 arg15 k hk qs >>= κ) P) := by
  iintro ⟨HQ, H⟩ Hk
  unfold upRow
  simp only [Prog.bind_assoc]
  iapply (owns_load (c : Thread nD τ)) $$ HQ
  iintro HQ
  iapply (upChunk_spec c arg15 k 0) $$ H
  iintro H
  iapply (upChunk_spec c arg15 k 1) $$ H
  iintro H
  iapply (upChunk_spec c arg15 k 2) $$ H
  iintro H
  iapply Hk
  isplitl [HQ]; · iexact HQ
  iapply (part_mono (c : Thread nD τ) ?_) $$ H
  intro j hj
  refine ⟨?_, rfl⟩
  rcases hj with h | h0
  · exact .inl (.inl (.inl h))
  · have h1 : (j 1).val < 3 := (j 1).isLt
    rcases (by omega : (j 1).val = 0 ∨ (j 1).val = 1 ∨ (j 1).val = 2) with h | h | h
    · exact .inl (.inl (.inr ⟨h0, h⟩))
    · exact .inl (.inr ⟨h0, h⟩)
    · exact .inr ⟨h0, h⟩

/-- The four up-sampled rows: the scratch is known whole. -/
theorem upRows_spec (arg12 : Memref sig .tc .smem S1 .f32) (q q' : PosShare TreeShare) (Q : Vec F S4x168x384 .fp8e4m3) (qs : Vec F S1 .f32) (V : Vec F S4x3x336x128 .f32) (D : S4x3x336x128.Idx → Prop) :
    iprop(own c arg11 q Q ∗ own c arg12 q' qs ∗ prt c arg15 V D) ⊢
      iprop((iprop(own c arg11 q Q ∗ own c arg12 q' qs ∗ own c arg15 fullShare (upV (qs (ix1 0)) Q)) -∗ wpc c (κ ⟨⟩) P)
      -∗ wpc c (upRows arg11 arg12 arg15 >>= κ) P) := by
  obtain ⟨v, rfl⟩ := s1_const qs
  iintro ⟨HQ, Hs, H⟩ Hk
  unfold upRows
  simp only [Prog.bind_assoc]
  iapply (owns_load (c : Thread nD τ)) $$ Hs
  iintro Hs
  ihave H := (part_mono (c : Thread nD τ) (V' := upV v Q) (D' := fun _ => False) (fun _ h => h.elim)) $$ H
  iapply (upRow_spec c arg11 arg15 0) $$ [HQ H]
  · isplitl [HQ]; · iexact HQ
    iexact H
  iintro ⟨HQ, H⟩
  iapply (upRow_spec c arg11 arg15 1) $$ [HQ H]
  · isplitl [HQ]; · iexact HQ
    iexact H
  iintro ⟨HQ, H⟩
  iapply (upRow_spec c arg11 arg15 2) $$ [HQ H]
  · isplitl [HQ]; · iexact HQ
    iexact H
  iintro ⟨HQ, H⟩
  iapply (upRow_spec c arg11 arg15 3) $$ [HQ H]
  · isplitl [HQ]; · iexact HQ
    iexact H
  iintro ⟨HQ, H⟩
  iapply Hk
  isplitl [HQ]; · iexact HQ
  isplitl [Hs]; · iexact Hs
  iapply (part_owns (c : Thread nD τ) ?_) $$ H
  intro j
  have h1 : (j 0).val < 4 := (j 0).isLt
  rcases (by omega : (j 0).val = 0 ∨ (j 0).val = 1 ∨ (j 0).val = 2 ∨ (j 0).val = 3) with h | h | h | h
  · exact .inl (.inl (.inl (.inr h)))
  · exact .inl (.inl (.inr h))
  · exact .inl (.inr h)
  · exact .inr h

end

/-! ## One row of codes -/

section

variable (c : Dev nD) {κ : PUnit.{1} → PR F PUnit.{1}} {P : Post F}
variable (arg1 : Memref sig .tc .vmem S8x336x256 .fp8e4m3) (arg3 : Memref sig .tc .vmem S256x384 .fp8e4m3)
  (arg14 : Memref sig .tc .vmem S8x336x384 .fp8e4m3) (h14 : arg14.IsWhole)
  (arg15 : Memref sig .tc .vmem S4x3x336x128 .f32) (arg16 : Memref sig .tc .vmem S2x3x368x128 .f32)
  (x : Memref sig .tc .vmem S6x352x1152 .fp8e4m3) (hx : x.IsWhole)
variable (K : Consts F) (W : Vec F S256x384 .fp8e4m3) (C : Vec F S8x336x256 .fp8e4m3) (U : Vec F S4x3x336x128 .f32)

theorem codesV_apply (j : S8x336x384.Idx) {r ch : ℕ} (hr : r < 8) (hc : ch < 3) (p : Fin 336) (q : Fin 128)
    (h0 : (j 0).val = r) (h1 : (j 1).val = p.val) (h2 : (j 2).val = 128 * ch + q.val) :
    codesV K W C U j = FloatOps.truncf .fp8e4m3 bitsLt_fp8e4m3_f32 (qv K W C U r (r / 2) ch hr (by omega) hc (ix2 p q)) := by
  subst h0
  obtain rfl : ch = (j 2).val / 128 := by omega
  unfold codesV
  congr 3
  · exact Fin.ext h1
  · exact Fin.ext (by show (j 2).val % 128 = q.val; omega)

theorem quantV_in (r : ℕ) (hr : r < 8) (j : S2x3x368x128.Idx) {ch : ℕ} (hc : ch < 3) (p : Fin 336) (q : Fin 128)
    (h1 : (j 1).val = ch) (h2 : (j 2).val = 8 + p.val) (h3 : (j 3).val = q.val) :
    quantV K W C U r hr j = qv K W C U r (r / 2) ch hr (by omega) hc (ix2 p q) := by
  subst h1
  unfold quantV
  rw [dif_pos (by omega)]
  congr 1
  congr 1
  · exact Fin.ext (by show (j 2).val - 8 = p.val; omega)
  · exact Fin.ext h3

theorem quantV_border (r : ℕ) (hr : r < 8) (j : S2x3x368x128.Idx) (h : border j) : quantV K W C U r hr j = Scalar.ofBits .f32 0x00000000#32 := by
  unfold quantV border at *
  rw [dif_neg (by omega)]

theorem quantStore_spec (r s ch l : ℕ) (hr : r < 8) (hs : s < 2) (hc : ch < 3) (hl : l ≤ 256) (hcl : l = 128 * ch)
    (D : S8x336x384.Idx → Prop) (E : S2x3x368x128.Idx → Prop) :
    iprop(prt c arg14 (codesV K W C U) D ∗ prt c arg16 (quantV K W C U r hr) E) ⊢
      iprop((iprop(prt c arg14 (codesV K W C U) (fun j => D j ∨ ((j 0).val = r ∧ (j 2).val / 128 = ch))
          ∗ prt c arg16 (quantV K W C U r hr) (fun j => E j ∨ ((j 0).val = s ∧ (j 1).val = ch ∧ ¬ border j))) -∗ wpc c (κ ⟨⟩) P)
        -∗ wpc c (quantStore arg14 h14 arg16 r s ch l hr hs hc hl (qv K W C U r (r / 2) ch hr (by omega) hc) >>= κ) P) := by
  subst hcl
  iintro ⟨H, G⟩ Hk
  unfold quantStore
  iapply (part_load_any (c : Thread nD τ)) $$ H
  iintro H
  iapply (part_store (c : Thread nD τ) (D' := fun j => D j ∨ ((j 0).val = r ∧ (j 2).val / 128 = ch)) ?_ ?_) $$ H
  · intro x
    refine (cast_1ab _ _ x).trans (codesV_apply K W C U _ hr hc (x 1) (x 2) ?_ ?_ ?_).symm
    · have := fin1 (x 0); show r + 1 * (x 0).val = r; omega
    · show 0 + 1 * (x 1).val = _; omega
    · show 128 * ch + 1 * (x 2).val = _; omega
  · intro j hj
    refine hj.imp_right fun h => Rect.mem_set_unit.mpr fun a => ?_
    match a with
    | 0 => exact ⟨h.1.ge, by show _ < r + 1; omega⟩
    | 1 => exact ⟨Nat.zero_le _, by have := (j 1).isLt; show _ < 0 + 336; change _ < 336 at this; omega⟩
    | 2 => exact ⟨by show 128 * ch ≤ _; omega, by show _ < 128 * ch + 128; omega⟩
  iintro H
  iapply (part_load_any (c : Thread nD τ)) $$ G
  iintro G
  iapply (part_store (c : Thread nD τ) (D' := fun j => E j ∨ ((j 0).val = s ∧ (j 1).val = ch ∧ ¬ border j)) ?_ ?_) $$ G
  · intro x
    refine (cast_336 _ _ x).trans (quantV_in K W C U r hr _ hc (x 2) (x 3) ?_ ?_ ?_).symm
    · have := fin1 (x 1); show ch + 1 * (x 1).val = ch; omega
    · show 8 + 1 * (x 2).val = _; omega
    · show 0 + 1 * (x 3).val = _; omega
  · intro j hj
    refine hj.imp_right fun h => Rect.mem_set_unit.mpr fun a => ?_
    have h2 := h.2.2
    unfold border at h2
    match a with
    | 0 => exact ⟨h.1.ge, by show _ < s + 1; omega⟩
    | 1 => exact ⟨h.2.1.ge, by show _ < ch + 1; omega⟩
    | 2 => exact ⟨by show 8 ≤ _; omega, by show _ < 8 + 336; omega⟩
    | 3 => exact ⟨Nat.zero_le _, by have := (j 3).isLt; show _ < 0 + 128; change _ < 128 at this; omega⟩
  iintro G
  iapply Hk
  isplitl [H]; · iexact H
  iexact G

theorem quantV_congr (r : ℕ) (hr : r < 8) (i j : S2x3x368x128.Idx) (h1 : (i 1).val = (j 1).val) (h2 : (i 2).val = (j 2).val) (h3 : (i 3).val = (j 3).val) :
    quantV K W C U r hr i = quantV K W C U r hr j := by
  by_cases h : 8 ≤ (j 2).val ∧ (j 2).val < 344
  · rw [quantV_in K W C U r hr i (ch := (j 1).val) (j 1).isLt ⟨(j 2).val - 8, by omega⟩ (j 3) h1 (by show _ = 8 + ((j 2).val - 8); omega) h3,
      quantV_in K W C U r hr j (ch := (j 1).val) (j 1).isLt ⟨(j 2).val - 8, by omega⟩ (j 3) rfl (by show _ = 8 + ((j 2).val - 8); omega) rfl]
  · rw [quantV_border K W C U r hr i (by unfold border; omega), quantV_border K W C U r hr j (by unfold border; omega)]

/-- A row in its scratch: slot `s` and the border are known. -/
def slotD (s : ℕ) (j : S2x3x368x128.Idx) : Prop := border j ∨ (j 0).val = s

theorem tapStore_spec (r s ch p k l tap : ℕ) (hr : r < 8) (hs : s < 2) (hc : ch < 3) (ht : tap < 3) (hp : p < 10) (hk : k < 6) (hl : l ≤ 1024)
    (hpt : p = 7 + tap) (hlt : l = 384 * tap + 128 * ch) (V : Vec F S6x352x1152 .fp8e4m3) (D : S6x352x1152.Idx → Prop)
    (hV : ∀ j, (j 0).val = k → V j = xrowV K W C U r hr (j 1).val (j 2).val (j 1).isLt (j 2).isLt) :
    iprop(prt c arg16 (quantV K W C U r hr) (slotD s) ∗ prt c x V D) ⊢
      iprop((iprop(prt c arg16 (quantV K W C U r hr) (slotD s) ∗ prt c x V (fun j => D j ∨ ((j 0).val = k ∧ (j 2).val / 128 = 3 * tap + ch))) -∗ wpc c (κ ⟨⟩) P)
        -∗ wpc c (tapStore arg16 x hx s ch p k l hs hc hp hk hl >>= κ) P) := by
  subst hpt hlt
  iintro ⟨G, H⟩ Hk
  unfold tapStore
  iapply (part_load (c : Thread nD τ) ?_) $$ G
  · intro y
    refine .inr ?_
    have := fin1 (y 0); show s + 1 * (y 0).val = s; omega
  iintro G
  iapply (part_load_any (c : Thread nD τ)) $$ H
  iintro H
  iapply (part_store (c : Thread nD τ) (D' := fun j => D j ∨ ((j 0).val = k ∧ (j 2).val / 128 = 3 * tap + ch)) ?_ ?_) $$ H
  · intro y
    have hy1 : (y 1).val < 352 := (y 1).isLt
    have hy2 : (y 2).val < 128 := (y 2).isLt
    refine (cast_1ab _ _ y).trans ?_
    rw [hV _ (by have := fin1 (y 0); show k + 1 * (y 0).val = k; omega), truncf_apply]
    unfold xrowV
    congr 1
    refine (cast_352' _ _ _).trans (quantV_congr K W C U r hr _ _ ?_ ?_ ?_)
    · show ch + 1 * 0 = (384 * tap + 128 * ch + 1 * (y 2).val) % 384 / 128; omega
    · show 7 + tap + 1 * (y 1).val = 0 + 1 * (y 1).val + 7 + (384 * tap + 128 * ch + 1 * (y 2).val) / 384; omega
    · show 0 + 1 * (y 2).val = (384 * tap + 128 * ch + 1 * (y 2).val) % 128; omega
  · intro j hj
    refine hj.imp_right fun h => Rect.mem_set_unit.mpr fun a => ?_
    match a with
    | 0 => exact ⟨h.1.ge, by show _ < k + 1; omega⟩
    | 1 => exact ⟨Nat.zero_le _, by have := (j 1).isLt; show _ < 0 + 352; change _ < 352 at this; omega⟩
    | 2 => exact ⟨by show 384 * tap + 128 * ch ≤ _; omega, by show _ < 384 * tap + 128 * ch + 128; omega⟩
  iintro H
  iapply Hk
  isplitl [G]; · iexact G
  iexact H

theorem tapChunk_spec (r s ch k : ℕ) (hr : r < 8) (hs : s < 2) (hc : ch < 3) (hk : k < 6) (V : Vec F S6x352x1152 .fp8e4m3) (D : S6x352x1152.Idx → Prop)
    (hV : ∀ j, (j 0).val = k → V j = xrowV K W C U r hr (j 1).val (j 2).val (j 1).isLt (j 2).isLt) :
    iprop(prt c arg16 (quantV K W C U r hr) (slotD s) ∗ prt c x V D) ⊢
      iprop((iprop(prt c arg16 (quantV K W C U r hr) (slotD s) ∗ prt c x V (fun j => D j ∨ ((j 0).val = k ∧ (j 2).val / 128 % 3 = ch))) -∗ wpc c (κ ⟨⟩) P)
        -∗ wpc c (tapChunk arg16 x hx s ch k hs hc hk >>= κ) P) := by
  iintro H Hk
  unfold tapChunk
  simp only [Prog.bind_assoc]
  iapply (tapStore_spec c arg16 x hx K W C U r s ch 7 k (128 * ch) 0 hr hs hc (by omega) _ hk _ rfl (by omega) V D hV) $$ H
  iintro H
  iapply (tapStore_spec c arg16 x hx K W C U r s ch 8 k (384 + 128 * ch) 1 hr hs hc (by omega) _ hk _ rfl (by omega) V _ hV) $$ H
  iintro H
  iapply (tapStore_spec c arg16 x hx K W C U r s ch 9 k (768 + 128 * ch) 2 hr hs hc (by omega) _ hk _ rfl (by omega) V _ hV) $$ H
  iintro ⟨G, H⟩
  iapply Hk
  isplitl [G]; · iexact G
  iapply (part_mono (c : Thread nD τ) ?_) $$ H
  intro j hj
  refine ⟨?_, rfl⟩
  have h2 : (j 2).val < 1152 := (j 2).isLt
  rcases hj with h | ⟨h0, h⟩
  · exact .inl (.inl (.inl h))
  · rcases (by omega : (j 2).val / 128 = 3 * 0 + ch ∨ (j 2).val / 128 = 3 * 1 + ch ∨ (j 2).val / 128 = 3 * 2 + ch) with h | h | h
    · exact .inl (.inl (.inr ⟨h0, h⟩))
    · exact .inl (.inr ⟨h0, h⟩)
    · exact .inr ⟨h0, h⟩

/-- One row of codes: it joins the block of codes, and is laid out as row `k` of `x`. The scratch's border stays zero. -/
theorem quantRow_spec (q q' : PosShare TreeShare) (r u s k : ℕ) (hr : r < 8) (hu : u < 4) (hs : s < 2) (hk : k < 6) (hur : u = r / 2)
    (Z : Vec F S2x3x368x128 .f32) (hZ : ∀ j, border j → Z j = Scalar.ofBits .f32 0x00000000#32)
    (V : Vec F S6x352x1152 .fp8e4m3) (D : S6x352x1152.Idx → Prop) (E : S8x336x384.Idx → Prop)
    (hV : ∀ j, (j 0).val = k → V j = xrowV K W C U r hr (j 1).val (j 2).val (j 1).isLt (j 2).isLt) :
    iprop(own c arg1 q C ∗ own c arg3 q' W ∗ own c arg15 fullShare U ∗ prt c arg14 (codesV K W C U) E ∗ prt c arg16 Z border ∗ prt c x V D) ⊢
      iprop((iprop(own c arg1 q C ∗ own c arg3 q' W ∗ own c arg15 fullShare U ∗ prt c arg14 (codesV K W C U) (fun j => E j ∨ (j 0).val = r) ∗ prt c arg16 Z border
          ∗ prt c x V (fun j => D j ∨ (j 0).val = k)) -∗ wpc c (κ ⟨⟩) P)
        -∗ wpc c (quantRow arg1 arg3 arg14 h14 arg15 arg16 x hx r u s k hr hu hs hk K.sc K.bi K.inv >>= κ) P) := by
  subst hur
  iintro ⟨HC, HW, HU, H14, H16, Hx⟩ Hk
  ihave H16 := (part_mono (c : Thread nD τ) (V' := quantV K W C U r hr) (D' := border) (fun j h => ⟨h, (hZ j h).trans (quantV_border K W C U r hr j h).symm⟩)) $$ H16
  unfold quantRow
  simp only [Prog.bind_assoc]
  iapply (owns_load (c : Thread nD τ)) $$ HW
  iintro HW
  iapply (owns_load (c : Thread nD τ)) $$ HW
  iintro HW
  iapply (owns_load (c : Thread nD τ)) $$ HC
  iintro HC
  iapply (owns_load (c : Thread nD τ)) $$ HU
  iintro HU
  iapply (owns_load (c : Thread nD τ)) $$ HU
  iintro HU
  iapply (owns_load (c : Thread nD τ)) $$ HU
  iintro HU
  iapply (quantStore_spec c arg14 h14 arg16 K W C U r s 0 0 hr hs (by omega) (by omega) rfl) $$ [H14 H16]
  · isplitl [H14]; · iexact H14
    iexact H16
  iintro H
  iapply (quantStore_spec c arg14 h14 arg16 K W C U r s 1 128 hr hs (by omega) (by omega) rfl) $$ H
  iintro H
  iapply (quantStore_spec c arg14 h14 arg16 K W C U r s 2 256 hr hs (by omega) (by omega) rfl) $$ H
  iintro ⟨H14, H16⟩
  ihave H16 := (part_mono (c : Thread nD τ) (V' := quantV K W C U r hr) (D' := slotD s) ?_) $$ H16
  · intro j hj
    refine ⟨?_, rfl⟩
    have h1 : (j 1).val < 3 := (j 1).isLt
    by_cases hb : border j
    · exact .inl (.inl (.inl hb))
    · have h0 : (j 0).val = s := hj.resolve_left hb
      rcases (by omega : (j 1).val = 0 ∨ (j 1).val = 1 ∨ (j 1).val = 2) with h | h | h
      · exact .inl (.inl (.inr ⟨h0, h, hb⟩))
      · exact .inl (.inr ⟨h0, h, hb⟩)
      · exact .inr ⟨h0, h, hb⟩
  iapply (tapChunk_spec c arg16 x hx K W C U r s 0 k hr hs _ hk V D hV) $$ [H16 Hx]
  · isplitl [H16]; · iexact H16
    iexact Hx
  iintro H
  iapply (tapChunk_spec c arg16 x hx K W C U r s 1 k hr hs _ hk V _ hV) $$ H
  iintro H
  iapply (tapChunk_spec c arg16 x hx K W C U r s 2 k hr hs _ hk V _ hV) $$ H
  iintro ⟨H16, Hx⟩
  iapply Hk
  isplitl [HC]; · iexact HC
  isplitl [HW]; · iexact HW
  isplitl [HU]; · iexact HU
  isplitl [H14]
  · iapply (part_mono (c : Thread nD τ) ?_) $$ H14
    intro j hj
    refine ⟨?_, rfl⟩
    have h2 : (j 2).val < 384 := (j 2).isLt
    rcases hj with h | h0
    · exact .inl (.inl (.inl h))
    · rcases (by omega : (j 2).val / 128 = 0 ∨ (j 2).val / 128 = 1 ∨ (j 2).val / 128 = 2) with h | h | h
      · exact .inl (.inl (.inr ⟨h0, h⟩))
      · exact .inl (.inr ⟨h0, h⟩)
      · exact .inr ⟨h0, h⟩
  isplitl [H16]
  · iapply (part_mono (c : Thread nD τ) ?_) $$ H16
    exact fun j h => ⟨.inl h, (quantV_border K W C U r hr j h).trans (hZ j h).symm⟩
  · iapply (part_mono (c : Thread nD τ) ?_) $$ Hx
    intro j hj
    refine ⟨?_, rfl⟩
    rcases hj with h | h0
    · exact .inl (.inl (.inl h))
    · rcases (by omega : (j 2).val / 128 % 3 = 0 ∨ (j 2).val / 128 % 3 = 1 ∨ (j 2).val / 128 % 3 = 2) with h | h | h
      · exact .inl (.inl (.inr ⟨h0, h⟩))
      · exact .inl (.inr ⟨h0, h⟩)
      · exact .inr ⟨h0, h⟩

end

/-! ## Copies of a laid-out row, and the convolution -/

section

variable (c : Dev nD) {κ : PUnit.{1} → PR F PUnit.{1}} {P : Post F}
variable (src dst : Memref sig .tc .vmem S6x352x1152 .fp8e4m3) (hd : dst.IsWhole)

theorem copyKeep_spec (a b : ℕ) (ha : a < 6) (hb : b < 6) (keep : BitVec 1) (V V' : Vec F S6x352x1152 .fp8e4m3) (D D' : S6x352x1152.Idx → Prop)
    (hD : ∀ j, (j 0).val = a → D j)
    (hV : ∀ j, (j 0).val = b → V' j = if keep = 1#1 then V (ix3 ⟨a, ha⟩ (j 1) (j 2)) else Scalar.ofBits .fp8e4m3 0x00#8) :
    iprop(prt c src V D ∗ prt c dst V' D') ⊢
      iprop((iprop(prt c src V D ∗ prt c dst V' (fun j => D' j ∨ (j 0).val = b)) -∗ wpc c (κ ⟨⟩) P)
        -∗ wpc c (copyKeep src dst hd a b ha hb keep >>= κ) P) := by
  iintro ⟨G, H⟩ Hk
  unfold copyKeep
  iapply (part_load (c : Thread nD τ) ?_) $$ G
  · intro y; refine hD _ ?_
    have := fin1 (y 0); show a + 1 * (y 0).val = a; omega
  iintro G
  iapply (part_load_any (c : Thread nD τ)) $$ H
  iintro H
  iapply (part_store (c : Thread nD τ) (D' := fun j => D' j ∨ (j 0).val = b) ?_ ?_) $$ H
  · intro y
    refine (cast_1ab _ _ y).trans ?_
    rw [hV _ (by have := fin1 (y 0); show b + 1 * (y 0).val = b; omega)]
    by_cases hk : keep = 1#1
    · rw [if_pos hk]
      refine (congrFun (if_pos hk) _).trans ?_
      refine (cast_ab _ _ _).trans (congrArg V ?_)
      refine (eq_ix3 _).trans (congr (congrArg₂ ix3 (Fin.ext ?_) (Fin.ext ?_)) (Fin.ext ?_))
      · show a + 1 * 0 = a; omega
      · show 0 + 1 * (y 1).val = 0 + 1 * (y 1).val; omega
      · show 0 + 1 * (y 2).val = 0 + 1 * (y 2).val; omega
    · rw [if_neg hk]
      exact congrFun (if_neg hk) _
  · intro j hj
    refine hj.imp_right fun h => Rect.mem_set_unit.mpr fun a => ?_
    match a with
    | 0 => exact ⟨h.ge, by show _ < b + 1; omega⟩
    | 1 => exact ⟨Nat.zero_le _, by have := (j 1).isLt; show _ < 0 + 352; change _ < 352 at this; omega⟩
    | 2 => exact ⟨Nat.zero_le _, by have := (j 2).isLt; show _ < 0 + 1152; change _ < 1152 at this; omega⟩
  iintro H
  iapply Hk
  isplitl [G]; · iexact G
  iexact H

theorem copyRow_spec (a b : ℕ) (ha : a < 6) (hb : b < 6) (V V' : Vec F S6x352x1152 .fp8e4m3) (D D' : S6x352x1152.Idx → Prop)
    (hD : ∀ j, (j 0).val = a → D j)
    (hV : ∀ j, (j 0).val = b → V' j = V (ix3 ⟨a, ha⟩ (j 1) (j 2))) :
    iprop(prt c src V D ∗ prt c dst V' D') ⊢
      iprop((iprop(prt c src V D ∗ prt c dst V' (fun j => D' j ∨ (j 0).val = b)) -∗ wpc c (κ ⟨⟩) P)
        -∗ wpc c (copyRow src dst hd a b ha hb >>= κ) P) := by
  iintro ⟨G, H⟩ Hk
  unfold copyRow
  iapply (part_load (c : Thread nD τ) ?_) $$ G
  · intro y; refine hD _ ?_
    have := fin1 (y 0); show a + 1 * (y 0).val = a; omega
  iintro G
  iapply (part_load_any (c : Thread nD τ)) $$ H
  iintro H
  iapply (part_store (c : Thread nD τ) (D' := fun j => D' j ∨ (j 0).val = b) ?_ ?_) $$ H
  · intro y
    refine (cast_1ab _ _ y).trans ?_
    rw [hV _ (by have := fin1 (y 0); show b + 1 * (y 0).val = b; omega)]
    refine (cast_ab _ _ _).trans (congrArg V ?_)
    refine (eq_ix3 _).trans (congr (congrArg₂ ix3 (Fin.ext ?_) (Fin.ext ?_)) (Fin.ext ?_))
    · show a + 1 * 0 = a; omega
    · show 0 + 1 * (y 1).val = 0 + 1 * (y 1).val; omega
    · show 0 + 1 * (y 2).val = 0 + 1 * (y 2).val; omega
  · intro j hj
    refine hj.imp_right fun h => Rect.mem_set_unit.mpr fun a => ?_
    match a with
    | 0 => exact ⟨h.ge, by show _ < b + 1; omega⟩
    | 1 => exact ⟨Nat.zero_le _, by have := (j 1).isLt; show _ < 0 + 352; change _ < 352 at this; omega⟩
    | 2 => exact ⟨Nat.zero_le _, by have := (j 2).isLt; show _ < 0 + 1152; change _ < 1152 at this; omega⟩
  iintro H
  iapply Hk
  isplitl [G]; · iexact G
  iexact H

/-- The convolution's product for the output rows `g` and `g + 1`. -/
def convG (V : Vec F S6x352x1152 .fp8e4m3) (W6 : Vec F S3456x384 .fp8e4m3) (g : ℕ) (hg : g < 3) : FVec F S704x384 .f32 :=
  convDot (fun x => V ((rXtwo g (by omega)).toLoadRect.idx x)) (fun x => V ((rXtwo (g + 1) (by omega)).toLoadRect.idx x)) (fun x => V ((rXtwo (g + 2) (by omega)).toLoadRect.idx x))
    (fun x => W6 ((Rect.unit (s := S3456x384) ![0, 0] S3456x384.size inb_S3456x384_S3456x384_0_0).toLoadRect.idx x))

/-- The four output rows of the laid-out rows `V`. -/
def convV (K : Consts F) (V : Vec F S6x352x1152 .fp8e4m3) (W6 : Vec F S3456x384 .fp8e4m3) : Vec F S4x336x384 .bf16 := fun j =>
  outRow (352 * ((j 0).val % 2)) (by omega) K.so K.bo (convG V W6 ((j 0).val / 2 * 2) (by have h : (j 0).val < 4 := (j 0).isLt; omega)) (ix2 (j 1) (j 2))

theorem convV_apply (K : Consts F) (V : Vec F S6x352x1152 .fp8e4m3) (W6 : Vec F S3456x384 .fp8e4m3) (j : S4x336x384.Idx) {g l : ℕ} (hg : g < 3) (hl : l ≤ 352)
    (p : Fin 336) (q : Fin 384) (h0 : (j 0).val / 2 * 2 = g) (hl0 : 352 * ((j 0).val % 2) = l) (h1 : (j 1).val = p.val) (h2 : (j 2).val = q.val) :
    convV K V W6 j = outRow l hl K.so K.bo (convG V W6 g hg) (ix2 p q) := by
  subst h0 hl0
  unfold convV
  congr 2
  · exact Fin.ext h1
  · exact Fin.ext h2

variable (arg6 : Memref sig .tc .vmem S3456x384 .fp8e4m3) (o : Memref sig .tc .vmem S4x336x384 .bf16) (ho : o.IsWhole)

theorem outStore_spec (K : Consts F) (V : Vec F S6x352x1152 .fp8e4m3) (W6 : Vec F S3456x384 .fp8e4m3) (j : ℕ) (hj : j < 4) (g l : ℕ) (hg : g < 3) (hl : l ≤ 352)
    (h0 : j / 2 * 2 = g) (hl0 : 352 * (j % 2) = l) (D : S4x336x384.Idx → Prop) :
    prt c o (convV K V W6) D ⊢
      iprop((prt c o (convV K V W6) (fun i => D i ∨ (i 0).val = j) -∗ wpc c (κ ⟨⟩) P)
        -∗ wpc c (outStore o ho j hj (outRow l hl K.so K.bo (convG V W6 g hg)) >>= κ) P) := by
  iintro H Hk
  unfold outStore
  iapply (part_load_any (c : Thread nD τ)) $$ H
  iintro H
  iapply (part_store (c : Thread nD τ) (D' := fun i => D i ∨ (i 0).val = j) ?_ ?_) $$ H
  · intro y
    have hy : (((rO j hj).emb y) 0).val = j := by have := fin1 (y 0); show j + 1 * (y 0).val = j; omega
    refine (cast_1ab _ _ y).trans (convV_apply K V W6 _ hg hl (y 1) (y 2) ?_ ?_ ?_ ?_).symm
    · rw [hy]; exact h0
    · rw [hy]; exact hl0
    · show 0 + 1 * (y 1).val = _; omega
    · show 0 + 1 * (y 2).val = _; omega
  · intro i hi
    refine hi.imp_right fun h => Rect.mem_set_unit.mpr fun a => ?_
    match a with
    | 0 => exact ⟨h.ge, by show _ < j + 1; omega⟩
    | 1 => exact ⟨Nat.zero_le _, by have := (i 1).isLt; show _ < 0 + 336; change _ < 336 at this; omega⟩
    | 2 => exact ⟨Nat.zero_le _, by have := (i 2).isLt; show _ < 0 + 384; change _ < 384 at this; omega⟩
  iintro H
  iapply Hk
  iexact H

theorem convGroup_spec (q q' : PosShare TreeShare) (K : Consts F) (V : Vec F S6x352x1152 .fp8e4m3) (W6 : Vec F S3456x384 .fp8e4m3) (j : ℕ) (hj : j < 3) (h0 : j / 2 * 2 = j)
    (D : S4x336x384.Idx → Prop) :
    iprop(own c src q V ∗ own c arg6 q' W6 ∗ prt c o (convV K V W6) D) ⊢
      iprop((iprop(own c src q V ∗ own c arg6 q' W6 ∗ prt c o (convV K V W6) (fun i => D i ∨ (i 0).val / 2 * 2 = j)) -∗ wpc c (κ ⟨⟩) P)
        -∗ wpc c (convGroup arg6 src o ho j hj K.so K.bo >>= κ) P) := by
  iintro ⟨Hx, HW, H⟩ Hk
  unfold convGroup
  simp only [Prog.bind_assoc]
  iapply (owns_load (c : Thread nD τ)) $$ Hx
  iintro Hx
  iapply (owns_load (c : Thread nD τ)) $$ Hx
  iintro Hx
  iapply (owns_load (c : Thread nD τ)) $$ Hx
  iintro Hx
  iapply (owns_load (c : Thread nD τ)) $$ HW
  iintro HW
  iapply (outStore_spec c o ho K V W6 j (by omega) j 0 hj (by omega) h0 (by omega)) $$ H
  iintro H
  iapply (outStore_spec c o ho K V W6 (j + 1) (by omega) j 352 hj (by omega) (by omega) (by omega)) $$ H
  iintro H
  iapply Hk
  isplitl [Hx]; · iexact Hx
  isplitl [HW]; · iexact HW
  iapply (part_mono (c : Thread nD τ) ?_) $$ H
  intro i hi
  refine ⟨?_, rfl⟩
  rcases hi with h | h
  · exact .inl (.inl h)
  · rcases (by omega : (i 0).val = j ∨ (i 0).val = j + 1) with h | h
    · exact .inl (.inr h)
    · exact .inr h

end

end Cert.KernelIdeal.Hand
-- ==== Proof.MidIdeal.lean ====
/-
  The straight line as a whole: from the blocks of its inputs it leaves the block of codes, the rows laid out for the
  convolution, and eight finished rows of the result, four of which belong to the block before.
-/
module

public import proofs.«01_k».proof.Proof.SpecIdeal

@[expose] public section

set_option maxRecDepth 16384

noncomputable section

namespace Cert.KernelIdeal.Hand

open Cert.KernelIdeal Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The values -/

/-- The scales and biases, from the arrays they are read from. -/
def constsV (cs : Vec F S1 .f32) (s4 b5 : Vec F S1x384 .f32) (s7 b8 : Vec F S1x384 .f32) (ms inv : Vec F S1 .f32) : Consts F :=
  ⟨mulf (broadcast S1x384 (cs (ix1 0))) (shapeCast S1x384 (fun x => s4 ((Rect.unit (s := S1x384) ![0, 0] S1x384.size inb_S1x384_S1x384_0_0).toLoadRect.idx x)) shapeCasts_S1x384_S1x384),
    shapeCast S1x384 (fun x => b5 ((Rect.unit (s := S1x384) ![0, 0] S1x384.size inb_S1x384_S1x384_0_0).toLoadRect.idx x)) shapeCasts_S1x384_S1x384,
    mulf (broadcast S1x384 (ms (ix1 0))) (shapeCast S1x384 (fun x => s7 ((Rect.unit (s := S1x384) ![0, 0] S1x384.size inb_S1x384_S1x384_0_0).toLoadRect.idx x)) shapeCasts_S1x384_S1x384),
    shapeCast S1x384 (fun x => b8 ((Rect.unit (s := S1x384) ![0, 0] S1x384.size inb_S1x384_S1x384_0_0).toLoadRect.idx x)) shapeCasts_S1x384_S1x384,
    inv (ix1 0)⟩

section
variable (keep : BitVec 1) (X : Vec F S6x352x1152 .fp8e4m3)
  (K : Consts F) (W : Vec F S256x384 .fp8e4m3) (C : Vec F S8x336x256 .fp8e4m3) (U : Vec F S4x3x336x128 .f32)

/-- Row `r` of the block, laid out, at the position and lane of `j`. -/
abbrev xrowJ (r : ℕ) (hr : r < 8) (j : S6x352x1152.Idx) : Elt F .fp8e4m3 := xrowV K W C U r hr (j 1).val (j 2).val (j 1).isLt (j 2).isLt

/-- The first operand: the row above the block (from `X`, what the second operand held before), then rows 0 … 4. -/
def xaV : Vec F S6x352x1152 .fp8e4m3 := fun j =>
  if (j 0).val = 0 then (if keep = 1#1 then X (ix3 (4 : Fin 6) (j 1) (j 2)) else Scalar.ofBits .fp8e4m3 0x00#8)
  else xrowJ K W C U ((j 0).val - 1) (by have h : (j 0).val < 6 := (j 0).isLt; omega) j

/-- The second operand as the block before left it, completed by the row below. -/
def xbOldV : Vec F S6x352x1152 .fp8e4m3 := fun j =>
  if (j 0).val = 5 then (if keep = 1#1 then xrowJ K W C U 0 (by omega) j else Scalar.ofBits .fp8e4m3 0x00#8) else X j

/-- The second operand as this block leaves it: rows 3 … 7. -/
def xbNewV : Vec F S6x352x1152 .fp8e4m3 := fun j =>
  if h : (j 0).val < 5 then xrowJ K W C U ((j 0).val + 3) (by omega) j else Scalar.ofBits .fp8e4m3 0x00#8

theorem xaV_0 (j : S6x352x1152.Idx) (h : (j 0).val = 0) : xaV keep X K W C U j = if keep = 1#1 then X (ix3 (4 : Fin 6) (j 1) (j 2)) else Scalar.ofBits .fp8e4m3 0x00#8 := if_pos h

theorem xaV_row (r : ℕ) (hr : r < 8) (j : S6x352x1152.Idx) (h : (j 0).val = r + 1) : xaV keep X K W C U j = xrowJ K W C U r hr j := by
  unfold xaV
  rw [if_neg (by omega)]
  congr 1
  omega

theorem xbOldV_5 (j : S6x352x1152.Idx) (h : (j 0).val = 5) : xbOldV keep X K W C U j = if keep = 1#1 then xrowJ K W C U 0 (by omega) j else Scalar.ofBits .fp8e4m3 0x00#8 := if_pos h
theorem xbOldV_ne (j : S6x352x1152.Idx) (h : (j 0).val ≠ 5) : xbOldV keep X K W C U j = X j := if_neg h

/-- Only the first five rows of what was there matter. -/
theorem xbOldV_congr (X' : Vec F S6x352x1152 .fp8e4m3) (h : ∀ j, (j 0).val < 5 → X j = X' j) : xbOldV keep X K W C U = xbOldV keep X' K W C U := by
  funext j
  unfold xbOldV
  split
  · rfl
  · have h6 : (j 0).val < 6 := (j 0).isLt
    exact h j (by omega)
theorem xaV_congr (X' : Vec F S6x352x1152 .fp8e4m3) (h : ∀ j, (j 0).val < 5 → X j = X' j) : xaV keep X K W C U = xaV keep X' K W C U := by
  funext j
  unfold xaV
  split
  · rw [h _ (by show 4 < 5; omega)]
  · rfl

theorem xbNewV_row (r : ℕ) (hr : r < 8) (j : S6x352x1152.Idx) (h : (j 0).val + 3 = r) : xbNewV K W C U j = xrowJ K W C U r hr j := by
  subst h
  unfold xbNewV
  rw [dif_pos (by omega)]

end

/-! ## The triples -/

section

variable (c : Dev nD) {κ : PUnit.{1} → PR F PUnit.{1}} {P : Post F}
variable (arg1 : Memref sig .tc .vmem S8x336x256 .fp8e4m3) (arg2 : Memref sig .tc .smem S1 .f32) (arg3 : Memref sig .tc .vmem S256x384 .fp8e4m3)
  (arg4 arg5 : Memref sig .tc .vmem S1x384 .f32) (arg6 : Memref sig .tc .vmem S3456x384 .fp8e4m3) (arg7 arg8 : Memref sig .tc .vmem S1x384 .f32)
  (arg9 arg10 : Memref sig .tc .smem S1 .f32) (arg11 : Memref sig .tc .vmem S4x168x384 .fp8e4m3) (arg12 : Memref sig .tc .smem S1 .f32)
  (arg14 : Memref sig .tc .vmem S8x336x384 .fp8e4m3) (h14 : arg14.IsWhole)
  (arg15 : Memref sig .tc .vmem S4x3x336x128 .f32) (arg16 : Memref sig .tc .vmem S2x3x368x128 .f32)
  (arg17 : Memref sig .tc .vmem S6x352x1152 .fp8e4m3) (h17 : arg17.IsWhole) (arg18 : Memref sig .tc .vmem S6x352x1152 .fp8e4m3) (h18 : arg18.IsWhole)
  (arg19 : Memref sig .tc .vmem S4x336x384 .bf16) (h19 : arg19.IsWhole) (arg20 : Memref sig .tc .vmem S4x336x384 .bf16) (h20 : arg20.IsWhole)
variable (K : Consts F) (W : Vec F S256x384 .fp8e4m3) (C : Vec F S8x336x256 .fp8e4m3) (U : Vec F S4x3x336x128 .f32) (W6 : Vec F S3456x384 .fp8e4m3)

/-- The small inputs, read once. -/
def smallOwn (cs : Vec F S1 .f32) (s4 b5 s7 b8 : Vec F S1x384 .f32) (ms inv : Vec F S1 .f32) : sProp 𝕄 :=
  iprop(own c arg2 fullShare cs ∗ own c arg4 fullShare s4 ∗ own c arg5 fullShare b5 ∗ own c arg7 fullShare s7 ∗ own c arg8 fullShare b8 ∗ own c arg9 fullShare ms ∗ own c arg10 fullShare inv)

theorem readConsts_spec {κ : Consts F → PR F PUnit.{1}} (cs : Vec F S1 .f32) (s4 b5 s7 b8 : Vec F S1x384 .f32) (ms inv : Vec F S1 .f32) :
    smallOwn c arg2 arg4 arg5 arg7 arg8 arg9 arg10 cs s4 b5 s7 b8 ms inv ⊢
      iprop((smallOwn c arg2 arg4 arg5 arg7 arg8 arg9 arg10 cs s4 b5 s7 b8 ms inv -∗ wpc c (κ (constsV cs s4 b5 s7 b8 ms inv)) P)
        -∗ wpc c (readConsts arg2 arg4 arg5 arg7 arg8 arg9 arg10 >>= κ) P) := by
  obtain ⟨v, rfl⟩ := s1_const cs
  obtain ⟨v', rfl⟩ := s1_const ms
  obtain ⟨v'', rfl⟩ := s1_const inv
  unfold smallOwn
  iintro ⟨H2, H4, H5, H7, H8, H9, H10⟩ Hk
  unfold readConsts
  simp only [Prog.bind_assoc]
  iapply (owns_load (c : Thread nD τ)) $$ H2
  iintro H2
  iapply (owns_load (c : Thread nD τ)) $$ H4
  iintro H4
  iapply (owns_load (c : Thread nD τ)) $$ H5
  iintro H5
  iapply (owns_load (c : Thread nD τ)) $$ H9
  iintro H9
  iapply (owns_load (c : Thread nD τ)) $$ H7
  iintro H7
  iapply (owns_load (c : Thread nD τ)) $$ H8
  iintro H8
  iapply (owns_load (c : Thread nD τ)) $$ H10
  iintro H10
  iapply Hk
  isplitl [H2]; · iexact H2
  isplitl [H4]; · iexact H4
  isplitl [H5]; · iexact H5
  isplitl [H7]; · iexact H7
  isplitl [H8]; · iexact H8
  isplitl [H9]; · iexact H9
  iexact H10

/-- What a row of codes reads and writes, but for the operand it is laid out in: the codes are known at `E`. -/
def rowOwn (E : S8x336x384.Idx → Prop) : sProp 𝕄 :=
  iprop(own c arg1 fullShare C ∗ own c arg3 fullShare W ∗ own c arg15 fullShare U ∗ prt c arg14 (codesV K W C U) E ∗ prt c arg16 (fun _ => Scalar.ofBits .f32 0x00000000#32) border)

theorem row_spec (x : Memref sig .tc .vmem S6x352x1152 .fp8e4m3) (hx : x.IsWhole) (r u s k : ℕ) (hr : r < 8) (hu : u < 4) (hs : s < 2) (hk : k < 6) (hur : u = r / 2)
    (V : Vec F S6x352x1152 .fp8e4m3) (D : S6x352x1152.Idx → Prop) (E : S8x336x384.Idx → Prop) (hV : ∀ j, (j 0).val = k → V j = xrowJ K W C U r hr j) :
    iprop(rowOwn c arg1 arg3 arg14 arg15 arg16 K W C U E ∗ prt c x V D) ⊢
      iprop((iprop(rowOwn c arg1 arg3 arg14 arg15 arg16 K W C U (fun j => E j ∨ (j 0).val = r) ∗ prt c x V (fun j => D j ∨ (j 0).val = k)) -∗ wpc c (κ ⟨⟩) P)
        -∗ wpc c (quantRow arg1 arg3 arg14 h14 arg15 arg16 x hx r u s k hr hu hs hk K.sc K.bi K.inv >>= κ) P) := by
  unfold rowOwn
  iintro ⟨⟨HC, HW, HU, H14, H16⟩, Hx⟩ Hk
  iapply (quantRow_spec c arg1 arg3 arg14 h14 arg15 arg16 x hx K W C U fullShare fullShare r u s k hr hu hs hk hur _ (fun _ _ => rfl) V D E hV) $$ [HC HW HU H14 H16 Hx]
  · isplitl [HC]; · iexact HC
    isplitl [HW]; · iexact HW
    isplitl [HU]; · iexact HU
    isplitl [H14]; · iexact H14
    isplitl [H16]; · iexact H16
    iexact Hx
  iintro ⟨HC, HW, HU, H14, H16, Hx⟩
  iapply Hk
  isplitr [Hx]
  · isplitl [HC]; · iexact HC
    isplitl [HW]; · iexact HW
    isplitl [HU]; · iexact HU
    isplitl [H14]; · iexact H14
    iexact H16
  · iexact Hx

theorem midA_spec (keep : BitVec 1) (X X7 : Vec F S6x352x1152 .fp8e4m3) (X20 : Vec F S4x336x384 .bf16) :
    iprop(rowOwn c arg1 arg3 arg14 arg15 arg16 K W C U (fun _ => False) ∗ own c arg6 fullShare W6 ∗ own c arg17 fullShare X7 ∗ own c arg18 fullShare X ∗ own c arg20 fullShare X20) ⊢
      iprop((iprop(rowOwn c arg1 arg3 arg14 arg15 arg16 K W C U (fun j => (j 0).val < 4) ∗ own c arg6 fullShare W6 ∗ prt c arg17 (xaV keep X K W C U) (fun j => (j 0).val < 5)
            ∗ own c arg18 fullShare (xbOldV keep X K W C U) ∗ own c arg20 fullShare (convV K (xbOldV keep X K W C U) W6)) -∗ wpc c (κ ⟨⟩) P)
        -∗ wpc c (midA arg1 arg3 arg6 arg14 h14 arg15 arg16 arg17 h17 arg18 h18 arg20 h20 keep K >>= κ) P) := by
  iintro ⟨R, H6, H17, H18, H20⟩ Hk
  ihave H17 := (owns_part (c : Thread nD τ) (V := xaV keep X K W C U) (D := fun _ => False) (fun _ h => h.elim)) $$ H17
  ihave H18 := (owns_part (c : Thread nD τ) (V := xbOldV keep X K W C U) (D := fun j => (j 0).val ≠ 5) (fun j h => (xbOldV_ne keep X K W C U j h).symm)) $$ H18
  ihave H20 := (owns_part (c : Thread nD τ) (V := convV K (xbOldV keep X K W C U) W6) (D := fun _ => False) (fun _ h => h.elim)) $$ H20
  unfold midA
  simp only [Prog.bind_assoc]
  iapply (copyKeep_spec c arg18 arg17 h17 4 0 _ _ keep (xbOldV keep X K W C U) (xaV keep X K W C U) _ _ ?_ ?_) $$ [H18 H17]
  · intro j h; show (j 0).val ≠ 5; omega
  · intro j h
    rw [xaV_0 keep X K W C U j h, xbOldV_ne keep X K W C U _ (by show 4 ≠ 5; omega)]; rfl
  · isplitl [H18]; · iexact H18
    iexact H17
  iintro ⟨H18, H17⟩
  iapply (row_spec c arg1 arg3 arg14 h14 arg15 arg16 K W C U arg17 h17 0 0 0 1 _ _ _ _ rfl _ _ _ (fun j h => xaV_row keep X K W C U 0 _ j h)) $$ [R H17]
  · isplitl [R]; · iexact R
    iexact H17
  iintro ⟨R, H17⟩
  iapply (copyKeep_spec c arg17 arg18 h18 1 5 _ _ keep (xaV keep X K W C U) (xbOldV keep X K W C U) _ _ ?_ ?_) $$ [H17 H18]
  · intro j h; show (False ∨ (j 0).val = 0) ∨ (j 0).val = 1; exact .inr h
  · intro j h
    rw [xbOldV_5 keep X K W C U j h, xaV_row keep X K W C U 0 (by omega) _ rfl]; rfl
  · isplitl [H17]; · iexact H17
    iexact H18
  iintro ⟨H17, H18⟩
  iapply (row_spec c arg1 arg3 arg14 h14 arg15 arg16 K W C U arg17 h17 1 0 1 2 _ _ _ _ rfl _ _ _ (fun j h => xaV_row keep X K W C U 1 _ j h)) $$ [R H17]
  · isplitl [R]; · iexact R
    iexact H17
  iintro H
  iapply (row_spec c arg1 arg3 arg14 h14 arg15 arg16 K W C U arg17 h17 2 1 0 3 _ _ _ _ rfl _ _ _ (fun j h => xaV_row keep X K W C U 2 _ j h)) $$ H
  iintro H
  iapply (row_spec c arg1 arg3 arg14 h14 arg15 arg16 K W C U arg17 h17 3 1 1 4 _ _ _ _ rfl _ _ _ (fun j h => xaV_row keep X K W C U 3 _ j h)) $$ H
  iintro ⟨R, H17⟩
  ihave H18 := (part_owns (c : Thread nD τ) ?_) $$ H18
  · intro j
    by_cases h : (j 0).val = 5
    · exact .inr h
    · exact .inl h
  iapply (convGroup_spec c arg18 arg6 arg20 h20 fullShare fullShare K (xbOldV keep X K W C U) W6 0 _ rfl _) $$ [H18 H6 H20]
  · isplitl [H18]; · iexact H18
    isplitl [H6]; · iexact H6
    iexact H20
  iintro H
  iapply (convGroup_spec c arg18 arg6 arg20 h20 fullShare fullShare K (xbOldV keep X K W C U) W6 2 _ rfl _) $$ H
  iintro ⟨H18, H6, H20⟩
  iapply Hk
  isplitl [R]
  · unfold rowOwn
    icases R with ⟨HC, HW, HU, H14, H16⟩
    isplitl [HC]; · iexact HC
    isplitl [HW]; · iexact HW
    isplitl [HU]; · iexact HU
    isplitl [H14]
    · iapply (part_mono (c : Thread nD τ) ?_) $$ H14
      intro j hj
      exact ⟨by omega, rfl⟩
    iexact H16
  isplitl [H6]; · iexact H6
  isplitl [H17]
  · iapply (part_mono (c : Thread nD τ) ?_) $$ H17
    intro j hj
    exact ⟨by omega, rfl⟩
  isplitl [H18]; · iexact H18
  iapply (part_owns (c : Thread nD τ) ?_) $$ H20
  intro j
  have h : (j 0).val < 4 := (j 0).isLt
  omega

theorem midB_spec (keep : BitVec 1) (X X' : Vec F S6x352x1152 .fp8e4m3) (X19 : Vec F S4x336x384 .bf16) :
    iprop(rowOwn c arg1 arg3 arg14 arg15 arg16 K W C U (fun j => (j 0).val < 4) ∗ own c arg6 fullShare W6 ∗ prt c arg17 (xaV keep X K W C U) (fun j => (j 0).val < 5)
        ∗ own c arg18 fullShare X' ∗ own c arg19 fullShare X19) ⊢
      iprop((iprop(rowOwn c arg1 arg3 arg14 arg15 arg16 K W C U (fun _ => True) ∗ own c arg6 fullShare W6 ∗ own c arg17 fullShare (xaV keep X K W C U)
            ∗ prt c arg18 (xbNewV K W C U) (fun j => (j 0).val < 5) ∗ own c arg19 fullShare (convV K (xaV keep X K W C U) W6)) -∗ wpc c (κ ⟨⟩) P)
        -∗ wpc c (midB arg1 arg3 arg6 arg14 h14 arg15 arg16 arg17 h17 arg18 h18 arg19 h19 K >>= κ) P) := by
  iintro ⟨R, H6, H17, H18, H19⟩ Hk
  ihave H18 := (owns_part (c : Thread nD τ) (V := xbNewV K W C U) (D := fun _ => False) (fun _ h => h.elim)) $$ H18
  ihave H19 := (owns_part (c : Thread nD τ) (V := convV K (xaV keep X K W C U) W6) (D := fun _ => False) (fun _ h => h.elim)) $$ H19
  unfold midB
  simp only [Prog.bind_assoc]
  iapply (copyRow_spec c arg17 arg18 h18 4 0 _ _ (xaV keep X K W C U) (xbNewV K W C U) _ _ ?_ ?_) $$ [H17 H18]
  · intro j h; show (j 0).val < 5; omega
  · intro j h
    rw [xbNewV_row K W C U 3 (by omega) j (by omega), xaV_row keep X K W C U 3 (by omega) _ rfl]; rfl
  · isplitl [H17]; · iexact H17
    iexact H18
  iintro ⟨H17, H18⟩
  iapply (row_spec c arg1 arg3 arg14 h14 arg15 arg16 K W C U arg18 h18 4 2 0 1 _ _ _ _ rfl _ _ _ (fun j h => xbNewV_row K W C U 4 _ j (by omega))) $$ [R H18]
  · isplitl [R]; · iexact R
    iexact H18
  iintro ⟨R, H18⟩
  iapply (copyRow_spec c arg18 arg17 h17 1 5 _ _ (xbNewV K W C U) (xaV keep X K W C U) _ _ ?_ ?_) $$ [H18 H17]
  · intro j h; show (False ∨ (j 0).val = 0) ∨ (j 0).val = 1; exact .inr h
  · intro j h
    rw [xbNewV_row K W C U 4 (by omega) _ rfl, xaV_row keep X K W C U 4 (by omega) _ h]; rfl
  · isplitl [H18]; · iexact H18
    iexact H17
  iintro ⟨H18, H17⟩
  iapply (row_spec c arg1 arg3 arg14 h14 arg15 arg16 K W C U arg18 h18 5 2 1 2 _ _ _ _ rfl _ _ _ (fun j h => xbNewV_row K W C U 5 _ j (by omega))) $$ [R H18]
  · isplitl [R]; · iexact R
    iexact H18
  iintro H
  iapply (row_spec c arg1 arg3 arg14 h14 arg15 arg16 K W C U arg18 h18 6 3 0 3 _ _ _ _ rfl _ _ _ (fun j h => xbNewV_row K W C U 6 _ j (by omega))) $$ H
  iintro H
  iapply (row_spec c arg1 arg3 arg14 h14 arg15 arg16 K W C U arg18 h18 7 3 1 4 _ _ _ _ rfl _ _ _ (fun j h => xbNewV_row K W C U 7 _ j (by omega))) $$ H
  iintro ⟨R, H18⟩
  ihave H17 := (part_owns (c : Thread nD τ) ?_) $$ H17
  · intro j
    have h : (j 0).val < 6 := (j 0).isLt
    omega
  iapply (convGroup_spec c arg17 arg6 arg19 h19 fullShare fullShare K (xaV keep X K W C U) W6 0 _ rfl _) $$ [H17 H6 H19]
  · isplitl [H17]; · iexact H17
    isplitl [H6]; · iexact H6
    iexact H19
  iintro H
  iapply (convGroup_spec c arg17 arg6 arg19 h19 fullShare fullShare K (xaV keep X K W C U) W6 2 _ rfl _) $$ H
  iintro ⟨H17, H6, H19⟩
  iapply Hk
  isplitl [R]
  · unfold rowOwn
    icases R with ⟨HC, HW, HU, H14, H16⟩
    isplitl [HC]; · iexact HC
    isplitl [HW]; · iexact HW
    isplitl [HU]; · iexact HU
    isplitl [H14]
    · iapply (part_mono (c : Thread nD τ) ?_) $$ H14
      intro j hj
      have h : (j 0).val < 8 := (j 0).isLt
      exact ⟨by omega, rfl⟩
    iexact H16
  isplitl [H6]; · iexact H6
  isplitl [H17]; · iexact H17
  isplitl [H18]
  · iapply (part_mono (c : Thread nD τ) ?_) $$ H18
    intro j hj
    exact ⟨by omega, rfl⟩
  iapply (part_owns (c : Thread nD τ) ?_) $$ H19
  intro j
  have h : (j 0).val < 4 := (j 0).isLt
  omega

/-- The inputs' blocks, held. -/
def insOwn (C : Vec F S8x336x256 .fp8e4m3) (cs : Vec F S1 .f32) (W : Vec F S256x384 .fp8e4m3) (s4 b5 : Vec F S1x384 .f32) (W6 : Vec F S3456x384 .fp8e4m3)
    (s7 b8 : Vec F S1x384 .f32) (ms inv : Vec F S1 .f32) (Q : Vec F S4x168x384 .fp8e4m3) (qs : Vec F S1 .f32) : sProp 𝕄 :=
  iprop(own c arg1 fullShare C ∗ own c arg2 fullShare cs ∗ own c arg3 fullShare W ∗ own c arg4 fullShare s4 ∗ own c arg5 fullShare b5 ∗ own c arg6 fullShare W6
    ∗ own c arg7 fullShare s7 ∗ own c arg8 fullShare b8 ∗ own c arg9 fullShare ms ∗ own c arg10 fullShare inv ∗ own c arg11 fullShare Q ∗ own c arg12 fullShare qs)

/-- The straight line. -/
theorem mid_spec (keep : BitVec 1) (cs : Vec F S1 .f32) (s4 b5 s7 b8 : Vec F S1x384 .f32) (ms inv : Vec F S1 .f32) (Q : Vec F S4x168x384 .fp8e4m3) (qs : Vec F S1 .f32)
    (hK : K = constsV cs s4 b5 s7 b8 ms inv) (hU : U = upV (qs (ix1 0)) Q)
    (X14 : Vec F S8x336x384 .fp8e4m3) (X15 : Vec F S4x3x336x128 .f32) (X17 X : Vec F S6x352x1152 .fp8e4m3) (X19 X20 : Vec F S4x336x384 .bf16) :
    iprop(insOwn c arg1 arg2 arg3 arg4 arg5 arg6 arg7 arg8 arg9 arg10 arg11 arg12 C cs W s4 b5 W6 s7 b8 ms inv Q qs ∗ own c arg14 fullShare X14 ∗ own c arg15 fullShare X15
        ∗ prt c arg16 (fun _ => Scalar.ofBits .f32 0x00000000#32) border ∗ own c arg17 fullShare X17 ∗ own c arg18 fullShare X ∗ own c arg19 fullShare X19 ∗ own c arg20 fullShare X20) ⊢
      iprop((iprop(insOwn c arg1 arg2 arg3 arg4 arg5 arg6 arg7 arg8 arg9 arg10 arg11 arg12 C cs W s4 b5 W6 s7 b8 ms inv Q qs ∗ own c arg14 fullShare (codesV K W C U) ∗ own c arg15 fullShare U
          ∗ prt c arg16 (fun _ => Scalar.ofBits .f32 0x00000000#32) border ∗ own c arg17 fullShare (xaV keep X K W C U)
          ∗ prt c arg18 (xbNewV K W C U) (fun j => (j 0).val < 5)
          ∗ own c arg19 fullShare (convV K (xaV keep X K W C U) W6) ∗ own c arg20 fullShare (convV K (xbOldV keep X K W C U) W6)) -∗ wpc c (κ ⟨⟩) P)
        -∗ wpc c (mid arg1 arg2 arg3 arg4 arg5 arg6 arg7 arg8 arg9 arg10 arg11 arg12 arg14 h14 arg15 arg16 arg17 h17 arg18 h18 arg19 h19 arg20 h20 keep >>= κ) P) := by
  subst hK hU
  unfold insOwn
  iintro ⟨⟨H1, H2, H3, H4, H5, H6, H7, H8, H9, H10, H11, H12⟩, H14, H15, H16, H17, H18, H19, H20⟩ Hk
  unfold mid
  simp only [Prog.bind_assoc]
  ihave H15 := (owns_part (c : Thread nD τ) (V := X15) (D := fun _ => False) (fun _ h => h.elim)) $$ H15
  ihave H14 := (owns_part (c : Thread nD τ) (V := codesV (constsV cs s4 b5 s7 b8 ms inv) W C (upV (qs (ix1 0)) Q)) (D := fun _ => False) (fun _ h => h.elim)) $$ H14
  iapply (upRows_spec c arg11 arg15 arg12 fullShare fullShare Q qs X15 _) $$ [H11 H12 H15]
  · isplitl [H11]; · iexact H11
    isplitl [H12]; · iexact H12
    iexact H15
  iintro ⟨H11, H12, H15⟩
  iapply (readConsts_spec c arg2 arg4 arg5 arg7 arg8 arg9 arg10 cs s4 b5 s7 b8 ms inv) $$ [H2 H4 H5 H7 H8 H9 H10]
  · unfold smallOwn
    isplitl [H2]; · iexact H2
    isplitl [H4]; · iexact H4
    isplitl [H5]; · iexact H5
    isplitl [H7]; · iexact H7
    isplitl [H8]; · iexact H8
    isplitl [H9]; · iexact H9
    iexact H10
  iintro HS
  iapply (midA_spec c arg1 arg3 arg6 arg14 h14 arg15 arg16 arg17 h17 arg18 h18 arg20 h20 (constsV cs s4 b5 s7 b8 ms inv) W C (upV (qs (ix1 0)) Q) W6 keep X X17 X20) $$ [H1 H3 H6 H14 H15 H16 H17 H18 H20]
  · isplitl [H1 H3 H14 H15 H16]
    · unfold rowOwn
      isplitl [H1]; · iexact H1
      isplitl [H3]; · iexact H3
      isplitl [H15]; · iexact H15
      isplitl [H14]; · iexact H14
      iexact H16
    isplitl [H6]; · iexact H6
    isplitl [H17]; · iexact H17
    isplitl [H18]; · iexact H18
    iexact H20
  iintro ⟨R, H6, H17, H18, H20⟩
  iapply (midB_spec c arg1 arg3 arg6 arg14 h14 arg15 arg16 arg17 h17 arg18 h18 arg19 h19 (constsV cs s4 b5 s7 b8 ms inv) W C (upV (qs (ix1 0)) Q) W6 keep X _ X19) $$ [R H6 H17 H18 H19]
  · isplitl [R]; · iexact R
    isplitl [H6]; · iexact H6
    isplitl [H17]; · iexact H17
    isplitl [H18]; · iexact H18
    iexact H19
  unfold rowOwn smallOwn
  iintro ⟨⟨H1, H3, H15, H14, H16⟩, H6, H17, H18, H19⟩
  icases HS with ⟨H2, H4, H5, H7, H8, H9, H10⟩
  iapply Hk
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H14]
  · iapply (part_owns (c : Thread nD τ) (fun _ => trivial)) $$ H14
  isplitl [H15]; · iexact H15
  isplitl [H16]; · iexact H16
  isplitl [H17]; · iexact H17
  isplitl [H18]; · iexact H18
  isplitl [H19]; · iexact H19
  iexact H20

end

end Cert.KernelIdeal.Hand
-- ==== Proof.FlightIdeal.lean ====
/-
  The copies that take finished rows to the result, and the rows of the result.

  The result is held by rows: the rows below some bound at their final values, the rows from another bound on as they
  were at the start, and the rows between them in flight. A copy in flight is the library's `Flight`: when it is waited
  for it delivers its four rows and hands its source back.
-/
module

public import proofs.«01_k».proof.Proof.SpecIdeal
public import Idealize.ShloMosaic.Lib.Transfers

@[expose] public section

set_option maxRecDepth 16384

noncomputable section

namespace Cert.KernelIdeal.Hand

open Cert.KernelIdeal Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The rows `a ≤ r < b` of the result. -/
def rows (a b : ℕ) : Finset S600x336x384.Idx := Finset.univ.filter fun j => a ≤ (j 0).val ∧ (j 0).val < b

theorem mem_rows {a b : ℕ} {j : S600x336x384.Idx} : j ∈ rows a b ↔ a ≤ (j 0).val ∧ (j 0).val < b := by
  unfold rows; rw [Finset.mem_filter]; exact ⟨fun h => h.2, fun h => ⟨Finset.mem_univ _, h⟩⟩

/-- The rows `a ≤ r < b` of the result, held at `g`. -/
def prow (c : Dev nD) (a b : ℕ) (g : Vec F S600x336x384 .bf16) : sProp 𝕄 := ((c : Thread nD τ).loc main_v6_0) ↦[rows a b]{fullShare} g

theorem prow_congr (c : Dev nD) {a b : ℕ} {f g : Vec F S600x336x384 .bf16} (h : ∀ j : S600x336x384.Idx, a ≤ (j 0).val → (j 0).val < b → f j = g j) :
    (prow c a b f : sProp 𝕄) = prow c a b g :=
  pointsTo_congr fun i hi => h i (mem_rows.1 hi).1 (mem_rows.1 hi).2

theorem prow_whole (c : Dev nD) (g : Vec F S600x336x384 .bf16) : (prow c 0 600 g : sProp 𝕄) = ((c : Thread nD τ).loc main_v6_0) ↦{fullShare} g := by
  unfold prow
  rw [show rows 0 600 = Finset.univ from Finset.eq_univ_iff_forall.2 fun j => mem_rows.2 ⟨Nat.zero_le _, (j 0).isLt⟩]

theorem prow_empty (c : Dev nD) {a b : ℕ} (h : 600 ≤ a ∨ b ≤ a) (g : Vec F S600x336x384 .bf16) : (prow c a b g : sProp 𝕄) = iprop(emp) := by
  unfold prow
  rw [show rows a b = ∅ from Finset.eq_empty_iff_forall_notMem.2 fun j hj => by
    have h1 := mem_rows.1 hj
    have h2 : (j 0).val < 600 := (j 0).isLt
    omega]
  exact pointsTo_empty

/-- Adjoining row ranges, at one function. -/
theorem prow_split (c : Dev nD) (a d b : ℕ) (h1 : a ≤ d) (h2 : d ≤ b) (g : Vec F S600x336x384 .bf16) :
    (prow c a b g : sProp 𝕄) ⊣⊢ iprop(prow c a d g ∗ prow c d b g) := by
  unfold prow
  rw [show rows a b = rows a d ∪ rows d b from by
    ext j; rw [Finset.mem_union, mem_rows, mem_rows, mem_rows]; omega]
  exact pointsTo_union (Finset.disjoint_left.2 fun j hj hj' => by
    have h1 := mem_rows.1 hj
    have h2 := mem_rows.1 hj'
    omega)

/-- The two copies' cells. -/
abbrev semA : DmaSem sig := ((cc0_scratch6.slice (Rect.unit (s := S2) ![0] S1.size inb_S2_S1_0)).squeeze S_ squeezes_S1_S_).sem
abbrev semB : DmaSem sig := ((cc0_scratch6.slice (Rect.unit (s := S2) ![1] S1.size inb_S2_S1_1)).squeeze S_ squeezes_S1_S_).sem

/-- The result's array. -/
abbrev pM : Memref sig .tc .hbm S600x336x384 .bf16 := Memref.whole main_v6_0

/-- Four rows of the result. -/
abbrev pRows (off : Fin 3 → ℕ) (h : ∀ a, off a + S4x336x384.size a ≤ S600x336x384.size a) : Memref sig .tc .hbm S4x336x384 .bf16 :=
  pM.slice (Rect.unit (s := S600x336x384) off S4x336x384.size h) (fun _ => rfl)

/-- What is waited for. -/
abbrev credit : ℕ := (pRows ![0, 0, 0] (by decide)).view.dmaCredit

theorem pRows_set (off : Fin 3 → ℕ) (h) (a : ℕ) (ho : off = ![a, 0, 0]) : (pRows off h).view.set = rows a (a + 4) := by
  subst ho
  ext j
  have hs : (pRows ![a, 0, 0] h).view.set = (Rect.unit (s := S600x336x384) ![a, 0, 0] S4x336x384.size h).set := by
    exact (View.set_slice pM.view (Rect.unit (s := S600x336x384) ![a, 0, 0] S4x336x384.size h)).trans Finset.map_refl
  rw [hs, Rect.mem_set_unit, mem_rows]
  constructor
  · intro H; exact H 0
  · intro H x
    match x with
    | 0 => exact H
    | 1 => exact ⟨Nat.zero_le _, by have h : (j 1).val < 336 := (j 1).isLt; show (j 1).val < 0 + 336; omega⟩
    | 2 => exact ⟨Nat.zero_le _, by have h : (j 2).val < 384 := (j 2).isLt; show (j 2).val < 0 + 384; omega⟩

/-- A copy in flight: it delivers rows `a … a + 3` at `G` and hands back its source. -/
def flight (c : Dev nD) (s : DmaSem sig) (o : Memref sig .tc .vmem S4x336x384 .bf16) (a : ℕ) (G : Vec F S600x336x384 .bf16) : sProp 𝕄 :=
  Transfers.Flight (countersEmb (U := Pipeline.UD sig nD τ)) (c : Thread nD τ) (.dma s) () credit iprop(prow c a (a + 4) G ∗ ∃ X, own c o fullShare X)

section
variable (c : Dev nD) {P : Post F}

/-- Starting a copy. -/
theorem start_spec {κ : PUnit.{1} → PR F PUnit.{1}} (s : DmaSem sig) (o : Memref sig .tc .vmem S4x336x384 .bf16) (off : Fin 3 → ℕ) (h) (a : ℕ) (ho : off = ![a, 0, 0])
    {hsrc hdst hsem} (X : Vec F S4x336x384 .bf16) (Vp G : Vec F S600x336x384 .bf16) (ha : a + 4 ≤ 600)
    (hG : ∀ j : S600x336x384.Idx, ∀ i : S4x336x384.Idx, (j 0).val = a + (i 0).val → j 1 = i 1 → j 2 = i 2 → G j = X i) :
    iprop(own c o fullShare X ∗ prow c a 600 Vp ∗ semVal ((c : Thread nD τ), SemLoc.dma s) 0) ⊢
      iprop((iprop(flight c s o a G ∗ prow c (a + 4) 600 Vp) -∗ wpc c (κ ⟨⟩) P)
        -∗ wpc c (.op (.enqueueDma o (.here (pRows off h)) (.dma s) hsrc hdst hsem) κ) P) := by
  have hset := pRows_set off h a ho
  subst ho
  iintro ⟨Ho, Hp, Hs⟩ Hk
  unfold own owns
  icases Ho with ⟨%f, %hf, Ho⟩
  ihave Hp := (prow_split c a (a + 4) 600 (by omega) ha Vp).1 $$ Hp
  icases Hp with ⟨Hp, Hr⟩
  iapply (Transfers.wp_dmaLocal (countersEmb (U := Pipeline.UD sig nD τ)) Variants.none (c : Thread nD τ) none () credit (dst := pRows ![a, 0, 0] h) (Sd := rows a (a + 4)) (fd := Vp) (fs := f) rfl ?_ hset.le) $$ [Ho Hp Hs]
  · exact View.dmaCredit_pos _ (by decide)
  · isplitl [Ho]; · iexact Ho
    isplitl [Hp]; · unfold prow; iexact Hp
    iexact Hs
  iintro Hf
  iapply Hk
  isplitl [Hf]
  · unfold flight
    iapply (Transfers.Flight_mono _ _ ?_) $$ Hf
    iintro ⟨Hp, Ho⟩
    isplitl [Hp]
    · unfold prow
      iapply (Entails.of_eq (pointsTo_congr ?_)) $$ Hp
      intro i hi
      have hi' : i ∈ (pRows ![a, 0, 0] h).view.set := hset ▸ hi
      obtain ⟨x, -, rfl⟩ := Finset.mem_map.1 hi'
      refine (congrFun (View.read_write_univ (v := (pRows ![a, 0, 0] h).view) (Val := Elt F) Vp _) x).trans ?_
      refine (congrFun hf x).trans (hG _ x ?_ ?_ ?_).symm
      · show a + 1 * (x 0).val = _; omega
      · refine Fin.ext ?_; show 0 + 1 * (x 1).val = _; omega
      · refine Fin.ext ?_; show 0 + 1 * (x 2).val = _; omega
    · iexists X
      unfold own owns
      iexists f
      isplitr; · ipureintro; exact hf
      iexact Ho
  iexact Hr

/-- Waiting for it. -/
theorem wait_spec {κ : PUnit.{1} → PR F PUnit.{1}} (s : DmaSem sig) (o : Memref sig .tc .vmem S4x336x384 .bf16) (off : Fin 3 → ℕ) (h) (a : ℕ)
    {hsrc hdst} (G : Vec F S600x336x384 .bf16) {W : Waits sig Unit} :
    iprop(flight c s o a G ∗ owes (c : Thread nD τ) 0 W) ⊢
      iprop((iprop(prow c a (a + 4) G ∗ (∃ X, own c o fullShare X) ∗ semVal ((c : Thread nD τ), SemLoc.dma s) 0 ∗ (∃ W', owes (c : Thread nD τ) 0 W')) -∗ wpc c (κ ⟨⟩) P)
        -∗ wpc c (.op (.waitDma2 s o (pRows off h) hsrc hdst) κ) P) := by
  iintro H Hk
  unfold flight
  iapply (Transfers.wp_waitLocal (countersEmb (U := Pipeline.UD sig nD τ)) Variants.none (c : Thread nD τ) none (hsrc := hsrc) (hdst := hdst) () (N := credit) rfl) $$ H
  iintro ⟨⟨Hp, Ho⟩, Hs, HW⟩
  iapply Hk
  isplitl [Hp]; · iexact Hp
  isplitl [Ho]; · iexact Ho
  isplitl [Hs]; · iexact Hs
  iexists _
  iexact HW

end

end Cert.KernelIdeal.Hand
-- ==== Proof.StepIdeal.lean ====
/-
  What the head and the tail of the kernel do at a grid point.

  Between two points the kernel holds its scratch, of which the rows kept for the next point are known, up to two copies
  in flight, and the rows of the result that are final or untouched. `inv n` states this before point `n`; `head_spec`
  brings the copies in, `tail_spec` sends the next ones off.
-/
module

public import proofs.«01_k».proof.Proof.ShapeIdeal
public import proofs.«01_k».proof.Proof.MidIdeal
public import proofs.«01_k».proof.Proof.FlightIdeal

@[expose] public section

set_option maxRecDepth 16384

noncomputable section

namespace Cert.KernelIdeal.Hand

open Cert.KernelIdeal Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The conditions and the copies' rows, at every point of the grid -/

theorem cond1_iff : ∀ t : Fin grid0.N, Scalar.cmpi .ne (Scalar.extui (Scalar.cmpi .eq (BitVec.ofNat 32 (grid0.coords t 0).val) 0#32) : BitVec 32) 0#32 = 1#1 ↔ t.val = 0 := by
  decide +kernel
theorem cond2_iff : ∀ t : Fin grid0.N, k0_cond2 (grid0.coords t) = 1#1 ↔ 2 ≤ t.val := by decide +kernel
theorem cond3_iff : ∀ t : Fin grid0.N, k0_cond3 (grid0.coords t) = 1#1 ↔ 1 ≤ t.val := by decide +kernel
theorem cond4_iff : ∀ t : Fin grid0.N, k0_cond4 (grid0.coords t) = 1#1 ↔ 1 ≤ t.val := by decide +kernel
theorem cond5_iff : ∀ t : Fin grid0.N, k0_cond5 (grid0.coords t) = 1#1 ↔ t.val < 75 := by decide +kernel
theorem cond6_iff : ∀ t : Fin grid0.N, k0_cond6 (grid0.coords t) = 1#1 ↔ t.val = 75 := by decide +kernel
theorem off3_eq : ∀ t : Fin grid0.N, k0_cond4 (grid0.coords t) = 1#1 → k0_off3 (grid0.coords t) = ![8 * t.val - 4, 0, 0] := by decide +kernel
theorem off4_eq : ∀ t : Fin grid0.N, k0_cond5 (grid0.coords t) = 1#1 → k0_off4 (grid0.coords t) = ![8 * t.val, 0, 0] := by decide +kernel

theorem N_eq (t : Fin grid0.N) : t.val ≤ 75 := by
  have h := t.isLt
  have e : grid0.N = 76 := by decide
  omega

/-- A rectangle of the whole shape contains every index. -/
theorem mem_full {s : Shape} {off size : Fin s.rank → ℕ} {inb} (h0 : ∀ a, off a = 0) (h1 : ∀ a, size a = s.size a) (j : s.Idx) :
    j ∈ (Rect.unit (s := s) off size inb).set :=
  Rect.mem_set_unit.2 fun a => ⟨by rw [h0]; exact Nat.zero_le _, by rw [h0, h1, Nat.zero_add]; exact (j a).isLt⟩

/-! ## The buffers -/

abbrev upM : Memref sig .tc .vmem S4x3x336x128 .f32 := Memref.whole cc0_scratch0
abbrev quM : Memref sig .tc .vmem S2x3x368x128 .f32 := Memref.whole cc0_scratch1
abbrev xaM : Memref sig .tc .vmem S6x352x1152 .fp8e4m3 := Memref.whole cc0_scratch2
abbrev xbM : Memref sig .tc .vmem S6x352x1152 .fp8e4m3 := Memref.whole cc0_scratch3
abbrev oaM : Memref sig .tc .vmem S4x336x384 .bf16 := Memref.whole cc0_scratch4
abbrev obM : Memref sig .tc .vmem S4x336x384 .bf16 := Memref.whole cc0_scratch5

/-- The zero of the scratch. -/
abbrev z32 : S2x3x368x128.Idx → Elt F .f32 := fun _ => Scalar.ofBits .f32 0x00000000#32

section
variable (c : Dev nD) (X : Vec F S6x352x1152 .fp8e4m3) (G Vp : Vec F S600x336x384 .bf16)

/-- The copy of the first four rows of the block before point `n`. -/
def flA (n : ℕ) : sProp 𝕄 :=
  if 1 ≤ n ∧ n ≤ 75 then flight c semA oaM (8 * n - 8) G else iprop((∃ X, own c oaM fullShare X) ∗ semVal ((c : Thread nD τ), SemLoc.dma semA) 0)

/-- The copy of the four rows before those. -/
def flB (n : ℕ) : sProp 𝕄 :=
  if 2 ≤ n ∧ n ≤ 75 then flight c semB obM (8 * n - 12) G else iprop((∃ X, own c obM fullShare X) ∗ semVal ((c : Thread nD τ), SemLoc.dma semB) 0)

theorem flA_busy (n : ℕ) (h : 1 ≤ n ∧ n ≤ 75) : (flA c G n : sProp 𝕄) = flight c semA oaM (8 * n - 8) G := if_pos h
theorem flA_idle (n : ℕ) (h : ¬ (1 ≤ n ∧ n ≤ 75)) : (flA c G n : sProp 𝕄) = iprop((∃ X, own c oaM fullShare X) ∗ semVal ((c : Thread nD τ), SemLoc.dma semA) 0) := if_neg h
theorem flB_busy (n : ℕ) (h : 2 ≤ n ∧ n ≤ 75) : (flB c G n : sProp 𝕄) = flight c semB obM (8 * n - 12) G := if_pos h
theorem flB_idle (n : ℕ) (h : ¬ (2 ≤ n ∧ n ≤ 75)) : (flB c G n : sProp 𝕄) = iprop((∃ X, own c obM fullShare X) ∗ semVal ((c : Thread nD τ), SemLoc.dma semB) 0) := if_neg h

/-- What is held before point `n`: `X` is the operand kept from the point before, `G` the result, `Vp` what its array
held at the start. -/
def inv (n : ℕ) : sProp 𝕄 :=
  iprop((∃ X, own c upM fullShare X) ∗ prt c quM z32 (fun j => n ≠ 0 ∧ border j) ∗ (∃ X, own c xaM fullShare X) ∗ prt c xbM X (fun j => n ≠ 0 ∧ (j 0).val < 5)
    ∗ flA c G n ∗ flB c G n ∗ prow c 0 (if n = 76 then 600 else 8 * n - 12) G ∗ prow c (8 * n - 4) 600 Vp)

/-- What is held after the head at point `n`. -/
def after (n : ℕ) : sProp 𝕄 :=
  iprop((∃ X, own c upM fullShare X) ∗ prt c quM z32 border ∗ (∃ X, own c xaM fullShare X) ∗ prt c xbM X (fun j => (j 0).val < 5)
    ∗ ((∃ X, own c oaM fullShare X) ∗ semVal ((c : Thread nD τ), SemLoc.dma semA) 0) ∗ ((∃ X, own c obM fullShare X) ∗ semVal ((c : Thread nD τ), SemLoc.dma semB) 0)
    ∗ prow c 0 (8 * n - 4) G ∗ prow c (8 * n - 4) 600 Vp)
end

section
variable (c : Dev nD) {P : Post F} (X : Vec F S6x352x1152 .fp8e4m3) (G Vp : Vec F S600x336x384 .bf16)
variable (arg1 : Memref sig .tc .vmem S8x336x256 .fp8e4m3) (harg1 : arg1.IsWhole)
  (arg2 : Memref sig .tc .smem S1 .f32) (harg2 : arg2.IsWhole)
  (arg3 : Memref sig .tc .vmem S256x384 .fp8e4m3) (harg3 : arg3.IsWhole)
  (arg4 : Memref sig .tc .vmem S1x384 .f32) (harg4 : arg4.IsWhole)
  (arg5 : Memref sig .tc .vmem S1x384 .f32) (harg5 : arg5.IsWhole)
  (arg6 : Memref sig .tc .vmem S3456x384 .fp8e4m3) (harg6 : arg6.IsWhole)
  (arg7 : Memref sig .tc .vmem S1x384 .f32) (harg7 : arg7.IsWhole)
  (arg8 : Memref sig .tc .vmem S1x384 .f32) (harg8 : arg8.IsWhole)
  (arg9 : Memref sig .tc .smem S1 .f32) (harg9 : arg9.IsWhole)
  (arg10 : Memref sig .tc .smem S1 .f32) (harg10 : arg10.IsWhole)
  (arg11 : Memref sig .tc .vmem S4x168x384 .fp8e4m3) (harg11 : arg11.IsWhole)
  (arg12 : Memref sig .tc .smem S1 .f32) (harg12 : arg12.IsWhole)
  (arg14 : Memref sig .tc .vmem S8x336x384 .fp8e4m3) (harg14 : arg14.IsWhole)

set_option maxHeartbeats 1000000 in
/-- The head at point `t`. -/
theorem head_spec {κ : PUnit.{1} → PR F PUnit.{1}} (t : Fin grid0.N) (hX : t.val = 0 → X = fun _ => Scalar.ofBits .fp8e4m3 0x00#8) (W : Waits sig Unit) :
    iprop(inv c X G Vp t.val ∗ owes (c : Thread nD τ) 0 W) ⊢
      iprop((iprop(after c X G Vp t.val ∗ (∃ W', owes (c : Thread nD τ) 0 W')) -∗ wpc c (κ ⟨⟩) P)
        -∗ wpc c ((headP (F := F) (grid0.coords t) arg1 harg1 arg2 harg2 arg3 harg3 arg4 harg4 arg5 harg5 arg6 harg6 arg7 harg7 arg8 harg8 arg9 harg9 arg10 harg10 arg11 harg11 arg12 harg12 (Memref.whole main_v6_0) (Memref.isWhole_whole _) arg14 harg14 upM (Memref.isWhole_whole _) quM (Memref.isWhole_whole _) xaM (Memref.isWhole_whole _) xbM (Memref.isWhole_whole _) oaM (Memref.isWhole_whole _) obM (Memref.isWhole_whole _) cc0_scratch6) >>= κ) P) := by
  have hN := N_eq t
  have h0 := cond1_iff t
  have h2 := cond2_iff t
  have h3 := cond3_iff t
  have hB : ∀ a b : ℕ, a = b → (prow c 0 a G : sProp 𝕄) ⊢ prow c 0 b G := fun a b h => by rw [h]
  unfold inv after headP
  rw [if_neg (show t.val ≠ 76 by omega)]
  iintro ⟨⟨Hu, Hq, ⟨%Xa, Ha⟩, Hb, HA, HB, Hp, Hr⟩, HW⟩ Hk
  by_cases e0 : t.val = 0
  · have e2 : ¬ k0_cond2 (grid0.coords t) = 1#1 := fun h => by have := h2.1 h; omega
    have e3 : ¬ k0_cond3 (grid0.coords t) = 1#1 := fun h => by have := h3.1 h; omega
    simp only [dif_pos (h0.2 e0), dif_neg e2, dif_neg e3, Prog.bind_assoc]
    ihave HA := (Entails.of_eq (flA_idle c G t.val (by omega))) $$ HA
    ihave HB := (Entails.of_eq (flB_idle c G t.val (by omega))) $$ HB
    iapply (part_load_any (c : Thread nD τ)) $$ Hq
    iintro Hq
    iapply (part_store (c : Thread nD τ) (D' := border) (fun x => rfl) ?_) $$ Hq
    · intro j _; exact .inr (mem_full (by decide) (by decide) j)
    iintro Hq
    iapply (owns_load (c : Thread nD τ)) $$ Ha
    iintro Ha
    iapply (owns_store (c : Thread nD τ)) $$ Ha
    iintro Ha
    iapply (part_load_any (c : Thread nD τ)) $$ Hb
    iintro Hb
    iapply (part_store (c : Thread nD τ) (D' := fun j => (j 0).val < 5) (fun x => ?_) ?_) $$ Hb
    · intro j _; exact .inr (mem_full (by decide) (by decide) j)
    · rw [hX e0]; rfl
    iintro Hb
    iapply Hk
    isplitr [HW]
    · isplitl [Hu]; · iexact Hu
      isplitl [Hq]; · iexact Hq
      isplitl [Ha]; · iexists _; iexact Ha
      isplitl [Hb]; · iexact Hb
      isplitl [HA]; · iexact HA
      isplitl [HB]; · iexact HB
      isplitl [Hp]; · iapply (hB _ _ (by omega)) $$ Hp
      iexact Hr
    · iexists _; iexact HW
  have hq : (prt c quM z32 (fun j => t.val ≠ 0 ∧ border j) : sProp 𝕄) ⊢ prt c quM z32 border := part_mono _ fun j hj => ⟨⟨e0, hj⟩, rfl⟩
  have hb : (prt c xbM X (fun j => t.val ≠ 0 ∧ (j 0).val < 5) : sProp 𝕄) ⊢ prt c xbM X (fun j => (j 0).val < 5) := part_mono _ fun j hj => ⟨⟨e0, hj⟩, rfl⟩
  ihave Hq := hq $$ Hq
  ihave Hb := hb $$ Hb
  have e3 : k0_cond3 (grid0.coords t) = 1#1 := h3.2 (by omega)
  by_cases e1 : t.val = 1
  · have e2 : ¬ k0_cond2 (grid0.coords t) = 1#1 := fun h => by have := h2.1 h; omega
    simp only [dif_neg (fun h => e0 (h0.1 h)), dif_neg e2, dif_pos e3, Prog.bind_assoc]
    ihave HA := (Entails.of_eq (flA_busy c G t.val (by omega))) $$ HA
    ihave HB := (Entails.of_eq (flB_idle c G t.val (by omega))) $$ HB
    iapply (wait_spec c semA oaM _ _ (8 * t.val - 8) G) $$ [HA HW]
    · isplitl [HA]; · iexact HA
      iexact HW
    iintro ⟨Hp', HA, HA', HW⟩
    iapply Hk
    isplitr [HW]
    · isplitl [Hu]; · iexact Hu
      isplitl [Hq]; · iexact Hq
      isplitl [Ha]; · iexists _; iexact Ha
      isplitl [Hb]; · iexact Hb
      isplitl [HA HA']
      · isplitl [HA]; · iexact HA
        iexact HA'
      isplitl [HB]; · iexact HB
      isplitr [Hr]
      · iapply (prow_split c 0 (8 * t.val - 12) (8 * t.val - 4) (by omega) (by omega) G).2
        isplitl [Hp]; · iexact Hp
        iapply (show (prow c (8 * t.val - 8) (8 * t.val - 8 + 4) G : sProp 𝕄) ⊢ prow c (8 * t.val - 12) (8 * t.val - 4) G from by rw [e1]) $$ Hp'
      iexact Hr
    · iexact HW
  · have e2 : k0_cond2 (grid0.coords t) = 1#1 := h2.2 (by omega)
    simp only [dif_neg (fun h => e0 (h0.1 h)), dif_pos e2, dif_pos e3, Prog.bind_assoc]
    ihave HA := (Entails.of_eq (flA_busy c G t.val (by omega))) $$ HA
    ihave HB := (Entails.of_eq (flB_busy c G t.val (by omega))) $$ HB
    iapply (wait_spec c semB obM _ _ (8 * t.val - 12) G) $$ [HB HW]
    · isplitl [HB]; · iexact HB
      iexact HW
    iintro ⟨Hp1, HB, HB', ⟨%W', HW⟩⟩
    iapply (wait_spec c semA oaM _ _ (8 * t.val - 8) G) $$ [HA HW]
    · isplitl [HA]; · iexact HA
      iexact HW
    iintro ⟨Hp2, HA, HA', HW⟩
    iapply Hk
    isplitr [HW]
    · isplitl [Hu]; · iexact Hu
      isplitl [Hq]; · iexact Hq
      isplitl [Ha]; · iexists _; iexact Ha
      isplitl [Hb]; · iexact Hb
      isplitl [HA HA']
      · isplitl [HA]; · iexact HA
        iexact HA'
      isplitl [HB HB']
      · isplitl [HB]; · iexact HB
        iexact HB'
      isplitr [Hr]
      · iapply (prow_split c 0 (8 * t.val - 12) (8 * t.val - 4) (by omega) (by omega) G).2
        isplitl [Hp]; · iexact Hp
        iapply (prow_split c (8 * t.val - 12) (8 * t.val - 8) (8 * t.val - 4) (by omega) (by omega) G).2
        isplitl [Hp1]
        · iapply (show (prow c (8 * t.val - 12) (8 * t.val - 12 + 4) G : sProp 𝕄) ⊢ prow c (8 * t.val - 12) (8 * t.val - 8) G from by
            rw [show 8 * t.val - 12 + 4 = 8 * t.val - 8 by omega]) $$ Hp1
        · iapply (show (prow c (8 * t.val - 8) (8 * t.val - 8 + 4) G : sProp 𝕄) ⊢ prow c (8 * t.val - 8) (8 * t.val - 4) G from by
            rw [show 8 * t.val - 8 + 4 = 8 * t.val - 4 by omega]) $$ Hp2
      iexact Hr
    · iexact HW

set_option maxHeartbeats 1000000 in
/-- The tail at point `t`, from what the straight line left. -/
theorem tail_spec {κ : PUnit.{1} → PR F PUnit.{1}} (t : Fin grid0.N) (XA XB : Vec F S4x336x384 .bf16) (W : Waits sig Unit)
    (hA : ∀ j : S600x336x384.Idx, ∀ i : S4x336x384.Idx, (j 0).val = 8 * t.val + (i 0).val → j 1 = i 1 → j 2 = i 2 → G j = XA i)
    (hB : 1 ≤ t.val → ∀ j : S600x336x384.Idx, ∀ i : S4x336x384.Idx, (j 0).val = 8 * t.val - 4 + (i 0).val → j 1 = i 1 → j 2 = i 2 → G j = XB i) :
    iprop((∃ X, own c upM fullShare X) ∗ prt c quM z32 border ∗ (∃ X, own c xaM fullShare X) ∗ prt c xbM X (fun j => (j 0).val < 5)
        ∗ own c oaM fullShare XA ∗ semVal ((c : Thread nD τ), SemLoc.dma semA) 0 ∗ own c obM fullShare XB ∗ semVal ((c : Thread nD τ), SemLoc.dma semB) 0
        ∗ prow c 0 (8 * t.val - 4) G ∗ prow c (8 * t.val - 4) 600 Vp ∗ owes (c : Thread nD τ) 0 W) ⊢
      iprop((iprop(inv c X G Vp (t.val + 1) ∗ (∃ W', owes (c : Thread nD τ) 0 W')) -∗ wpc c (κ ⟨⟩) P)
        -∗ wpc c ((startP (F := F) (grid0.coords t) arg1 harg1 arg2 harg2 arg3 harg3 arg4 harg4 arg5 harg5 arg6 harg6 arg7 harg7 arg8 harg8 arg9 harg9 arg10 harg10 arg11 harg11 arg12 harg12 (Memref.whole main_v6_0) (Memref.isWhole_whole _) arg14 harg14 upM (Memref.isWhole_whole _) quM (Memref.isWhole_whole _) xaM (Memref.isWhole_whole _) xbM (Memref.isWhole_whole _) oaM (Memref.isWhole_whole _) obM (Memref.isWhole_whole _) cc0_scratch6) >>= fun _ =>
          (lastP (F := F) (grid0.coords t) arg1 harg1 arg2 harg2 arg3 harg3 arg4 harg4 arg5 harg5 arg6 harg6 arg7 harg7 arg8 harg8 arg9 harg9 arg10 harg10 arg11 harg11 arg12 harg12 (Memref.whole main_v6_0) (Memref.isWhole_whole _) arg14 harg14 upM (Memref.isWhole_whole _) quM (Memref.isWhole_whole _) xaM (Memref.isWhole_whole _) xbM (Memref.isWhole_whole _) oaM (Memref.isWhole_whole _) obM (Memref.isWhole_whole _) cc0_scratch6) >>= κ) P) := by
  have hN := N_eq t
  have h4 := cond4_iff t
  have h5 := cond5_iff t
  have h6 := cond6_iff t
  have hq : (prt c quM z32 border : sProp 𝕄) ⊢ prt c quM z32 (fun j => t.val + 1 ≠ 0 ∧ border j) := part_mono _ fun j hj => ⟨hj.2, rfl⟩
  have hb : (prt c xbM X (fun j => (j 0).val < 5) : sProp 𝕄) ⊢ prt c xbM X (fun j => t.val + 1 ≠ 0 ∧ (j 0).val < 5) := part_mono _ fun j hj => ⟨hj.2, rfl⟩
  unfold inv startP lastP
  iintro ⟨Hu, Hq, Ha, Hb, HA, HA', HB, HB', Hp, Hr, HW⟩ Hk
  ihave Hq := hq $$ Hq
  ihave Hb := hb $$ Hb
  by_cases e0 : t.val = 0
  · have e4 : ¬ k0_cond4 (grid0.coords t) = 1#1 := fun h => by have := h4.1 h; omega
    have e5 : k0_cond5 (grid0.coords t) = 1#1 := h5.2 (by omega)
    have e6 : ¬ k0_cond6 (grid0.coords t) = 1#1 := fun h => by have := h6.1 h; omega
    simp only [dif_neg e4, dif_pos e5, dif_neg e6, Prog.bind_assoc]
    rw [flA_busy c G (t.val + 1) (by omega), flB_idle c G (t.val + 1) (by omega), if_neg (show ¬ t.val + 1 = 76 by omega)]
    ihave Hr := (show (prow c (8 * t.val - 4) 600 Vp : sProp 𝕄) ⊢ prow c (8 * t.val) 600 Vp from by rw [e0]) $$ Hr
    iapply (start_spec c semA oaM _ _ (8 * t.val) (off4_eq t e5) XA Vp G (by omega) hA) $$ [HA Hr HA']
    · isplitl [HA]; · iexact HA
      isplitl [Hr]; · iexact Hr
      iexact HA'
    iintro ⟨HA, Hr⟩
    iapply Hk
    isplitr [HW]
    · isplitl [Hu]; · iexact Hu
      isplitl [Hq]; · iexact Hq
      isplitl [Ha]; · iexact Ha
      isplitl [Hb]; · iexact Hb
      isplitl [HA]
      · rw [show 8 * (t.val + 1) - 8 = 8 * t.val by omega]; iexact HA
      isplitl [HB HB']
      · isplitl [HB]; · iexists _; iexact HB
        iexact HB'
      isplitl [Hp]
      · rw [show 8 * (t.val + 1) - 12 = 8 * t.val - 4 by omega]; iexact Hp
      · rw [show 8 * (t.val + 1) - 4 = 8 * t.val + 4 by omega]; iexact Hr
    · iexists _; iexact HW
  have e4 : k0_cond4 (grid0.coords t) = 1#1 := h4.2 (by omega)
  by_cases e75 : t.val = 75
  · have e5 : ¬ k0_cond5 (grid0.coords t) = 1#1 := fun h => by have := h5.1 h; omega
    have e6 : k0_cond6 (grid0.coords t) = 1#1 := h6.2 e75
    simp only [dif_pos e4, dif_neg e5, dif_pos e6, Prog.bind_assoc]
    rw [flA_idle c G (t.val + 1) (by omega), flB_idle c G (t.val + 1) (by omega), if_pos (show t.val + 1 = 76 by omega)]
    iapply (start_spec c semB obM _ _ (8 * t.val - 4) (off3_eq t e4) XB Vp G (by omega) (hB (by omega))) $$ [HB Hr HB']
    · isplitl [HB]; · iexact HB
      isplitl [Hr]; · iexact Hr
      iexact HB'
    iintro ⟨HB, Hr⟩
    iapply (wait_spec c semB obM _ _ (8 * t.val - 4) G) $$ [HB HW]
    · isplitl [HB]; · iexact HB
      iexact HW
    iintro ⟨Hp', HB, HB', HW⟩
    iapply Hk
    isplitr [HW]
    · isplitl [Hu]; · iexact Hu
      isplitl [Hq]; · iexact Hq
      isplitl [Ha]; · iexact Ha
      isplitl [Hb]; · iexact Hb
      isplitl [HA HA']
      · isplitl [HA]; · iexists _; iexact HA
        iexact HA'
      isplitl [HB HB']
      · isplitl [HB]; · iexact HB
        iexact HB'
      isplitl [Hp Hp']
      · iapply (prow_split c 0 (8 * t.val - 4) 600 (by omega) (by omega) G).2
        isplitl [Hp]; · iexact Hp
        iapply (show (prow c (8 * t.val - 4) (8 * t.val - 4 + 4) G : sProp 𝕄) ⊢ prow c (8 * t.val - 4) 600 G from by rw [e75]) $$ Hp'
      · iapply (show (prow c (8 * t.val - 4 + 4) 600 Vp : sProp 𝕄) ⊢ prow c (8 * (t.val + 1) - 4) 600 Vp from by
          rw [prow_empty c (by omega), prow_empty c (by omega)]) $$ Hr
    · iexact HW
  · have e5 : k0_cond5 (grid0.coords t) = 1#1 := h5.2 (by omega)
    have e6 : ¬ k0_cond6 (grid0.coords t) = 1#1 := fun h => by have := h6.1 h; omega
    simp only [dif_pos e4, dif_pos e5, dif_neg e6, Prog.bind_assoc]
    rw [flA_busy c G (t.val + 1) (by omega), flB_busy c G (t.val + 1) (by omega), if_neg (show ¬ t.val + 1 = 76 by omega)]
    iapply (start_spec c semB obM _ _ (8 * t.val - 4) (off3_eq t e4) XB Vp G (by omega) (hB (by omega))) $$ [HB Hr HB']
    · isplitl [HB]; · iexact HB
      isplitl [Hr]; · iexact Hr
      iexact HB'
    iintro ⟨HB, Hr⟩
    ihave Hr := (show (prow c (8 * t.val - 4 + 4) 600 Vp : sProp 𝕄) ⊢ prow c (8 * t.val) 600 Vp from by rw [show 8 * t.val - 4 + 4 = 8 * t.val by omega]) $$ Hr
    iapply (start_spec c semA oaM _ _ (8 * t.val) (off4_eq t e5) XA Vp G (by omega) hA) $$ [HA Hr HA']
    · isplitl [HA]; · iexact HA
      isplitl [Hr]; · iexact Hr
      iexact HA'
    iintro ⟨HA, Hr⟩
    iapply Hk
    isplitr [HW]
    · isplitl [Hu]; · iexact Hu
      isplitl [Hq]; · iexact Hq
      isplitl [Ha]; · iexact Ha
      isplitl [Hb]; · iexact Hb
      isplitl [HA]
      · rw [show 8 * (t.val + 1) - 8 = 8 * t.val by omega]; iexact HA
      isplitl [HB]
      · rw [show 8 * (t.val + 1) - 12 = 8 * t.val - 4 by omega]; iexact HB
      isplitl [Hp]
      · rw [show 8 * (t.val + 1) - 12 = 8 * t.val - 4 by omega]; iexact Hp
      · rw [show 8 * (t.val + 1) - 4 = 8 * t.val + 4 by omega]; iexact Hr
    · iexists _; iexact HW

end

end Cert.KernelIdeal.Hand
-- ==== Proof.RunIdeal.lean ====
/-
  The run: what every point of the grid leaves, and with it the arrays at the end and the arguments unchanged.
-/
module

public import proofs.«01_k».proof.Proof.StepIdeal
public import proofs.«01_k».proof.Proof.Gen.KernelIdeal.Frame
public import Idealize.ShloMosaic.Lib.Pipeline.FrameValue

@[expose] public section

set_option maxRecDepth 16384

noncomputable section

namespace Cert.KernelIdeal.Hand

open Cert.KernelIdeal Cert.KernelIdeal.Gen Cert.Rules
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The blocks of the inputs, and what a point makes of them -/

section
variable (c : Dev nD)
/-- Input 0's block at point `t`. -/
def bC (t : Fin cfg0.N) : Vec F S8x336x256 .fp8e4m3 := iblk m c 0 t
/-- Input 1's block at point `t`. -/
def bcs (t : Fin cfg0.N) : Vec F S1 .f32 := iblk m c 1 t
/-- Input 2's block at point `t`. -/
def bW (t : Fin cfg0.N) : Vec F S256x384 .fp8e4m3 := iblk m c 2 t
/-- Input 3's block at point `t`. -/
def bs4 (t : Fin cfg0.N) : Vec F S1x384 .f32 := iblk m c 3 t
/-- Input 4's block at point `t`. -/
def bb5 (t : Fin cfg0.N) : Vec F S1x384 .f32 := iblk m c 4 t
/-- Input 5's block at point `t`. -/
def bW6 (t : Fin cfg0.N) : Vec F S3456x384 .fp8e4m3 := iblk m c 5 t
/-- Input 6's block at point `t`. -/
def bs7 (t : Fin cfg0.N) : Vec F S1x384 .f32 := iblk m c 6 t
/-- Input 7's block at point `t`. -/
def bb8 (t : Fin cfg0.N) : Vec F S1x384 .f32 := iblk m c 7 t
/-- Input 8's block at point `t`. -/
def bms (t : Fin cfg0.N) : Vec F S1 .f32 := iblk m c 8 t
/-- Input 9's block at point `t`. -/
def binv (t : Fin cfg0.N) : Vec F S1 .f32 := iblk m c 9 t
/-- Input 10's block at point `t`. -/
def bQ (t : Fin cfg0.N) : Vec F S4x168x384 .fp8e4m3 := iblk m c 10 t
/-- Input 11's block at point `t`. -/
def bqs (t : Fin cfg0.N) : Vec F S1 .f32 := iblk m c 11 t

/-- The scales and biases. -/
def bK (t : Fin cfg0.N) : Consts F := constsV (bcs m c t) (bs4 m c t) (bb5 m c t) (bs7 m c t) (bb8 m c t) (bms m c t) (binv m c t)
/-- The up-sampled rows. -/
def bU (t : Fin cfg0.N) : Vec F S4x3x336x128 .f32 := upV (bqs m c t (ix1 0)) (bQ m c t)
/-- The block of codes that point `t` computes. -/
def codesB (t : Fin cfg0.N) : Vec F S8x336x384 .fp8e4m3 := codesV (bK m c t) (bW m c t) (bC m c t) (bU m c t)

/-- The point of a number. -/
def pt (n : ℕ) : Fin cfg0.N := ⟨min n 75, by have e : cfg0.N = 76 := by decide
                                             omega⟩
theorem pt_val (t : Fin cfg0.N) : pt t.val = t := by
  have h : t.val ≤ 75 := N_eq t
  exact Fin.ext (show min t.val 75 = t.val by omega)

/-- What point `n` finds of the rows the point before kept. -/
def Xin : ℕ → Vec F S6x352x1152 .fp8e4m3
  | 0 => fun _ => Scalar.ofBits .fp8e4m3 0x00#8
  | n + 1 => xbNewV (bK m c (pt n)) (bW m c (pt n)) (bC m c (pt n)) (bU m c (pt n))

/-- The four rows of the result that begin with block `t`. -/
def rowsA (t : Fin cfg0.N) : Vec F S4x336x384 .bf16 :=
  convV (bK m c t) (xaV (keepBit (grid0.coords t)) (Xin m c t.val) (bK m c t) (bW m c t) (bC m c t) (bU m c t)) (bW6 m c t)
/-- The four rows before those. -/
def rowsB (t : Fin cfg0.N) : Vec F S4x336x384 .bf16 :=
  convV (bK m c t) (xbOldV (keepBit (grid0.coords t)) (Xin m c t.val) (bK m c t) (bW m c t) (bC m c t) (bU m c t)) (bW6 m c t)

/-- The first result: row `8 n + i` from `rowsA` of point `n`, row `8 n - 4 + i` from `rowsB`. -/
def Gp : Vec F S600x336x384 .bf16 := fun j =>
  if (j 0).val % 8 < 4 then rowsA m c (pt ((j 0).val / 8)) (ix3 ⟨(j 0).val % 4, Nat.mod_lt _ (by decide)⟩ (j 1) (j 2))
  else rowsB m c (pt (((j 0).val + 4) / 8)) (ix3 ⟨(j 0).val % 4, Nat.mod_lt _ (by decide)⟩ (j 1) (j 2))

theorem ix3_of (i : S4x336x384.Idx) (a : Fin 4) (b : Fin 336) (d : Fin 384) (h0 : a.val = (i 0).val) (h1 : b = i 1) (h2 : d = i 2) : ix3 a b d = i := by
  rw [eq_ix3 i]; subst h1 h2; exact congrArg (fun x => ix3 x (i 1) (i 2)) (Fin.ext h0)

theorem Gp_A (t : Fin cfg0.N) (j : S600x336x384.Idx) (i : S4x336x384.Idx) (h0 : (j 0).val = 8 * t.val + (i 0).val) (h1 : j 1 = i 1) (h2 : j 2 = i 2) :
    Gp m c j = rowsA m c t i := by
  have hi : (i 0).val < 4 := (i 0).isLt
  unfold Gp
  rw [if_pos (by omega), show (j 0).val / 8 = t.val by omega, pt_val]
  exact congrArg _ (ix3_of i _ _ _ (show (j 0).val % 4 = _ by omega) h1 h2)

theorem Gp_B (t : Fin cfg0.N) (ht : 1 ≤ t.val) (j : S600x336x384.Idx) (i : S4x336x384.Idx) (h0 : (j 0).val = 8 * t.val - 4 + (i 0).val) (h1 : j 1 = i 1) (h2 : j 2 = i 2) :
    Gp m c j = rowsB m c t i := by
  have hi : (i 0).val < 4 := (i 0).isLt
  unfold Gp
  rw [if_neg (by omega), show ((j 0).val + 4) / 8 = t.val by omega, pt_val]
  exact congrArg _ (ix3_of i _ _ _ (show (j 0).val % 4 = _ by omega) h1 h2)

end

/-! ## The proof data -/

/-- The kernel's own cells: the two copies'. -/
abbrev osem0 : Fin 2 → SemLoc sig := fun j => (![SemLoc.dma semA, SemLoc.dma semB] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma semA) 0 ∗ semVal ((c : Thread nD τ), SemLoc.dma semB) 0) := by
  rw [Pipeline.ownSems0_eq_of_list c osem0 [0, 1] (by decide) (by decide)]; rfl

/-- The array that the kernel writes by its own copies. -/
def R0 : Finset (Ref sig .tc) := {main_v6_0}
theorem R0_sub : R0 ⊆ Pipeline.restRefs sig spec0 \ ∅ := by decide

/-- The unscoped buffers at the end. -/
def Gend (c : Dev nD) (b : Ref sig .tc) : Buf (Elt F) ((c : Thread nD τ).loc b) :=
  if h : b = main_v6_0 then h ▸ (Gp m c : Buf (Elt F) ((c : Thread nD τ).loc main_v6_0)) else V m c b

theorem PhiD_eq (G : (c : Dev nD) → (b : Ref sig .tc) → Buf (Elt F) ((c : Thread nD τ).loc b)) (c : Dev nD) :
    (Pipeline.ΦDRG osem0 spec0 ∅ R0 (V m) G c : sProp 𝕄)
      = iprop(iprop((∃ d, own c upM fullShare d) ∗ (∃ d, own c quM fullShare d) ∗ (∃ d, own c xaM fullShare d) ∗ (∃ d, own c xbM fullShare d)
              ∗ (∃ d, own c oaM fullShare d) ∗ (∃ d, own c obM fullShare d))
          ∗ (∃ r, prngReg c r)
          ∗ iprop(semVal ((c : Thread nD τ), SemLoc.dma semA) 0 ∗ semVal ((c : Thread nD τ), SemLoc.dma semB) 0)
          ∗ iprop(emp) ∗ (((c : Thread nD τ).loc main_v6_0) ↦{fullShare} G c main_v6_0)) := by
  rw [Pipeline.ΦDRG_eq, scopedRest0_eq, ownSems00_eq, BI.bigSep_empty]
  unfold Pipeline.routed
  rw [BI.bigSep_eq_bigSepL_of_eq [main_v6_0] (by decide) (by decide)]
  simp only [own, upM, quM, xaM, xbM, oaM, obM, owns_whole]; try rfl

/-- The invariant before point `n`. -/
def PhiAt (c : Dev nD) (n : ℕ) : sProp 𝕄 :=
  iprop(inv c (Xin m c n) (Gp m c) (V m c main_v6_0) n ∗ (∃ r, prngReg c r))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => codesB m c t
  Φ t := PhiAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = codesB m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)

/-! ## The body at a point -/
abbrev ms0 (t : Fin cfg0.N) : Memref sig .tc .vmem S8x336x256 .fp8e4m3 := win0_0.stage (cfg0.slots t 0)
abbrev ms1 (t : Fin cfg0.N) : Memref sig .tc .smem S1 .f32 := win0_1.stage (cfg0.slots t 1)
abbrev ms2 (t : Fin cfg0.N) : Memref sig .tc .vmem S256x384 .fp8e4m3 := win0_2.stage (cfg0.slots t 2)
abbrev ms3 (t : Fin cfg0.N) : Memref sig .tc .vmem S1x384 .f32 := win0_3.stage (cfg0.slots t 3)
abbrev ms4 (t : Fin cfg0.N) : Memref sig .tc .vmem S1x384 .f32 := win0_4.stage (cfg0.slots t 4)
abbrev ms5 (t : Fin cfg0.N) : Memref sig .tc .vmem S3456x384 .fp8e4m3 := win0_5.stage (cfg0.slots t 5)
abbrev ms6 (t : Fin cfg0.N) : Memref sig .tc .vmem S1x384 .f32 := win0_6.stage (cfg0.slots t 6)
abbrev ms7 (t : Fin cfg0.N) : Memref sig .tc .vmem S1x384 .f32 := win0_7.stage (cfg0.slots t 7)
abbrev ms8 (t : Fin cfg0.N) : Memref sig .tc .smem S1 .f32 := win0_8.stage (cfg0.slots t 8)
abbrev ms9 (t : Fin cfg0.N) : Memref sig .tc .smem S1 .f32 := win0_9.stage (cfg0.slots t 9)
abbrev ms10 (t : Fin cfg0.N) : Memref sig .tc .vmem S4x168x384 .fp8e4m3 := win0_10.stage (cfg0.slots t 10)
abbrev ms11 (t : Fin cfg0.N) : Memref sig .tc .smem S1 .f32 := win0_11.stage (cfg0.slots t 11)
abbrev ms12 (t : Fin cfg0.N) : Memref sig .tc .vmem S8x336x384 .fp8e4m3 := win0_12.stage (cfg0.slots t 12)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

theorem bodyAt0_eq (t : Fin cfg0.N) : bodyAt0 (F := F) t =
    (headP (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) pM (Memref.isWhole_whole _) (ms12 t) (hstage0_12 ((cfg0.slots t 12).cast nbuf0_12)) upM (Memref.isWhole_whole _) quM (Memref.isWhole_whole _) xaM (Memref.isWhole_whole _) xbM (Memref.isWhole_whole _) oaM (Memref.isWhole_whole _) obM (Memref.isWhole_whole _) cc0_scratch6) >>= fun _ =>
    (mid (ms0 t) (ms1 t) (ms2 t) (ms3 t) (ms4 t) (ms5 t) (ms6 t) (ms7 t) (ms8 t) (ms9 t) (ms10 t) (ms11 t) (ms12 t) (hstage0_12 ((cfg0.slots t 12).cast nbuf0_12)) upM quM xaM (Memref.isWhole_whole _) xbM (Memref.isWhole_whole _) oaM (Memref.isWhole_whole _) obM (Memref.isWhole_whole _) (keepBit (grid0.coords t))) >>= fun _ =>
    (startP (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) pM (Memref.isWhole_whole _) (ms12 t) (hstage0_12 ((cfg0.slots t 12).cast nbuf0_12)) upM (Memref.isWhole_whole _) quM (Memref.isWhole_whole _) xaM (Memref.isWhole_whole _) xbM (Memref.isWhole_whole _) oaM (Memref.isWhole_whole _) obM (Memref.isWhole_whole _) cc0_scratch6) >>= fun _ =>
    (lastP (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) pM (Memref.isWhole_whole _) (ms12 t) (hstage0_12 ((cfg0.slots t 12).cast nbuf0_12)) upM (Memref.isWhole_whole _) quM (Memref.isWhole_whole _) xaM (Memref.isWhole_whole _) xbM (Memref.isWhole_whole _) oaM (Memref.isWhole_whole _) obM (Memref.isWhole_whole _) cc0_scratch6) >>= fun _ => .ret ⟨⟩ :=
  (body_eq ..).trans (by
    refine congrArg (Prog.bind _) (funext fun _ => congrArg (Prog.bind _) (funext fun _ => congrArg (Prog.bind _) (funext fun _ => ?_)))
    exact (Prog.bind_pure _).symm)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  rw [bodyAt0_eq]
  unfold bodyPre bodyPost
  rw [show (dats m 0 c).Φ t.succ = PhiAt m c (t.val + 1) from rfl, show (dats m 0 c).Φ t.castSucc = PhiAt m c t.val from rfl]
  simp only [before0_0, before0_1, before0_2, before0_3, before0_4, before0_5, before0_6, before0_7, before0_8, before0_9, before0_10, before0_11, after0_0, after0_1, after0_2, after0_3, after0_4, after0_5, after0_6, after0_7, after0_8, after0_9, after0_10, after0_11, after0_12]
  unfold PhiAt Dat.owesAt Pipeline.owesWithin
  rw [show (dats m 0 c).owed t.castSucc = 0 from rfl, show (dats m 0 c).owed t.succ = 0 from rfl]
  iintro ⟨⟨HI, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (head_spec c (Xin m c t.val) (Gp m c) (V m c main_v6_0) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) t (fun h => by rw [h]; rfl) W) $$ [HI HW]
  · isplitl [HI]; · iexact HI
    iexact HW
  unfold after
  iintro ⟨⟨⟨%X15, Hu⟩, Hq, ⟨%X17, Ha⟩, Hb, ⟨⟨%X19, HA⟩, HA'⟩, ⟨⟨%X20, HB⟩, HB'⟩, Hp, Hr⟩, ⟨%W', HW⟩⟩
  ihave Hb := (part_elim (c : Thread nD τ)) $$ Hb
  icases Hb with ⟨%X, %hX, Hb⟩
  iapply (mid_spec c (ms0 t) (ms1 t) (ms2 t) (ms3 t) (ms4 t) (ms5 t) (ms6 t) (ms7 t) (ms8 t) (ms9 t) (ms10 t) (ms11 t) (ms12 t) (hstage0_12 ((cfg0.slots t 12).cast nbuf0_12)) upM quM xaM (Memref.isWhole_whole _) xbM (Memref.isWhole_whole _) oaM (Memref.isWhole_whole _) obM (Memref.isWhole_whole _)
    (bK m c t) (bW m c t) (bC m c t) (bU m c t) (bW6 m c t) (keepBit (grid0.coords t)) (bcs m c t) (bs4 m c t) (bb5 m c t) (bs7 m c t) (bb8 m c t) (bms m c t) (binv m c t) (bQ m c t) (bqs m c t) rfl rfl _ X15 X17 X X19 X20)
    $$ [H0 H1 H2 H3 H4 H5 H6 H7 H8 H9 H10 H11 H12 Hu Hq Ha Hb HA HB]
  · unfold insOwn
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    isplitl [Hu]; · iexact Hu
    isplitl [Hq]; · iexact Hq
    isplitl [Ha]; · iexact Ha
    isplitl [Hb]; · iexact Hb
    isplitl [HA]; · iexact HA
    iexact HB
  rw [xaV_congr (keepBit (grid0.coords t)) X (bK m c t) (bW m c t) (bC m c t) (bU m c t) (Xin m c t.val) hX, xbOldV_congr (keepBit (grid0.coords t)) X (bK m c t) (bW m c t) (bC m c t) (bU m c t) (Xin m c t.val) hX]
  unfold insOwn
  iintro ⟨⟨H0, H1, H2, H3, H4, H5, H6, H7, H8, H9, H10, H11⟩, H12, Hu, Hq, Ha, Hb, HA, HB⟩
  iapply (tail_spec c (Xin m c (t.val + 1)) (Gp m c) (V m c main_v6_0) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) t (rowsA m c t) (rowsB m c t) W'
    (fun j i => Gp_A m c t j i) (fun ht j i => Gp_B m c t ht j i)) $$ [Hu Hq Ha Hb HA HA' HB HB' Hp Hr HW]
  · isplitl [Hu]; · iexists _; iexact Hu
    isplitl [Hq]; · iexact Hq
    isplitl [Ha]; · iexists _; iexact Ha
    isplitl [Hb]
    · iapply (show (prt c xbM (xbNewV (bK m c t) (bW m c t) (bC m c t) (bU m c t)) (fun j => (j 0).val < 5) : sProp 𝕄) ⊢ prt c xbM (Xin m c (t.val + 1)) (fun j => (j 0).val < 5) from by
        rw [show Xin m c (t.val + 1) = xbNewV (bK m c (pt t.val)) (bW m c (pt t.val)) (bC m c (pt t.val)) (bU m c (pt t.val)) from rfl, pt_val]) $$ Hb
    isplitl [HA]; · iexact HA
    isplitl [HA']; · iexact HA'
    isplitl [HB]; · iexact HB
    isplitl [HB']; · iexact HB'
    isplitl [Hp]; · iexact Hp
    isplitl [Hr]; · iexact Hr
    iexact HW
  iintro ⟨HI, ⟨%W'', HW⟩⟩
  iapply le_wp_ret
  isplitl [HI Hg]
  · isplitl [HI]; · iexact HI
    iexact Hg
  isplitl [HW]
  · iexists W''; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Entering and leaving -/

theorem enter (c : Dev nD) : Pipeline.ΦDRG osem0 spec0 ∅ R0 (V m) (V m) c ⊢ (dats m 0 c).Φ 0 := by
  rw [PhiD_eq, show (dats m 0 c).Φ 0 = PhiAt m c 0 from rfl]
  unfold PhiAt inv
  rw [flA_idle c _ 0 (by omega), flB_idle c _ 0 (by omega), if_neg (by omega), prow_empty c (a := 0) (b := 8 * 0 - 12) (by omega), show 8 * 0 - 4 = 0 from rfl, prow_whole]
  iintro ⟨⟨Hu, ⟨%Xq, Hq⟩, Ha, ⟨%Xb, Hb⟩, HA, HB⟩, Hg, ⟨HA', HB'⟩, HE, Hp⟩
  isplitr [Hg]
  · isplitl [Hu]; · iexact Hu
    isplitl [Hq]; · iapply (owns_part (c : Thread nD τ) (fun j h => absurd rfl h.1)) $$ Hq
    isplitl [Ha]; · iexact Ha
    isplitl [Hb]; · iapply (owns_part (c : Thread nD τ) (fun j h => absurd rfl h.1)) $$ Hb
    isplitl [HA HA']
    · isplitl [HA]; · iexact HA
      iexact HA'
    isplitl [HB HB']
    · isplitl [HB]; · iexact HB
      iexact HB'
    isplitl [HE]; · iexact HE
    iexact Hp
  · iexact Hg

theorem leave (c : Dev nD) : (dats m 0 c).Φ (Fin.last cfg0.N) ⊢ Pipeline.ΦDRG osem0 spec0 ∅ R0 (V m) (Gend m) c := by
  rw [PhiD_eq, show (dats m 0 c).Φ (Fin.last cfg0.N) = PhiAt m c 76 from rfl, show Gend m c main_v6_0 = Gp m c from rfl]
  unfold PhiAt inv
  rw [flA_idle c _ 76 (by omega), flB_idle c _ 76 (by omega), if_pos rfl, prow_empty c (a := 8 * 76 - 4) (b := 600) (by omega), prow_whole]
  iintro ⟨⟨Hu, Hq, Ha, Hb, ⟨HA, HA'⟩, ⟨HB, HB'⟩, Hp, HE⟩, Hg⟩
  ihave Hq := (part_elim (c : Thread nD τ)) $$ Hq
  icases Hq with ⟨%Xq, -, Hq⟩
  ihave Hb := (part_elim (c : Thread nD τ)) $$ Hb
  icases Hb with ⟨%Xb, -, Hb⟩
  isplitl [Hu Hq Ha Hb HA HB]
  · isplitl [Hu]; · iexact Hu
    isplitl [Hq]; · iexists _; iexact Hq
    isplitl [Ha]; · iexact Ha
    isplitl [Hb]; · iexists _; iexact Hb
    isplitl [HA]; · iexact HA
    iexact HB
  isplitl [Hg]; · iexact Hg
  isplitl [HA' HB']
  · isplitl [HA']; · iexact HA'
    iexact HB'
  isplitl [HE]; · iexact HE
  iexact Hp

/-! ## The run -/

set_option maxHeartbeats 800000 in
/-- @main up to the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every weak schedule ends, and at its end the arrays hold what the proof data says. -/
theorem run_main : θ_run defs (onTc (τ := τ) (main (F := F))) (s₀ m ρ) (fun r => Pipeline.FramePostRG cfgs (dats m) 0 R0 (V m) (Gend m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V := V m) (hmain := hmainD m Variants.none) (hA := A_eq m) (G := Gend m)
    (hin := enter m) (hout := leave m) (hQ' := fun _ h => h)

/-- The arguments are unchanged at the end. -/
theorem args_of (r : PUnit × MemSt nD τ sig (Elt F)) (h : Pipeline.FramePostRG cfgs (dats m) 0 R0 (V m) (Gend m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h.1 c).2 main_arg0 (Finset.mem_sdiff.mpr ⟨Pipeline.mem_restRefs_of main_arg0 (by decide) (by decide), by decide⟩)).trans (V_main_arg0 m c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).1 8).trans (((dats m 0 c).arrAt_in 8 rfl _).trans ((A_eq m c 8).trans (V_main_arg8 m c))),
      ((h.1 c).1 9).trans (((dats m 0 c).arrAt_in 9 rfl _).trans ((A_eq m c 9).trans (V_main_arg9 m c))),
      ((h.1 c).1 10).trans (((dats m 0 c).arrAt_in 10 rfl _).trans ((A_eq m c 10).trans (V_main_arg10 m c))),
      ((h.1 c).1 11).trans (((dats m 0 c).arrAt_in 11 rfl _).trans ((A_eq m c 11).trans (V_main_arg11 m c)))⟩

/-- The program ends without fault and leaves its arguments unchanged. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r h => ⟨fun c => args_of m r h.1 c, h.2⟩) (run_main m ρ)

end Cert.KernelIdeal.Hand
-- ==== Proof.Bits.lean ====
/-
  The run of `Kernel` on bits: it is the run of `KernelIdeal`.

  The two programs are one text, so their bodies and their mains are equal by definition, and the frame proved of
  `KernelIdeal` over every reading of the floats is also a frame of `Kernel`.
-/
module

public import proofs.«01_k».proof.Defs
public import proofs.«01_k».proof.Proof.Gen.Kernel
public import proofs.«01_k».proof.Proof.RunIdeal

@[expose] public section

set_option maxRecDepth 100000
set_option maxHeartbeats 0

noncomputable section

namespace Cert.Kernel.Hand

open Idealize.ShloMosaic Idealize.SL.Sem

variable {F : FTy → Type} [FloatOps F]

/-- The bodies are equal. -/
theorem defs0_eq : (@Cert.Kernel.defs₀ F _ Cert.Kernel.Gen.facts) = (@Cert.KernelIdeal.defs₀ F _ Cert.KernelIdeal.Gen.facts) := by
  funext c ℓ x
  match c, ℓ, x with
  | .tc, 0, (t, s) => rfl
  | .scScalar _, 0, _ => rfl
  | .scVector _ _, 0, _ => rfl

/-- The mains are equal. -/
theorem main_eq : (@Cert.Kernel.main F Cert.Kernel.Gen.facts) = (@Cert.KernelIdeal.main F Cert.KernelIdeal.Gen.facts) := rfl

theorem defs_eq : (@Cert.Kernel.defs F _ Cert.Kernel.Gen.facts) = (@Cert.KernelIdeal.defs F _ Cert.KernelIdeal.Gen.facts) :=
  congrArg (Pipeline.defs (@Cert.KernelIdeal.pcfgs F Cert.KernelIdeal.Gen.facts)) defs0_eq

/-- The frame, on bits. -/
theorem frame : Cert.quiescent_Kernel (hKernel := Cert.Kernel.Gen.facts) := by
  intro m ρ _
  have h := Cert.KernelIdeal.Hand.frame_main (F := Bits) m ρ
  rw [← defs_eq, ← main_eq] at h
  exact h

end Cert.Kernel.Hand

end
-- ==== Proof.Row.lean ====
/-
  The straight-line middle of a level of five and five rows, told by its regularities and for any widths.

  Between the waits at its head and the transfers at its tail the kernel at one grid point is one straight line of
  loads and stores, printed unrolled. Here the same line is put together from a few programs, each a function of the
  row, the chunk or the tap it serves: `upRow` writes one up-sampled row of the coarser level's codes, `quantRow`
  computes, quantises and lays out one row of codes, `copyRow` copies one laid-out row between the two operands of the
  convolution, `convGroup` convolves two rows and `convOne` the odd one. `mid` is their composition. The widths are
  those of a `Sizes`, so that one proof serves levels 3 and 4.
-/
module

public import proofs.«01_k».proof.Proof.Rules
public import Idealize.ShloMosaic.Lib.Pointwise
public import Idealize.ShloMosaic.Lib.ValueLayout

@[expose] public section

set_option maxRecDepth 16384

noncomputable section

namespace Cert.Rows

open Idealize.ShloMosaic Idealize.ShloMosaic.TcCoe Idealize.SL.Sem

/-- The widths of a level: columns of the map and of the coarser map, columns of the up-sampled scratch, positions of a
laid-out row and of a row's scratch, channels of the input. -/
structure Sizes where
  w : ℕ
  cw : ℕ
  uw : ℕ
  p : ℕ
  qp : ℕ
  ci : ℕ
  cw0 : 0 < cw
  w0 : 0 < w
  p0 : 0 < p
  ci0 : 0 < ci
  w2 : w = 2 * cw
  wu : w ≤ uw
  wp : w ≤ p
  pq : qp = p + 16
  w4 : 4 ∣ w
  p4 : 4 ∣ p

abbrev Sh1 (a : ℕ) : Shape := ⟨1, ![a]⟩
abbrev Sh2 (a b : ℕ) : Shape := ⟨2, ![a, b]⟩
abbrev Sh3 (a b c : ℕ) : Shape := ⟨3, ![a, b, c]⟩
abbrev Sh4 (a b c d : ℕ) : Shape := ⟨4, ![a, b, c, d]⟩

/-- The type of the kernel's programs. -/
abbrev PR (nD : ℕ) (τ : Topo) (sig : RefSig) (Λ : Labels) (F : FTy → Type) (α : Type) := Prog (TpuEff nD τ sig (Elt F) Λ .tc) α

variable {nD : ℕ} {τ : Topo} {sig : RefSig} {Λ : Labels} {F : FTy → Type} [FloatOps F]

/-! ## The evidence the operations take -/

theorem pos2 {a b : ℕ} (ha : 0 < a) (hb : 0 < b) : 0 < (Sh2 a b).numel := by
  simp only [Shape.numel, Fin.prod_univ_two]; exact Nat.mul_pos ha hb
theorem pos3 {a b c : ℕ} (ha : 0 < a) (hb : 0 < b) (hc : 0 < c) : 0 < (Sh3 a b c).numel := by
  simp only [Shape.numel, Fin.prod_univ_three]; exact Nat.mul_pos (Nat.mul_pos ha hb) hc
theorem pos4 {a b c d : ℕ} (ha : 0 < a) (hb : 0 < b) (hc : 0 < c) (hd : 0 < d) : 0 < (Sh4 a b c d).numel := by
  simp only [Shape.numel, Fin.prod_univ_four]; exact Nat.mul_pos (Nat.mul_pos (Nat.mul_pos ha hb) hc) hd

theorem cast1 {a b : ℕ} : (Sh2 a b).ShapeCasts (Sh3 1 a b) := by
  simp [Shape.ShapeCasts, Shape.numel, Fin.prod_univ_succ]
theorem cast1r {a b : ℕ} : (Sh3 1 a b).ShapeCasts (Sh2 a b) := cast1.symm
theorem cast11 {a b : ℕ} : (Sh2 a b).ShapeCasts (Sh4 1 1 a b) := by
  simp [Shape.ShapeCasts, Shape.numel, Fin.prod_univ_succ]
theorem cast11r {a b : ℕ} : (Sh4 1 1 a b).ShapeCasts (Sh2 a b) := cast11.symm
theorem cast2r {a b : ℕ} : (Sh3 2 a b).ShapeCasts (Sh2 (2 * a) b) := by
  simp [Shape.ShapeCasts, Shape.numel, Fin.prod_univ_succ, Nat.mul_assoc]

theorem bcast {a b : ℕ} : (Sh2 1 b).Broadcasts (Sh2 a b) :=
  ⟨Nat.le_refl _, fun i => match i with
    | 0 => .inl rfl
    | 1 => .inr fun _ => rfl⟩

theorem cat2 {a b c d : ℕ} (h : b + c = d) : Shape.Concatenates [Sh2 a b, Sh2 a c] (Sh2 a d) 1 := by
  refine ⟨Nat.le_of_ble_eq_true rfl, fun s hs => ?_, by simpa using h⟩
  have hs : s = Sh2 a b ∨ s = Sh2 a c := by simpa using hs
  rcases hs with rfl | rfl <;> exact ⟨rfl, fun i hi => match i with
    | 0 => rfl
    | 1 => absurd rfl hi⟩
theorem cat3 {a b c : ℕ} (h : b + (b + b) = c) : Shape.Concatenates [Sh2 a b, Sh2 a b, Sh2 a b] (Sh2 a c) 1 := by
  refine ⟨Nat.le_of_ble_eq_true rfl, fun s hs => ?_, by simpa using h⟩
  obtain rfl : s = Sh2 a b := by simpa using hs
  exact ⟨rfl, fun i hi => match i with
    | 0 => rfl
    | 1 => absurd rfl hi⟩

theorem perm10 (l l' l'' : List (Fin 2)) (h : (l ++ l' ++ l'').Perm (List.finRange 2)) : (l ++ l' ++ l'').Perm (List.finRange 2) := h

/-- A plain product's dimensions. -/
def mmDims (m k n : ℕ) : DotDims (Sh2 m k) (Sh2 k n) (Sh2 m n) where
  lhsContracting := [1]
  rhsContracting := [0]
  lhsNonContracting := [0]
  rhsNonContracting := [1]
  lhsBatch := []
  rhsBatch := []
  wf := ⟨rfl, by simp, rfl, by simp, by simp, by simp, perm10 [] [0] [1] (by decide), perm10 [] [1] [0] (by decide), rfl, Nat.le_of_ble_eq_true rfl, fun b => match b with
    | 0 => rfl
    | 1 => rfl⟩

theorem stride2 : ∀ a, 0 < (![1, 1, 2, 1] : Fin 4 → ℕ) a := by decide

theorem inb1 : ∀ a, (![0] : Fin 1 → ℕ) a + (Sh1 1).size a ≤ (Sh1 1).size a := by decide

theorem inb2 {a b a' b' x y : ℕ} (h0 : x + a' ≤ a) (h1 : y + b' ≤ b) :
    ∀ i : Fin 2, (![x, y] : Fin 2 → ℕ) i + (![a', b'] : Fin 2 → ℕ) i ≤ (![a, b] : Fin 2 → ℕ) i := by
  intro i; match i with
  | 0 => exact h0
  | 1 => exact h1

theorem inb3 {a b c a' b' c' x y z : ℕ} (h0 : x + a' ≤ a) (h1 : y + b' ≤ b) (h2 : z + c' ≤ c) :
    ∀ i : Fin 3, (![x, y, z] : Fin 3 → ℕ) i + (![a', b', c'] : Fin 3 → ℕ) i ≤ (![a, b, c] : Fin 3 → ℕ) i := by
  intro i; match i with
  | 0 => exact h0
  | 1 => exact h1
  | 2 => exact h2

theorem inb4 {a b c d a' b' c' d' x y z w : ℕ} (h0 : x + a' ≤ a) (h1 : y + b' ≤ b) (h2 : z + c' ≤ c) (h3 : w + d' ≤ d) :
    ∀ i : Fin 4, (![x, y, z, w] : Fin 4 → ℕ) i + (![a', b', c', d'] : Fin 4 → ℕ) i ≤ (![a, b, c, d] : Fin 4 → ℕ) i := by
  intro i; match i with
  | 0 => exact h0
  | 1 => exact h1
  | 2 => exact h2
  | 3 => exact h3

/-- A slice of a two-axis shape: the bounds of its two axes. -/
theorem slices2 {a b a' b' x y : ℕ} (h0 : x + a' ≤ a) (h1 : y + b' ≤ b) : (⟨2, ![a, b]⟩ : Shape).Slices ![x, y] ⟨2, ![a', b']⟩ := by
  refine ⟨rfl, fun i => ?_⟩
  match i with
  | 0 => exact h0
  | 1 => exact h1

/-! ## Rectangles -/

variable (z : Sizes)

/-- Row `k`, parity `par` of the columns, chunk `c` of the up-sampled rows. -/
abbrev rUp (k c par : ℕ) (hk : k < 5) (hc : c < 3) (hp : par < 2) : Rect (Sh4 5 3 z.uw 128) :=
  ⟨⟨![k, c, par, 0], (Sh4 1 1 z.cw 128).size, ![1, 1, 2, 1], by
    have := z.cw0; have := z.w2; have := z.wu
    intro i; right; match i with
    | 0 => show k + 1 * (1 - 1) < 5; omega
    | 1 => show c + 1 * (1 - 1) < 3; omega
    | 2 => show par + 2 * (z.cw - 1) < z.uw; omega
    | 3 => show 0 + 1 * (128 - 1) < 128; omega⟩, stride2⟩

/-- Row `k` of the block of the coarser level's codes. -/
abbrev rQ3 (k : ℕ) (hk : k < 5) : Rect (Sh3 5 z.cw 384) := Rect.unit (s := (Sh3 5 z.cw 384)) ![k, 0, 0] (Sh3 1 z.cw 384).size (inb3 (by omega) (by omega) (by omega))
/-- Row `r` of the block of the input's codes. -/
abbrev rC (r : ℕ) (hr : r < 10) : Rect (Sh3 10 z.w z.ci) := Rect.unit (s := (Sh3 10 z.w z.ci)) ![r, 0, 0] (Sh3 1 z.w z.ci).size (inb3 (by omega) (by omega) (by omega))
/-- Chunk `c` of row `k` of the up-sampled rows. -/
abbrev rU (k c : ℕ) (hk : k < 5) (hc : c < 3) : Rect (Sh4 5 3 z.uw 128) :=
  Rect.unit (s := (Sh4 5 3 z.uw 128)) ![k, c, 0, 0] (Sh4 1 1 z.w 128).size (inb4 (by omega) (by omega) (by have := z.wu; omega) (by omega))
/-- Chunk `c` (lanes `128c …`) of row `r` of the block of codes. -/
abbrev rCode (r l : ℕ) (hr : r < 10) (hl : l ≤ 256) : Rect (Sh3 10 z.w 384) :=
  Rect.unit (s := (Sh3 10 z.w 384)) ![r, 0, l] (Sh3 1 z.w 128).size (inb3 (by omega) (by omega) (by omega))
/-- Chunk `c` of slot `s` of the quantised rows, from position 8. -/
abbrev rQw (s c : ℕ) (hs : s < 2) (hc : c < 3) : Rect (Sh4 2 3 z.qp 128) :=
  Rect.unit (s := (Sh4 2 3 z.qp 128)) ![s, c, 8, 0] (Sh4 1 1 z.w 128).size (inb4 (by omega) (by omega) (by have := z.wp; have := z.pq; omega) (by omega))
/-- The same, read from position `p`. -/
abbrev rQr (s c p : ℕ) (hs : s < 2) (hc : c < 3) (hp : p < 10) : Rect (Sh4 2 3 z.qp 128) :=
  Rect.unit (s := (Sh4 2 3 z.qp 128)) ![s, c, p, 0] (Sh4 1 1 z.p 128).size (inb4 (by omega) (by omega) (by have := z.pq; omega) (by omega))
/-- Lanes `l …` of laid-out row `x`. -/
abbrev rX (x l : ℕ) (hx : x < 7) (hl : l ≤ 1024) : Rect (Sh3 7 z.p 1152) :=
  Rect.unit (s := (Sh3 7 z.p 1152)) ![x, 0, l] (Sh3 1 z.p 128).size (inb3 (by omega) (by omega) (by omega))
/-- The whole of laid-out row `x`. -/
abbrev rXrow (x : ℕ) (hx : x < 7) : Rect (Sh3 7 z.p 1152) :=
  Rect.unit (s := (Sh3 7 z.p 1152)) ![x, 0, 0] (Sh3 1 z.p 1152).size (inb3 (by omega) (by omega) (by omega))
/-- Laid-out rows `x` and `x + 1`. -/
abbrev rXtwo (x : ℕ) (hx : x < 6) : Rect (Sh3 7 z.p 1152) :=
  Rect.unit (s := (Sh3 7 z.p 1152)) ![x, 0, 0] (Sh3 2 z.p 1152).size (inb3 (by omega) (by omega) (by omega))
/-- Row `o` of the five output rows. -/
abbrev rO (o : ℕ) (ho : o < 5) : Rect (Sh3 5 z.w 384) :=
  Rect.unit (s := (Sh3 5 z.w 384)) ![o, 0, 0] (Sh3 1 z.w 384).size (inb3 (by omega) (by omega) (by omega))

theorem packed_rCode : ∀ (r l : ℕ) (hr : r < 10) (hl : l ≤ 256), (rCode z r l hr hl).PackedRows (EltTy.packing .fp8e4m3) :=
  fun r l hr hl => by
    refine .inr ⟨(Nat.le_of_ble_eq_true rfl : 2 ≤ (Sh3 10 z.w 384).rank), rfl, .inl ⟨Nat.dvd_zero _, ?_⟩⟩
    show EltTy.packing .fp8e4m3 ∣ z.w
    exact z.w4
theorem packed_rX : ∀ (x l : ℕ) (hx : x < 7) (hl : l ≤ 1024), (rX z x l hx hl).PackedRows (EltTy.packing .fp8e4m3) :=
  fun r l hr hl => by
    refine .inr ⟨(Nat.le_of_ble_eq_true rfl : 2 ≤ (Sh3 7 z.p 1152).rank), rfl, .inl ⟨Nat.dvd_zero _, ?_⟩⟩
    show EltTy.packing .fp8e4m3 ∣ z.p
    exact z.p4
theorem packed_rXrow : ∀ (x : ℕ) (hx : x < 7), (rXrow z x hx).PackedRows (EltTy.packing .fp8e4m3) :=
  fun r hr => by
    refine .inr ⟨(Nat.le_of_ble_eq_true rfl : 2 ≤ (Sh3 7 z.p 1152).rank), rfl, .inl ⟨Nat.dvd_zero _, ?_⟩⟩
    show EltTy.packing .fp8e4m3 ∣ z.p
    exact z.p4
theorem packed_rO : ∀ (o : ℕ) (ho : o < 5), (rO z o ho).PackedRows (EltTy.packing .bf16) :=
  fun r hr => by
    refine .inr ⟨(Nat.le_of_ble_eq_true rfl : 2 ≤ (Sh3 5 z.w 384).rank), rfl, .inl ⟨Nat.dvd_zero _, ?_⟩⟩
    show EltTy.packing .bf16 ∣ z.w
    exact Dvd.dvd.trans (by decide) z.w4

/-! ## The programs -/

section

variable (arg1 : Memref sig .tc .vmem (Sh3 10 z.w z.ci) .fp8e4m3) (arg3 : Memref sig .tc .vmem (Sh2 z.ci 384) .fp8e4m3)
  (arg6 : Memref sig .tc .vmem (Sh2 3456 384) .fp8e4m3) (arg11 : Memref sig .tc .vmem (Sh3 5 z.cw 384) .fp8e4m3)
  (arg14 : Memref sig .tc .vmem (Sh3 10 z.w 384) .fp8e4m3) (h14 : arg14.IsWhole)
  (arg15 : Memref sig .tc .vmem (Sh4 5 3 z.uw 128) .f32) (arg16 : Memref sig .tc .vmem (Sh4 2 3 z.qp 128) .f32)

/-- One store of up-sampled values: the columns of parity `par`, chunk `c`, row `k`. -/
def upStore (k c par : ℕ) (hk : k < 5) (hc : c < 3) (hp : par < 2) (v : FVec F (Sh2 z.cw 128) .f32) : PR nD τ sig Λ F PUnit := do
  let _ : Vec F (Sh4 1 1 z.cw 128) .f32 ← Prog.lift (.load arg15 (rUp z k c par hk hc hp).toLoadRect (View.loadsAt_vmem (pos4 (by decide) (by decide) z.cw0 (by decide))))
  Prog.lift (.store arg15 (rUp z k c par hk hc hp) (shapeCast (Sh4 1 1 z.cw 128) v cast11) Finset.univ
    (View.stores_vmem_bits_univ (pos4 (by decide) (by decide) z.cw0 (by decide)) rfl) (.inl rfl))

/-- The dequantised codes of one row of the coarser level. -/
def deq (qs : Elt F .f32) (q : Vec F (Sh3 1 z.cw 384) .fp8e4m3) : FVec F (Sh2 z.cw 384) .f32 :=
  mulf (extf .f32 (shapeCast (Sh2 z.cw 384) q cast1r) (by decide)) (broadcast (Sh2 z.cw 384) qs)

/-- Chunk `c` of a dequantised row. -/
abbrev deqChunk (c : ℕ) (hc : c < 3) (v : FVec F (Sh2 z.cw 384) .f32) : FVec F (Sh2 z.cw 128) .f32 :=
  extractStridedSlice (Sh2 z.cw 128) ![0, 128 * c] v (slices2 (by omega) (by omega))

/-- Both parities of chunk `c`. -/
def upChunk (k c : ℕ) (hk : k < 5) (hc : c < 3) (v : FVec F (Sh2 z.cw 384) .f32) : PR nD τ sig Λ F PUnit := do
  upStore z arg15 k c 0 hk hc (by omega) (deqChunk z c hc v)
  upStore z arg15 k c 1 hk hc (by omega) (deqChunk z c hc v)

/-- One up-sampled row: a row of the coarser level's codes, dequantised, each column twice. -/
def upRow (k : ℕ) (hk : k < 5) (qs : Elt F .f32) : PR nD τ sig Λ F PUnit := do
  let q : Vec F (Sh3 1 z.cw 384) .fp8e4m3 ← Prog.lift (.load arg11 (rQ3 z k hk).toLoadRect (View.loadsAt_vmem (pos3 (by decide) z.cw0 (by decide))))
  upChunk z arg15 k 0 hk (by omega) (deq z qs q)
  upChunk z arg15 k 1 hk (by omega) (deq z qs q)
  upChunk z arg15 k 2 hk (by omega) (deq z qs q)

/-- The lateral product of one row. -/
def latDot (w : Vec F (Sh2 z.ci 384) .fp8e4m3) (w' : Vec F (Sh2 z.ci 128) .fp8e4m3) (x : Vec F (Sh3 1 z.w z.ci) .fp8e4m3) : FVec F (Sh2 z.w 512) .f32 :=
  matmul (mmDims z.w z.ci 512) none (shapeCast (Sh2 z.w z.ci) x cast1r)
    (concatenate (Sh2 z.ci 512) 1 [⟨(Sh2 z.ci 384), w⟩, ⟨(Sh2 z.ci 128), w'⟩] (cat2 rfl)) (constant (Sh2 z.w 512) .f32 0x00000000#32)

/-- Chunk `c` of the merged row: scaled, biased, the up-sampled row added. -/
def merged (c : ℕ) (hc : c < 3) (sc bi : FVec F (Sh2 1 384) .f32) (y : FVec F (Sh2 z.w 512) .f32) (u : Vec F (Sh4 1 1 z.w 128) .f32) : FVec F (Sh2 z.w 128) .f32 :=
  addf (addf (mulf (extractStridedSlice (Sh2 z.w 128) ![0, 128 * c] y (slices2 (by omega) (by omega)))
      (broadcastTo (Sh2 z.w 128) (extractStridedSlice (Sh2 1 128) ![0, 128 * c] sc (slices2 (by omega) (by omega))) bcast))
    (broadcastTo (Sh2 z.w 128) (extractStridedSlice (Sh2 1 128) ![0, 128 * c] bi (slices2 (by omega) (by omega))) bcast))
    (shapeCast (Sh2 z.w 128) u cast11r)

/-- The quantiser before its rounding: the merged values over the scale, clipped to ±448. -/
def clipped (inv : Elt F .f32) (v : FVec F (Sh2 z.w 128) .f32) : FVec F (Sh2 z.w 128) .f32 :=
  minimumf (broadcast (Sh2 z.w 128) (Scalar.ofBits .f32 0x43E00000#32))
    (maximumf (broadcast (Sh2 z.w 128) (Scalar.ofBits .f32 0xC3E00000#32)) (mulf v (broadcast (Sh2 z.w 128) inv)))

/-- One chunk of a row is stored: as codes, and unrounded for the layout. -/
def quantStore (r s c l : ℕ) (hr : r < 10) (hs : s < 2) (hc : c < 3) (hl : l ≤ 256) (v : FVec F (Sh2 z.w 128) .f32) : PR nD τ sig Λ F PUnit := do
  let _ : Vec F (Sh3 1 z.w 128) .fp8e4m3 ← Prog.lift (.load arg14 (rCode z r l hr hl).toLoadRect (View.loadsAt_vmem (pos3 (by decide) z.w0 (by decide))))
  Prog.lift (.store arg14 (rCode z r l hr hl) (shapeCast (Sh3 1 z.w 128) (truncf .fp8e4m3 v (by decide)) cast1) Finset.univ
    (View.stores_vmem (pos3 (by decide) z.w0 (by decide)) (h14.storeExact_slice rfl _ (packed_rCode z r l hr hl)) (fun _ => rfl)) (.inl rfl))
  let _ : Vec F (Sh4 1 1 z.w 128) .f32 ← Prog.lift (.load arg16 (rQw z s c hs hc).toLoadRect (View.loadsAt_vmem (pos4 (by decide) (by decide) z.w0 (by decide))))
  Prog.lift (.store arg16 (rQw z s c hs hc) (shapeCast (Sh4 1 1 z.w 128) v cast11) Finset.univ
    (View.stores_vmem_bits_univ (pos4 (by decide) (by decide) z.w0 (by decide)) rfl) (.inl rfl))

/-- One tap of one chunk of a row is laid out: what the quantised row holds from position `p` on. -/
def tapStore (x : Memref sig .tc .vmem (Sh3 7 z.p 1152) .fp8e4m3) (hx : x.IsWhole) (s c p k l : ℕ) (hs : s < 2) (hc : c < 3) (hp : p < 10) (hk : k < 7) (hl : l ≤ 1024) :
    PR nD τ sig Λ F PUnit := do
  let v : Vec F (Sh4 1 1 z.p 128) .f32 ← Prog.lift (.load arg16 (rQr z s c p hs hc hp).toLoadRect (View.loadsAt_vmem (pos4 (by decide) (by decide) z.p0 (by decide))))
  let _ : Vec F (Sh3 1 z.p 128) .fp8e4m3 ← Prog.lift (.load x (rX z k l hk hl).toLoadRect (View.loadsAt_vmem (pos3 (by decide) z.p0 (by decide))))
  Prog.lift (.store x (rX z k l hk hl)
    (shapeCast (Sh3 1 z.p 128) (truncf .fp8e4m3 (shapeCast (Sh2 z.p 128) v cast11r) (by decide)) cast1) Finset.univ
    (View.stores_vmem (pos3 (by decide) z.p0 (by decide)) (hx.storeExact_slice rfl _ (packed_rX z k l hk hl)) (fun _ => rfl)) (.inl rfl))

/-- The three taps of one chunk. -/
def tapChunk (x : Memref sig .tc .vmem (Sh3 7 z.p 1152) .fp8e4m3) (hx : x.IsWhole) (s c k : ℕ) (hs : s < 2) (hc : c < 3) (hk : k < 7) : PR nD τ sig Λ F PUnit := do
  tapStore z arg16 x hx s c 7 k (128 * c) hs hc (by omega) hk (by omega)
  tapStore z arg16 x hx s c 8 k (384 + 128 * c) hs hc (by omega) hk (by omega)
  tapStore z arg16 x hx s c 9 k (768 + 128 * c) hs hc (by omega) hk (by omega)

/-- One row of codes: computed, stored, laid out as row `k` of `x`. -/
def quantRow (x : Memref sig .tc .vmem (Sh3 7 z.p 1152) .fp8e4m3) (hx : x.IsWhole) (r u s k : ℕ) (hr : r < 10) (hu : u < 5) (hs : s < 2) (hk : k < 7)
    (sc bi : FVec F (Sh2 1 384) .f32) (inv : Elt F .f32) : PR nD τ sig Λ F PUnit := do
  let w : Vec F (Sh2 z.ci 384) .fp8e4m3 ← Prog.lift (.load arg3 (Rect.unit (s := (Sh2 z.ci 384)) ![0, 0] (Sh2 z.ci 384).size (inb2 (by omega) (by omega))).toLoadRect (View.loadsAt_vmem (pos2 z.ci0 (by decide))))
  let w' : Vec F (Sh2 z.ci 128) .fp8e4m3 ← Prog.lift (.load arg3 (Rect.unit (s := (Sh2 z.ci 384)) ![0, 0] (Sh2 z.ci 128).size (inb2 (by omega) (by omega))).toLoadRect (View.loadsAt_vmem (pos2 z.ci0 (by decide))))
  let y : Vec F (Sh3 1 z.w z.ci) .fp8e4m3 ← Prog.lift (.load arg1 (rC z r hr).toLoadRect (View.loadsAt_vmem (pos3 (by decide) z.w0 z.ci0)))
  let u0 : Vec F (Sh4 1 1 z.w 128) .f32 ← Prog.lift (.load arg15 (rU z u 0 hu (by omega)).toLoadRect (View.loadsAt_vmem (pos4 (by decide) (by decide) z.w0 (by decide))))
  let u1 : Vec F (Sh4 1 1 z.w 128) .f32 ← Prog.lift (.load arg15 (rU z u 1 hu (by omega)).toLoadRect (View.loadsAt_vmem (pos4 (by decide) (by decide) z.w0 (by decide))))
  let u2 : Vec F (Sh4 1 1 z.w 128) .f32 ← Prog.lift (.load arg15 (rU z u 2 hu (by omega)).toLoadRect (View.loadsAt_vmem (pos4 (by decide) (by decide) z.w0 (by decide))))
  quantStore z arg14 h14 arg16 r s 0 0 hr hs (by omega) (by omega) (clipped z inv (merged z 0 (by omega) sc bi (latDot z w w' y) u0))
  quantStore z arg14 h14 arg16 r s 1 128 hr hs (by omega) (by omega) (clipped z inv (merged z 1 (by omega) sc bi (latDot z w w' y) u1))
  quantStore z arg14 h14 arg16 r s 2 256 hr hs (by omega) (by omega) (clipped z inv (merged z 2 (by omega) sc bi (latDot z w w' y) u2))
  tapChunk z arg16 x hx s 0 k hs (by omega) hk
  tapChunk z arg16 x hx s 1 k hs (by omega) hk
  tapChunk z arg16 x hx s 2 k hs (by omega) hk

/-- A laid-out row is copied, or zeroes in its place when `keep` is off. -/
def copyKeep (src : Memref sig .tc .vmem (Sh3 7 z.p 1152) .fp8e4m3) (dst : Memref sig .tc .vmem (Sh3 7 z.p 1152) .fp8e4m3) (hd : dst.IsWhole) (a b : ℕ) (ha : a < 7) (hb : b < 7)
    (keep : BitVec 1) : PR nD τ sig Λ F PUnit := do
  let v : Vec F (Sh3 1 z.p 1152) .fp8e4m3 ← Prog.lift (.load src (rXrow z a ha).toLoadRect (View.loadsAt_vmem (pos3 (by decide) z.p0 (by decide))))
  let _ : Vec F (Sh3 1 z.p 1152) .fp8e4m3 ← Prog.lift (.load dst (rXrow z b hb).toLoadRect (View.loadsAt_vmem (pos3 (by decide) z.p0 (by decide))))
  Prog.lift (.store dst (rXrow z b hb)
    (shapeCast (Sh3 1 z.p 1152) (Scalar.select keep (shapeCast (Sh2 z.p 1152) v cast1r)
      (broadcast (Sh2 z.p 1152) (Scalar.ofBits .fp8e4m3 0x00#8))) cast1) Finset.univ
    (View.stores_vmem (pos3 (by decide) z.p0 (by decide)) (hd.storeExact_slice rfl _ (packed_rXrow z b hb)) (fun _ => rfl)) (.inl rfl))

/-- A laid-out row is copied. -/
def copyRow (src : Memref sig .tc .vmem (Sh3 7 z.p 1152) .fp8e4m3) (dst : Memref sig .tc .vmem (Sh3 7 z.p 1152) .fp8e4m3) (hd : dst.IsWhole) (a b : ℕ) (ha : a < 7) (hb : b < 7) :
    PR nD τ sig Λ F PUnit := do
  let v : Vec F (Sh3 1 z.p 1152) .fp8e4m3 ← Prog.lift (.load src (rXrow z a ha).toLoadRect (View.loadsAt_vmem (pos3 (by decide) z.p0 (by decide))))
  let _ : Vec F (Sh3 1 z.p 1152) .fp8e4m3 ← Prog.lift (.load dst (rXrow z b hb).toLoadRect (View.loadsAt_vmem (pos3 (by decide) z.p0 (by decide))))
  Prog.lift (.store dst (rXrow z b hb)
    (shapeCast (Sh3 1 z.p 1152) (shapeCast (Sh2 z.p 1152) v cast1r) cast1) Finset.univ
    (View.stores_vmem (pos3 (by decide) z.p0 (by decide)) (hd.storeExact_slice rfl _ (packed_rXrow z b hb)) (fun _ => rfl)) (.inl rfl))

/-- The convolution's product for two output rows. -/
def convDot (a b c : Vec F (Sh3 2 z.p 1152) .fp8e4m3) (w : Vec F (Sh2 3456 384) .fp8e4m3) : FVec F (Sh2 (2 * z.p) 384) .f32 :=
  matmul (mmDims (2 * z.p) 3456 384) none
    (concatenate (Sh2 (2 * z.p) 3456) 1 [⟨(Sh2 (2 * z.p) 1152), shapeCast (Sh2 (2 * z.p) 1152) a cast2r⟩, ⟨(Sh2 (2 * z.p) 1152), shapeCast (Sh2 (2 * z.p) 1152) b cast2r⟩,
      ⟨(Sh2 (2 * z.p) 1152), shapeCast (Sh2 (2 * z.p) 1152) c cast2r⟩] (cat3 rfl))
    (shapeCast (Sh2 3456 384) w rfl) (constant (Sh2 (2 * z.p) 384) .f32 0x00000000#32)

/-- One output row: its part of the product, scaled, biased and rounded. -/
def outRow (l : ℕ) (hl : l ≤ z.p) (so bo : FVec F (Sh2 1 384) .f32) (y : FVec F (Sh2 (2 * z.p) 384) .f32) : FVec F (Sh2 z.w 384) .bf16 :=
  truncf .bf16 (addf (mulf (extractStridedSlice (Sh2 z.w 384) ![l, 0] y (slices2 (by have := z.wp; omega) (by omega))) (broadcastTo (Sh2 z.w 384) so bcast))
    (broadcastTo (Sh2 z.w 384) bo bcast)) (by decide)

/-- An output row is stored. -/
def outStore (o : Memref sig .tc .vmem (Sh3 5 z.w 384) .bf16) (ho : o.IsWhole) (j : ℕ) (hj : j < 5) (v : FVec F (Sh2 z.w 384) .bf16) : PR nD τ sig Λ F PUnit := do
  let _ : Vec F (Sh3 1 z.w 384) .bf16 ← Prog.lift (.load o (rO z j hj).toLoadRect (View.loadsAt_vmem (pos3 (by decide) z.w0 (by decide))))
  Prog.lift (.store o (rO z j hj) (shapeCast (Sh3 1 z.w 384) v cast1) Finset.univ
    (View.stores_vmem (pos3 (by decide) z.w0 (by decide)) (ho.storeExact_slice rfl _ (packed_rO z j hj)) (fun _ => rfl)) (.inl rfl))

/-- Two output rows, `j` and `j + 1`. -/
def convGroup (x : Memref sig .tc .vmem (Sh3 7 z.p 1152) .fp8e4m3) (o : Memref sig .tc .vmem (Sh3 5 z.w 384) .bf16) (ho : o.IsWhole) (j : ℕ) (hj : j < 3)
    (so bo : FVec F (Sh2 1 384) .f32) : PR nD τ sig Λ F PUnit := do
  let a : Vec F (Sh3 2 z.p 1152) .fp8e4m3 ← Prog.lift (.load x (rXtwo z j (by omega)).toLoadRect (View.loadsAt_vmem (pos3 (by decide) z.p0 (by decide))))
  let b : Vec F (Sh3 2 z.p 1152) .fp8e4m3 ← Prog.lift (.load x (rXtwo z (j + 1) (by omega)).toLoadRect (View.loadsAt_vmem (pos3 (by decide) z.p0 (by decide))))
  let c : Vec F (Sh3 2 z.p 1152) .fp8e4m3 ← Prog.lift (.load x (rXtwo z (j + 2) (by omega)).toLoadRect (View.loadsAt_vmem (pos3 (by decide) z.p0 (by decide))))
  let w : Vec F (Sh2 3456 384) .fp8e4m3 ← Prog.lift (.load arg6 (Rect.unit (s := (Sh2 3456 384)) ![0, 0] (Sh2 3456 384).size (inb2 (by omega) (by omega))).toLoadRect (View.loadsAt_vmem (pos2 (by decide) (by decide))))
  outStore z o ho j (by omega) (outRow z 0 (by omega) so bo (convDot z a b c w))
  outStore z o ho (j + 1) (by omega) (outRow z z.p (by omega) so bo (convDot z a b c w))

/-- The convolution's product for one output row. -/
def convDot1 (a b c : Vec F (Sh3 1 z.p 1152) .fp8e4m3) (w : Vec F (Sh2 3456 384) .fp8e4m3) : FVec F (Sh2 z.p 384) .f32 :=
  matmul (mmDims z.p 3456 384) none
    (concatenate (Sh2 z.p 3456) 1 [⟨(Sh2 z.p 1152), shapeCast (Sh2 z.p 1152) a cast1r⟩, ⟨(Sh2 z.p 1152), shapeCast (Sh2 z.p 1152) b cast1r⟩,
      ⟨(Sh2 z.p 1152), shapeCast (Sh2 z.p 1152) c cast1r⟩] (cat3 rfl))
    (shapeCast (Sh2 3456 384) w rfl) (constant (Sh2 z.p 384) .f32 0x00000000#32)

/-- The one output row: its part of the product, scaled, biased and rounded. -/
def outRow1 (so bo : FVec F (Sh2 1 384) .f32) (y : FVec F (Sh2 z.p 384) .f32) : FVec F (Sh2 z.w 384) .bf16 :=
  truncf .bf16 (addf (mulf (extractStridedSlice (Sh2 z.w 384) ![0, 0] y (slices2 (by have := z.wp; omega) (by omega))) (broadcastTo (Sh2 z.w 384) so bcast))
    (broadcastTo (Sh2 z.w 384) bo bcast)) (by decide)

/-- One output row, `j`. -/
def convOne (x : Memref sig .tc .vmem (Sh3 7 z.p 1152) .fp8e4m3) (o : Memref sig .tc .vmem (Sh3 5 z.w 384) .bf16) (ho : o.IsWhole) (j : ℕ) (hj : j < 5)
    (so bo : FVec F (Sh2 1 384) .f32) : PR nD τ sig Λ F PUnit := do
  let a : Vec F (Sh3 1 z.p 1152) .fp8e4m3 ← Prog.lift (.load x (rXrow z j (by omega)).toLoadRect (View.loadsAt_vmem (pos3 (by decide) z.p0 (by decide))))
  let b : Vec F (Sh3 1 z.p 1152) .fp8e4m3 ← Prog.lift (.load x (rXrow z (j + 1) (by omega)).toLoadRect (View.loadsAt_vmem (pos3 (by decide) z.p0 (by decide))))
  let c : Vec F (Sh3 1 z.p 1152) .fp8e4m3 ← Prog.lift (.load x (rXrow z (j + 2) (by omega)).toLoadRect (View.loadsAt_vmem (pos3 (by decide) z.p0 (by decide))))
  let w : Vec F (Sh2 3456 384) .fp8e4m3 ← Prog.lift (.load arg6 (Rect.unit (s := (Sh2 3456 384)) ![0, 0] (Sh2 3456 384).size (inb2 (by omega) (by omega))).toLoadRect (View.loadsAt_vmem (pos2 (by decide) (by decide))))
  outStore z o ho j hj (outRow1 z so bo (convDot1 z a b c w))

end

/-- The scale row, the bias row, the output's scale row and bias row, the inverse scale: what the kernel reads once. -/
structure Consts (F : FTy → Type) where
  sc : FVec F (Sh2 1 384) .f32
  bi : FVec F (Sh2 1 384) .f32
  so : FVec F (Sh2 1 384) .f32
  bo : FVec F (Sh2 1 384) .f32
  inv : Elt F .f32

section

variable (arg1 : Memref sig .tc .vmem (Sh3 10 z.w z.ci) .fp8e4m3) (arg2 : Memref sig .tc .smem (Sh1 1) .f32) (arg3 : Memref sig .tc .vmem (Sh2 z.ci 384) .fp8e4m3)
  (arg4 arg5 : Memref sig .tc .vmem (Sh2 1 384) .f32) (arg6 : Memref sig .tc .vmem (Sh2 3456 384) .fp8e4m3) (arg7 arg8 : Memref sig .tc .vmem (Sh2 1 384) .f32)
  (arg9 arg10 : Memref sig .tc .smem (Sh1 1) .f32) (arg11 : Memref sig .tc .vmem (Sh3 5 z.cw 384) .fp8e4m3) (arg12 : Memref sig .tc .smem (Sh1 1) .f32)
  (arg14 : Memref sig .tc .vmem (Sh3 10 z.w 384) .fp8e4m3) (h14 : arg14.IsWhole)
  (arg15 : Memref sig .tc .vmem (Sh4 5 3 z.uw 128) .f32) (arg16 : Memref sig .tc .vmem (Sh4 2 3 z.qp 128) .f32)
  (arg17 : Memref sig .tc .vmem (Sh3 7 z.p 1152) .fp8e4m3) (h17 : arg17.IsWhole) (arg18 : Memref sig .tc .vmem (Sh3 7 z.p 1152) .fp8e4m3) (h18 : arg18.IsWhole)
  (arg19 : Memref sig .tc .vmem (Sh3 5 z.w 384) .bf16) (h19 : arg19.IsWhole) (arg20 : Memref sig .tc .vmem (Sh3 5 z.w 384) .bf16) (h20 : arg20.IsWhole)

/-- The five up-sampled rows. -/
def upRows : PR nD τ sig Λ F PUnit := do
  let qs : Elt F .f32 ← smemLoad arg12 (Rect.unit (s := (Sh1 1)) ![0] (Sh1 1).size inb1) rfl rfl
  upRow z arg11 arg15 0 (by omega) qs
  upRow z arg11 arg15 1 (by omega) qs
  upRow z arg11 arg15 2 (by omega) qs
  upRow z arg11 arg15 3 (by omega) qs
  upRow z arg11 arg15 4 (by omega) qs

/-- The scales and biases. -/
def readConsts : PR nD τ sig Λ F (Consts F) := do
  let v116 : Elt F .f32 ← smemLoad arg2 (Rect.unit (s := (Sh1 1)) ![0] (Sh1 1).size inb1) rfl rfl
  let v117 : Vec F (Sh2 1 384) .f32 ← Prog.lift (.load arg4 (Rect.unit (s := (Sh2 1 384)) ![0, 0] (Sh2 1 384).size (inb2 (by omega) (by omega))).toLoadRect (View.loadsAt_vmem (pos2 (by decide) (by decide))))
  let v121 : Vec F (Sh2 1 384) .f32 ← Prog.lift (.load arg5 (Rect.unit (s := (Sh2 1 384)) ![0, 0] (Sh2 1 384).size (inb2 (by omega) (by omega))).toLoadRect (View.loadsAt_vmem (pos2 (by decide) (by decide))))
  let v123 : Elt F .f32 ← smemLoad arg9 (Rect.unit (s := (Sh1 1)) ![0] (Sh1 1).size inb1) rfl rfl
  let v124 : Vec F (Sh2 1 384) .f32 ← Prog.lift (.load arg7 (Rect.unit (s := (Sh2 1 384)) ![0, 0] (Sh2 1 384).size (inb2 (by omega) (by omega))).toLoadRect (View.loadsAt_vmem (pos2 (by decide) (by decide))))
  let v128 : Vec F (Sh2 1 384) .f32 ← Prog.lift (.load arg8 (Rect.unit (s := (Sh2 1 384)) ![0, 0] (Sh2 1 384).size (inb2 (by omega) (by omega))).toLoadRect (View.loadsAt_vmem (pos2 (by decide) (by decide))))
  let v130 : Elt F .f32 ← smemLoad arg10 (Rect.unit (s := (Sh1 1)) ![0] (Sh1 1).size inb1) rfl rfl
  pure ⟨mulf (broadcast (Sh2 1 384) v116) (shapeCast (Sh2 1 384) v117 rfl), shapeCast (Sh2 1 384) v121 rfl,
    mulf (broadcast (Sh2 1 384) v123) (shapeCast (Sh2 1 384) v124 rfl), shapeCast (Sh2 1 384) v128 rfl, v130⟩

/-- The first half: the halo row from the block before, the rows of the first half, the convolution of the half before it. -/
def midA (keep : BitVec 1) (K : Consts F) : PR nD τ sig Λ F PUnit := do
  copyKeep z arg18 arg17 h17 5 0 (by omega) (by omega) keep
  quantRow z arg1 arg3 arg14 h14 arg15 arg16 arg17 h17 0 0 0 1 (by omega) (by omega) (by omega) (by omega) K.sc K.bi K.inv
  copyKeep z arg17 arg18 h18 1 6 (by omega) (by omega) keep
  quantRow z arg1 arg3 arg14 h14 arg15 arg16 arg17 h17 1 0 1 2 (by omega) (by omega) (by omega) (by omega) K.sc K.bi K.inv
  quantRow z arg1 arg3 arg14 h14 arg15 arg16 arg17 h17 2 1 0 3 (by omega) (by omega) (by omega) (by omega) K.sc K.bi K.inv
  quantRow z arg1 arg3 arg14 h14 arg15 arg16 arg17 h17 3 1 1 4 (by omega) (by omega) (by omega) (by omega) K.sc K.bi K.inv
  quantRow z arg1 arg3 arg14 h14 arg15 arg16 arg17 h17 4 2 0 5 (by omega) (by omega) (by omega) (by omega) K.sc K.bi K.inv
  convGroup z arg6 arg18 arg20 h20 0 (by omega) K.so K.bo
  convGroup z arg6 arg18 arg20 h20 2 (by omega) K.so K.bo
  convOne z arg6 arg18 arg20 h20 4 (by omega) K.so K.bo

/-- The second half: the rows of the second half, the convolution of the first half. -/
def midB (K : Consts F) : PR nD τ sig Λ F PUnit := do
  copyRow z arg17 arg18 h18 5 0 (by omega) (by omega)
  quantRow z arg1 arg3 arg14 h14 arg15 arg16 arg18 h18 5 2 1 1 (by omega) (by omega) (by omega) (by omega) K.sc K.bi K.inv
  copyRow z arg18 arg17 h17 1 6 (by omega) (by omega)
  quantRow z arg1 arg3 arg14 h14 arg15 arg16 arg18 h18 6 3 0 2 (by omega) (by omega) (by omega) (by omega) K.sc K.bi K.inv
  quantRow z arg1 arg3 arg14 h14 arg15 arg16 arg18 h18 7 3 1 3 (by omega) (by omega) (by omega) (by omega) K.sc K.bi K.inv
  quantRow z arg1 arg3 arg14 h14 arg15 arg16 arg18 h18 8 4 0 4 (by omega) (by omega) (by omega) (by omega) K.sc K.bi K.inv
  quantRow z arg1 arg3 arg14 h14 arg15 arg16 arg18 h18 9 4 1 5 (by omega) (by omega) (by omega) (by omega) K.sc K.bi K.inv
  convGroup z arg6 arg17 arg19 h19 0 (by omega) K.so K.bo
  convGroup z arg6 arg17 arg19 h19 2 (by omega) K.so K.bo
  convOne z arg6 arg17 arg19 h19 4 (by omega) K.so K.bo

/-- The straight line. -/
def mid (keep : BitVec 1) : PR nD τ sig Λ F PUnit := do
  upRows z arg11 arg12 arg15
  let K ← readConsts arg2 arg4 arg5 arg7 arg8 arg9 arg10
  midA z arg1 arg3 arg6 arg14 h14 arg15 arg16 arg17 h17 arg18 h18 arg20 h20 keep K
  midB z arg1 arg3 arg6 arg14 h14 arg15 arg16 arg17 h17 arg18 h18 arg19 h19 K

end

end Cert.Rows
-- ==== Proof.RowSpec.lean ====
/-
  What the parts of the straight line do to the buffers, and the values they leave.

  Each program of `Row` gets a triple over parts of buffers (`Rules.part`): the functions `upV`, `codesV`,
  `quantV`, `xrowV`, `convV` say what its buffer holds when it is done, and a program adds its own rectangle to what is
  known. The continuation is kept symbolic, so the triples compose.
-/
module

public import proofs.«01_k».proof.Proof.Row
public import Idealize.ShloMosaic.Lib.Pointwise
public import Idealize.ShloMosaic.Lib.ValueLayout

@[expose] public section

set_option maxRecDepth 4096

noncomputable section

namespace Cert.Rows

open Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F] {dfs : Defs nD τ sig (Elt F) Λ} (z : Sizes)

/-- The proof's user algebra: the pipeline library's beside the transfers' counters. -/
local notation "𝕄" => MT nD τ sig Unit (Elt F) ℕ (Pipeline.UD sig nD τ) ℕ

/-! ## The values -/

/-- The up-sampled rows: row `j 0` of the coarser codes, dequantised, chunk `j 1`, at half the column (within the
row: the scratch may be wider). -/
def upV (qs : Elt F .f32) (Q : Vec F (Sh3 5 z.cw 384) .fp8e4m3) : Vec F (Sh4 5 3 z.uw 128) .f32 := fun j =>
  deqChunk z (j 1).val (j 1).isLt (deq z qs fun x => Q ((rQ3 z (j 0).val (j 0).isLt).toLoadRect.idx x))
    (ix2 ⟨min ((j 2).val / 2) (z.cw - 1), by have := z.cw0; omega⟩ (j 3))

theorem fin1 {n : ℕ} (x : Fin n) (h : n = 1 := by rfl) : x.val = 0 := by omega

/-- A one-element vector is constant. -/
theorem s1_const {α : Type} (f : (Sh1 1).Idx → α) : ∃ v, f = fun _ => v :=
  ⟨f (ix1 0), funext fun i => congrArg f (by rw [eq_ix1 i]; exact congrArg ix1 (Subsingleton.elim (α := Fin 1) _ _))⟩

/-! Shape casts by unit axes, at an index. -/

theorem cast_11ab {α : Type} {a b : ℕ} (v : (Sh2 a b).Idx → α) (h : (Sh2 a b).ShapeCasts (Sh4 1 1 a b)) (x : (Sh4 1 1 a b).Idx) :
    shapeCast (Sh4 1 1 a b) v h x = v (ix2 (x 2) (x 3)) :=
  shapeCast_apply v h _ _ (by
    have h0 : (x 0).val < 1 := (x 0).isLt
    have h1 : (x 1).val < 1 := (x 1).isLt
    rw [Shape.rowMajor_val_four, Shape.rowMajor_val_two]
    show (x 2).val * b + (x 3).val = (((x 0).val * 1 + (x 1).val) * a + (x 2).val) * b + (x 3).val
    rw [show (x 0).val * 1 + (x 1).val = 0 by omega, Nat.zero_mul, Nat.zero_add])
theorem cast_11ab' {α : Type} {a b : ℕ} (v : (Sh4 1 1 a b).Idx → α) (h : (Sh4 1 1 a b).ShapeCasts (Sh2 a b)) (x : (Sh2 a b).Idx) :
    shapeCast (Sh2 a b) v h x = v (ix4 (0 : Fin 1) (0 : Fin 1) (x 0) (x 1)) :=
  shapeCast_apply v h _ _ (by
    rw [Shape.rowMajor_val_four, Shape.rowMajor_val_two]
    show ((0 * 1 + 0) * a + (x 0).val) * b + (x 1).val = (x 0).val * b + (x 1).val
    simp only [Nat.zero_mul, Nat.zero_add])
theorem cast_1ab {α : Type} {a b : ℕ} (v : (⟨2, ![a, b]⟩ : Shape).Idx → α) (h : (⟨2, ![a, b]⟩ : Shape).ShapeCasts ⟨3, ![1, a, b]⟩) (x : (⟨3, ![1, a, b]⟩ : Shape).Idx) :
    shapeCast ⟨3, ![1, a, b]⟩ v h x = v (ix2 (x 1) (x 2)) := by
  rw [eq_ix3 x]; exact ValueIdx.shapeCast_ab_1ab_apply v h _ _ _
theorem cast_ab {α : Type} {a b : ℕ} (v : (⟨3, ![1, a, b]⟩ : Shape).Idx → α) (h : (⟨3, ![1, a, b]⟩ : Shape).ShapeCasts ⟨2, ![a, b]⟩) (x : (⟨2, ![a, b]⟩ : Shape).Idx) :
    shapeCast ⟨2, ![a, b]⟩ v h x = v (ix3 (0 : Fin 1) (x 0) (x 1)) := by
  rw [eq_ix2 x]; exact ValueIdx.shapeCast_1ab_ab_apply v h _ _

theorem upV_apply (qs : Elt F .f32) (Q : Vec F (Sh3 5 z.cw 384) .fp8e4m3) (j : (Sh4 5 3 z.uw 128).Idx) {k ch : ℕ} (hk : k < 5) (hc : ch < 3) (p : Fin z.cw) (q : Fin 128)
    (h0 : (j 0).val = k) (h1 : (j 1).val = ch) (h2 : (j 2).val / 2 = p.val) (h3 : (j 3).val = q.val) :
    upV z qs Q j = deqChunk z ch hc (deq z qs fun x => Q ((rQ3 z k hk).toLoadRect.idx x)) (ix2 p q) := by
  subst h0 h1
  unfold upV
  congr 2
  · exact Fin.ext (by have := p.isLt; show min ((j 2).val / 2) (z.cw - 1) = p.val; omega)
  · exact Fin.ext h3

/-- What a program's end is asked to satisfy. -/
abbrev Post (nD : ℕ) (τ : Topo) (sig : RefSig) (F : FTy → Type) := PUnit.{1} → sProp (MT nD τ sig Unit (Elt F) ℕ (Pipeline.UD sig nD τ) ℕ)

/-- The weakest precondition on core `c`. -/
abbrev wpc (dfs : Defs nD τ sig (Elt F) Λ) (c : Dev nD) (p : PR nD τ sig Λ F PUnit.{1}) (P : Post nD τ sig F) : sProp 𝕄 :=
  wp frame (wpE dfs Variants.none (c : Thread nD τ) none) Set.univ p P

/-- A buffer known in part, on core `c`. -/
abbrev prt (c : Dev nD) {cs : CoreSpace} {s : Shape} {e : EltTy} (m : Memref sig .tc cs s e) (V : s.Idx → Elt F e) (D : s.Idx → Prop) : sProp 𝕄 :=
  part (c : Thread nD τ) m V D

/-- A buffer held, on core `c`. -/
abbrev own (c : Dev nD) {cs : CoreSpace} {s : Shape} {e : EltTy} (m : Memref sig .tc cs s e) (q : PosShare TreeShare) (X : s.Idx → Elt F e) : sProp 𝕄 :=
  owns (c : Thread nD τ) m q X

theorem truncf_apply {s : Shape} {φ ψ : FTy} (v : FVec F s φ) (h : ψ.bits < φ.bits) (i : s.Idx) :
    truncf ψ v h i = FloatOps.truncf ψ h (v i) := rfl

/-- Chunk `ch` of row `r` of the block, quantised but not rounded. -/
def qv (K : Consts F) (W : Vec F (Sh2 z.ci 384) .fp8e4m3) (C : Vec F (Sh3 10 z.w z.ci) .fp8e4m3) (U : Vec F (Sh4 5 3 z.uw 128) .f32) (r u ch : ℕ) (hr : r < 10) (hu : u < 5) (hc : ch < 3) :
    FVec F (Sh2 z.w 128) .f32 :=
  clipped z K.inv (merged z ch hc K.sc K.bi
    (latDot z (fun x => W ((Rect.unit (s := (Sh2 z.ci 384)) ![0, 0] (Sh2 z.ci 384).size (inb2 (by omega) (by omega))).toLoadRect.idx x))
      (fun x => W ((Rect.unit (s := (Sh2 z.ci 384)) ![0, 0] (Sh2 z.ci 128).size (inb2 (by omega) (by omega))).toLoadRect.idx x)) (fun x => C ((rC z r hr).toLoadRect.idx x)))
    (fun x => U ((rU z u ch hu hc).toLoadRect.idx x)))

/-- The block of codes. -/
def codesV (K : Consts F) (W : Vec F (Sh2 z.ci 384) .fp8e4m3) (C : Vec F (Sh3 10 z.w z.ci) .fp8e4m3) (U : Vec F (Sh4 5 3 z.uw 128) .f32) : Vec F (Sh3 10 z.w 384) .fp8e4m3 := fun j =>
  FloatOps.truncf .fp8e4m3 (by decide) (qv z K W C U (j 0).val ((j 0).val / 2) ((j 2).val / 128) (j 0).isLt
    (by have h : (j 0).val < 10 := (j 0).isLt; omega) (by have h : (j 2).val < 384 := (j 2).isLt; omega)
    (ix2 (j 1) ⟨(j 2).val % 128, Nat.mod_lt _ (by omega)⟩))

/-- The unrounded row in its scratch, zeroes on both sides. -/
def quantV (K : Consts F) (W : Vec F (Sh2 z.ci 384) .fp8e4m3) (C : Vec F (Sh3 10 z.w z.ci) .fp8e4m3) (U : Vec F (Sh4 5 3 z.uw 128) .f32) (r : ℕ) (hr : r < 10) :
    Vec F (Sh4 2 3 z.qp 128) .f32 := fun j =>
  if h : 8 ≤ (j 2).val ∧ (j 2).val < 8 + z.w then qv z K W C U r (r / 2) (j 1).val hr (by omega) (j 1).isLt (ix2 ⟨(j 2).val - 8, by omega⟩ (j 3))
  else Scalar.ofBits .f32 0x00000000#32

/-- The positions of the scratch beside the row. -/
def border (j : (Sh4 2 3 z.qp 128).Idx) : Prop := (j 2).val < 8 ∨ 8 + z.w ≤ (j 2).val

/-- A row as the convolution reads it: at column `384 k + 128 c + x` the rounded value of chunk `c`, lane `x`, at the position `k - 1` further. -/
def xrowV (K : Consts F) (W : Vec F (Sh2 z.ci 384) .fp8e4m3) (C : Vec F (Sh3 10 z.w z.ci) .fp8e4m3) (U : Vec F (Sh4 5 3 z.uw 128) .f32) (r : ℕ) (hr : r < 10) (p l : ℕ) (hp : p < z.p) (hl : l < 1152) :
    Elt F .fp8e4m3 :=
  FloatOps.truncf .fp8e4m3 (by decide) (quantV z K W C U r hr
    (ix4 (0 : Fin 2) ⟨l % 384 / 128, by omega⟩ ⟨p + 7 + l / 384, by have := z.pq; omega⟩ ⟨l % 128, Nat.mod_lt _ (by omega)⟩))

/-! ## The up-sampled rows -/

section

variable (c : Dev nD) {κ : PUnit.{1} → PR nD τ sig Λ F PUnit.{1}} {P : Post nD τ sig F}
variable (arg11 : Memref sig .tc .vmem (Sh3 5 z.cw 384) .fp8e4m3) (arg15 : Memref sig .tc .vmem (Sh4 5 3 z.uw 128) .f32)

theorem upStore_spec (k ch par : ℕ) (hk : k < 5) (hc : ch < 3) (hp : par < 2) (qs : Elt F .f32) (Q : Vec F (Sh3 5 z.cw 384) .fp8e4m3)
    (D : (Sh4 5 3 z.uw 128).Idx → Prop) :
    prt c arg15 (upV z qs Q) D ⊢ iprop((prt c arg15 (upV z qs Q) (fun j => D j ∨ ((j 0).val = k ∧ (j 1).val = ch ∧ (j 2).val % 2 = par ∧ (j 2).val < z.w)) -∗ wpc dfs c (κ ⟨⟩) P)
      -∗ wpc dfs c (upStore z arg15 k ch par hk hc hp (deqChunk z ch hc (deq z qs fun x => Q ((rQ3 z k hk).toLoadRect.idx x))) >>= κ) P) := by
  iintro H Hk
  unfold upStore
  iapply (part_load_any (c : Thread nD τ)) $$ H
  iintro H
  iapply (part_store (c : Thread nD τ) (D' := fun j => D j ∨ ((j 0).val = k ∧ (j 1).val = ch ∧ (j 2).val % 2 = par ∧ (j 2).val < z.w)) ?_ ?_) $$ H
  · intro x
    refine (cast_11ab _ _ x).trans (upV_apply z qs Q _ hk hc (x 2) (x 3) ?_ ?_ ?_ ?_).symm
    · have := fin1 (x 0); show k + 1 * (x 0).val = k; omega
    · have := fin1 (x 1); show ch + 1 * (x 1).val = ch; omega
    · show (par + 2 * (x 2).val) / 2 = (x 2).val; omega
    · show 0 + 1 * (x 3).val = (x 3).val; omega
  · intro j hj
    refine hj.imp_right fun h => (LoadRect.mem_set _).mpr fun a => ?_
    match a with
    | 0 => exact ⟨0, Nat.one_pos, by show _ = k + 1 * 0; omega⟩
    | 1 => exact ⟨0, Nat.one_pos, by show _ = ch + 1 * 0; omega⟩
    | 2 => exact ⟨(j 2).val / 2, (by have := z.w2; have := h.2.2.2; show _ < z.cw; omega), by have := h.2.2.1; show _ = par + 2 * _; omega⟩
    | 3 => exact ⟨(j 3).val, (j 3).isLt, by show _ = 0 + 1 * _; omega⟩
  · iintro H; iapply Hk; iexact H

theorem upChunk_spec (k ch : ℕ) (hk : k < 5) (hc : ch < 3) (qs : Elt F .f32) (Q : Vec F (Sh3 5 z.cw 384) .fp8e4m3) (D : (Sh4 5 3 z.uw 128).Idx → Prop) :
    prt c arg15 (upV z qs Q) D ⊢ iprop((prt c arg15 (upV z qs Q) (fun j => D j ∨ ((j 0).val = k ∧ (j 1).val = ch ∧ (j 2).val < z.w)) -∗ wpc dfs c (κ ⟨⟩) P)
      -∗ wpc dfs c (upChunk z arg15 k ch hk hc (deq z qs fun x => Q ((rQ3 z k hk).toLoadRect.idx x)) >>= κ) P) := by
  iintro H Hk
  unfold upChunk
  simp only [Prog.bind_assoc]
  iapply (upStore_spec z c arg15 k ch 0) $$ H
  iintro H
  iapply (upStore_spec z c arg15 k ch 1) $$ H
  iintro H
  iapply Hk
  iapply (part_mono (c : Thread nD τ) ?_) $$ H
  intro j hj
  refine ⟨?_, rfl⟩
  rcases hj with h | ⟨h0, h1, hw⟩
  · exact .inl (.inl h)
  · rcases Nat.mod_two_eq_zero_or_one (j 2).val with h | h
    · exact .inl (.inr ⟨h0, h1, h, hw⟩)
    · exact .inr ⟨h0, h1, h, hw⟩

theorem upRow_spec (k : ℕ) (hk : k < 5) (qs : Elt F .f32) (q : PosShare TreeShare) (Q : Vec F (Sh3 5 z.cw 384) .fp8e4m3) (D : (Sh4 5 3 z.uw 128).Idx → Prop) :
    iprop(own c arg11 q Q ∗ prt c arg15 (upV z qs Q) D) ⊢
      iprop((iprop(own c arg11 q Q ∗ prt c arg15 (upV z qs Q) (fun j => D j ∨ ((j 0).val = k ∧ (j 2).val < z.w))) -∗ wpc dfs c (κ ⟨⟩) P)
      -∗ wpc dfs c (upRow z arg11 arg15 k hk qs >>= κ) P) := by
  iintro ⟨HQ, H⟩ Hk
  unfold upRow
  simp only [Prog.bind_assoc]
  iapply (owns_load (c : Thread nD τ)) $$ HQ
  iintro HQ
  iapply (upChunk_spec z c arg15 k 0) $$ H
  iintro H
  iapply (upChunk_spec z c arg15 k 1) $$ H
  iintro H
  iapply (upChunk_spec z c arg15 k 2) $$ H
  iintro H
  iapply Hk
  isplitl [HQ]; · iexact HQ
  iapply (part_mono (c : Thread nD τ) ?_) $$ H
  intro j hj
  refine ⟨?_, rfl⟩
  rcases hj with h | ⟨h0, hw⟩
  · exact .inl (.inl (.inl h))
  · have h1 : (j 1).val < 3 := (j 1).isLt
    rcases (by omega : (j 1).val = 0 ∨ (j 1).val = 1 ∨ (j 1).val = 2) with h | h | h
    · exact .inl (.inl (.inr ⟨h0, h, hw⟩))
    · exact .inl (.inr ⟨h0, h, hw⟩)
    · exact .inr ⟨h0, h, hw⟩

/-- The positions of the up-sampled scratch that a row reaches. -/
def inRow (j : (Sh4 5 3 z.uw 128).Idx) : Prop := (j 2).val < z.w

/-- The five up-sampled rows: the scratch is known as far as the rows reach. -/
theorem upRows_spec (arg12 : Memref sig .tc .smem (Sh1 1) .f32) (q q' : PosShare TreeShare) (Q : Vec F (Sh3 5 z.cw 384) .fp8e4m3) (qs : Vec F (Sh1 1) .f32) (V : Vec F (Sh4 5 3 z.uw 128) .f32) (D : (Sh4 5 3 z.uw 128).Idx → Prop) :
    iprop(own c arg11 q Q ∗ own c arg12 q' qs ∗ prt c arg15 V D) ⊢
      iprop((iprop(own c arg11 q Q ∗ own c arg12 q' qs ∗ prt c arg15 (upV z (qs (ix1 0)) Q) (inRow z)) -∗ wpc dfs c (κ ⟨⟩) P)
      -∗ wpc dfs c (upRows z arg11 arg12 arg15 >>= κ) P) := by
  obtain ⟨v, rfl⟩ := s1_const qs
  iintro ⟨HQ, Hs, H⟩ Hk
  unfold upRows
  simp only [Prog.bind_assoc]
  iapply (owns_load (c : Thread nD τ)) $$ Hs
  iintro Hs
  ihave H := (part_mono (c : Thread nD τ) (V' := upV z v Q) (D' := fun _ => False) (fun _ h => h.elim)) $$ H
  iapply (upRow_spec z c arg11 arg15 0) $$ [HQ H]
  · isplitl [HQ]; · iexact HQ
    iexact H
  iintro ⟨HQ, H⟩
  iapply (upRow_spec z c arg11 arg15 1) $$ [HQ H]
  · isplitl [HQ]; · iexact HQ
    iexact H
  iintro ⟨HQ, H⟩
  iapply (upRow_spec z c arg11 arg15 2) $$ [HQ H]
  · isplitl [HQ]; · iexact HQ
    iexact H
  iintro ⟨HQ, H⟩
  iapply (upRow_spec z c arg11 arg15 3) $$ [HQ H]
  · isplitl [HQ]; · iexact HQ
    iexact H
  iintro ⟨HQ, H⟩
  iapply (upRow_spec z c arg11 arg15 4) $$ [HQ H]
  · isplitl [HQ]; · iexact HQ
    iexact H
  iintro ⟨HQ, H⟩
  iapply Hk
  isplitl [HQ]; · iexact HQ
  isplitl [Hs]; · iexact Hs
  iapply (part_mono (c : Thread nD τ) ?_) $$ H
  intro j hw
  refine ⟨?_, rfl⟩
  have h1 : (j 0).val < 5 := (j 0).isLt
  rcases (by omega : (j 0).val = 0 ∨ (j 0).val = 1 ∨ (j 0).val = 2 ∨ (j 0).val = 3 ∨ (j 0).val = 4) with h | h | h | h | h
  · exact .inl (.inl (.inl (.inl (.inr ⟨h, hw⟩))))
  · exact .inl (.inl (.inl (.inr ⟨h, hw⟩)))
  · exact .inl (.inl (.inr ⟨h, hw⟩))
  · exact .inl (.inr ⟨h, hw⟩)
  · exact .inr ⟨h, hw⟩

end

/-! ## One row of codes -/

section

variable (c : Dev nD) {κ : PUnit.{1} → PR nD τ sig Λ F PUnit.{1}} {P : Post nD τ sig F}
variable (arg1 : Memref sig .tc .vmem (Sh3 10 z.w z.ci) .fp8e4m3) (arg3 : Memref sig .tc .vmem (Sh2 z.ci 384) .fp8e4m3)
  (arg14 : Memref sig .tc .vmem (Sh3 10 z.w 384) .fp8e4m3) (h14 : arg14.IsWhole)
  (arg15 : Memref sig .tc .vmem (Sh4 5 3 z.uw 128) .f32) (arg16 : Memref sig .tc .vmem (Sh4 2 3 z.qp 128) .f32)
  (x : Memref sig .tc .vmem (Sh3 7 z.p 1152) .fp8e4m3) (hx : x.IsWhole)
variable (K : Consts F) (W : Vec F (Sh2 z.ci 384) .fp8e4m3) (C : Vec F (Sh3 10 z.w z.ci) .fp8e4m3) (U : Vec F (Sh4 5 3 z.uw 128) .f32)

theorem codesV_apply (j : (Sh3 10 z.w 384).Idx) {r ch : ℕ} (hr : r < 10) (hc : ch < 3) (p : Fin z.w) (q : Fin 128)
    (h0 : (j 0).val = r) (h1 : (j 1).val = p.val) (h2 : (j 2).val = 128 * ch + q.val) :
    codesV z K W C U j = FloatOps.truncf .fp8e4m3 (by decide) (qv z K W C U r (r / 2) ch hr (by omega) hc (ix2 p q)) := by
  subst h0
  obtain rfl : ch = (j 2).val / 128 := by omega
  unfold codesV
  congr 3
  · exact Fin.ext h1
  · exact Fin.ext (by show (j 2).val % 128 = q.val; omega)

theorem quantV_in (r : ℕ) (hr : r < 10) (j : (Sh4 2 3 z.qp 128).Idx) {ch : ℕ} (hc : ch < 3) (p : Fin z.w) (q : Fin 128)
    (h1 : (j 1).val = ch) (h2 : (j 2).val = 8 + p.val) (h3 : (j 3).val = q.val) :
    quantV z K W C U r hr j = qv z K W C U r (r / 2) ch hr (by omega) hc (ix2 p q) := by
  subst h1
  unfold quantV
  rw [dif_pos (by omega)]
  congr 1
  congr 1
  · exact Fin.ext (by show (j 2).val - 8 = p.val; omega)
  · exact Fin.ext h3

theorem quantV_border (r : ℕ) (hr : r < 10) (j : (Sh4 2 3 z.qp 128).Idx) (h : border z j) : quantV z K W C U r hr j = Scalar.ofBits .f32 0x00000000#32 := by
  unfold quantV border at *
  rw [dif_neg (by omega)]

theorem quantStore_spec (r s ch l : ℕ) (hr : r < 10) (hs : s < 2) (hc : ch < 3) (hl : l ≤ 256) (hcl : l = 128 * ch)
    (D : (Sh3 10 z.w 384).Idx → Prop) (E : (Sh4 2 3 z.qp 128).Idx → Prop) :
    iprop(prt c arg14 (codesV z K W C U) D ∗ prt c arg16 (quantV z K W C U r hr) E) ⊢
      iprop((iprop(prt c arg14 (codesV z K W C U) (fun j => D j ∨ ((j 0).val = r ∧ (j 2).val / 128 = ch))
          ∗ prt c arg16 (quantV z K W C U r hr) (fun j => E j ∨ ((j 0).val = s ∧ (j 1).val = ch ∧ ¬ border z j))) -∗ wpc dfs c (κ ⟨⟩) P)
        -∗ wpc dfs c (quantStore z arg14 h14 arg16 r s ch l hr hs hc hl (qv z K W C U r (r / 2) ch hr (by omega) hc) >>= κ) P) := by
  subst hcl
  iintro ⟨H, G⟩ Hk
  unfold quantStore
  iapply (part_load_any (c : Thread nD τ)) $$ H
  iintro H
  iapply (part_store (c : Thread nD τ) (D' := fun j => D j ∨ ((j 0).val = r ∧ (j 2).val / 128 = ch)) ?_ ?_) $$ H
  · intro x
    refine (cast_1ab _ _ x).trans (codesV_apply z K W C U _ hr hc (x 1) (x 2) ?_ ?_ ?_).symm
    · have := fin1 (x 0); show r + 1 * (x 0).val = r; omega
    · show 0 + 1 * (x 1).val = _; omega
    · show 128 * ch + 1 * (x 2).val = _; omega
  · intro j hj
    refine hj.imp_right fun h => Rect.mem_set_unit.mpr fun a => ?_
    match a with
    | 0 => exact ⟨h.1.ge, by show _ < r + 1; omega⟩
    | 1 => exact ⟨Nat.zero_le _, by have := (j 1).isLt; show _ < 0 + z.w; change _ < z.w at this; omega⟩
    | 2 => exact ⟨by show 128 * ch ≤ _; omega, by show _ < 128 * ch + 128; omega⟩
  iintro H
  iapply (part_load_any (c : Thread nD τ)) $$ G
  iintro G
  iapply (part_store (c : Thread nD τ) (D' := fun j => E j ∨ ((j 0).val = s ∧ (j 1).val = ch ∧ ¬ border z j)) ?_ ?_) $$ G
  · intro x
    refine (cast_11ab _ _ x).trans (quantV_in z K W C U r hr _ hc (x 2) (x 3) ?_ ?_ ?_).symm
    · have := fin1 (x 1); show ch + 1 * (x 1).val = ch; omega
    · show 8 + 1 * (x 2).val = _; omega
    · show 0 + 1 * (x 3).val = _; omega
  · intro j hj
    refine hj.imp_right fun h => Rect.mem_set_unit.mpr fun a => ?_
    have h2 := h.2.2
    unfold border at h2
    match a with
    | 0 => exact ⟨h.1.ge, by show _ < s + 1; omega⟩
    | 1 => exact ⟨h.2.1.ge, by show _ < ch + 1; omega⟩
    | 2 => exact ⟨by show 8 ≤ _; omega, by show _ < 8 + z.w; omega⟩
    | 3 => exact ⟨Nat.zero_le _, by have := (j 3).isLt; show _ < 0 + 128; change _ < 128 at this; omega⟩
  iintro G
  iapply Hk
  isplitl [H]; · iexact H
  iexact G

theorem quantV_congr (r : ℕ) (hr : r < 10) (i j : (Sh4 2 3 z.qp 128).Idx) (h1 : (i 1).val = (j 1).val) (h2 : (i 2).val = (j 2).val) (h3 : (i 3).val = (j 3).val) :
    quantV z K W C U r hr i = quantV z K W C U r hr j := by
  by_cases h : 8 ≤ (j 2).val ∧ (j 2).val < 8 + z.w
  · rw [quantV_in z K W C U r hr i (ch := (j 1).val) (j 1).isLt ⟨(j 2).val - 8, by omega⟩ (j 3) h1 (by show _ = 8 + ((j 2).val - 8); omega) h3,
      quantV_in z K W C U r hr j (ch := (j 1).val) (j 1).isLt ⟨(j 2).val - 8, by omega⟩ (j 3) rfl (by show _ = 8 + ((j 2).val - 8); omega) rfl]
  · rw [quantV_border z K W C U r hr i (by unfold border; omega), quantV_border z K W C U r hr j (by unfold border; omega)]

/-- A row in its scratch: slot `s` and the border are known. -/
def slotD (s : ℕ) (j : (Sh4 2 3 z.qp 128).Idx) : Prop := border z j ∨ (j 0).val = s

theorem tapStore_spec (r s ch p k l tap : ℕ) (hr : r < 10) (hs : s < 2) (hc : ch < 3) (ht : tap < 3) (hp : p < 10) (hk : k < 7) (hl : l ≤ 1024)
    (hpt : p = 7 + tap) (hlt : l = 384 * tap + 128 * ch) (V : Vec F (Sh3 7 z.p 1152) .fp8e4m3) (D : (Sh3 7 z.p 1152).Idx → Prop)
    (hV : ∀ j, (j 0).val = k → V j = xrowV z K W C U r hr (j 1).val (j 2).val (j 1).isLt (j 2).isLt) :
    iprop(prt c arg16 (quantV z K W C U r hr) (slotD z s) ∗ prt c x V D) ⊢
      iprop((iprop(prt c arg16 (quantV z K W C U r hr) (slotD z s) ∗ prt c x V (fun j => D j ∨ ((j 0).val = k ∧ (j 2).val / 128 = 3 * tap + ch))) -∗ wpc dfs c (κ ⟨⟩) P)
        -∗ wpc dfs c (tapStore z arg16 x hx s ch p k l hs hc hp hk hl >>= κ) P) := by
  subst hpt hlt
  iintro ⟨G, H⟩ Hk
  unfold tapStore
  iapply (part_load (c : Thread nD τ) ?_) $$ G
  · intro y
    refine .inr ?_
    have := fin1 (y 0); show s + 1 * (y 0).val = s; omega
  iintro G
  iapply (part_load_any (c : Thread nD τ)) $$ H
  iintro H
  iapply (part_store (c : Thread nD τ) (D' := fun j => D j ∨ ((j 0).val = k ∧ (j 2).val / 128 = 3 * tap + ch)) ?_ ?_) $$ H
  · intro y
    have hy1 : (y 1).val < z.p := (y 1).isLt
    have hy2 : (y 2).val < 128 := (y 2).isLt
    refine (cast_1ab _ _ y).trans ?_
    rw [hV _ (by have := fin1 (y 0); show k + 1 * (y 0).val = k; omega), truncf_apply]
    unfold xrowV
    congr 1
    refine (cast_11ab' _ _ _).trans (quantV_congr z K W C U r hr _ _ ?_ ?_ ?_)
    · show ch + 1 * 0 = (384 * tap + 128 * ch + 1 * (y 2).val) % 384 / 128; omega
    · show 7 + tap + 1 * (y 1).val = 0 + 1 * (y 1).val + 7 + (384 * tap + 128 * ch + 1 * (y 2).val) / 384; omega
    · show 0 + 1 * (y 2).val = (384 * tap + 128 * ch + 1 * (y 2).val) % 128; omega
  · intro j hj
    refine hj.imp_right fun h => Rect.mem_set_unit.mpr fun a => ?_
    match a with
    | 0 => exact ⟨h.1.ge, by show _ < k + 1; omega⟩
    | 1 => exact ⟨Nat.zero_le _, by have := (j 1).isLt; show _ < 0 + z.p; change _ < z.p at this; omega⟩
    | 2 => exact ⟨by show 384 * tap + 128 * ch ≤ _; omega, by show _ < 384 * tap + 128 * ch + 128; omega⟩
  iintro H
  iapply Hk
  isplitl [G]; · iexact G
  iexact H

theorem tapChunk_spec (r s ch k : ℕ) (hr : r < 10) (hs : s < 2) (hc : ch < 3) (hk : k < 7) (V : Vec F (Sh3 7 z.p 1152) .fp8e4m3) (D : (Sh3 7 z.p 1152).Idx → Prop)
    (hV : ∀ j, (j 0).val = k → V j = xrowV z K W C U r hr (j 1).val (j 2).val (j 1).isLt (j 2).isLt) :
    iprop(prt c arg16 (quantV z K W C U r hr) (slotD z s) ∗ prt c x V D) ⊢
      iprop((iprop(prt c arg16 (quantV z K W C U r hr) (slotD z s) ∗ prt c x V (fun j => D j ∨ ((j 0).val = k ∧ (j 2).val / 128 % 3 = ch))) -∗ wpc dfs c (κ ⟨⟩) P)
        -∗ wpc dfs c (tapChunk z arg16 x hx s ch k hs hc hk >>= κ) P) := by
  iintro H Hk
  unfold tapChunk
  simp only [Prog.bind_assoc]
  iapply (tapStore_spec z c arg16 x hx K W C U r s ch 7 k (128 * ch) 0 hr hs hc (by omega) _ hk _ rfl (by omega) V D hV) $$ H
  iintro H
  iapply (tapStore_spec z c arg16 x hx K W C U r s ch 8 k (384 + 128 * ch) 1 hr hs hc (by omega) _ hk _ rfl (by omega) V _ hV) $$ H
  iintro H
  iapply (tapStore_spec z c arg16 x hx K W C U r s ch 9 k (768 + 128 * ch) 2 hr hs hc (by omega) _ hk _ rfl (by omega) V _ hV) $$ H
  iintro ⟨G, H⟩
  iapply Hk
  isplitl [G]; · iexact G
  iapply (part_mono (c : Thread nD τ) ?_) $$ H
  intro j hj
  refine ⟨?_, rfl⟩
  have h2 : (j 2).val < 1152 := (j 2).isLt
  rcases hj with h | ⟨h0, h⟩
  · exact .inl (.inl (.inl h))
  · rcases (by omega : (j 2).val / 128 = 3 * 0 + ch ∨ (j 2).val / 128 = 3 * 1 + ch ∨ (j 2).val / 128 = 3 * 2 + ch) with h | h | h
    · exact .inl (.inl (.inr ⟨h0, h⟩))
    · exact .inl (.inr ⟨h0, h⟩)
    · exact .inr ⟨h0, h⟩

theorem inRow_rU (u ch : ℕ) (hu : u < 5) (hc : ch < 3) : ∀ x, inRow z ((rU z u ch hu hc).toLoadRect.idx x) := fun x => by
  have h : (x 2).val < z.w := (x 2).isLt
  show 0 + 1 * (x 2).val < z.w; omega

/-- One row of codes: it joins the block of codes, and is laid out as row `k` of `x`. The scratch's border stays zero. -/
theorem quantRow_spec (q q' : PosShare TreeShare) (r u s k : ℕ) (hr : r < 10) (hu : u < 5) (hs : s < 2) (hk : k < 7) (hur : u = r / 2)
    (Z : Vec F (Sh4 2 3 z.qp 128) .f32) (hZ : ∀ j, border z j → Z j = Scalar.ofBits .f32 0x00000000#32)
    (V : Vec F (Sh3 7 z.p 1152) .fp8e4m3) (D : (Sh3 7 z.p 1152).Idx → Prop) (E : (Sh3 10 z.w 384).Idx → Prop)
    (hV : ∀ j, (j 0).val = k → V j = xrowV z K W C U r hr (j 1).val (j 2).val (j 1).isLt (j 2).isLt) :
    iprop(own c arg1 q C ∗ own c arg3 q' W ∗ prt c arg15 U (inRow z) ∗ prt c arg14 (codesV z K W C U) E ∗ prt c arg16 Z (border z) ∗ prt c x V D) ⊢
      iprop((iprop(own c arg1 q C ∗ own c arg3 q' W ∗ prt c arg15 U (inRow z) ∗ prt c arg14 (codesV z K W C U) (fun j => E j ∨ (j 0).val = r) ∗ prt c arg16 Z (border z)
          ∗ prt c x V (fun j => D j ∨ (j 0).val = k)) -∗ wpc dfs c (κ ⟨⟩) P)
        -∗ wpc dfs c (quantRow z arg1 arg3 arg14 h14 arg15 arg16 x hx r u s k hr hu hs hk K.sc K.bi K.inv >>= κ) P) := by
  subst hur
  iintro ⟨HC, HW, HU, H14, H16, Hx⟩ Hk
  ihave H16 := (part_mono (c : Thread nD τ) (V' := quantV z K W C U r hr) (D' := border z) (fun j h => ⟨h, (hZ j h).trans (quantV_border z K W C U r hr j h).symm⟩)) $$ H16
  unfold quantRow
  simp only [Prog.bind_assoc]
  iapply (owns_load (c : Thread nD τ)) $$ HW
  iintro HW
  iapply (owns_load (c : Thread nD τ)) $$ HW
  iintro HW
  iapply (owns_load (c : Thread nD τ)) $$ HC
  iintro HC
  iapply (part_load (c : Thread nD τ) (inRow_rU z _ _ _ _)) $$ HU
  iintro HU
  iapply (part_load (c : Thread nD τ) (inRow_rU z _ _ _ _)) $$ HU
  iintro HU
  iapply (part_load (c : Thread nD τ) (inRow_rU z _ _ _ _)) $$ HU
  iintro HU
  iapply (quantStore_spec z c arg14 h14 arg16 K W C U r s 0 0 hr hs (by omega) (by omega) rfl) $$ [H14 H16]
  · isplitl [H14]; · iexact H14
    iexact H16
  iintro H
  iapply (quantStore_spec z c arg14 h14 arg16 K W C U r s 1 128 hr hs (by omega) (by omega) rfl) $$ H
  iintro H
  iapply (quantStore_spec z c arg14 h14 arg16 K W C U r s 2 256 hr hs (by omega) (by omega) rfl) $$ H
  iintro ⟨H14, H16⟩
  ihave H16 := (part_mono (c : Thread nD τ) (V' := quantV z K W C U r hr) (D' := slotD z s) ?_) $$ H16
  · intro j hj
    refine ⟨?_, rfl⟩
    have h1 : (j 1).val < 3 := (j 1).isLt
    by_cases hb : border z j
    · exact .inl (.inl (.inl hb))
    · have h0 : (j 0).val = s := hj.resolve_left hb
      rcases (by omega : (j 1).val = 0 ∨ (j 1).val = 1 ∨ (j 1).val = 2) with h | h | h
      · exact .inl (.inl (.inr ⟨h0, h, hb⟩))
      · exact .inl (.inr ⟨h0, h, hb⟩)
      · exact .inr ⟨h0, h, hb⟩
  iapply (tapChunk_spec z c arg16 x hx K W C U r s 0 k hr hs _ hk V D hV) $$ [H16 Hx]
  · isplitl [H16]; · iexact H16
    iexact Hx
  iintro H
  iapply (tapChunk_spec z c arg16 x hx K W C U r s 1 k hr hs _ hk V _ hV) $$ H
  iintro H
  iapply (tapChunk_spec z c arg16 x hx K W C U r s 2 k hr hs _ hk V _ hV) $$ H
  iintro ⟨H16, Hx⟩
  iapply Hk
  isplitl [HC]; · iexact HC
  isplitl [HW]; · iexact HW
  isplitl [HU]; · iexact HU
  isplitl [H14]
  · iapply (part_mono (c : Thread nD τ) ?_) $$ H14
    intro j hj
    refine ⟨?_, rfl⟩
    have h2 : (j 2).val < 384 := (j 2).isLt
    rcases hj with h | h0
    · exact .inl (.inl (.inl h))
    · rcases (by omega : (j 2).val / 128 = 0 ∨ (j 2).val / 128 = 1 ∨ (j 2).val / 128 = 2) with h | h | h
      · exact .inl (.inl (.inr ⟨h0, h⟩))
      · exact .inl (.inr ⟨h0, h⟩)
      · exact .inr ⟨h0, h⟩
  isplitl [H16]
  · iapply (part_mono (c : Thread nD τ) ?_) $$ H16
    exact fun j h => ⟨.inl h, (quantV_border z K W C U r hr j h).trans (hZ j h).symm⟩
  · iapply (part_mono (c : Thread nD τ) ?_) $$ Hx
    intro j hj
    refine ⟨?_, rfl⟩
    rcases hj with h | h0
    · exact .inl (.inl (.inl h))
    · rcases (by omega : (j 2).val / 128 % 3 = 0 ∨ (j 2).val / 128 % 3 = 1 ∨ (j 2).val / 128 % 3 = 2) with h | h | h
      · exact .inl (.inl (.inr ⟨h0, h⟩))
      · exact .inl (.inr ⟨h0, h⟩)
      · exact .inr ⟨h0, h⟩

end

/-! ## Copies of a laid-out row, and the convolution -/

section

variable (c : Dev nD) {κ : PUnit.{1} → PR nD τ sig Λ F PUnit.{1}} {P : Post nD τ sig F}
variable (src dst : Memref sig .tc .vmem (Sh3 7 z.p 1152) .fp8e4m3) (hd : dst.IsWhole)

theorem copyKeep_spec (a b : ℕ) (ha : a < 7) (hb : b < 7) (keep : BitVec 1) (V V' : Vec F (Sh3 7 z.p 1152) .fp8e4m3) (D D' : (Sh3 7 z.p 1152).Idx → Prop)
    (hD : ∀ j, (j 0).val = a → D j)
    (hV : ∀ j, (j 0).val = b → V' j = if keep = 1#1 then V (ix3 ⟨a, ha⟩ (j 1) (j 2)) else Scalar.ofBits .fp8e4m3 0x00#8) :
    iprop(prt c src V D ∗ prt c dst V' D') ⊢
      iprop((iprop(prt c src V D ∗ prt c dst V' (fun j => D' j ∨ (j 0).val = b)) -∗ wpc dfs c (κ ⟨⟩) P)
        -∗ wpc dfs c (copyKeep z src dst hd a b ha hb keep >>= κ) P) := by
  iintro ⟨G, H⟩ Hk
  unfold copyKeep
  iapply (part_load (c : Thread nD τ) ?_) $$ G
  · intro y; refine hD _ ?_
    have := fin1 (y 0); show a + 1 * (y 0).val = a; omega
  iintro G
  iapply (part_load_any (c : Thread nD τ)) $$ H
  iintro H
  iapply (part_store (c : Thread nD τ) (D' := fun j => D' j ∨ (j 0).val = b) ?_ ?_) $$ H
  · intro y
    refine (cast_1ab _ _ y).trans ?_
    rw [hV _ (by have := fin1 (y 0); show b + 1 * (y 0).val = b; omega)]
    by_cases hk : keep = 1#1
    · rw [if_pos hk]
      refine (congrFun (if_pos hk) _).trans ?_
      refine (cast_ab _ _ _).trans (congrArg V ?_)
      refine (eq_ix3 _).trans (congr (congrArg₂ ix3 (Fin.ext ?_) (Fin.ext ?_)) (Fin.ext ?_))
      · show a + 1 * 0 = a; omega
      · show 0 + 1 * (y 1).val = 0 + 1 * (y 1).val; omega
      · show 0 + 1 * (y 2).val = 0 + 1 * (y 2).val; omega
    · rw [if_neg hk]
      exact congrFun (if_neg hk) _
  · intro j hj
    refine hj.imp_right fun h => Rect.mem_set_unit.mpr fun a => ?_
    match a with
    | 0 => exact ⟨h.ge, by show _ < b + 1; omega⟩
    | 1 => exact ⟨Nat.zero_le _, by have := (j 1).isLt; show _ < 0 + z.p; change _ < z.p at this; omega⟩
    | 2 => exact ⟨Nat.zero_le _, by have := (j 2).isLt; show _ < 0 + 1152; change _ < 1152 at this; omega⟩
  iintro H
  iapply Hk
  isplitl [G]; · iexact G
  iexact H

theorem copyRow_spec (a b : ℕ) (ha : a < 7) (hb : b < 7) (V V' : Vec F (Sh3 7 z.p 1152) .fp8e4m3) (D D' : (Sh3 7 z.p 1152).Idx → Prop)
    (hD : ∀ j, (j 0).val = a → D j)
    (hV : ∀ j, (j 0).val = b → V' j = V (ix3 ⟨a, ha⟩ (j 1) (j 2))) :
    iprop(prt c src V D ∗ prt c dst V' D') ⊢
      iprop((iprop(prt c src V D ∗ prt c dst V' (fun j => D' j ∨ (j 0).val = b)) -∗ wpc dfs c (κ ⟨⟩) P)
        -∗ wpc dfs c (copyRow z src dst hd a b ha hb >>= κ) P) := by
  iintro ⟨G, H⟩ Hk
  unfold copyRow
  iapply (part_load (c : Thread nD τ) ?_) $$ G
  · intro y; refine hD _ ?_
    have := fin1 (y 0); show a + 1 * (y 0).val = a; omega
  iintro G
  iapply (part_load_any (c : Thread nD τ)) $$ H
  iintro H
  iapply (part_store (c : Thread nD τ) (D' := fun j => D' j ∨ (j 0).val = b) ?_ ?_) $$ H
  · intro y
    refine (cast_1ab _ _ y).trans ?_
    rw [hV _ (by have := fin1 (y 0); show b + 1 * (y 0).val = b; omega)]
    refine (cast_ab _ _ _).trans (congrArg V ?_)
    refine (eq_ix3 _).trans (congr (congrArg₂ ix3 (Fin.ext ?_) (Fin.ext ?_)) (Fin.ext ?_))
    · show a + 1 * 0 = a; omega
    · show 0 + 1 * (y 1).val = 0 + 1 * (y 1).val; omega
    · show 0 + 1 * (y 2).val = 0 + 1 * (y 2).val; omega
  · intro j hj
    refine hj.imp_right fun h => Rect.mem_set_unit.mpr fun a => ?_
    match a with
    | 0 => exact ⟨h.ge, by show _ < b + 1; omega⟩
    | 1 => exact ⟨Nat.zero_le _, by have := (j 1).isLt; show _ < 0 + z.p; change _ < z.p at this; omega⟩
    | 2 => exact ⟨Nat.zero_le _, by have := (j 2).isLt; show _ < 0 + 1152; change _ < 1152 at this; omega⟩
  iintro H
  iapply Hk
  isplitl [G]; · iexact G
  iexact H

/-- The convolution's product for the output rows `g` and `g + 1`. -/
def convG (V : Vec F (Sh3 7 z.p 1152) .fp8e4m3) (W6 : Vec F (Sh2 3456 384) .fp8e4m3) (g : ℕ) (hg : g < 3) : FVec F (Sh2 (2 * z.p) 384) .f32 :=
  convDot z (fun x => V ((rXtwo z g (by omega)).toLoadRect.idx x)) (fun x => V ((rXtwo z (g + 1) (by omega)).toLoadRect.idx x)) (fun x => V ((rXtwo z (g + 2) (by omega)).toLoadRect.idx x))
    (fun x => W6 ((Rect.unit (s := (Sh2 3456 384)) ![0, 0] (Sh2 3456 384).size (inb2 (by omega) (by omega))).toLoadRect.idx x))

/-- The convolution's product for the last output row. -/
def convG1 (V : Vec F (Sh3 7 z.p 1152) .fp8e4m3) (W6 : Vec F (Sh2 3456 384) .fp8e4m3) : FVec F (Sh2 z.p 384) .f32 :=
  convDot1 z (fun x => V ((rXrow z 4 (by omega)).toLoadRect.idx x)) (fun x => V ((rXrow z 5 (by omega)).toLoadRect.idx x)) (fun x => V ((rXrow z 6 (by omega)).toLoadRect.idx x))
    (fun x => W6 ((Rect.unit (s := (Sh2 3456 384)) ![0, 0] (Sh2 3456 384).size (inb2 (by omega) (by omega))).toLoadRect.idx x))

theorem half_le (p n : ℕ) : p * (n % 2) ≤ p := by
  rcases Nat.mod_two_eq_zero_or_one n with h | h <;> rw [h] <;> omega

/-- The five output rows of the laid-out rows `V`. -/
def convV (K : Consts F) (V : Vec F (Sh3 7 z.p 1152) .fp8e4m3) (W6 : Vec F (Sh2 3456 384) .fp8e4m3) : Vec F (Sh3 5 z.w 384) .bf16 := fun j =>
  if h : (j 0).val < 4 then
    outRow z (z.p * ((j 0).val % 2)) (half_le _ _) K.so K.bo (convG z V W6 ((j 0).val / 2 * 2) (by omega)) (ix2 (j 1) (j 2))
  else outRow1 z K.so K.bo (convG1 z V W6) (ix2 (j 1) (j 2))

theorem convV_apply (K : Consts F) (V : Vec F (Sh3 7 z.p 1152) .fp8e4m3) (W6 : Vec F (Sh2 3456 384) .fp8e4m3) (j : (Sh3 5 z.w 384).Idx) {g l : ℕ} (hg : g < 3) (hl : l ≤ z.p)
    (p : Fin z.w) (q : Fin 384) (h : (j 0).val < 4) (h0 : (j 0).val / 2 * 2 = g) (hl0 : z.p * ((j 0).val % 2) = l) (h1 : (j 1).val = p.val) (h2 : (j 2).val = q.val) :
    convV z K V W6 j = outRow z l hl K.so K.bo (convG z V W6 g hg) (ix2 p q) := by
  subst h0 hl0
  unfold convV
  rw [dif_pos h]
  congr 2
  · exact Fin.ext h1
  · exact Fin.ext h2

theorem convV_apply1 (K : Consts F) (V : Vec F (Sh3 7 z.p 1152) .fp8e4m3) (W6 : Vec F (Sh2 3456 384) .fp8e4m3) (j : (Sh3 5 z.w 384).Idx)
    (p : Fin z.w) (q : Fin 384) (h : ¬ (j 0).val < 4) (h1 : (j 1).val = p.val) (h2 : (j 2).val = q.val) :
    convV z K V W6 j = outRow1 z K.so K.bo (convG1 z V W6) (ix2 p q) := by
  unfold convV
  rw [dif_neg h]
  congr 2
  · exact Fin.ext h1
  · exact Fin.ext h2

variable (arg6 : Memref sig .tc .vmem (Sh2 3456 384) .fp8e4m3) (o : Memref sig .tc .vmem (Sh3 5 z.w 384) .bf16) (ho : o.IsWhole)

theorem outStore_spec (K : Consts F) (V : Vec F (Sh3 7 z.p 1152) .fp8e4m3) (W6 : Vec F (Sh2 3456 384) .fp8e4m3) (j : ℕ) (hj : j < 5) (v : FVec F (Sh2 z.w 384) .bf16)
    (hv : ∀ (i : (Sh3 5 z.w 384).Idx) (p : Fin z.w) (q : Fin 384), (i 0).val = j → (i 1).val = p.val → (i 2).val = q.val → convV z K V W6 i = v (ix2 p q))
    (D : (Sh3 5 z.w 384).Idx → Prop) :
    prt c o (convV z K V W6) D ⊢
      iprop((prt c o (convV z K V W6) (fun i => D i ∨ (i 0).val = j) -∗ wpc dfs c (κ ⟨⟩) P)
        -∗ wpc dfs c (outStore z o ho j hj v >>= κ) P) := by
  iintro H Hk
  unfold outStore
  iapply (part_load_any (c : Thread nD τ)) $$ H
  iintro H
  iapply (part_store (c : Thread nD τ) (D' := fun i => D i ∨ (i 0).val = j) ?_ ?_) $$ H
  · intro y
    refine (cast_1ab _ _ y).trans (hv _ (y 1) (y 2) ?_ ?_ ?_).symm
    · have := fin1 (y 0); show j + 1 * (y 0).val = j; omega
    · show 0 + 1 * (y 1).val = _; omega
    · show 0 + 1 * (y 2).val = _; omega
  · intro i hi
    refine hi.imp_right fun h => Rect.mem_set_unit.mpr fun a => ?_
    match a with
    | 0 => exact ⟨h.ge, by show _ < j + 1; omega⟩
    | 1 => exact ⟨Nat.zero_le _, by have := (i 1).isLt; show _ < 0 + z.w; change _ < z.w at this; omega⟩
    | 2 => exact ⟨Nat.zero_le _, by have := (i 2).isLt; show _ < 0 + 384; change _ < 384 at this; omega⟩
  iintro H
  iapply Hk
  iexact H

theorem convGroup_spec (q q' : PosShare TreeShare) (K : Consts F) (V : Vec F (Sh3 7 z.p 1152) .fp8e4m3) (W6 : Vec F (Sh2 3456 384) .fp8e4m3) (j : ℕ) (hj : j < 3) (h0 : j / 2 * 2 = j)
    (D : (Sh3 5 z.w 384).Idx → Prop) :
    iprop(own c src q V ∗ own c arg6 q' W6 ∗ prt c o (convV z K V W6) D) ⊢
      iprop((iprop(own c src q V ∗ own c arg6 q' W6 ∗ prt c o (convV z K V W6) (fun i => D i ∨ (i 0).val / 2 * 2 = j)) -∗ wpc dfs c (κ ⟨⟩) P)
        -∗ wpc dfs c (convGroup z arg6 src o ho j hj K.so K.bo >>= κ) P) := by
  iintro ⟨Hx, HW, H⟩ Hk
  have h0m : j % 2 = 0 := by omega
  have h1m : (j + 1) % 2 = 1 := by omega
  unfold convGroup
  simp only [Prog.bind_assoc]
  iapply (owns_load (c : Thread nD τ)) $$ Hx
  iintro Hx
  iapply (owns_load (c : Thread nD τ)) $$ Hx
  iintro Hx
  iapply (owns_load (c : Thread nD τ)) $$ Hx
  iintro Hx
  iapply (owns_load (c : Thread nD τ)) $$ HW
  iintro HW
  iapply (outStore_spec z c o ho K V W6 j (by omega) (outRow z 0 (by omega) K.so K.bo (convG z V W6 j hj))
    (fun i p q h h1 h2 => convV_apply z K V W6 i hj (by omega) p q (by omega) (by omega) (by rw [h]; rw [h0m]; omega) h1 h2)) $$ H
  iintro H
  iapply (outStore_spec z c o ho K V W6 (j + 1) (by omega) (outRow z z.p (by omega) K.so K.bo (convG z V W6 j hj))
    (fun i p q h h1 h2 => convV_apply z K V W6 i hj (by omega) p q (by omega) (by omega) (by rw [h]; rw [h1m]; omega) h1 h2)) $$ H
  iintro H
  iapply Hk
  isplitl [Hx]; · iexact Hx
  isplitl [HW]; · iexact HW
  iapply (part_mono (c : Thread nD τ) ?_) $$ H
  intro i hi
  refine ⟨?_, rfl⟩
  rcases hi with h | h
  · exact .inl (.inl h)
  · rcases (by omega : (i 0).val = j ∨ (i 0).val = j + 1) with h | h
    · exact .inl (.inr h)
    · exact .inr h

theorem convOne_spec (q q' : PosShare TreeShare) (K : Consts F) (V : Vec F (Sh3 7 z.p 1152) .fp8e4m3) (W6 : Vec F (Sh2 3456 384) .fp8e4m3)
    (D : (Sh3 5 z.w 384).Idx → Prop) :
    iprop(own c src q V ∗ own c arg6 q' W6 ∗ prt c o (convV z K V W6) D) ⊢
      iprop((iprop(own c src q V ∗ own c arg6 q' W6 ∗ prt c o (convV z K V W6) (fun i => D i ∨ (i 0).val = 4)) -∗ wpc dfs c (κ ⟨⟩) P)
        -∗ wpc dfs c (convOne z arg6 src o ho 4 (by omega) K.so K.bo >>= κ) P) := by
  iintro ⟨Hx, HW, H⟩ Hk
  unfold convOne
  simp only [Prog.bind_assoc]
  iapply (owns_load (c : Thread nD τ)) $$ Hx
  iintro Hx
  iapply (owns_load (c : Thread nD τ)) $$ Hx
  iintro Hx
  iapply (owns_load (c : Thread nD τ)) $$ Hx
  iintro Hx
  iapply (owns_load (c : Thread nD τ)) $$ HW
  iintro HW
  iapply (outStore_spec z c o ho K V W6 4 (by omega) (outRow1 z K.so K.bo (convG1 z V W6))
    (fun i p q h h1 h2 => convV_apply1 z K V W6 i p q (by omega) h1 h2)) $$ H
  iintro H
  iapply Hk
  isplitl [Hx]; · iexact Hx
  isplitl [HW]; · iexact HW
  iexact H

end

end Cert.Rows
-- ==== Proof.Half.lean ====
/-
  The straight line as a whole: from the blocks of its inputs it leaves the block of codes, the rows laid out for the
  convolution, and ten finished rows of the result, five of which belong to the block before.
-/
module

public import proofs.«01_k».proof.Proof.RowSpec

@[expose] public section

set_option maxRecDepth 4096

noncomputable section

namespace Cert.Rows

open Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F] {dfs : Defs nD τ sig (Elt F) Λ} (z : Sizes)

/-- The proof's user algebra: the pipeline library's beside the transfers' counters. -/
local notation "𝕄" => MT nD τ sig Unit (Elt F) ℕ (Pipeline.UD sig nD τ) ℕ

/-! ## The values -/

/-- The scales and biases, from the arrays they are read from. -/
def constsV (cs : Vec F (Sh1 1) .f32) (s4 b5 : Vec F (Sh2 1 384) .f32) (s7 b8 : Vec F (Sh2 1 384) .f32) (ms inv : Vec F (Sh1 1) .f32) : Consts F :=
  ⟨mulf (broadcast (Sh2 1 384) (cs (ix1 0))) (shapeCast (Sh2 1 384) (fun x => s4 ((Rect.unit (s := (Sh2 1 384)) ![0, 0] (Sh2 1 384).size (inb2 (by omega) (by omega))).toLoadRect.idx x)) rfl),
    shapeCast (Sh2 1 384) (fun x => b5 ((Rect.unit (s := (Sh2 1 384)) ![0, 0] (Sh2 1 384).size (inb2 (by omega) (by omega))).toLoadRect.idx x)) rfl,
    mulf (broadcast (Sh2 1 384) (ms (ix1 0))) (shapeCast (Sh2 1 384) (fun x => s7 ((Rect.unit (s := (Sh2 1 384)) ![0, 0] (Sh2 1 384).size (inb2 (by omega) (by omega))).toLoadRect.idx x)) rfl),
    shapeCast (Sh2 1 384) (fun x => b8 ((Rect.unit (s := (Sh2 1 384)) ![0, 0] (Sh2 1 384).size (inb2 (by omega) (by omega))).toLoadRect.idx x)) rfl,
    inv (ix1 0)⟩

section
variable (keep : BitVec 1) (X : Vec F (Sh3 7 z.p 1152) .fp8e4m3)
  (K : Consts F) (W : Vec F (Sh2 z.ci 384) .fp8e4m3) (C : Vec F (Sh3 10 z.w z.ci) .fp8e4m3) (U : Vec F (Sh4 5 3 z.uw 128) .f32)

/-- Row `r` of the block, laid out, at the position and lane of `j`. -/
abbrev xrowJ (r : ℕ) (hr : r < 10) (j : (Sh3 7 z.p 1152).Idx) : Elt F .fp8e4m3 := xrowV z K W C U r hr (j 1).val (j 2).val (j 1).isLt (j 2).isLt

/-- The first operand: the row above the block (from `X`, what the second operand held before), then rows 0 … 5. -/
def xaV : Vec F (Sh3 7 z.p 1152) .fp8e4m3 := fun j =>
  if (j 0).val = 0 then (if keep = 1#1 then X (ix3 (5 : Fin 7) (j 1) (j 2)) else Scalar.ofBits .fp8e4m3 0x00#8)
  else xrowJ z K W C U ((j 0).val - 1) (by have h : (j 0).val < 7 := (j 0).isLt; omega) j

/-- The second operand as the block before left it, completed by the row below. -/
def xbOldV : Vec F (Sh3 7 z.p 1152) .fp8e4m3 := fun j =>
  if (j 0).val = 6 then (if keep = 1#1 then xrowJ z K W C U 0 (by omega) j else Scalar.ofBits .fp8e4m3 0x00#8) else X j

/-- The second operand as this block leaves it: rows 4 … 9. -/
def xbNewV : Vec F (Sh3 7 z.p 1152) .fp8e4m3 := fun j =>
  if h : (j 0).val < 6 then xrowJ z K W C U ((j 0).val + 4) (by omega) j else Scalar.ofBits .fp8e4m3 0x00#8

theorem xaV_0 (j : (Sh3 7 z.p 1152).Idx) (h : (j 0).val = 0) : xaV z keep X K W C U j = if keep = 1#1 then X (ix3 (5 : Fin 7) (j 1) (j 2)) else Scalar.ofBits .fp8e4m3 0x00#8 := if_pos h

theorem xaV_row (r : ℕ) (hr : r < 10) (j : (Sh3 7 z.p 1152).Idx) (h : (j 0).val = r + 1) : xaV z keep X K W C U j = xrowJ z K W C U r hr j := by
  unfold xaV
  rw [if_neg (by omega)]
  congr 1
  omega

theorem xbOldV_6 (j : (Sh3 7 z.p 1152).Idx) (h : (j 0).val = 6) : xbOldV z keep X K W C U j = if keep = 1#1 then xrowJ z K W C U 0 (by omega) j else Scalar.ofBits .fp8e4m3 0x00#8 := if_pos h
theorem xbOldV_ne (j : (Sh3 7 z.p 1152).Idx) (h : (j 0).val ≠ 6) : xbOldV z keep X K W C U j = X j := if_neg h

/-- Only the first six rows of what was there matter. -/
theorem xbOldV_congr (X' : Vec F (Sh3 7 z.p 1152) .fp8e4m3) (h : ∀ j, (j 0).val < 6 → X j = X' j) : xbOldV z keep X K W C U = xbOldV z keep X' K W C U := by
  funext j
  unfold xbOldV
  split
  · rfl
  · have h6 : (j 0).val < 7 := (j 0).isLt
    exact h j (by omega)
theorem xaV_congr (X' : Vec F (Sh3 7 z.p 1152) .fp8e4m3) (h : ∀ j, (j 0).val < 6 → X j = X' j) : xaV z keep X K W C U = xaV z keep X' K W C U := by
  funext j
  unfold xaV
  split
  · rw [h _ (by show 5 < 6; omega)]
  · rfl

theorem xbNewV_row (r : ℕ) (hr : r < 10) (j : (Sh3 7 z.p 1152).Idx) (h : (j 0).val + 4 = r) : xbNewV z K W C U j = xrowJ z K W C U r hr j := by
  subst h
  unfold xbNewV
  rw [dif_pos (by omega)]

end

/-! ## The triples -/

section

variable (c : Dev nD) {κ : PUnit.{1} → PR nD τ sig Λ F PUnit.{1}} {P : Post nD τ sig F}
variable (arg1 : Memref sig .tc .vmem (Sh3 10 z.w z.ci) .fp8e4m3) (arg2 : Memref sig .tc .smem (Sh1 1) .f32) (arg3 : Memref sig .tc .vmem (Sh2 z.ci 384) .fp8e4m3)
  (arg4 arg5 : Memref sig .tc .vmem (Sh2 1 384) .f32) (arg6 : Memref sig .tc .vmem (Sh2 3456 384) .fp8e4m3) (arg7 arg8 : Memref sig .tc .vmem (Sh2 1 384) .f32)
  (arg9 arg10 : Memref sig .tc .smem (Sh1 1) .f32) (arg11 : Memref sig .tc .vmem (Sh3 5 z.cw 384) .fp8e4m3) (arg12 : Memref sig .tc .smem (Sh1 1) .f32)
  (arg14 : Memref sig .tc .vmem (Sh3 10 z.w 384) .fp8e4m3) (h14 : arg14.IsWhole)
  (arg15 : Memref sig .tc .vmem (Sh4 5 3 z.uw 128) .f32) (arg16 : Memref sig .tc .vmem (Sh4 2 3 z.qp 128) .f32)
  (arg17 : Memref sig .tc .vmem (Sh3 7 z.p 1152) .fp8e4m3) (h17 : arg17.IsWhole) (arg18 : Memref sig .tc .vmem (Sh3 7 z.p 1152) .fp8e4m3) (h18 : arg18.IsWhole)
  (arg19 : Memref sig .tc .vmem (Sh3 5 z.w 384) .bf16) (h19 : arg19.IsWhole) (arg20 : Memref sig .tc .vmem (Sh3 5 z.w 384) .bf16) (h20 : arg20.IsWhole)
variable (K : Consts F) (W : Vec F (Sh2 z.ci 384) .fp8e4m3) (C : Vec F (Sh3 10 z.w z.ci) .fp8e4m3) (U : Vec F (Sh4 5 3 z.uw 128) .f32) (W6 : Vec F (Sh2 3456 384) .fp8e4m3)

/-- The small inputs, read once. -/
def smallOwn (cs : Vec F (Sh1 1) .f32) (s4 b5 s7 b8 : Vec F (Sh2 1 384) .f32) (ms inv : Vec F (Sh1 1) .f32) : sProp 𝕄 :=
  iprop(own c arg2 fullShare cs ∗ own c arg4 fullShare s4 ∗ own c arg5 fullShare b5 ∗ own c arg7 fullShare s7 ∗ own c arg8 fullShare b8 ∗ own c arg9 fullShare ms ∗ own c arg10 fullShare inv)

theorem readConsts_spec {κ : Consts F → PR nD τ sig Λ F PUnit.{1}} (cs : Vec F (Sh1 1) .f32) (s4 b5 s7 b8 : Vec F (Sh2 1 384) .f32) (ms inv : Vec F (Sh1 1) .f32) :
    smallOwn c arg2 arg4 arg5 arg7 arg8 arg9 arg10 cs s4 b5 s7 b8 ms inv ⊢
      iprop((smallOwn c arg2 arg4 arg5 arg7 arg8 arg9 arg10 cs s4 b5 s7 b8 ms inv -∗ wpc dfs c (κ (constsV cs s4 b5 s7 b8 ms inv)) P)
        -∗ wpc dfs c (readConsts arg2 arg4 arg5 arg7 arg8 arg9 arg10 >>= κ) P) := by
  obtain ⟨v, rfl⟩ := s1_const cs
  obtain ⟨v', rfl⟩ := s1_const ms
  obtain ⟨v'', rfl⟩ := s1_const inv
  unfold smallOwn
  iintro ⟨H2, H4, H5, H7, H8, H9, H10⟩ Hk
  unfold readConsts
  simp only [Prog.bind_assoc]
  iapply (owns_load (c : Thread nD τ)) $$ H2
  iintro H2
  iapply (owns_load (c : Thread nD τ)) $$ H4
  iintro H4
  iapply (owns_load (c : Thread nD τ)) $$ H5
  iintro H5
  iapply (owns_load (c : Thread nD τ)) $$ H9
  iintro H9
  iapply (owns_load (c : Thread nD τ)) $$ H7
  iintro H7
  iapply (owns_load (c : Thread nD τ)) $$ H8
  iintro H8
  iapply (owns_load (c : Thread nD τ)) $$ H10
  iintro H10
  iapply Hk
  isplitl [H2]; · iexact H2
  isplitl [H4]; · iexact H4
  isplitl [H5]; · iexact H5
  isplitl [H7]; · iexact H7
  isplitl [H8]; · iexact H8
  isplitl [H9]; · iexact H9
  iexact H10

/-- What a row of codes reads and writes, but for the operand it is laid out in: the codes are known at `E`. -/
def rowOwn (E : (Sh3 10 z.w 384).Idx → Prop) : sProp 𝕄 :=
  iprop(own c arg1 fullShare C ∗ own c arg3 fullShare W ∗ prt c arg15 U (inRow z) ∗ prt c arg14 (codesV z K W C U) E ∗ prt c arg16 (fun _ => Scalar.ofBits .f32 0x00000000#32) (border z))

theorem row_spec (x : Memref sig .tc .vmem (Sh3 7 z.p 1152) .fp8e4m3) (hx : x.IsWhole) (r u s k : ℕ) (hr : r < 10) (hu : u < 5) (hs : s < 2) (hk : k < 7) (hur : u = r / 2)
    (V : Vec F (Sh3 7 z.p 1152) .fp8e4m3) (D : (Sh3 7 z.p 1152).Idx → Prop) (E : (Sh3 10 z.w 384).Idx → Prop) (hV : ∀ j, (j 0).val = k → V j = xrowJ z K W C U r hr j) :
    iprop(rowOwn z c arg1 arg3 arg14 arg15 arg16 K W C U E ∗ prt c x V D) ⊢
      iprop((iprop(rowOwn z c arg1 arg3 arg14 arg15 arg16 K W C U (fun j => E j ∨ (j 0).val = r) ∗ prt c x V (fun j => D j ∨ (j 0).val = k)) -∗ wpc dfs c (κ ⟨⟩) P)
        -∗ wpc dfs c (quantRow z arg1 arg3 arg14 h14 arg15 arg16 x hx r u s k hr hu hs hk K.sc K.bi K.inv >>= κ) P) := by
  unfold rowOwn
  iintro ⟨⟨HC, HW, HU, H14, H16⟩, Hx⟩ Hk
  iapply (quantRow_spec z c arg1 arg3 arg14 h14 arg15 arg16 x hx K W C U fullShare fullShare r u s k hr hu hs hk hur _ (fun _ _ => rfl) V D E hV) $$ [HC HW HU H14 H16 Hx]
  · isplitl [HC]; · iexact HC
    isplitl [HW]; · iexact HW
    isplitl [HU]; · iexact HU
    isplitl [H14]; · iexact H14
    isplitl [H16]; · iexact H16
    iexact Hx
  iintro ⟨HC, HW, HU, H14, H16, Hx⟩
  iapply Hk
  isplitr [Hx]
  · isplitl [HC]; · iexact HC
    isplitl [HW]; · iexact HW
    isplitl [HU]; · iexact HU
    isplitl [H14]; · iexact H14
    iexact H16
  · iexact Hx

theorem midA_spec (keep : BitVec 1) (X X7 : Vec F (Sh3 7 z.p 1152) .fp8e4m3) (X20 : Vec F (Sh3 5 z.w 384) .bf16) :
    iprop(rowOwn z c arg1 arg3 arg14 arg15 arg16 K W C U (fun _ => False) ∗ own c arg6 fullShare W6 ∗ own c arg17 fullShare X7 ∗ own c arg18 fullShare X ∗ own c arg20 fullShare X20) ⊢
      iprop((iprop(rowOwn z c arg1 arg3 arg14 arg15 arg16 K W C U (fun j => (j 0).val < 5) ∗ own c arg6 fullShare W6 ∗ prt c arg17 (xaV z keep X K W C U) (fun j => (j 0).val < 6)
            ∗ own c arg18 fullShare (xbOldV z keep X K W C U) ∗ own c arg20 fullShare (convV z K (xbOldV z keep X K W C U) W6)) -∗ wpc dfs c (κ ⟨⟩) P)
        -∗ wpc dfs c (midA z arg1 arg3 arg6 arg14 h14 arg15 arg16 arg17 h17 arg18 h18 arg20 h20 keep K >>= κ) P) := by
  iintro ⟨R, H6, H17, H18, H20⟩ Hk
  ihave H17 := (owns_part (c : Thread nD τ) (V := xaV z keep X K W C U) (D := fun _ => False) (fun _ h => h.elim)) $$ H17
  ihave H18 := (owns_part (c : Thread nD τ) (V := xbOldV z keep X K W C U) (D := fun j => (j 0).val ≠ 6) (fun j h => (xbOldV_ne z keep X K W C U j h).symm)) $$ H18
  ihave H20 := (owns_part (c : Thread nD τ) (V := convV z K (xbOldV z keep X K W C U) W6) (D := fun _ => False) (fun _ h => h.elim)) $$ H20
  unfold midA
  simp only [Prog.bind_assoc]
  iapply (copyKeep_spec z c arg18 arg17 h17 5 0 _ _ keep (xbOldV z keep X K W C U) (xaV z keep X K W C U) _ _ ?_ ?_) $$ [H18 H17]
  · intro j h; show (j 0).val ≠ 6; omega
  · intro j h
    rw [xaV_0 z keep X K W C U j h, xbOldV_ne z keep X K W C U _ (by show 5 ≠ 6; omega)]; rfl
  · isplitl [H18]; · iexact H18
    iexact H17
  iintro ⟨H18, H17⟩
  iapply (row_spec z c arg1 arg3 arg14 h14 arg15 arg16 K W C U arg17 h17 0 0 0 1 _ _ _ _ rfl _ _ _ (fun j h => xaV_row z keep X K W C U 0 _ j h)) $$ [R H17]
  · isplitl [R]; · iexact R
    iexact H17
  iintro ⟨R, H17⟩
  iapply (copyKeep_spec z c arg17 arg18 h18 1 6 _ _ keep (xaV z keep X K W C U) (xbOldV z keep X K W C U) _ _ ?_ ?_) $$ [H17 H18]
  · intro j h; show (False ∨ (j 0).val = 0) ∨ (j 0).val = 1; exact .inr h
  · intro j h
    rw [xbOldV_6 z keep X K W C U j h, xaV_row z keep X K W C U 0 (by omega) _ rfl]; rfl
  · isplitl [H17]; · iexact H17
    iexact H18
  iintro ⟨H17, H18⟩
  iapply (row_spec z c arg1 arg3 arg14 h14 arg15 arg16 K W C U arg17 h17 1 0 1 2 _ _ _ _ rfl _ _ _ (fun j h => xaV_row z keep X K W C U 1 _ j h)) $$ [R H17]
  · isplitl [R]; · iexact R
    iexact H17
  iintro H
  iapply (row_spec z c arg1 arg3 arg14 h14 arg15 arg16 K W C U arg17 h17 2 1 0 3 _ _ _ _ rfl _ _ _ (fun j h => xaV_row z keep X K W C U 2 _ j h)) $$ H
  iintro H
  iapply (row_spec z c arg1 arg3 arg14 h14 arg15 arg16 K W C U arg17 h17 3 1 1 4 _ _ _ _ rfl _ _ _ (fun j h => xaV_row z keep X K W C U 3 _ j h)) $$ H
  iintro H
  iapply (row_spec z c arg1 arg3 arg14 h14 arg15 arg16 K W C U arg17 h17 4 2 0 5 _ _ _ _ rfl _ _ _ (fun j h => xaV_row z keep X K W C U 4 _ j h)) $$ H
  iintro ⟨R, H17⟩
  ihave H18 := (part_owns (c : Thread nD τ) ?_) $$ H18
  · intro j
    by_cases h : (j 0).val = 6
    · exact .inr h
    · exact .inl h
  iapply (convGroup_spec z c arg18 arg6 arg20 h20 fullShare fullShare K (xbOldV z keep X K W C U) W6 0 _ rfl _) $$ [H18 H6 H20]
  · isplitl [H18]; · iexact H18
    isplitl [H6]; · iexact H6
    iexact H20
  iintro H
  iapply (convGroup_spec z c arg18 arg6 arg20 h20 fullShare fullShare K (xbOldV z keep X K W C U) W6 2 _ rfl _) $$ H
  iintro H
  iapply (convOne_spec z c arg18 arg6 arg20 h20 fullShare fullShare K (xbOldV z keep X K W C U) W6 _) $$ H
  iintro ⟨H18, H6, H20⟩
  iapply Hk
  isplitl [R]
  · unfold rowOwn
    icases R with ⟨HC, HW, HU, H14, H16⟩
    isplitl [HC]; · iexact HC
    isplitl [HW]; · iexact HW
    isplitl [HU]; · iexact HU
    isplitl [H14]
    · iapply (part_mono (c : Thread nD τ) ?_) $$ H14
      intro j hj
      exact ⟨by omega, rfl⟩
    iexact H16
  isplitl [H6]; · iexact H6
  isplitl [H17]
  · iapply (part_mono (c : Thread nD τ) ?_) $$ H17
    intro j hj
    exact ⟨by omega, rfl⟩
  isplitl [H18]; · iexact H18
  iapply (part_owns (c : Thread nD τ) ?_) $$ H20
  intro j
  have h : (j 0).val < 5 := (j 0).isLt
  omega

theorem midB_spec (keep : BitVec 1) (X X' : Vec F (Sh3 7 z.p 1152) .fp8e4m3) (X19 : Vec F (Sh3 5 z.w 384) .bf16) :
    iprop(rowOwn z c arg1 arg3 arg14 arg15 arg16 K W C U (fun j => (j 0).val < 5) ∗ own c arg6 fullShare W6 ∗ prt c arg17 (xaV z keep X K W C U) (fun j => (j 0).val < 6)
        ∗ own c arg18 fullShare X' ∗ own c arg19 fullShare X19) ⊢
      iprop((iprop(rowOwn z c arg1 arg3 arg14 arg15 arg16 K W C U (fun _ => True) ∗ own c arg6 fullShare W6 ∗ own c arg17 fullShare (xaV z keep X K W C U)
            ∗ prt c arg18 (xbNewV z K W C U) (fun j => (j 0).val < 6) ∗ own c arg19 fullShare (convV z K (xaV z keep X K W C U) W6)) -∗ wpc dfs c (κ ⟨⟩) P)
        -∗ wpc dfs c (midB z arg1 arg3 arg6 arg14 h14 arg15 arg16 arg17 h17 arg18 h18 arg19 h19 K >>= κ) P) := by
  iintro ⟨R, H6, H17, H18, H19⟩ Hk
  ihave H18 := (owns_part (c : Thread nD τ) (V := xbNewV z K W C U) (D := fun _ => False) (fun _ h => h.elim)) $$ H18
  ihave H19 := (owns_part (c : Thread nD τ) (V := convV z K (xaV z keep X K W C U) W6) (D := fun _ => False) (fun _ h => h.elim)) $$ H19
  unfold midB
  simp only [Prog.bind_assoc]
  iapply (copyRow_spec z c arg17 arg18 h18 5 0 _ _ (xaV z keep X K W C U) (xbNewV z K W C U) _ _ ?_ ?_) $$ [H17 H18]
  · intro j h; show (j 0).val < 6; omega
  · intro j h
    rw [xbNewV_row z K W C U 4 (by omega) j (by omega), xaV_row z keep X K W C U 4 (by omega) _ rfl]; rfl
  · isplitl [H17]; · iexact H17
    iexact H18
  iintro ⟨H17, H18⟩
  iapply (row_spec z c arg1 arg3 arg14 h14 arg15 arg16 K W C U arg18 h18 5 2 1 1 _ _ _ _ rfl _ _ _ (fun j h => xbNewV_row z K W C U 5 _ j (by omega))) $$ [R H18]
  · isplitl [R]; · iexact R
    iexact H18
  iintro ⟨R, H18⟩
  iapply (copyRow_spec z c arg18 arg17 h17 1 6 _ _ (xbNewV z K W C U) (xaV z keep X K W C U) _ _ ?_ ?_) $$ [H18 H17]
  · intro j h; show (False ∨ (j 0).val = 0) ∨ (j 0).val = 1; exact .inr h
  · intro j h
    rw [xbNewV_row z K W C U 5 (by omega) _ rfl, xaV_row z keep X K W C U 5 (by omega) _ h]; rfl
  · isplitl [H18]; · iexact H18
    iexact H17
  iintro ⟨H18, H17⟩
  iapply (row_spec z c arg1 arg3 arg14 h14 arg15 arg16 K W C U arg18 h18 6 3 0 2 _ _ _ _ rfl _ _ _ (fun j h => xbNewV_row z K W C U 6 _ j (by omega))) $$ [R H18]
  · isplitl [R]; · iexact R
    iexact H18
  iintro H
  iapply (row_spec z c arg1 arg3 arg14 h14 arg15 arg16 K W C U arg18 h18 7 3 1 3 _ _ _ _ rfl _ _ _ (fun j h => xbNewV_row z K W C U 7 _ j (by omega))) $$ H
  iintro H
  iapply (row_spec z c arg1 arg3 arg14 h14 arg15 arg16 K W C U arg18 h18 8 4 0 4 _ _ _ _ rfl _ _ _ (fun j h => xbNewV_row z K W C U 8 _ j (by omega))) $$ H
  iintro H
  iapply (row_spec z c arg1 arg3 arg14 h14 arg15 arg16 K W C U arg18 h18 9 4 1 5 _ _ _ _ rfl _ _ _ (fun j h => xbNewV_row z K W C U 9 _ j (by omega))) $$ H
  iintro ⟨R, H18⟩
  ihave H17 := (part_owns (c : Thread nD τ) ?_) $$ H17
  · intro j
    have h : (j 0).val < 7 := (j 0).isLt
    omega
  iapply (convGroup_spec z c arg17 arg6 arg19 h19 fullShare fullShare K (xaV z keep X K W C U) W6 0 _ rfl _) $$ [H17 H6 H19]
  · isplitl [H17]; · iexact H17
    isplitl [H6]; · iexact H6
    iexact H19
  iintro H
  iapply (convGroup_spec z c arg17 arg6 arg19 h19 fullShare fullShare K (xaV z keep X K W C U) W6 2 _ rfl _) $$ H
  iintro H
  iapply (convOne_spec z c arg17 arg6 arg19 h19 fullShare fullShare K (xaV z keep X K W C U) W6 _) $$ H
  iintro ⟨H17, H6, H19⟩
  iapply Hk
  isplitl [R]
  · unfold rowOwn
    icases R with ⟨HC, HW, HU, H14, H16⟩
    isplitl [HC]; · iexact HC
    isplitl [HW]; · iexact HW
    isplitl [HU]; · iexact HU
    isplitl [H14]
    · iapply (part_mono (c : Thread nD τ) ?_) $$ H14
      intro j hj
      have h : (j 0).val < 10 := (j 0).isLt
      exact ⟨by omega, rfl⟩
    iexact H16
  isplitl [H6]; · iexact H6
  isplitl [H17]; · iexact H17
  isplitl [H18]
  · iapply (part_mono (c : Thread nD τ) ?_) $$ H18
    intro j hj
    exact ⟨by omega, rfl⟩
  iapply (part_owns (c : Thread nD τ) ?_) $$ H19
  intro j
  have h : (j 0).val < 5 := (j 0).isLt
  omega

/-- The inputs' blocks, held. -/
def insOwn (C : Vec F (Sh3 10 z.w z.ci) .fp8e4m3) (cs : Vec F (Sh1 1) .f32) (W : Vec F (Sh2 z.ci 384) .fp8e4m3) (s4 b5 : Vec F (Sh2 1 384) .f32) (W6 : Vec F (Sh2 3456 384) .fp8e4m3)
    (s7 b8 : Vec F (Sh2 1 384) .f32) (ms inv : Vec F (Sh1 1) .f32) (Q : Vec F (Sh3 5 z.cw 384) .fp8e4m3) (qs : Vec F (Sh1 1) .f32) : sProp 𝕄 :=
  iprop(own c arg1 fullShare C ∗ own c arg2 fullShare cs ∗ own c arg3 fullShare W ∗ own c arg4 fullShare s4 ∗ own c arg5 fullShare b5 ∗ own c arg6 fullShare W6
    ∗ own c arg7 fullShare s7 ∗ own c arg8 fullShare b8 ∗ own c arg9 fullShare ms ∗ own c arg10 fullShare inv ∗ own c arg11 fullShare Q ∗ own c arg12 fullShare qs)

/-- The straight line. -/
theorem mid_spec (keep : BitVec 1) (cs : Vec F (Sh1 1) .f32) (s4 b5 s7 b8 : Vec F (Sh2 1 384) .f32) (ms inv : Vec F (Sh1 1) .f32) (Q : Vec F (Sh3 5 z.cw 384) .fp8e4m3) (qs : Vec F (Sh1 1) .f32)
    (hK : K = constsV cs s4 b5 s7 b8 ms inv) (hU : U = upV z (qs (ix1 0)) Q)
    (X14 : Vec F (Sh3 10 z.w 384) .fp8e4m3) (X15 : Vec F (Sh4 5 3 z.uw 128) .f32) (X17 X : Vec F (Sh3 7 z.p 1152) .fp8e4m3) (X19 X20 : Vec F (Sh3 5 z.w 384) .bf16) :
    iprop(insOwn z c arg1 arg2 arg3 arg4 arg5 arg6 arg7 arg8 arg9 arg10 arg11 arg12 C cs W s4 b5 W6 s7 b8 ms inv Q qs ∗ own c arg14 fullShare X14 ∗ own c arg15 fullShare X15
        ∗ prt c arg16 (fun _ => Scalar.ofBits .f32 0x00000000#32) (border z) ∗ own c arg17 fullShare X17 ∗ own c arg18 fullShare X ∗ own c arg19 fullShare X19 ∗ own c arg20 fullShare X20) ⊢
      iprop((iprop(insOwn z c arg1 arg2 arg3 arg4 arg5 arg6 arg7 arg8 arg9 arg10 arg11 arg12 C cs W s4 b5 W6 s7 b8 ms inv Q qs ∗ own c arg14 fullShare (codesV z K W C U) ∗ prt c arg15 U (inRow z)
          ∗ prt c arg16 (fun _ => Scalar.ofBits .f32 0x00000000#32) (border z) ∗ own c arg17 fullShare (xaV z keep X K W C U)
          ∗ prt c arg18 (xbNewV z K W C U) (fun j => (j 0).val < 6)
          ∗ own c arg19 fullShare (convV z K (xaV z keep X K W C U) W6) ∗ own c arg20 fullShare (convV z K (xbOldV z keep X K W C U) W6)) -∗ wpc dfs c (κ ⟨⟩) P)
        -∗ wpc dfs c (mid z arg1 arg2 arg3 arg4 arg5 arg6 arg7 arg8 arg9 arg10 arg11 arg12 arg14 h14 arg15 arg16 arg17 h17 arg18 h18 arg19 h19 arg20 h20 keep >>= κ) P) := by
  subst hK hU
  unfold insOwn
  iintro ⟨⟨H1, H2, H3, H4, H5, H6, H7, H8, H9, H10, H11, H12⟩, H14, H15, H16, H17, H18, H19, H20⟩ Hk
  unfold mid
  simp only [Prog.bind_assoc]
  ihave H15 := (owns_part (c : Thread nD τ) (V := X15) (D := fun _ => False) (fun _ h => h.elim)) $$ H15
  ihave H14 := (owns_part (c : Thread nD τ) (V := codesV z (constsV cs s4 b5 s7 b8 ms inv) W C (upV z (qs (ix1 0)) Q)) (D := fun _ => False) (fun _ h => h.elim)) $$ H14
  iapply (upRows_spec z c arg11 arg15 arg12 fullShare fullShare Q qs X15 _) $$ [H11 H12 H15]
  · isplitl [H11]; · iexact H11
    isplitl [H12]; · iexact H12
    iexact H15
  iintro ⟨H11, H12, H15⟩
  iapply (readConsts_spec c arg2 arg4 arg5 arg7 arg8 arg9 arg10 cs s4 b5 s7 b8 ms inv) $$ [H2 H4 H5 H7 H8 H9 H10]
  · unfold smallOwn
    isplitl [H2]; · iexact H2
    isplitl [H4]; · iexact H4
    isplitl [H5]; · iexact H5
    isplitl [H7]; · iexact H7
    isplitl [H8]; · iexact H8
    isplitl [H9]; · iexact H9
    iexact H10
  iintro HS
  iapply (midA_spec z c arg1 arg3 arg6 arg14 h14 arg15 arg16 arg17 h17 arg18 h18 arg20 h20 (constsV cs s4 b5 s7 b8 ms inv) W C (upV z (qs (ix1 0)) Q) W6 keep X X17 X20) $$ [H1 H3 H6 H14 H15 H16 H17 H18 H20]
  · isplitl [H1 H3 H14 H15 H16]
    · unfold rowOwn
      isplitl [H1]; · iexact H1
      isplitl [H3]; · iexact H3
      isplitl [H15]; · iexact H15
      isplitl [H14]; · iexact H14
      iexact H16
    isplitl [H6]; · iexact H6
    isplitl [H17]; · iexact H17
    isplitl [H18]; · iexact H18
    iexact H20
  iintro ⟨R, H6, H17, H18, H20⟩
  iapply (midB_spec z c arg1 arg3 arg6 arg14 h14 arg15 arg16 arg17 h17 arg18 h18 arg19 h19 (constsV cs s4 b5 s7 b8 ms inv) W C (upV z (qs (ix1 0)) Q) W6 keep X _ X19) $$ [R H6 H17 H18 H19]
  · isplitl [R]; · iexact R
    isplitl [H6]; · iexact H6
    isplitl [H17]; · iexact H17
    isplitl [H18]; · iexact H18
    iexact H19
  unfold rowOwn smallOwn
  iintro ⟨⟨H1, H3, H15, H14, H16⟩, H6, H17, H18, H19⟩
  icases HS with ⟨H2, H4, H5, H7, H8, H9, H10⟩
  iapply Hk
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H14]
  · iapply (part_owns (c : Thread nD τ) (fun _ => trivial)) $$ H14
  isplitl [H15]; · iexact H15
  isplitl [H16]; · iexact H16
  isplitl [H17]; · iexact H17
  isplitl [H18]; · iexact H18
  isplitl [H19]; · iexact H19
  iexact H20

end

end Cert.Rows
-- ==== Proof.Body3.lean ====
/-
  The widths of level 3, and the programs and assertions of its kernel.
-/
module

public import proofs.«01_k».proof.Proof.Gen.Kernel3Ideal.Skeleton
public import proofs.«01_k».proof.Proof.Half

@[expose] public section

noncomputable section

namespace Cert.Kernel3Ideal.Hand

open Cert.Kernel3Ideal Cert.Kernel3Ideal.Gen Cert.Rules
open Idealize.ShloMosaic Idealize.ShloMosaic.TcCoe
open Idealize.SL Idealize.SL.RA Idealize.SL.BI Idealize.SL.Sem

/-- The level's widths. -/
abbrev lv : Cert.Rows.Sizes where
  w := 168
  cw := 84
  uw := 168
  p := 192
  qp := 208
  ci := 512
  cw0 := by decide
  w0 := by decide
  p0 := by decide
  ci0 := by decide
  w2 := by decide
  wu := by decide
  wp := by decide
  pq := by decide
  w4 := by decide
  p4 := by decide

/-- The type of the kernel's programs. -/
abbrev PR (F : FTy → Type) (α : Type) := Cert.Rows.PR nD τ sig Λ₀ F α

/-- What a program's end is asked to satisfy. -/
abbrev Post (F : FTy → Type) := Cert.Rows.Post nD τ sig F

/-- The weakest precondition on core `c`. -/
abbrev wpc {F : FTy → Type} [FloatOps F] (c : Dev nD) (p : PR F PUnit.{1}) (P : Post F) : sProp (MT nD τ sig Unit (Elt F) ℕ (Pipeline.UD sig nD τ) ℕ) :=
  Cert.Rows.wpc (defs₀ (F := F)) c p P

end Cert.Kernel3Ideal.Hand
-- ==== Proof.Shape3.lean ====
/-
  The printed kernel is a head, the straight line `mid`, and a tail.

  The head zeroes the scratch at the first point and waits for the copies started at the point before; the tail starts
  this point's copies and, at the last point, waits for the last one. Their text is the printed skeleton's.
-/
module

public import proofs.«01_k».proof.Proof.Body3

@[expose] public section

set_option maxRecDepth 65536

noncomputable section

namespace Cert.Kernel3Ideal.Hand

open Cert.Kernel3Ideal Cert.Kernel3Ideal.Gen Cert.Rows
open Idealize.ShloMosaic Idealize.ShloMosaic.TcCoe Idealize.SL.Sem

variable {F : FTy → Type} [FloatOps F]

/-- The head: at the first point the scratch is zeroed; from the second and third on the copies of the point before are
waited for. -/
def headP (i : grid0.Coords) (arg1 : Memref sig .tc .vmem S10x168x512 .fp8e4m3) (harg1 : arg1.IsWhole) (arg2 : Memref sig .tc .smem S1 .f32) (harg2 : arg2.IsWhole) (arg3 : Memref sig .tc .vmem S512x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x84x384 .fp8e4m3) (harg11 : arg11.IsWhole) (arg12 : Memref sig .tc .smem S1 .f32) (harg12 : arg12.IsWhole) (arg13 : Memref sig .tc .hbm S300x168x384 .bf16) (harg13 : arg13.IsWhole) (arg14 : Memref sig .tc .vmem S10x168x384 .fp8e4m3) (harg14 : arg14.IsWhole) (arg15 : Memref sig .tc .vmem S5x3x168x128 .f32) (harg15 : arg15.IsWhole) (arg16 : Memref sig .tc .vmem S2x3x208x128 .f32) (harg16 : arg16.IsWhole) (arg17 : Memref sig .tc .vmem S7x192x1152 .fp8e4m3) (harg17 : arg17.IsWhole) (arg18 : Memref sig .tc .vmem S7x192x1152 .fp8e4m3) (harg18 : arg18.IsWhole) (arg19 : Memref sig .tc .vmem S5x168x384 .bf16) (harg19 : arg19.IsWhole) (arg20 : Memref sig .tc .vmem S5x168x384 .bf16) (harg20 : arg20.IsWhole) (arg21 : DmaSems sig S2) : PR F PUnit := do
  let arg0 : BitVec 32 := BitVec.ofNat 32 (i 0).val
  let v0 : BitVec 32 := Scalar.remsi arg0 10#32
  let v1 : BitVec 1 := Scalar.cmpi .eq v0 0#32
  let v2 : BitVec 1 := Scalar.cmpi .eq arg0 0#32
  let v3 : BitVec 32 := Scalar.extui v2
  let v4 : BitVec 1 := Scalar.cmpi .ne v3 0#32
  if k0_h1 : v4 = 1#1 then do
    let v1310 : Vec F S2x3x208x128 .f32 ← Prog.lift (.load arg16 (Rect.unit (s := S2x3x208x128) ![0, 0, 0, 0] S2x3x208x128.size inb_S2x3x208x128_S2x3x208x128_0_0_0_0).toLoadRect (View.loadsAt_vmem h_S2x3x208x128))
    Prog.lift (.store arg16 (Rect.unit (s := S2x3x208x128) ![0, 0, 0, 0] S2x3x208x128.size inb_S2x3x208x128_S2x3x208x128_0_0_0_0) (k0_pay2 (F := F)) Finset.univ (View.stores_vmem_bits_univ h_S2x3x208x128 rfl) (.inl rfl))
    let v1314 : Vec F S7x192x1152 .fp8e4m3 ← Prog.lift (.load arg17 (Rect.unit (s := S7x192x1152) ![0, 0, 0] S7x192x1152.size inb_S7x192x1152_S7x192x1152_0_0_0).toLoadRect (View.loadsAt_vmem h_S7x192x1152))
    Prog.lift (.store arg17 (Rect.unit (s := S7x192x1152) ![0, 0, 0] S7x192x1152.size inb_S7x192x1152_S7x192x1152_0_0_0) (k0_pay3 (F := F)) Finset.univ (View.stores_vmem h_S7x192x1152 (harg17.storeExact_slice rfl _ packedfp8e4m3_S7x192x1152_S7x192x1152_0_0_0) (fun _ => rfl)) (.inl rfl))
    let v1318 : Vec F S7x192x1152 .fp8e4m3 ← Prog.lift (.load arg18 (Rect.unit (s := S7x192x1152) ![0, 0, 0] S7x192x1152.size inb_S7x192x1152_S7x192x1152_0_0_0).toLoadRect (View.loadsAt_vmem h_S7x192x1152))
    Prog.lift (.store arg18 (Rect.unit (s := S7x192x1152) ![0, 0, 0] S7x192x1152.size inb_S7x192x1152_S7x192x1152_0_0_0) (k0_pay4 (F := F)) Finset.univ (View.stores_vmem h_S7x192x1152 (harg18.storeExact_slice rfl _ packedfp8e4m3_S7x192x1152_S7x192x1152_0_0_0) (fun _ => rfl)) (.inl rfl))
    pure ⟨⟩
  else do
    pure ⟨⟩
  if k0_h2 : k0_cond2 i = 1#1 then do
    let v1312 : DmaSems sig S1 := arg21.slice (Rect.unit (s := S2) ![1] S1.size inb_S2_S1_1)
    let v1313 : DmaSems sig S_ := v1312.squeeze S_ squeezes_S1_S_
    let v1314 : Memref sig .tc .hbm S5x168x384 .bf16 := arg13.slice (Rect.unit (s := S300x168x384) (k0_off1 i) S5x168x384.size (k0_off1_inb i k0_h2)) (fun _ => rfl)
    Prog.lift (.waitDma2 v1313.sem arg20 v1314 harg20.wordExact (harg13.wordExact_slice rfl _ (k0_off1_wordsbf16 i k0_h2)))
    pure ⟨⟩
  else do
    pure ⟨⟩
  if k0_h3 : k0_cond3 i = 1#1 then do
    let v1311 : DmaSems sig S1 := arg21.slice (Rect.unit (s := S2) ![0] S1.size inb_S2_S1_0)
    let v1312 : DmaSems sig S_ := v1311.squeeze S_ squeezes_S1_S_
    let v1313 : Memref sig .tc .hbm S5x168x384 .bf16 := arg13.slice (Rect.unit (s := S300x168x384) (k0_off2 i) S5x168x384.size (k0_off2_inb i k0_h3)) (fun _ => rfl)
    Prog.lift (.waitDma2 v1312.sem arg19 v1313 harg19.wordExact (harg13.wordExact_slice rfl _ (k0_off2_wordsbf16 i k0_h3)))
    pure ⟨⟩
  else do
    pure ⟨⟩
  pure ⟨⟩

/-- The tail's two starts: the rows completed at this point leave for the result. -/
def startP (i : grid0.Coords) (arg1 : Memref sig .tc .vmem S10x168x512 .fp8e4m3) (harg1 : arg1.IsWhole) (arg2 : Memref sig .tc .smem S1 .f32) (harg2 : arg2.IsWhole) (arg3 : Memref sig .tc .vmem S512x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x84x384 .fp8e4m3) (harg11 : arg11.IsWhole) (arg12 : Memref sig .tc .smem S1 .f32) (harg12 : arg12.IsWhole) (arg13 : Memref sig .tc .hbm S300x168x384 .bf16) (harg13 : arg13.IsWhole) (arg14 : Memref sig .tc .vmem S10x168x384 .fp8e4m3) (harg14 : arg14.IsWhole) (arg15 : Memref sig .tc .vmem S5x3x168x128 .f32) (harg15 : arg15.IsWhole) (arg16 : Memref sig .tc .vmem S2x3x208x128 .f32) (harg16 : arg16.IsWhole) (arg17 : Memref sig .tc .vmem S7x192x1152 .fp8e4m3) (harg17 : arg17.IsWhole) (arg18 : Memref sig .tc .vmem S7x192x1152 .fp8e4m3) (harg18 : arg18.IsWhole) (arg19 : Memref sig .tc .vmem S5x168x384 .bf16) (harg19 : arg19.IsWhole) (arg20 : Memref sig .tc .vmem S5x168x384 .bf16) (harg20 : arg20.IsWhole) (arg21 : DmaSems sig S2) : PR F (BitVec 32) := do
  if k0_h4 : k0_cond4 i = 1#1 then do
    let v1311 : DmaSems sig S1 := arg21.slice (Rect.unit (s := S2) ![1] S1.size inb_S2_S1_1)
    let v1312 : DmaSems sig S_ := v1311.squeeze S_ squeezes_S1_S_
    let v1313 : Memref sig .tc .hbm S5x168x384 .bf16 := arg13.slice (Rect.unit (s := S300x168x384) (k0_off3 i) S5x168x384.size (k0_off3_inb i k0_h4)) (fun _ => rfl)
    Prog.lift (.enqueueDma arg20 (.here v1313) (.dma v1312.sem) harg20.wordExact (harg13.wordExact_slice rfl _ (k0_off3_wordsbf16 i k0_h4)) ⟨Or.inl rfl, trivial⟩)
    pure ⟨⟩
  else do
    pure ⟨⟩
  if k0_h5 : k0_cond5 i = 1#1 then do
    let v1310 : DmaSems sig S1 := arg21.slice (Rect.unit (s := S2) ![0] S1.size inb_S2_S1_0)
    let v1311 : DmaSems sig S_ := v1310.squeeze S_ squeezes_S1_S_
    let v1312 : Memref sig .tc .hbm S5x168x384 .bf16 := arg13.slice (Rect.unit (s := S300x168x384) (k0_off4 i) S5x168x384.size (k0_off4_inb i k0_h5)) (fun _ => rfl)
    Prog.lift (.enqueueDma arg19 (.here v1312) (.dma v1311.sem) harg19.wordExact (harg13.wordExact_slice rfl _ (k0_off4_wordsbf16 i k0_h5)) ⟨Or.inl rfl, trivial⟩)
    pure ⟨⟩
  else do
    pure ⟨⟩
  pure 30#32

/-- The last wait, at the last point only. -/
def lastP (i : grid0.Coords) (arg1 : Memref sig .tc .vmem S10x168x512 .fp8e4m3) (harg1 : arg1.IsWhole) (arg2 : Memref sig .tc .smem S1 .f32) (harg2 : arg2.IsWhole) (arg3 : Memref sig .tc .vmem S512x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x84x384 .fp8e4m3) (harg11 : arg11.IsWhole) (arg12 : Memref sig .tc .smem S1 .f32) (harg12 : arg12.IsWhole) (arg13 : Memref sig .tc .hbm S300x168x384 .bf16) (harg13 : arg13.IsWhole) (arg14 : Memref sig .tc .vmem S10x168x384 .fp8e4m3) (harg14 : arg14.IsWhole) (arg15 : Memref sig .tc .vmem S5x3x168x128 .f32) (harg15 : arg15.IsWhole) (arg16 : Memref sig .tc .vmem S2x3x208x128 .f32) (harg16 : arg16.IsWhole) (arg17 : Memref sig .tc .vmem S7x192x1152 .fp8e4m3) (harg17 : arg17.IsWhole) (arg18 : Memref sig .tc .vmem S7x192x1152 .fp8e4m3) (harg18 : arg18.IsWhole) (arg19 : Memref sig .tc .vmem S5x168x384 .bf16) (harg19 : arg19.IsWhole) (arg20 : Memref sig .tc .vmem S5x168x384 .bf16) (harg20 : arg20.IsWhole) (arg21 : DmaSems sig S2) : PR F PUnit := do
  if k0_h6 : k0_cond6 i = 1#1 then do
    let v1311 : DmaSems sig S1 := arg21.slice (Rect.unit (s := S2) ![1] S1.size inb_S2_S1_1)
    let v1312 : DmaSems sig S_ := v1311.squeeze S_ squeezes_S1_S_
    let v1313 : Memref sig .tc .hbm S5x168x384 .bf16 := arg13.slice (Rect.unit (s := S300x168x384) (k0_off5 i) S5x168x384.size (k0_off5_inb i k0_h6)) (fun _ => rfl)
    Prog.lift (.waitDma2 v1312.sem arg20 v1313 harg20.wordExact (harg13.wordExact_slice rfl _ (k0_off5_wordsbf16 i k0_h6)))
    pure ⟨⟩
  else do
    pure ⟨⟩
  pure ⟨⟩

/-- The whole tail, as printed. -/
def tailP (i : grid0.Coords) (arg1 : Memref sig .tc .vmem S10x168x512 .fp8e4m3) (harg1 : arg1.IsWhole) (arg2 : Memref sig .tc .smem S1 .f32) (harg2 : arg2.IsWhole) (arg3 : Memref sig .tc .vmem S512x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x84x384 .fp8e4m3) (harg11 : arg11.IsWhole) (arg12 : Memref sig .tc .smem S1 .f32) (harg12 : arg12.IsWhole) (arg13 : Memref sig .tc .hbm S300x168x384 .bf16) (harg13 : arg13.IsWhole) (arg14 : Memref sig .tc .vmem S10x168x384 .fp8e4m3) (harg14 : arg14.IsWhole) (arg15 : Memref sig .tc .vmem S5x3x168x128 .f32) (harg15 : arg15.IsWhole) (arg16 : Memref sig .tc .vmem S2x3x208x128 .f32) (harg16 : arg16.IsWhole) (arg17 : Memref sig .tc .vmem S7x192x1152 .fp8e4m3) (harg17 : arg17.IsWhole) (arg18 : Memref sig .tc .vmem S7x192x1152 .fp8e4m3) (harg18 : arg18.IsWhole) (arg19 : Memref sig .tc .vmem S5x168x384 .bf16) (harg19 : arg19.IsWhole) (arg20 : Memref sig .tc .vmem S5x168x384 .bf16) (harg20 : arg20.IsWhole) (arg21 : DmaSems sig S2) : PR F PUnit := do
  if k0_h4 : k0_cond4 i = 1#1 then do
    let v1311 : DmaSems sig S1 := arg21.slice (Rect.unit (s := S2) ![1] S1.size inb_S2_S1_1)
    let v1312 : DmaSems sig S_ := v1311.squeeze S_ squeezes_S1_S_
    let v1313 : Memref sig .tc .hbm S5x168x384 .bf16 := arg13.slice (Rect.unit (s := S300x168x384) (k0_off3 i) S5x168x384.size (k0_off3_inb i k0_h4)) (fun _ => rfl)
    Prog.lift (.enqueueDma arg20 (.here v1313) (.dma v1312.sem) harg20.wordExact (harg13.wordExact_slice rfl _ (k0_off3_wordsbf16 i k0_h4)) ⟨Or.inl rfl, trivial⟩)
    pure ⟨⟩
  else do
    pure ⟨⟩
  if k0_h5 : k0_cond5 i = 1#1 then do
    let v1310 : DmaSems sig S1 := arg21.slice (Rect.unit (s := S2) ![0] S1.size inb_S2_S1_0)
    let v1311 : DmaSems sig S_ := v1310.squeeze S_ squeezes_S1_S_
    let v1312 : Memref sig .tc .hbm S5x168x384 .bf16 := arg13.slice (Rect.unit (s := S300x168x384) (k0_off4 i) S5x168x384.size (k0_off4_inb i k0_h5)) (fun _ => rfl)
    Prog.lift (.enqueueDma arg19 (.here v1312) (.dma v1311.sem) harg19.wordExact (harg13.wordExact_slice rfl _ (k0_off4_wordsbf16 i k0_h5)) ⟨Or.inl rfl, trivial⟩)
    pure ⟨⟩
  else do
    pure ⟨⟩
  if k0_h6 : k0_cond6 i = 1#1 then do
    let v1311 : DmaSems sig S1 := arg21.slice (Rect.unit (s := S2) ![1] S1.size inb_S2_S1_1)
    let v1312 : DmaSems sig S_ := v1311.squeeze S_ squeezes_S1_S_
    let v1313 : Memref sig .tc .hbm S5x168x384 .bf16 := arg13.slice (Rect.unit (s := S300x168x384) (k0_off5 i) S5x168x384.size (k0_off5_inb i k0_h6)) (fun _ => rfl)
    Prog.lift (.waitDma2 v1312.sem arg20 v1313 harg20.wordExact (harg13.wordExact_slice rfl _ (k0_off5_wordsbf16 i k0_h6)))
    pure ⟨⟩
  else do
    pure ⟨⟩
  pure ⟨⟩

/-- The printed tail is the two starts and the last wait. -/
theorem tailP_eq (i : grid0.Coords) (arg1 : Memref sig .tc .vmem S10x168x512 .fp8e4m3) (harg1 : arg1.IsWhole) (arg2 : Memref sig .tc .smem S1 .f32) (harg2 : arg2.IsWhole) (arg3 : Memref sig .tc .vmem S512x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x84x384 .fp8e4m3) (harg11 : arg11.IsWhole) (arg12 : Memref sig .tc .smem S1 .f32) (harg12 : arg12.IsWhole) (arg13 : Memref sig .tc .hbm S300x168x384 .bf16) (harg13 : arg13.IsWhole) (arg14 : Memref sig .tc .vmem S10x168x384 .fp8e4m3) (harg14 : arg14.IsWhole) (arg15 : Memref sig .tc .vmem S5x3x168x128 .f32) (harg15 : arg15.IsWhole) (arg16 : Memref sig .tc .vmem S2x3x208x128 .f32) (harg16 : arg16.IsWhole) (arg17 : Memref sig .tc .vmem S7x192x1152 .fp8e4m3) (harg17 : arg17.IsWhole) (arg18 : Memref sig .tc .vmem S7x192x1152 .fp8e4m3) (harg18 : arg18.IsWhole) (arg19 : Memref sig .tc .vmem S5x168x384 .bf16) (harg19 : arg19.IsWhole) (arg20 : Memref sig .tc .vmem S5x168x384 .bf16) (harg20 : arg20.IsWhole) (arg21 : DmaSems sig S2) :
    tailP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (startP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => lastP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold tailP startP lastP
  by_cases h4 : k0_cond4 i = 1#1 <;> by_cases h5 : k0_cond5 i = 1#1 <;> by_cases h6 : k0_cond6 i = 1#1 <;>
    simp only [h4, h5, h6, dite_true, dite_false] <;> rfl

/-- What follows the head in the printed first part. -/
def part1b (i : grid0.Coords) (arg1 : Memref sig .tc .vmem S10x168x512 .fp8e4m3) (harg1 : arg1.IsWhole) (arg2 : Memref sig .tc .smem S1 .f32) (harg2 : arg2.IsWhole) (arg3 : Memref sig .tc .vmem S512x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x84x384 .fp8e4m3) (harg11 : arg11.IsWhole) (arg12 : Memref sig .tc .smem S1 .f32) (harg12 : arg12.IsWhole) (arg13 : Memref sig .tc .hbm S300x168x384 .bf16) (harg13 : arg13.IsWhole) (arg14 : Memref sig .tc .vmem S10x168x384 .fp8e4m3) (harg14 : arg14.IsWhole) (arg15 : Memref sig .tc .vmem S5x3x168x128 .f32) (harg15 : arg15.IsWhole) (arg16 : Memref sig .tc .vmem S2x3x208x128 .f32) (harg16 : arg16.IsWhole) (arg17 : Memref sig .tc .vmem S7x192x1152 .fp8e4m3) (harg17 : arg17.IsWhole) (arg18 : Memref sig .tc .vmem S7x192x1152 .fp8e4m3) (harg18 : arg18.IsWhole) (arg19 : Memref sig .tc .vmem S5x168x384 .bf16) (harg19 : arg19.IsWhole) (arg20 : Memref sig .tc .vmem S5x168x384 .bf16) (harg20 : arg20.IsWhole) (arg21 : DmaSems sig S2) : Prog (TpuEff nD τ sig (Elt F) Λ₀ .tc) (Σ' (arg0 : BitVec 32) (v1 : BitVec 1) (v11 : Elt F .f32) (v16 : FVec F S84x384 .f32), FVec F S84x128 .f32) := do
  let arg0 : BitVec 32 := BitVec.ofNat 32 (i 0).val
  let v0 : BitVec 32 := Scalar.remsi arg0 10#32
  let v1 : BitVec 1 := Scalar.cmpi .eq v0 0#32
  let v11 : Elt F .f32 ← smemLoad arg12 (Rect.unit (s := S1) ![0] S1.size inb_S1_S1_0) numel1_S1 rfl
  let v12 : Vec F S1x84x384 .fp8e4m3 ← Prog.lift (.load arg11 (Rect.unit (s := S5x84x384) ![0, 0, 0] S1x84x384.size inb_S5x84x384_S1x84x384_0_0_0).toLoadRect (View.loadsAt_vmem h_S1x84x384))
  let v18 : Vec F S1x1x84x128 .f32 ← Prog.lift (.load arg15 (⟨![0, 0, 0, 0], S1x1x84x128.size, ![1, 1, 2, 1], inb_S5x3x168x128_S1x1x84x128_0_0_0_0_s_1_1_2_1⟩ : LoadRect S5x3x168x128) (View.loadsAt_vmem h_S1x1x84x128))
  Prog.lift (.store arg15 ⟨(⟨![0, 0, 0, 0], S1x1x84x128.size, ![1, 1, 2, 1], inb_S5x3x168x128_S1x1x84x128_0_0_0_0_s_1_1_2_1⟩ : LoadRect S5x3x168x128), spos_1_1_2_1⟩ (k0_pay7 v11 v12) Finset.univ (View.stores_vmem_bits_univ h_S1x1x84x128 rfl) (.inl rfl))
  let v21 : Vec F S1x1x84x128 .f32 ← Prog.lift (.load arg15 (⟨![0, 0, 1, 0], S1x1x84x128.size, ![1, 1, 2, 1], inb_S5x3x168x128_S1x1x84x128_0_0_1_0_s_1_1_2_1⟩ : LoadRect S5x3x168x128) (View.loadsAt_vmem h_S1x1x84x128))
  Prog.lift (.store arg15 ⟨(⟨![0, 0, 1, 0], S1x1x84x128.size, ![1, 1, 2, 1], inb_S5x3x168x128_S1x1x84x128_0_0_1_0_s_1_1_2_1⟩ : LoadRect S5x3x168x128), spos_1_1_2_1⟩ (k0_pay8 v11 v12) Finset.univ (View.stores_vmem_bits_univ h_S1x1x84x128 rfl) (.inl rfl))
  let v25 : Vec F S1x1x84x128 .f32 ← Prog.lift (.load arg15 (⟨![0, 1, 0, 0], S1x1x84x128.size, ![1, 1, 2, 1], inb_S5x3x168x128_S1x1x84x128_0_1_0_0_s_1_1_2_1⟩ : LoadRect S5x3x168x128) (View.loadsAt_vmem h_S1x1x84x128))
  Prog.lift (.store arg15 ⟨(⟨![0, 1, 0, 0], S1x1x84x128.size, ![1, 1, 2, 1], inb_S5x3x168x128_S1x1x84x128_0_1_0_0_s_1_1_2_1⟩ : LoadRect S5x3x168x128), spos_1_1_2_1⟩ (k0_pay10 v11 v12) Finset.univ (View.stores_vmem_bits_univ h_S1x1x84x128 rfl) (.inl rfl))
  pure ⟨arg0, v1, v11, k0_pay5 v11 v12, k0_pay9 v11 v12⟩

/-- Two programs that begin with the same effect agree if their continuations do. -/
theorem opc {E : Type → Type} {α β : Type} {e : E β} {k k' : β → Prog E α} (h : ∀ v, k v = k' v) : Prog.op e k = Prog.op e k' := by
  rw [funext h]

theorem part1_eq (i : grid0.Coords) (arg1 : Memref sig .tc .vmem S10x168x512 .fp8e4m3) (harg1 : arg1.IsWhole) (arg2 : Memref sig .tc .smem S1 .f32) (harg2 : arg2.IsWhole) (arg3 : Memref sig .tc .vmem S512x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x84x384 .fp8e4m3) (harg11 : arg11.IsWhole) (arg12 : Memref sig .tc .smem S1 .f32) (harg12 : arg12.IsWhole) (arg13 : Memref sig .tc .hbm S300x168x384 .bf16) (harg13 : arg13.IsWhole) (arg14 : Memref sig .tc .vmem S10x168x384 .fp8e4m3) (harg14 : arg14.IsWhole) (arg15 : Memref sig .tc .vmem S5x3x168x128 .f32) (harg15 : arg15.IsWhole) (arg16 : Memref sig .tc .vmem S2x3x208x128 .f32) (harg16 : arg16.IsWhole) (arg17 : Memref sig .tc .vmem S7x192x1152 .fp8e4m3) (harg17 : arg17.IsWhole) (arg18 : Memref sig .tc .vmem S7x192x1152 .fp8e4m3) (harg18 : arg18.IsWhole) (arg19 : Memref sig .tc .vmem S5x168x384 .bf16) (harg19 : arg19.IsWhole) (arg20 : Memref sig .tc .vmem S5x168x384 .bf16) (harg20 : arg20.IsWhole) (arg21 : DmaSems sig S2) :
    k0_part1_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (headP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => part1b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold k0_part1_skel headP
  by_cases h1 : Scalar.cmpi .ne (Scalar.extui (Scalar.cmpi .eq (BitVec.ofNat 32 (i 0).val) 0#32) : BitVec 32) 0#32 = 1#1 <;>
    by_cases h2 : k0_cond2 i = 1#1 <;> by_cases h3 : k0_cond3 i = 1#1 <;>
    simp only [h1, h2, h3, dite_true, dite_false] <;> rfl

/-- The bit that is on except at the first point of an image. -/
def keepBit (i : grid0.Coords) : BitVec 1 :=
  Scalar.xori (Scalar.cmpi .eq (Scalar.remsi (BitVec.ofNat 32 (i 0).val) 10#32) 0#32) 1#1

set_option maxHeartbeats 0 in
/-- The printed kernel is head, straight line, tail. -/
theorem body_eq (i : grid0.Coords) (arg1 : Memref sig .tc .vmem S10x168x512 .fp8e4m3) (harg1 : arg1.IsWhole) (arg2 : Memref sig .tc .smem S1 .f32) (harg2 : arg2.IsWhole) (arg3 : Memref sig .tc .vmem S512x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x84x384 .fp8e4m3) (harg11 : arg11.IsWhole) (arg12 : Memref sig .tc .smem S1 .f32) (harg12 : arg12.IsWhole) (arg13 : Memref sig .tc .hbm S300x168x384 .bf16) (harg13 : arg13.IsWhole) (arg14 : Memref sig .tc .vmem S10x168x384 .fp8e4m3) (harg14 : arg14.IsWhole) (arg15 : Memref sig .tc .vmem S5x3x168x128 .f32) (harg15 : arg15.IsWhole) (arg16 : Memref sig .tc .vmem S2x3x208x128 .f32) (harg16 : arg16.IsWhole) (arg17 : Memref sig .tc .vmem S7x192x1152 .fp8e4m3) (harg17 : arg17.IsWhole) (arg18 : Memref sig .tc .vmem S7x192x1152 .fp8e4m3) (harg18 : arg18.IsWhole) (arg19 : Memref sig .tc .vmem S5x168x384 .bf16) (harg19 : arg19.IsWhole) (arg20 : Memref sig .tc .vmem S5x168x384 .bf16) (harg20 : arg20.IsWhole) (arg21 : DmaSems sig S2) :
    cc0_level3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (headP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ =>
      (mid lv arg1 arg2 arg3 arg4 arg5 arg6 arg7 arg8 arg9 arg10 arg11 arg12 arg14 harg14 arg15 arg16 arg17 harg17 arg18 harg18 arg19 harg19 arg20 harg20 (keepBit i)).bind
        fun _ => (startP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => lastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  have e1 : k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (headP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => part1b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
    rw [k0_part1_eq_skeleton]; exact part1_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21
  unfold cc0_level3 k0_part54
  refine (Prog.bind_assoc _ _ _).trans ?_
  refine (congrArg (fun p => Prog.bind p _) e1).trans ((Prog.bind_assoc _ _ _).trans ?_)
  refine congrArg (Prog.bind _) (funext fun _ => ?_)
  iterate 579 refine opc fun v => ?_
  refine Eq.trans ?_ (tailP_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21)
  rfl

end Cert.Kernel3Ideal.Hand
-- ==== Proof.Flight3.lean ====
/-
  The copies that take finished rows to the result, and the rows of the result.

  The result is held by rows: the rows below some bound at their final values, the rows from another bound on as they
  were at the start, and the rows between them in flight. A copy in flight is the library's `Flight`: when it is waited
  for it delivers its five rows and hands its source back.
-/
module

public import proofs.«01_k».proof.Proof.Body3
public import Idealize.ShloMosaic.Lib.Transfers

@[expose] public section

set_option maxRecDepth 16384

noncomputable section

namespace Cert.Kernel3Ideal.Hand

open Cert.Kernel3Ideal Cert.Kernel3Ideal.Gen Cert.Rules Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The rows `a ≤ r < b` of the result. -/
def rows (a b : ℕ) : Finset S300x168x384.Idx := Finset.univ.filter fun j => a ≤ (j 0).val ∧ (j 0).val < b

theorem mem_rows {a b : ℕ} {j : S300x168x384.Idx} : j ∈ rows a b ↔ a ≤ (j 0).val ∧ (j 0).val < b := by
  unfold rows; rw [Finset.mem_filter]; exact ⟨fun h => h.2, fun h => ⟨Finset.mem_univ _, h⟩⟩

/-- The rows `a ≤ r < b` of the result, held at `g`. -/
def prow (c : Dev nD) (a b : ℕ) (g : Vec F S300x168x384 .bf16) : sProp 𝕄 := ((c : Thread nD τ).loc main_v6_0) ↦[rows a b]{fullShare} g

theorem prow_congr (c : Dev nD) {a b : ℕ} {f g : Vec F S300x168x384 .bf16} (h : ∀ j : S300x168x384.Idx, a ≤ (j 0).val → (j 0).val < b → f j = g j) :
    (prow c a b f : sProp 𝕄) = prow c a b g :=
  pointsTo_congr fun i hi => h i (mem_rows.1 hi).1 (mem_rows.1 hi).2

theorem prow_whole (c : Dev nD) (g : Vec F S300x168x384 .bf16) : (prow c 0 300 g : sProp 𝕄) = ((c : Thread nD τ).loc main_v6_0) ↦{fullShare} g := by
  unfold prow
  rw [show rows 0 300 = Finset.univ from Finset.eq_univ_iff_forall.2 fun j => mem_rows.2 ⟨Nat.zero_le _, (j 0).isLt⟩]

theorem prow_empty (c : Dev nD) {a b : ℕ} (h : 300 ≤ a ∨ b ≤ a) (g : Vec F S300x168x384 .bf16) : (prow c a b g : sProp 𝕄) = iprop(emp) := by
  unfold prow
  rw [show rows a b = ∅ from Finset.eq_empty_iff_forall_notMem.2 fun j hj => by
    have h1 := mem_rows.1 hj
    have h2 : (j 0).val < 300 := (j 0).isLt
    omega]
  exact pointsTo_empty

/-- Adjoining row ranges, at one function. -/
theorem prow_split (c : Dev nD) (a d b : ℕ) (h1 : a ≤ d) (h2 : d ≤ b) (g : Vec F S300x168x384 .bf16) :
    (prow c a b g : sProp 𝕄) ⊣⊢ iprop(prow c a d g ∗ prow c d b g) := by
  unfold prow
  rw [show rows a b = rows a d ∪ rows d b from by
    ext j; rw [Finset.mem_union, mem_rows, mem_rows, mem_rows]; omega]
  exact pointsTo_union (Finset.disjoint_left.2 fun j hj hj' => by
    have h1 := mem_rows.1 hj
    have h2 := mem_rows.1 hj'
    omega)

/-- The two copies' cells. -/
abbrev semA : DmaSem sig := ((cc0_scratch6.slice (Rect.unit (s := S2) ![0] S1.size inb_S2_S1_0)).squeeze S_ squeezes_S1_S_).sem
abbrev semB : DmaSem sig := ((cc0_scratch6.slice (Rect.unit (s := S2) ![1] S1.size inb_S2_S1_1)).squeeze S_ squeezes_S1_S_).sem

/-- The result's array. -/
abbrev pM : Memref sig .tc .hbm S300x168x384 .bf16 := Memref.whole main_v6_0

/-- Five rows of the result. -/
abbrev pRows (off : Fin 3 → ℕ) (h : ∀ a, off a + S5x168x384.size a ≤ S300x168x384.size a) : Memref sig .tc .hbm S5x168x384 .bf16 :=
  pM.slice (Rect.unit (s := S300x168x384) off S5x168x384.size h) (fun _ => rfl)

/-- What is waited for. -/
abbrev credit : ℕ := (pRows ![0, 0, 0] (by decide)).view.dmaCredit

theorem pRows_set (off : Fin 3 → ℕ) (h) (a : ℕ) (ho : off = ![a, 0, 0]) : (pRows off h).view.set = rows a (a + 5) := by
  subst ho
  ext j
  have hs : (pRows ![a, 0, 0] h).view.set = (Rect.unit (s := S300x168x384) ![a, 0, 0] S5x168x384.size h).set := by
    exact (View.set_slice pM.view (Rect.unit (s := S300x168x384) ![a, 0, 0] S5x168x384.size h)).trans Finset.map_refl
  rw [hs, Rect.mem_set_unit, mem_rows]
  constructor
  · intro H; exact H 0
  · intro H x
    match x with
    | 0 => exact H
    | 1 => exact ⟨Nat.zero_le _, by have h : (j 1).val < 168 := (j 1).isLt; show (j 1).val < 0 + 168; omega⟩
    | 2 => exact ⟨Nat.zero_le _, by have h : (j 2).val < 384 := (j 2).isLt; show (j 2).val < 0 + 384; omega⟩

/-- A copy in flight: it delivers rows `a … a + 4` at `G` and hands back its source. -/
def flight (c : Dev nD) (s : DmaSem sig) (o : Memref sig .tc .vmem S5x168x384 .bf16) (a : ℕ) (G : Vec F S300x168x384 .bf16) : sProp 𝕄 :=
  Transfers.Flight (countersEmb (U := Pipeline.UD sig nD τ)) (c : Thread nD τ) (.dma s) () credit iprop(prow c a (a + 5) G ∗ ∃ X, own c o fullShare X)

section
variable (c : Dev nD) {P : Post F}

/-- Starting a copy. -/
theorem start_spec {κ : PUnit.{1} → PR F PUnit.{1}} (s : DmaSem sig) (o : Memref sig .tc .vmem S5x168x384 .bf16) (off : Fin 3 → ℕ) (h) (a : ℕ) (ho : off = ![a, 0, 0])
    {hsrc hdst hsem} (X : Vec F S5x168x384 .bf16) (Vp G : Vec F S300x168x384 .bf16) (ha : a + 5 ≤ 300)
    (hG : ∀ j : S300x168x384.Idx, ∀ i : S5x168x384.Idx, (j 0).val = a + (i 0).val → j 1 = i 1 → j 2 = i 2 → G j = X i) :
    iprop(own c o fullShare X ∗ prow c a 300 Vp ∗ semVal ((c : Thread nD τ), SemLoc.dma s) 0) ⊢
      iprop((iprop(flight c s o a G ∗ prow c (a + 5) 300 Vp) -∗ wpc c (κ ⟨⟩) P)
        -∗ wpc c (.op (.enqueueDma o (.here (pRows off h)) (.dma s) hsrc hdst hsem) κ) P) := by
  have hset := pRows_set off h a ho
  subst ho
  iintro ⟨Ho, Hp, Hs⟩ Hk
  unfold Cert.Rows.own owns
  icases Ho with ⟨%f, %hf, Ho⟩
  ihave Hp := (prow_split c a (a + 5) 300 (by omega) ha Vp).1 $$ Hp
  icases Hp with ⟨Hp, Hr⟩
  iapply (Transfers.wp_dmaLocal (countersEmb (U := Pipeline.UD sig nD τ)) Variants.none (c : Thread nD τ) none () credit (dst := pRows ![a, 0, 0] h) (Sd := rows a (a + 5)) (fd := Vp) (fs := f) rfl ?_ hset.le) $$ [Ho Hp Hs]
  · exact View.dmaCredit_pos _ (by decide)
  · isplitl [Ho]; · iexact Ho
    isplitl [Hp]; · unfold prow; iexact Hp
    iexact Hs
  iintro Hf
  iapply Hk
  isplitl [Hf]
  · unfold flight
    iapply (Transfers.Flight_mono _ _ ?_) $$ Hf
    iintro ⟨Hp, Ho⟩
    isplitl [Hp]
    · unfold prow
      iapply (Entails.of_eq (pointsTo_congr ?_)) $$ Hp
      intro i hi
      have hi' : i ∈ (pRows ![a, 0, 0] h).view.set := hset ▸ hi
      obtain ⟨x, -, rfl⟩ := Finset.mem_map.1 hi'
      refine (congrFun (View.read_write_univ (v := (pRows ![a, 0, 0] h).view) (Val := Elt F) Vp _) x).trans ?_
      refine (congrFun hf x).trans (hG _ x ?_ ?_ ?_).symm
      · show a + 1 * (x 0).val = _; omega
      · refine Fin.ext ?_; show 0 + 1 * (x 1).val = _; omega
      · refine Fin.ext ?_; show 0 + 1 * (x 2).val = _; omega
    · iexists X
      unfold Cert.Rows.own owns
      iexists f
      isplitr; · ipureintro; exact hf
      iexact Ho
  iexact Hr

/-- Waiting for it. -/
theorem wait_spec {κ : PUnit.{1} → PR F PUnit.{1}} (s : DmaSem sig) (o : Memref sig .tc .vmem S5x168x384 .bf16) (off : Fin 3 → ℕ) (h) (a : ℕ)
    {hsrc hdst} (G : Vec F S300x168x384 .bf16) {W : Waits sig Unit} :
    iprop(flight c s o a G ∗ owes (c : Thread nD τ) 0 W) ⊢
      iprop((iprop(prow c a (a + 5) G ∗ (∃ X, own c o fullShare X) ∗ semVal ((c : Thread nD τ), SemLoc.dma s) 0 ∗ (∃ W', owes (c : Thread nD τ) 0 W')) -∗ wpc c (κ ⟨⟩) P)
        -∗ wpc c (.op (.waitDma2 s o (pRows off h) hsrc hdst) κ) P) := by
  iintro H Hk
  unfold flight
  iapply (Transfers.wp_waitLocal (countersEmb (U := Pipeline.UD sig nD τ)) Variants.none (c : Thread nD τ) none (hsrc := hsrc) (hdst := hdst) () (N := credit) rfl) $$ H
  iintro ⟨⟨Hp, Ho⟩, Hs, HW⟩
  iapply Hk
  isplitl [Hp]; · iexact Hp
  isplitl [Ho]; · iexact Ho
  isplitl [Hs]; · iexact Hs
  iexists _
  iexact HW

end

end Cert.Kernel3Ideal.Hand
-- ==== Proof.Step3.lean ====
/-
  What the head and the tail of the kernel do at a grid point.

  Between two points the kernel holds its scratch, of which the rows kept for the next point are known, up to two copies
  in flight, and the rows of the result that are final or untouched. `inv n` states this before point `n`; `head_spec`
  brings the copies in, `tail_spec` sends the next ones off.
-/
module

public import proofs.«01_k».proof.Proof.Shape3
public import proofs.«01_k».proof.Proof.Body3
public import proofs.«01_k».proof.Proof.Flight3

@[expose] public section

set_option maxRecDepth 16384

noncomputable section

namespace Cert.Kernel3Ideal.Hand

open Cert.Kernel3Ideal Cert.Kernel3Ideal.Gen Cert.Rules Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The conditions and the copies' rows, at every point of the grid -/

theorem cond1_iff : ∀ t : Fin grid0.N, Scalar.cmpi .ne (Scalar.extui (Scalar.cmpi .eq (BitVec.ofNat 32 (grid0.coords t 0).val) 0#32) : BitVec 32) 0#32 = 1#1 ↔ t.val = 0 := by
  decide +kernel
theorem cond2_iff : ∀ t : Fin grid0.N, k0_cond2 (grid0.coords t) = 1#1 ↔ 2 ≤ t.val := by decide +kernel
theorem cond3_iff : ∀ t : Fin grid0.N, k0_cond3 (grid0.coords t) = 1#1 ↔ 1 ≤ t.val := by decide +kernel
theorem cond4_iff : ∀ t : Fin grid0.N, k0_cond4 (grid0.coords t) = 1#1 ↔ 1 ≤ t.val := by decide +kernel
theorem cond5_iff : ∀ t : Fin grid0.N, k0_cond5 (grid0.coords t) = 1#1 ↔ t.val < 30 := by decide +kernel
theorem cond6_iff : ∀ t : Fin grid0.N, k0_cond6 (grid0.coords t) = 1#1 ↔ t.val = 30 := by decide +kernel
theorem off3_eq : ∀ t : Fin grid0.N, k0_cond4 (grid0.coords t) = 1#1 → k0_off3 (grid0.coords t) = ![10 * t.val - 5, 0, 0] := by decide +kernel
theorem off4_eq : ∀ t : Fin grid0.N, k0_cond5 (grid0.coords t) = 1#1 → k0_off4 (grid0.coords t) = ![10 * t.val, 0, 0] := by decide +kernel

theorem N_eq (t : Fin grid0.N) : t.val ≤ 30 := by
  have h := t.isLt
  have e : grid0.N = 31 := by decide
  omega

/-- A rectangle of the whole shape contains every index. -/
theorem mem_full {s : Shape} {off size : Fin s.rank → ℕ} {inb} (h0 : ∀ a, off a = 0) (h1 : ∀ a, size a = s.size a) (j : s.Idx) :
    j ∈ (Rect.unit (s := s) off size inb).set :=
  Rect.mem_set_unit.2 fun a => ⟨by rw [h0]; exact Nat.zero_le _, by rw [h0, h1, Nat.zero_add]; exact (j a).isLt⟩

/-! ## The buffers -/

abbrev upM : Memref sig .tc .vmem S5x3x168x128 .f32 := Memref.whole cc0_scratch0
abbrev quM : Memref sig .tc .vmem S2x3x208x128 .f32 := Memref.whole cc0_scratch1
abbrev xaM : Memref sig .tc .vmem S7x192x1152 .fp8e4m3 := Memref.whole cc0_scratch2
abbrev xbM : Memref sig .tc .vmem S7x192x1152 .fp8e4m3 := Memref.whole cc0_scratch3
abbrev oaM : Memref sig .tc .vmem S5x168x384 .bf16 := Memref.whole cc0_scratch4
abbrev obM : Memref sig .tc .vmem S5x168x384 .bf16 := Memref.whole cc0_scratch5

/-- The zero of the scratch. -/
abbrev z32 : S2x3x208x128.Idx → Elt F .f32 := fun _ => Scalar.ofBits .f32 0x00000000#32

section
variable (c : Dev nD) (X : Vec F S7x192x1152 .fp8e4m3) (G Vp : Vec F S300x168x384 .bf16)

/-- The copy of the first five rows of the block before point `n`. -/
def flA (n : ℕ) : sProp 𝕄 :=
  if 1 ≤ n ∧ n ≤ 30 then flight c semA oaM (10 * n - 10) G else iprop((∃ X, own c oaM fullShare X) ∗ semVal ((c : Thread nD τ), SemLoc.dma semA) 0)

/-- The copy of the five rows before those. -/
def flB (n : ℕ) : sProp 𝕄 :=
  if 2 ≤ n ∧ n ≤ 30 then flight c semB obM (10 * n - 15) G else iprop((∃ X, own c obM fullShare X) ∗ semVal ((c : Thread nD τ), SemLoc.dma semB) 0)

theorem flA_busy (n : ℕ) (h : 1 ≤ n ∧ n ≤ 30) : (flA c G n : sProp 𝕄) = flight c semA oaM (10 * n - 10) G := if_pos h
theorem flA_idle (n : ℕ) (h : ¬ (1 ≤ n ∧ n ≤ 30)) : (flA c G n : sProp 𝕄) = iprop((∃ X, own c oaM fullShare X) ∗ semVal ((c : Thread nD τ), SemLoc.dma semA) 0) := if_neg h
theorem flB_busy (n : ℕ) (h : 2 ≤ n ∧ n ≤ 30) : (flB c G n : sProp 𝕄) = flight c semB obM (10 * n - 15) G := if_pos h
theorem flB_idle (n : ℕ) (h : ¬ (2 ≤ n ∧ n ≤ 30)) : (flB c G n : sProp 𝕄) = iprop((∃ X, own c obM fullShare X) ∗ semVal ((c : Thread nD τ), SemLoc.dma semB) 0) := if_neg h

/-- What is held before point `n`: `X` is the operand kept from the point before, `G` the result, `Vp` what its array
held at the start. -/
def inv (n : ℕ) : sProp 𝕄 :=
  iprop((∃ X, own c upM fullShare X) ∗ prt c quM z32 (fun j => n ≠ 0 ∧ border lv j) ∗ (∃ X, own c xaM fullShare X) ∗ prt c xbM X (fun j => n ≠ 0 ∧ (j 0).val < 6)
    ∗ flA c G n ∗ flB c G n ∗ prow c 0 (if n = 31 then 300 else 10 * n - 15) G ∗ prow c (10 * n - 5) 300 Vp)

/-- What is held after the head at point `n`. -/
def after (n : ℕ) : sProp 𝕄 :=
  iprop((∃ X, own c upM fullShare X) ∗ prt c quM z32 (border lv) ∗ (∃ X, own c xaM fullShare X) ∗ prt c xbM X (fun j => (j 0).val < 6)
    ∗ ((∃ X, own c oaM fullShare X) ∗ semVal ((c : Thread nD τ), SemLoc.dma semA) 0) ∗ ((∃ X, own c obM fullShare X) ∗ semVal ((c : Thread nD τ), SemLoc.dma semB) 0)
    ∗ prow c 0 (10 * n - 5) G ∗ prow c (10 * n - 5) 300 Vp)
end

section
variable (c : Dev nD) {P : Post F} (X : Vec F S7x192x1152 .fp8e4m3) (G Vp : Vec F S300x168x384 .bf16)
variable (arg1 : Memref sig .tc .vmem S10x168x512 .fp8e4m3) (harg1 : arg1.IsWhole)
  (arg2 : Memref sig .tc .smem S1 .f32) (harg2 : arg2.IsWhole)
  (arg3 : Memref sig .tc .vmem S512x384 .fp8e4m3) (harg3 : arg3.IsWhole)
  (arg4 : Memref sig .tc .vmem S1x384 .f32) (harg4 : arg4.IsWhole)
  (arg5 : Memref sig .tc .vmem S1x384 .f32) (harg5 : arg5.IsWhole)
  (arg6 : Memref sig .tc .vmem S3456x384 .fp8e4m3) (harg6 : arg6.IsWhole)
  (arg7 : Memref sig .tc .vmem S1x384 .f32) (harg7 : arg7.IsWhole)
  (arg8 : Memref sig .tc .vmem S1x384 .f32) (harg8 : arg8.IsWhole)
  (arg9 : Memref sig .tc .smem S1 .f32) (harg9 : arg9.IsWhole)
  (arg10 : Memref sig .tc .smem S1 .f32) (harg10 : arg10.IsWhole)
  (arg11 : Memref sig .tc .vmem S5x84x384 .fp8e4m3) (harg11 : arg11.IsWhole)
  (arg12 : Memref sig .tc .smem S1 .f32) (harg12 : arg12.IsWhole)
  (arg14 : Memref sig .tc .vmem S10x168x384 .fp8e4m3) (harg14 : arg14.IsWhole)

set_option maxHeartbeats 1000000 in
/-- The head at point `t`. -/
theorem head_spec {κ : PUnit.{1} → PR F PUnit.{1}} (t : Fin grid0.N) (hX : t.val = 0 → X = fun _ => Scalar.ofBits .fp8e4m3 0x00#8) (W : Waits sig Unit) :
    iprop(inv c X G Vp t.val ∗ owes (c : Thread nD τ) 0 W) ⊢
      iprop((iprop(after c X G Vp t.val ∗ (∃ W', owes (c : Thread nD τ) 0 W')) -∗ wpc c (κ ⟨⟩) P)
        -∗ wpc c ((headP (F := F) (grid0.coords t) arg1 harg1 arg2 harg2 arg3 harg3 arg4 harg4 arg5 harg5 arg6 harg6 arg7 harg7 arg8 harg8 arg9 harg9 arg10 harg10 arg11 harg11 arg12 harg12 (Memref.whole main_v6_0) (Memref.isWhole_whole _) arg14 harg14 upM (Memref.isWhole_whole _) quM (Memref.isWhole_whole _) xaM (Memref.isWhole_whole _) xbM (Memref.isWhole_whole _) oaM (Memref.isWhole_whole _) obM (Memref.isWhole_whole _) cc0_scratch6) >>= κ) P) := by
  have hN := N_eq t
  have h0 := cond1_iff t
  have h2 := cond2_iff t
  have h3 := cond3_iff t
  have hB : ∀ a b : ℕ, a = b → (prow c 0 a G : sProp 𝕄) ⊢ prow c 0 b G := fun a b h => by rw [h]
  unfold inv after headP
  rw [if_neg (show t.val ≠ 31 by omega)]
  iintro ⟨⟨Hu, Hq, ⟨%Xa, Ha⟩, Hb, HA, HB, Hp, Hr⟩, HW⟩ Hk
  by_cases e0 : t.val = 0
  · have e2 : ¬ k0_cond2 (grid0.coords t) = 1#1 := fun h => by have := h2.1 h; omega
    have e3 : ¬ k0_cond3 (grid0.coords t) = 1#1 := fun h => by have := h3.1 h; omega
    simp only [dif_pos (h0.2 e0), dif_neg e2, dif_neg e3, Prog.bind_assoc]
    ihave HA := (Entails.of_eq (flA_idle c G t.val (by omega))) $$ HA
    ihave HB := (Entails.of_eq (flB_idle c G t.val (by omega))) $$ HB
    iapply (part_load_any (c : Thread nD τ)) $$ Hq
    iintro Hq
    iapply (part_store (c : Thread nD τ) (D' := (border lv)) (fun x => rfl) ?_) $$ Hq
    · intro j _; exact .inr (mem_full (by decide) (by decide) j)
    iintro Hq
    iapply (owns_load (c : Thread nD τ)) $$ Ha
    iintro Ha
    iapply (owns_store (c : Thread nD τ)) $$ Ha
    iintro Ha
    iapply (part_load_any (c : Thread nD τ)) $$ Hb
    iintro Hb
    iapply (part_store (c : Thread nD τ) (D' := fun j => (j 0).val < 6) (fun x => ?_) ?_) $$ Hb
    · intro j _; exact .inr (mem_full (by decide) (by decide) j)
    · rw [hX e0]; rfl
    iintro Hb
    iapply Hk
    isplitr [HW]
    · isplitl [Hu]; · iexact Hu
      isplitl [Hq]; · iexact Hq
      isplitl [Ha]; · iexists _; iexact Ha
      isplitl [Hb]; · iexact Hb
      isplitl [HA]; · iexact HA
      isplitl [HB]; · iexact HB
      isplitl [Hp]; · iapply (hB _ _ (by omega)) $$ Hp
      iexact Hr
    · iexists _; iexact HW
  have hq : (prt c quM z32 (fun j => t.val ≠ 0 ∧ border lv j) : sProp 𝕄) ⊢ prt c quM z32 (border lv) := part_mono _ fun j hj => ⟨⟨e0, hj⟩, rfl⟩
  have hb : (prt c xbM X (fun j => t.val ≠ 0 ∧ (j 0).val < 6) : sProp 𝕄) ⊢ prt c xbM X (fun j => (j 0).val < 6) := part_mono _ fun j hj => ⟨⟨e0, hj⟩, rfl⟩
  ihave Hq := hq $$ Hq
  ihave Hb := hb $$ Hb
  have e3 : k0_cond3 (grid0.coords t) = 1#1 := h3.2 (by omega)
  by_cases e1 : t.val = 1
  · have e2 : ¬ k0_cond2 (grid0.coords t) = 1#1 := fun h => by have := h2.1 h; omega
    simp only [dif_neg (fun h => e0 (h0.1 h)), dif_neg e2, dif_pos e3, Prog.bind_assoc]
    ihave HA := (Entails.of_eq (flA_busy c G t.val (by omega))) $$ HA
    ihave HB := (Entails.of_eq (flB_idle c G t.val (by omega))) $$ HB
    iapply (wait_spec c semA oaM _ _ (10 * t.val - 10) G) $$ [HA HW]
    · isplitl [HA]; · iexact HA
      iexact HW
    iintro ⟨Hp', HA, HA', HW⟩
    iapply Hk
    isplitr [HW]
    · isplitl [Hu]; · iexact Hu
      isplitl [Hq]; · iexact Hq
      isplitl [Ha]; · iexists _; iexact Ha
      isplitl [Hb]; · iexact Hb
      isplitl [HA HA']
      · isplitl [HA]; · iexact HA
        iexact HA'
      isplitl [HB]; · iexact HB
      isplitr [Hr]
      · iapply (prow_split c 0 (10 * t.val - 15) (10 * t.val - 5) (by omega) (by omega) G).2
        isplitl [Hp]; · iexact Hp
        iapply (show (prow c (10 * t.val - 10) (10 * t.val - 10 + 5) G : sProp 𝕄) ⊢ prow c (10 * t.val - 15) (10 * t.val - 5) G from by rw [e1]) $$ Hp'
      iexact Hr
    · iexact HW
  · have e2 : k0_cond2 (grid0.coords t) = 1#1 := h2.2 (by omega)
    simp only [dif_neg (fun h => e0 (h0.1 h)), dif_pos e2, dif_pos e3, Prog.bind_assoc]
    ihave HA := (Entails.of_eq (flA_busy c G t.val (by omega))) $$ HA
    ihave HB := (Entails.of_eq (flB_busy c G t.val (by omega))) $$ HB
    iapply (wait_spec c semB obM _ _ (10 * t.val - 15) G) $$ [HB HW]
    · isplitl [HB]; · iexact HB
      iexact HW
    iintro ⟨Hp1, HB, HB', ⟨%W', HW⟩⟩
    iapply (wait_spec c semA oaM _ _ (10 * t.val - 10) G) $$ [HA HW]
    · isplitl [HA]; · iexact HA
      iexact HW
    iintro ⟨Hp2, HA, HA', HW⟩
    iapply Hk
    isplitr [HW]
    · isplitl [Hu]; · iexact Hu
      isplitl [Hq]; · iexact Hq
      isplitl [Ha]; · iexists _; iexact Ha
      isplitl [Hb]; · iexact Hb
      isplitl [HA HA']
      · isplitl [HA]; · iexact HA
        iexact HA'
      isplitl [HB HB']
      · isplitl [HB]; · iexact HB
        iexact HB'
      isplitr [Hr]
      · iapply (prow_split c 0 (10 * t.val - 15) (10 * t.val - 5) (by omega) (by omega) G).2
        isplitl [Hp]; · iexact Hp
        iapply (prow_split c (10 * t.val - 15) (10 * t.val - 10) (10 * t.val - 5) (by omega) (by omega) G).2
        isplitl [Hp1]
        · iapply (show (prow c (10 * t.val - 15) (10 * t.val - 15 + 5) G : sProp 𝕄) ⊢ prow c (10 * t.val - 15) (10 * t.val - 10) G from by
            rw [show 10 * t.val - 15 + 5 = 10 * t.val - 10 by omega]) $$ Hp1
        · iapply (show (prow c (10 * t.val - 10) (10 * t.val - 10 + 5) G : sProp 𝕄) ⊢ prow c (10 * t.val - 10) (10 * t.val - 5) G from by
            rw [show 10 * t.val - 10 + 5 = 10 * t.val - 5 by omega]) $$ Hp2
      iexact Hr
    · iexact HW

set_option maxHeartbeats 1000000 in
/-- The tail at point `t`, from what the straight line left. -/
theorem tail_spec {κ : PUnit.{1} → PR F PUnit.{1}} (t : Fin grid0.N) (XA XB : Vec F S5x168x384 .bf16) (W : Waits sig Unit)
    (hA : ∀ j : S300x168x384.Idx, ∀ i : S5x168x384.Idx, (j 0).val = 10 * t.val + (i 0).val → j 1 = i 1 → j 2 = i 2 → G j = XA i)
    (hB : 1 ≤ t.val → ∀ j : S300x168x384.Idx, ∀ i : S5x168x384.Idx, (j 0).val = 10 * t.val - 5 + (i 0).val → j 1 = i 1 → j 2 = i 2 → G j = XB i) :
    iprop((∃ X, own c upM fullShare X) ∗ prt c quM z32 (border lv) ∗ (∃ X, own c xaM fullShare X) ∗ prt c xbM X (fun j => (j 0).val < 6)
        ∗ own c oaM fullShare XA ∗ semVal ((c : Thread nD τ), SemLoc.dma semA) 0 ∗ own c obM fullShare XB ∗ semVal ((c : Thread nD τ), SemLoc.dma semB) 0
        ∗ prow c 0 (10 * t.val - 5) G ∗ prow c (10 * t.val - 5) 300 Vp ∗ owes (c : Thread nD τ) 0 W) ⊢
      iprop((iprop(inv c X G Vp (t.val + 1) ∗ (∃ W', owes (c : Thread nD τ) 0 W')) -∗ wpc c (κ ⟨⟩) P)
        -∗ wpc c ((startP (F := F) (grid0.coords t) arg1 harg1 arg2 harg2 arg3 harg3 arg4 harg4 arg5 harg5 arg6 harg6 arg7 harg7 arg8 harg8 arg9 harg9 arg10 harg10 arg11 harg11 arg12 harg12 (Memref.whole main_v6_0) (Memref.isWhole_whole _) arg14 harg14 upM (Memref.isWhole_whole _) quM (Memref.isWhole_whole _) xaM (Memref.isWhole_whole _) xbM (Memref.isWhole_whole _) oaM (Memref.isWhole_whole _) obM (Memref.isWhole_whole _) cc0_scratch6) >>= fun _ =>
          (lastP (F := F) (grid0.coords t) arg1 harg1 arg2 harg2 arg3 harg3 arg4 harg4 arg5 harg5 arg6 harg6 arg7 harg7 arg8 harg8 arg9 harg9 arg10 harg10 arg11 harg11 arg12 harg12 (Memref.whole main_v6_0) (Memref.isWhole_whole _) arg14 harg14 upM (Memref.isWhole_whole _) quM (Memref.isWhole_whole _) xaM (Memref.isWhole_whole _) xbM (Memref.isWhole_whole _) oaM (Memref.isWhole_whole _) obM (Memref.isWhole_whole _) cc0_scratch6) >>= κ) P) := by
  have hN := N_eq t
  have h4 := cond4_iff t
  have h5 := cond5_iff t
  have h6 := cond6_iff t
  have hq : (prt c quM z32 (border lv) : sProp 𝕄) ⊢ prt c quM z32 (fun j => t.val + 1 ≠ 0 ∧ border lv j) := part_mono _ fun j hj => ⟨hj.2, rfl⟩
  have hb : (prt c xbM X (fun j => (j 0).val < 6) : sProp 𝕄) ⊢ prt c xbM X (fun j => t.val + 1 ≠ 0 ∧ (j 0).val < 6) := part_mono _ fun j hj => ⟨hj.2, rfl⟩
  unfold inv startP lastP
  iintro ⟨Hu, Hq, Ha, Hb, HA, HA', HB, HB', Hp, Hr, HW⟩ Hk
  ihave Hq := hq $$ Hq
  ihave Hb := hb $$ Hb
  by_cases e0 : t.val = 0
  · have e4 : ¬ k0_cond4 (grid0.coords t) = 1#1 := fun h => by have := h4.1 h; omega
    have e5 : k0_cond5 (grid0.coords t) = 1#1 := h5.2 (by omega)
    have e6 : ¬ k0_cond6 (grid0.coords t) = 1#1 := fun h => by have := h6.1 h; omega
    simp only [dif_neg e4, dif_pos e5, dif_neg e6, Prog.bind_assoc]
    rw [flA_busy c G (t.val + 1) (by omega), flB_idle c G (t.val + 1) (by omega), if_neg (show ¬ t.val + 1 = 31 by omega)]
    ihave Hr := (show (prow c (10 * t.val - 5) 300 Vp : sProp 𝕄) ⊢ prow c (10 * t.val) 300 Vp from by rw [e0]) $$ Hr
    iapply (start_spec c semA oaM _ _ (10 * t.val) (off4_eq t e5) XA Vp G (by omega) hA) $$ [HA Hr HA']
    · isplitl [HA]; · iexact HA
      isplitl [Hr]; · iexact Hr
      iexact HA'
    iintro ⟨HA, Hr⟩
    iapply Hk
    isplitr [HW]
    · isplitl [Hu]; · iexact Hu
      isplitl [Hq]; · iexact Hq
      isplitl [Ha]; · iexact Ha
      isplitl [Hb]; · iexact Hb
      isplitl [HA]
      · rw [show 10 * (t.val + 1) - 10 = 10 * t.val by omega]; iexact HA
      isplitl [HB HB']
      · isplitl [HB]; · iexists _; iexact HB
        iexact HB'
      isplitl [Hp]
      · rw [show 10 * (t.val + 1) - 15 = 10 * t.val - 5 by omega]; iexact Hp
      · rw [show 10 * (t.val + 1) - 5 = 10 * t.val + 5 by omega]; iexact Hr
    · iexists _; iexact HW
  have e4 : k0_cond4 (grid0.coords t) = 1#1 := h4.2 (by omega)
  by_cases e30 : t.val = 30
  · have e5 : ¬ k0_cond5 (grid0.coords t) = 1#1 := fun h => by have := h5.1 h; omega
    have e6 : k0_cond6 (grid0.coords t) = 1#1 := h6.2 e30
    simp only [dif_pos e4, dif_neg e5, dif_pos e6, Prog.bind_assoc]
    rw [flA_idle c G (t.val + 1) (by omega), flB_idle c G (t.val + 1) (by omega), if_pos (show t.val + 1 = 31 by omega)]
    iapply (start_spec c semB obM _ _ (10 * t.val - 5) (off3_eq t e4) XB Vp G (by omega) (hB (by omega))) $$ [HB Hr HB']
    · isplitl [HB]; · iexact HB
      isplitl [Hr]; · iexact Hr
      iexact HB'
    iintro ⟨HB, Hr⟩
    iapply (wait_spec c semB obM _ _ (10 * t.val - 5) G) $$ [HB HW]
    · isplitl [HB]; · iexact HB
      iexact HW
    iintro ⟨Hp', HB, HB', HW⟩
    iapply Hk
    isplitr [HW]
    · isplitl [Hu]; · iexact Hu
      isplitl [Hq]; · iexact Hq
      isplitl [Ha]; · iexact Ha
      isplitl [Hb]; · iexact Hb
      isplitl [HA HA']
      · isplitl [HA]; · iexists _; iexact HA
        iexact HA'
      isplitl [HB HB']
      · isplitl [HB]; · iexact HB
        iexact HB'
      isplitl [Hp Hp']
      · iapply (prow_split c 0 (10 * t.val - 5) 300 (by omega) (by omega) G).2
        isplitl [Hp]; · iexact Hp
        iapply (show (prow c (10 * t.val - 5) (10 * t.val - 5 + 5) G : sProp 𝕄) ⊢ prow c (10 * t.val - 5) 300 G from by rw [e30]) $$ Hp'
      · iapply (show (prow c (10 * t.val - 5 + 5) 300 Vp : sProp 𝕄) ⊢ prow c (10 * (t.val + 1) - 5) 300 Vp from by
          rw [prow_empty c (by omega), prow_empty c (by omega)]) $$ Hr
    · iexact HW
  · have e5 : k0_cond5 (grid0.coords t) = 1#1 := h5.2 (by omega)
    have e6 : ¬ k0_cond6 (grid0.coords t) = 1#1 := fun h => by have := h6.1 h; omega
    simp only [dif_pos e4, dif_pos e5, dif_neg e6, Prog.bind_assoc]
    rw [flA_busy c G (t.val + 1) (by omega), flB_busy c G (t.val + 1) (by omega), if_neg (show ¬ t.val + 1 = 31 by omega)]
    iapply (start_spec c semB obM _ _ (10 * t.val - 5) (off3_eq t e4) XB Vp G (by omega) (hB (by omega))) $$ [HB Hr HB']
    · isplitl [HB]; · iexact HB
      isplitl [Hr]; · iexact Hr
      iexact HB'
    iintro ⟨HB, Hr⟩
    ihave Hr := (show (prow c (10 * t.val - 5 + 5) 300 Vp : sProp 𝕄) ⊢ prow c (10 * t.val) 300 Vp from by rw [show 10 * t.val - 5 + 5 = 10 * t.val by omega]) $$ Hr
    iapply (start_spec c semA oaM _ _ (10 * t.val) (off4_eq t e5) XA Vp G (by omega) hA) $$ [HA Hr HA']
    · isplitl [HA]; · iexact HA
      isplitl [Hr]; · iexact Hr
      iexact HA'
    iintro ⟨HA, Hr⟩
    iapply Hk
    isplitr [HW]
    · isplitl [Hu]; · iexact Hu
      isplitl [Hq]; · iexact Hq
      isplitl [Ha]; · iexact Ha
      isplitl [Hb]; · iexact Hb
      isplitl [HA]
      · rw [show 10 * (t.val + 1) - 10 = 10 * t.val by omega]; iexact HA
      isplitl [HB]
      · rw [show 10 * (t.val + 1) - 15 = 10 * t.val - 5 by omega]; iexact HB
      isplitl [Hp]
      · rw [show 10 * (t.val + 1) - 15 = 10 * t.val - 5 by omega]; iexact Hp
      · rw [show 10 * (t.val + 1) - 5 = 10 * t.val + 5 by omega]; iexact Hr
    · iexists _; iexact HW

end

end Cert.Kernel3Ideal.Hand
-- ==== Proof.Run3.lean ====
/-
  The run: what every point of the grid leaves, and with it the arrays at the end and the arguments unchanged.
-/
module

public import proofs.«01_k».proof.Proof.Step3
public import proofs.«01_k».proof.Proof.Gen.Kernel3Ideal.Frame
public import Idealize.ShloMosaic.Lib.Pipeline.FrameValue

@[expose] public section

set_option maxRecDepth 16384

noncomputable section

namespace Cert.Kernel3Ideal.Hand

open Cert.Kernel3Ideal Cert.Kernel3Ideal.Gen Cert.Rules Cert.Rows
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The blocks of the inputs, and what a point makes of them -/

section
variable (c : Dev nD)
/-- Input 0's block at point `t`. -/
def bC (t : Fin cfg0.N) : Vec F S10x168x512 .fp8e4m3 := iblk m c 0 t
/-- Input 1's block at point `t`. -/
def bcs (t : Fin cfg0.N) : Vec F S1 .f32 := iblk m c 1 t
/-- Input 2's block at point `t`. -/
def bW (t : Fin cfg0.N) : Vec F S512x384 .fp8e4m3 := iblk m c 2 t
/-- Input 3's block at point `t`. -/
def bs4 (t : Fin cfg0.N) : Vec F S1x384 .f32 := iblk m c 3 t
/-- Input 4's block at point `t`. -/
def bb5 (t : Fin cfg0.N) : Vec F S1x384 .f32 := iblk m c 4 t
/-- Input 5's block at point `t`. -/
def bW6 (t : Fin cfg0.N) : Vec F S3456x384 .fp8e4m3 := iblk m c 5 t
/-- Input 6's block at point `t`. -/
def bs7 (t : Fin cfg0.N) : Vec F S1x384 .f32 := iblk m c 6 t
/-- Input 7's block at point `t`. -/
def bb8 (t : Fin cfg0.N) : Vec F S1x384 .f32 := iblk m c 7 t
/-- Input 8's block at point `t`. -/
def bms (t : Fin cfg0.N) : Vec F S1 .f32 := iblk m c 8 t
/-- Input 9's block at point `t`. -/
def binv (t : Fin cfg0.N) : Vec F S1 .f32 := iblk m c 9 t
/-- Input 10's block at point `t`. -/
def bQ (t : Fin cfg0.N) : Vec F S5x84x384 .fp8e4m3 := iblk m c 10 t
/-- Input 11's block at point `t`. -/
def bqs (t : Fin cfg0.N) : Vec F S1 .f32 := iblk m c 11 t

/-- The scales and biases. -/
def bK (t : Fin cfg0.N) : Consts F := constsV (bcs m c t) (bs4 m c t) (bb5 m c t) (bs7 m c t) (bb8 m c t) (bms m c t) (binv m c t)
/-- The up-sampled rows. -/
def bU (t : Fin cfg0.N) : Vec F S5x3x168x128 .f32 := upV lv (bqs m c t (ix1 0)) (bQ m c t)
/-- The block of codes that point `t` computes. -/
def codesB (t : Fin cfg0.N) : Vec F S10x168x384 .fp8e4m3 := codesV lv (bK m c t) (bW m c t) (bC m c t) (bU m c t)

/-- The point of a number. -/
def pt (n : ℕ) : Fin cfg0.N := ⟨min n 30, by have e : cfg0.N = 31 := by decide
                                             omega⟩
theorem pt_val (t : Fin cfg0.N) : pt t.val = t := by
  have h : t.val ≤ 30 := N_eq t
  exact Fin.ext (show min t.val 30 = t.val by omega)

/-- What point `n` finds of the rows the point before kept. -/
def Xin : ℕ → Vec F S7x192x1152 .fp8e4m3
  | 0 => fun _ => Scalar.ofBits .fp8e4m3 0x00#8
  | n + 1 => xbNewV lv (bK m c (pt n)) (bW m c (pt n)) (bC m c (pt n)) (bU m c (pt n))

/-- The five rows of the result that begin with block `t`. -/
def rowsA (t : Fin cfg0.N) : Vec F S5x168x384 .bf16 :=
  convV lv (bK m c t) (xaV lv (keepBit (grid0.coords t)) (Xin m c t.val) (bK m c t) (bW m c t) (bC m c t) (bU m c t)) (bW6 m c t)
/-- The five rows before those. -/
def rowsB (t : Fin cfg0.N) : Vec F S5x168x384 .bf16 :=
  convV lv (bK m c t) (xbOldV lv (keepBit (grid0.coords t)) (Xin m c t.val) (bK m c t) (bW m c t) (bC m c t) (bU m c t)) (bW6 m c t)

/-- The first result: row `10 n + i` from `rowsA` of point `n`, row `10 n - 5 + i` from `rowsB`. -/
def Gp : Vec F S300x168x384 .bf16 := fun j =>
  if (j 0).val % 10 < 5 then rowsA m c (pt ((j 0).val / 10)) (ix3 ⟨(j 0).val % 5, Nat.mod_lt _ (by decide)⟩ (j 1) (j 2))
  else rowsB m c (pt (((j 0).val + 5) / 10)) (ix3 ⟨(j 0).val % 5, Nat.mod_lt _ (by decide)⟩ (j 1) (j 2))

theorem ix3_of (i : S5x168x384.Idx) (a : Fin 5) (b : Fin 168) (d : Fin 384) (h0 : a.val = (i 0).val) (h1 : b = i 1) (h2 : d = i 2) : ix3 a b d = i := by
  rw [eq_ix3 i]; subst h1 h2; exact congrArg (fun x => ix3 x (i 1) (i 2)) (Fin.ext h0)

theorem Gp_A (t : Fin cfg0.N) (j : S300x168x384.Idx) (i : S5x168x384.Idx) (h0 : (j 0).val = 10 * t.val + (i 0).val) (h1 : j 1 = i 1) (h2 : j 2 = i 2) :
    Gp m c j = rowsA m c t i := by
  have hi : (i 0).val < 5 := (i 0).isLt
  unfold Gp
  rw [if_pos (by omega), show (j 0).val / 10 = t.val by omega, pt_val]
  exact congrArg _ (ix3_of i _ _ _ (show (j 0).val % 5 = _ by omega) h1 h2)

theorem Gp_B (t : Fin cfg0.N) (ht : 1 ≤ t.val) (j : S300x168x384.Idx) (i : S5x168x384.Idx) (h0 : (j 0).val = 10 * t.val - 5 + (i 0).val) (h1 : j 1 = i 1) (h2 : j 2 = i 2) :
    Gp m c j = rowsB m c t i := by
  have hi : (i 0).val < 5 := (i 0).isLt
  unfold Gp
  rw [if_neg (by omega), show ((j 0).val + 5) / 10 = t.val by omega, pt_val]
  exact congrArg _ (ix3_of i _ _ _ (show (j 0).val % 5 = _ by omega) h1 h2)

end

/-! ## The proof data -/

/-- The kernel's own cells: the two copies'. -/
abbrev osem0 : Fin 2 → SemLoc sig := fun j => (![SemLoc.dma semA, SemLoc.dma semB] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma semA) 0 ∗ semVal ((c : Thread nD τ), SemLoc.dma semB) 0) := by
  rw [Pipeline.ownSems0_eq_of_list c osem0 [0, 1] (by decide) (by decide)]; rfl

/-- The array that the kernel writes by its own copies. -/
def R0 : Finset (Ref sig .tc) := {main_v6_0}
theorem R0_sub : R0 ⊆ Pipeline.restRefs sig spec0 \ ∅ := by decide

/-- The unscoped buffers at the end. -/
def Gend (c : Dev nD) (b : Ref sig .tc) : Buf (Elt F) ((c : Thread nD τ).loc b) :=
  if h : b = main_v6_0 then h ▸ (Gp m c : Buf (Elt F) ((c : Thread nD τ).loc main_v6_0)) else V m c b

theorem PhiD_eq (G : (c : Dev nD) → (b : Ref sig .tc) → Buf (Elt F) ((c : Thread nD τ).loc b)) (c : Dev nD) :
    (Pipeline.ΦDRG osem0 spec0 ∅ R0 (V m) G c : sProp 𝕄)
      = iprop(iprop((∃ d, own c upM fullShare d) ∗ (∃ d, own c quM fullShare d) ∗ (∃ d, own c xaM fullShare d) ∗ (∃ d, own c xbM fullShare d)
              ∗ (∃ d, own c oaM fullShare d) ∗ (∃ d, own c obM fullShare d))
          ∗ (∃ r, prngReg c r)
          ∗ iprop(semVal ((c : Thread nD τ), SemLoc.dma semA) 0 ∗ semVal ((c : Thread nD τ), SemLoc.dma semB) 0)
          ∗ iprop(emp) ∗ (((c : Thread nD τ).loc main_v6_0) ↦{fullShare} G c main_v6_0)) := by
  rw [Pipeline.ΦDRG_eq, scopedRest0_eq, ownSems00_eq, BI.bigSep_empty]
  unfold Pipeline.routed
  rw [BI.bigSep_eq_bigSepL_of_eq [main_v6_0] (by decide) (by decide)]
  simp only [Cert.Rows.own, upM, quM, xaM, xbM, oaM, obM, owns_whole]; try rfl

/-- The invariant before point `n`. -/
def PhiAt (c : Dev nD) (n : ℕ) : sProp 𝕄 :=
  iprop(inv c (Xin m c n) (Gp m c) (V m c main_v6_0) n ∗ (∃ r, prngReg c r))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => codesB m c t
  Φ t := PhiAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = codesB m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)

/-! ## The body at a point -/
abbrev ms0 (t : Fin cfg0.N) : Memref sig .tc .vmem S10x168x512 .fp8e4m3 := win0_0.stage (cfg0.slots t 0)
abbrev ms1 (t : Fin cfg0.N) : Memref sig .tc .smem S1 .f32 := win0_1.stage (cfg0.slots t 1)
abbrev ms2 (t : Fin cfg0.N) : Memref sig .tc .vmem S512x384 .fp8e4m3 := win0_2.stage (cfg0.slots t 2)
abbrev ms3 (t : Fin cfg0.N) : Memref sig .tc .vmem S1x384 .f32 := win0_3.stage (cfg0.slots t 3)
abbrev ms4 (t : Fin cfg0.N) : Memref sig .tc .vmem S1x384 .f32 := win0_4.stage (cfg0.slots t 4)
abbrev ms5 (t : Fin cfg0.N) : Memref sig .tc .vmem S3456x384 .fp8e4m3 := win0_5.stage (cfg0.slots t 5)
abbrev ms6 (t : Fin cfg0.N) : Memref sig .tc .vmem S1x384 .f32 := win0_6.stage (cfg0.slots t 6)
abbrev ms7 (t : Fin cfg0.N) : Memref sig .tc .vmem S1x384 .f32 := win0_7.stage (cfg0.slots t 7)
abbrev ms8 (t : Fin cfg0.N) : Memref sig .tc .smem S1 .f32 := win0_8.stage (cfg0.slots t 8)
abbrev ms9 (t : Fin cfg0.N) : Memref sig .tc .smem S1 .f32 := win0_9.stage (cfg0.slots t 9)
abbrev ms10 (t : Fin cfg0.N) : Memref sig .tc .vmem S5x84x384 .fp8e4m3 := win0_10.stage (cfg0.slots t 10)
abbrev ms11 (t : Fin cfg0.N) : Memref sig .tc .smem S1 .f32 := win0_11.stage (cfg0.slots t 11)
abbrev ms12 (t : Fin cfg0.N) : Memref sig .tc .vmem S10x168x384 .fp8e4m3 := win0_12.stage (cfg0.slots t 12)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

theorem bodyAt0_eq (t : Fin cfg0.N) : bodyAt0 (F := F) t =
    (headP (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) pM (Memref.isWhole_whole _) (ms12 t) (hstage0_12 ((cfg0.slots t 12).cast nbuf0_12)) upM (Memref.isWhole_whole _) quM (Memref.isWhole_whole _) xaM (Memref.isWhole_whole _) xbM (Memref.isWhole_whole _) oaM (Memref.isWhole_whole _) obM (Memref.isWhole_whole _) cc0_scratch6) >>= fun _ =>
    (mid lv (ms0 t) (ms1 t) (ms2 t) (ms3 t) (ms4 t) (ms5 t) (ms6 t) (ms7 t) (ms8 t) (ms9 t) (ms10 t) (ms11 t) (ms12 t) (hstage0_12 ((cfg0.slots t 12).cast nbuf0_12)) upM quM xaM (Memref.isWhole_whole _) xbM (Memref.isWhole_whole _) oaM (Memref.isWhole_whole _) obM (Memref.isWhole_whole _) (keepBit (grid0.coords t))) >>= fun _ =>
    (startP (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) pM (Memref.isWhole_whole _) (ms12 t) (hstage0_12 ((cfg0.slots t 12).cast nbuf0_12)) upM (Memref.isWhole_whole _) quM (Memref.isWhole_whole _) xaM (Memref.isWhole_whole _) xbM (Memref.isWhole_whole _) oaM (Memref.isWhole_whole _) obM (Memref.isWhole_whole _) cc0_scratch6) >>= fun _ =>
    (lastP (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) pM (Memref.isWhole_whole _) (ms12 t) (hstage0_12 ((cfg0.slots t 12).cast nbuf0_12)) upM (Memref.isWhole_whole _) quM (Memref.isWhole_whole _) xaM (Memref.isWhole_whole _) xbM (Memref.isWhole_whole _) oaM (Memref.isWhole_whole _) obM (Memref.isWhole_whole _) cc0_scratch6) >>= fun _ => .ret ⟨⟩ :=
  (body_eq ..).trans (by
    refine congrArg (Prog.bind _) (funext fun _ => congrArg (Prog.bind _) (funext fun _ => congrArg (Prog.bind _) (funext fun _ => ?_)))
    exact (Prog.bind_pure _).symm)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  rw [bodyAt0_eq]
  unfold bodyPre bodyPost
  rw [show (dats m 0 c).Φ t.succ = PhiAt m c (t.val + 1) from rfl, show (dats m 0 c).Φ t.castSucc = PhiAt m c t.val from rfl]
  simp only [before0_0, before0_1, before0_2, before0_3, before0_4, before0_5, before0_6, before0_7, before0_8, before0_9, before0_10, before0_11, after0_0, after0_1, after0_2, after0_3, after0_4, after0_5, after0_6, after0_7, after0_8, after0_9, after0_10, after0_11, after0_12]
  unfold PhiAt Dat.owesAt Pipeline.owesWithin
  rw [show (dats m 0 c).owed t.castSucc = 0 from rfl, show (dats m 0 c).owed t.succ = 0 from rfl]
  iintro ⟨⟨HI, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (head_spec c (Xin m c t.val) (Gp m c) (V m c main_v6_0) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) t (fun h => by rw [h]; rfl) W) $$ [HI HW]
  · isplitl [HI]; · iexact HI
    iexact HW
  unfold after
  iintro ⟨⟨⟨%X15, Hu⟩, Hq, ⟨%X17, Ha⟩, Hb, ⟨⟨%X19, HA⟩, HA'⟩, ⟨⟨%X20, HB⟩, HB'⟩, Hp, Hr⟩, ⟨%W', HW⟩⟩
  ihave Hb := (part_elim (c : Thread nD τ)) $$ Hb
  icases Hb with ⟨%X, %hX, Hb⟩
  iapply (mid_spec lv c (ms0 t) (ms1 t) (ms2 t) (ms3 t) (ms4 t) (ms5 t) (ms6 t) (ms7 t) (ms8 t) (ms9 t) (ms10 t) (ms11 t) (ms12 t) (hstage0_12 ((cfg0.slots t 12).cast nbuf0_12)) upM quM xaM (Memref.isWhole_whole _) xbM (Memref.isWhole_whole _) oaM (Memref.isWhole_whole _) obM (Memref.isWhole_whole _)
    (bK m c t) (bW m c t) (bC m c t) (bU m c t) (bW6 m c t) (keepBit (grid0.coords t)) (bcs m c t) (bs4 m c t) (bb5 m c t) (bs7 m c t) (bb8 m c t) (bms m c t) (binv m c t) (bQ m c t) (bqs m c t) rfl rfl _ X15 X17 X X19 X20)
    $$ [H0 H1 H2 H3 H4 H5 H6 H7 H8 H9 H10 H11 H12 Hu Hq Ha Hb HA HB]
  · unfold insOwn
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    isplitl [Hu]; · iexact Hu
    isplitl [Hq]; · iexact Hq
    isplitl [Ha]; · iexact Ha
    isplitl [Hb]; · iexact Hb
    isplitl [HA]; · iexact HA
    iexact HB
  rw [xaV_congr lv (keepBit (grid0.coords t)) X (bK m c t) (bW m c t) (bC m c t) (bU m c t) (Xin m c t.val) hX, xbOldV_congr lv (keepBit (grid0.coords t)) X (bK m c t) (bW m c t) (bC m c t) (bU m c t) (Xin m c t.val) hX]
  unfold insOwn
  iintro ⟨⟨H0, H1, H2, H3, H4, H5, H6, H7, H8, H9, H10, H11⟩, H12, Hu, Hq, Ha, Hb, HA, HB⟩
  ihave Hu := (part_elim (c : Thread nD τ)) $$ Hu
  icases Hu with ⟨%XU, -, Hu⟩
  iapply (tail_spec c (Xin m c (t.val + 1)) (Gp m c) (V m c main_v6_0) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) t (rowsA m c t) (rowsB m c t) W'
    (fun j i => Gp_A m c t j i) (fun ht j i => Gp_B m c t ht j i)) $$ [Hu Hq Ha Hb HA HA' HB HB' Hp Hr HW]
  · isplitl [Hu]; · iexists _; iexact Hu
    isplitl [Hq]; · iexact Hq
    isplitl [Ha]; · iexists _; iexact Ha
    isplitl [Hb]
    · iapply (show (prt c xbM (xbNewV lv (bK m c t) (bW m c t) (bC m c t) (bU m c t)) (fun j => (j 0).val < 6) : sProp 𝕄) ⊢ prt c xbM (Xin m c (t.val + 1)) (fun j => (j 0).val < 6) from by
        rw [show Xin m c (t.val + 1) = xbNewV lv (bK m c (pt t.val)) (bW m c (pt t.val)) (bC m c (pt t.val)) (bU m c (pt t.val)) from rfl, pt_val]) $$ Hb
    isplitl [HA]; · iexact HA
    isplitl [HA']; · iexact HA'
    isplitl [HB]; · iexact HB
    isplitl [HB']; · iexact HB'
    isplitl [Hp]; · iexact Hp
    isplitl [Hr]; · iexact Hr
    iexact HW
  iintro ⟨HI, ⟨%W'', HW⟩⟩
  iapply le_wp_ret
  isplitl [HI Hg]
  · isplitl [HI]; · iexact HI
    iexact Hg
  isplitl [HW]
  · iexists W''; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Entering and leaving -/

theorem enter (c : Dev nD) : Pipeline.ΦDRG osem0 spec0 ∅ R0 (V m) (V m) c ⊢ (dats m 0 c).Φ 0 := by
  rw [PhiD_eq, show (dats m 0 c).Φ 0 = PhiAt m c 0 from rfl]
  unfold PhiAt inv
  rw [flA_idle c _ 0 (by omega), flB_idle c _ 0 (by omega), if_neg (by omega), prow_empty c (a := 0) (b := 10 * 0 - 15) (by omega), show 10 * 0 - 5 = 0 from rfl, prow_whole]
  iintro ⟨⟨Hu, ⟨%Xq, Hq⟩, Ha, ⟨%Xb, Hb⟩, HA, HB⟩, Hg, ⟨HA', HB'⟩, HE, Hp⟩
  isplitr [Hg]
  · isplitl [Hu]; · iexact Hu
    isplitl [Hq]; · iapply (owns_part (c : Thread nD τ) (fun j h => absurd rfl h.1)) $$ Hq
    isplitl [Ha]; · iexact Ha
    isplitl [Hb]; · iapply (owns_part (c : Thread nD τ) (fun j h => absurd rfl h.1)) $$ Hb
    isplitl [HA HA']
    · isplitl [HA]; · iexact HA
      iexact HA'
    isplitl [HB HB']
    · isplitl [HB]; · iexact HB
      iexact HB'
    isplitl [HE]; · iexact HE
    iexact Hp
  · iexact Hg

theorem leave (c : Dev nD) : (dats m 0 c).Φ (Fin.last cfg0.N) ⊢ Pipeline.ΦDRG osem0 spec0 ∅ R0 (V m) (Gend m) c := by
  rw [PhiD_eq, show (dats m 0 c).Φ (Fin.last cfg0.N) = PhiAt m c 31 from rfl, show Gend m c main_v6_0 = Gp m c from rfl]
  unfold PhiAt inv
  rw [flA_idle c _ 31 (by omega), flB_idle c _ 31 (by omega), if_pos rfl, prow_empty c (a := 10 * 31 - 5) (b := 300) (by omega), prow_whole]
  iintro ⟨⟨Hu, Hq, Ha, Hb, ⟨HA, HA'⟩, ⟨HB, HB'⟩, Hp, HE⟩, Hg⟩
  ihave Hq := (part_elim (c : Thread nD τ)) $$ Hq
  icases Hq with ⟨%Xq, -, Hq⟩
  ihave Hb := (part_elim (c : Thread nD τ)) $$ Hb
  icases Hb with ⟨%Xb, -, Hb⟩
  isplitl [Hu Hq Ha Hb HA HB]
  · isplitl [Hu]; · iexact Hu
    isplitl [Hq]; · iexists _; iexact Hq
    isplitl [Ha]; · iexact Ha
    isplitl [Hb]; · iexists _; iexact Hb
    isplitl [HA]; · iexact HA
    iexact HB
  isplitl [Hg]; · iexact Hg
  isplitl [HA' HB']
  · isplitl [HA']; · iexact HA'
    iexact HB'
  isplitl [HE]; · iexact HE
  iexact Hp

/-! ## The run -/

set_option maxHeartbeats 800000 in
/-- @main up to the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every weak schedule ends, and at its end the arrays hold what the proof data says. -/
theorem run_main : θ_run defs (onTc (τ := τ) (main (F := F))) (s₀ m ρ) (fun r => Pipeline.FramePostRG cfgs (dats m) 0 R0 (V m) (Gend m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V := V m) (hmain := hmainD m Variants.none) (hA := A_eq m) (G := Gend m)
    (hin := enter m) (hout := leave m) (hQ' := fun _ h => h)

/-- The arguments are unchanged at the end. -/
theorem args_of (r : PUnit × MemSt nD τ sig (Elt F)) (h : Pipeline.FramePostRG cfgs (dats m) 0 R0 (V m) (Gend m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h.1 c).2 main_arg0 (Finset.mem_sdiff.mpr ⟨Pipeline.mem_restRefs_of main_arg0 (by decide) (by decide), by decide⟩)).trans (V_main_arg0 m c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).1 8).trans (((dats m 0 c).arrAt_in 8 rfl _).trans ((A_eq m c 8).trans (V_main_arg8 m c))),
      ((h.1 c).1 9).trans (((dats m 0 c).arrAt_in 9 rfl _).trans ((A_eq m c 9).trans (V_main_arg9 m c))),
      ((h.1 c).1 10).trans (((dats m 0 c).arrAt_in 10 rfl _).trans ((A_eq m c 10).trans (V_main_arg10 m c))),
      ((h.1 c).1 11).trans (((dats m 0 c).arrAt_in 11 rfl _).trans ((A_eq m c 11).trans (V_main_arg11 m c)))⟩

/-- The program ends without fault and leaves its arguments unchanged. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r h => ⟨fun c => args_of m r h.1 c, h.2⟩) (run_main m ρ)

end Cert.Kernel3Ideal.Hand
-- ==== Proof.Bits3.lean ====
/-
  The run of `Kernel3` on bits: it is the run of `Kernel3Ideal`.

  The two programs are one text, so their bodies and their mains are equal by definition, and the frame proved of
  `Kernel3Ideal` over every reading of the floats is also a frame of `Kernel3`.
-/
module

public import proofs.«01_k».proof.Defs
public import proofs.«01_k».proof.Proof.Gen.Kernel3
public import proofs.«01_k».proof.Proof.Run3

@[expose] public section

set_option maxRecDepth 100000
set_option maxHeartbeats 0

noncomputable section

namespace Cert.Kernel3.Hand

open Idealize.ShloMosaic Idealize.SL.Sem

variable {F : FTy → Type} [FloatOps F]

/-- The bodies are equal. -/
theorem defs0_eq : (@Cert.Kernel3.defs₀ F _ Cert.Kernel3.Gen.facts) = (@Cert.Kernel3Ideal.defs₀ F _ Cert.Kernel3Ideal.Gen.facts) := by
  funext c ℓ x
  match c, ℓ, x with
  | .tc, 0, (t, s) => rfl
  | .scScalar _, 0, _ => rfl
  | .scVector _ _, 0, _ => rfl

/-- The mains are equal. -/
theorem main_eq : (@Cert.Kernel3.main F Cert.Kernel3.Gen.facts) = (@Cert.Kernel3Ideal.main F Cert.Kernel3Ideal.Gen.facts) := rfl

theorem defs_eq : (@Cert.Kernel3.defs F _ Cert.Kernel3.Gen.facts) = (@Cert.Kernel3Ideal.defs F _ Cert.Kernel3Ideal.Gen.facts) :=
  congrArg (Pipeline.defs (@Cert.Kernel3Ideal.pcfgs F Cert.Kernel3Ideal.Gen.facts)) defs0_eq

/-- The frame, on bits. -/
theorem frame : Cert.quiescent_Kernel3 (hKernel3 := Cert.Kernel3.Gen.facts) := by
  intro m ρ _
  have h := Cert.Kernel3Ideal.Hand.frame_main (F := Bits) m ρ
  rw [← defs_eq, ← main_eq] at h
  exact h

end Cert.Kernel3.Hand

end
-- ==== Proof.Body4.lean ====
/-
  The widths of level 4, and the programs and assertions of its kernel.
-/
module

public import proofs.«01_k».proof.Proof.Gen.Kernel4Ideal.Skeleton
public import proofs.«01_k».proof.Proof.Half

@[expose] public section

noncomputable section

namespace Cert.Kernel4Ideal.Hand

open Cert.Kernel4Ideal Cert.Kernel4Ideal.Gen Cert.Rules
open Idealize.ShloMosaic Idealize.ShloMosaic.TcCoe
open Idealize.SL Idealize.SL.RA Idealize.SL.BI Idealize.SL.Sem

/-- The level's widths. -/
abbrev lv : Cert.Rows.Sizes where
  w := 84
  cw := 42
  uw := 88
  p := 96
  qp := 112
  ci := 1024
  cw0 := by decide
  w0 := by decide
  p0 := by decide
  ci0 := by decide
  w2 := by decide
  wu := by decide
  wp := by decide
  pq := by decide
  w4 := by decide
  p4 := by decide

/-- The type of the kernel's programs. -/
abbrev PR (F : FTy → Type) (α : Type) := Cert.Rows.PR nD τ sig Λ₀ F α

/-- What a program's end is asked to satisfy. -/
abbrev Post (F : FTy → Type) := Cert.Rows.Post nD τ sig F

/-- The weakest precondition on core `c`. -/
abbrev wpc {F : FTy → Type} [FloatOps F] (c : Dev nD) (p : PR F PUnit.{1}) (P : Post F) : sProp (MT nD τ sig Unit (Elt F) ℕ (Pipeline.UD sig nD τ) ℕ) :=
  Cert.Rows.wpc (defs₀ (F := F)) c p P

end Cert.Kernel4Ideal.Hand
-- ==== Proof.Shape4.lean ====
/-
  The printed kernel is a head, the straight line `mid`, and a tail.

  The head zeroes the scratch at the first point and waits for the copies started at the point before; the tail starts
  this point's copies and, at the last point, waits for the last one. Their text is the printed skeleton's.
-/
module

public import proofs.«01_k».proof.Proof.Body4

@[expose] public section

set_option maxRecDepth 65536

noncomputable section

namespace Cert.Kernel4Ideal.Hand

open Cert.Kernel4Ideal Cert.Kernel4Ideal.Gen Cert.Rows
open Idealize.ShloMosaic Idealize.ShloMosaic.TcCoe Idealize.SL.Sem

variable {F : FTy → Type} [FloatOps F]

/-- The head: at the first point the scratch is zeroed; from the second and third on the copies of the point before are
waited for. -/
def headP (i : grid0.Coords) (arg1 : Memref sig .tc .vmem S10x84x1024 .fp8e4m3) (harg1 : arg1.IsWhole) (arg2 : Memref sig .tc .smem S1 .f32) (harg2 : arg2.IsWhole) (arg3 : Memref sig .tc .vmem S1024x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x42x384 .fp8e4m3) (harg11 : arg11.IsWhole) (arg12 : Memref sig .tc .smem S1 .f32) (harg12 : arg12.IsWhole) (arg13 : Memref sig .tc .hbm S150x84x384 .bf16) (harg13 : arg13.IsWhole) (arg14 : Memref sig .tc .vmem S10x84x384 .fp8e4m3) (harg14 : arg14.IsWhole) (arg15 : Memref sig .tc .vmem S5x3x88x128 .f32) (harg15 : arg15.IsWhole) (arg16 : Memref sig .tc .vmem S2x3x112x128 .f32) (harg16 : arg16.IsWhole) (arg17 : Memref sig .tc .vmem S7x96x1152 .fp8e4m3) (harg17 : arg17.IsWhole) (arg18 : Memref sig .tc .vmem S7x96x1152 .fp8e4m3) (harg18 : arg18.IsWhole) (arg19 : Memref sig .tc .vmem S5x84x384 .bf16) (harg19 : arg19.IsWhole) (arg20 : Memref sig .tc .vmem S5x84x384 .bf16) (harg20 : arg20.IsWhole) (arg21 : DmaSems sig S2) : PR F PUnit := do
  let arg0 : BitVec 32 := BitVec.ofNat 32 (i 0).val
  let v0 : BitVec 32 := Scalar.remsi arg0 5#32
  let v1 : BitVec 1 := Scalar.cmpi .eq v0 0#32
  let v2 : BitVec 1 := Scalar.cmpi .eq arg0 0#32
  let v3 : BitVec 32 := Scalar.extui v2
  let v4 : BitVec 1 := Scalar.cmpi .ne v3 0#32
  if k0_h1 : v4 = 1#1 then do
    let v1310 : Vec F S2x3x112x128 .f32 ← Prog.lift (.load arg16 (Rect.unit (s := S2x3x112x128) ![0, 0, 0, 0] S2x3x112x128.size inb_S2x3x112x128_S2x3x112x128_0_0_0_0).toLoadRect (View.loadsAt_vmem h_S2x3x112x128))
    Prog.lift (.store arg16 (Rect.unit (s := S2x3x112x128) ![0, 0, 0, 0] S2x3x112x128.size inb_S2x3x112x128_S2x3x112x128_0_0_0_0) (k0_pay2 (F := F)) Finset.univ (View.stores_vmem_bits_univ h_S2x3x112x128 rfl) (.inl rfl))
    let v1314 : Vec F S7x96x1152 .fp8e4m3 ← Prog.lift (.load arg17 (Rect.unit (s := S7x96x1152) ![0, 0, 0] S7x96x1152.size inb_S7x96x1152_S7x96x1152_0_0_0).toLoadRect (View.loadsAt_vmem h_S7x96x1152))
    Prog.lift (.store arg17 (Rect.unit (s := S7x96x1152) ![0, 0, 0] S7x96x1152.size inb_S7x96x1152_S7x96x1152_0_0_0) (k0_pay3 (F := F)) Finset.univ (View.stores_vmem h_S7x96x1152 (harg17.storeExact_slice rfl _ packedfp8e4m3_S7x96x1152_S7x96x1152_0_0_0) (fun _ => rfl)) (.inl rfl))
    let v1318 : Vec F S7x96x1152 .fp8e4m3 ← Prog.lift (.load arg18 (Rect.unit (s := S7x96x1152) ![0, 0, 0] S7x96x1152.size inb_S7x96x1152_S7x96x1152_0_0_0).toLoadRect (View.loadsAt_vmem h_S7x96x1152))
    Prog.lift (.store arg18 (Rect.unit (s := S7x96x1152) ![0, 0, 0] S7x96x1152.size inb_S7x96x1152_S7x96x1152_0_0_0) (k0_pay4 (F := F)) Finset.univ (View.stores_vmem h_S7x96x1152 (harg18.storeExact_slice rfl _ packedfp8e4m3_S7x96x1152_S7x96x1152_0_0_0) (fun _ => rfl)) (.inl rfl))
    pure ⟨⟩
  else do
    pure ⟨⟩
  if k0_h2 : k0_cond2 i = 1#1 then do
    let v1312 : DmaSems sig S1 := arg21.slice (Rect.unit (s := S2) ![1] S1.size inb_S2_S1_1)
    let v1313 : DmaSems sig S_ := v1312.squeeze S_ squeezes_S1_S_
    let v1314 : Memref sig .tc .hbm S5x84x384 .bf16 := arg13.slice (Rect.unit (s := S150x84x384) (k0_off1 i) S5x84x384.size (k0_off1_inb i k0_h2)) (fun _ => rfl)
    Prog.lift (.waitDma2 v1313.sem arg20 v1314 harg20.wordExact (harg13.wordExact_slice rfl _ (k0_off1_wordsbf16 i k0_h2)))
    pure ⟨⟩
  else do
    pure ⟨⟩
  if k0_h3 : k0_cond3 i = 1#1 then do
    let v1311 : DmaSems sig S1 := arg21.slice (Rect.unit (s := S2) ![0] S1.size inb_S2_S1_0)
    let v1312 : DmaSems sig S_ := v1311.squeeze S_ squeezes_S1_S_
    let v1313 : Memref sig .tc .hbm S5x84x384 .bf16 := arg13.slice (Rect.unit (s := S150x84x384) (k0_off2 i) S5x84x384.size (k0_off2_inb i k0_h3)) (fun _ => rfl)
    Prog.lift (.waitDma2 v1312.sem arg19 v1313 harg19.wordExact (harg13.wordExact_slice rfl _ (k0_off2_wordsbf16 i k0_h3)))
    pure ⟨⟩
  else do
    pure ⟨⟩
  pure ⟨⟩

/-- The tail's two starts: the rows completed at this point leave for the result. -/
def startP (i : grid0.Coords) (arg1 : Memref sig .tc .vmem S10x84x1024 .fp8e4m3) (harg1 : arg1.IsWhole) (arg2 : Memref sig .tc .smem S1 .f32) (harg2 : arg2.IsWhole) (arg3 : Memref sig .tc .vmem S1024x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x42x384 .fp8e4m3) (harg11 : arg11.IsWhole) (arg12 : Memref sig .tc .smem S1 .f32) (harg12 : arg12.IsWhole) (arg13 : Memref sig .tc .hbm S150x84x384 .bf16) (harg13 : arg13.IsWhole) (arg14 : Memref sig .tc .vmem S10x84x384 .fp8e4m3) (harg14 : arg14.IsWhole) (arg15 : Memref sig .tc .vmem S5x3x88x128 .f32) (harg15 : arg15.IsWhole) (arg16 : Memref sig .tc .vmem S2x3x112x128 .f32) (harg16 : arg16.IsWhole) (arg17 : Memref sig .tc .vmem S7x96x1152 .fp8e4m3) (harg17 : arg17.IsWhole) (arg18 : Memref sig .tc .vmem S7x96x1152 .fp8e4m3) (harg18 : arg18.IsWhole) (arg19 : Memref sig .tc .vmem S5x84x384 .bf16) (harg19 : arg19.IsWhole) (arg20 : Memref sig .tc .vmem S5x84x384 .bf16) (harg20 : arg20.IsWhole) (arg21 : DmaSems sig S2) : PR F (BitVec 32) := do
  if k0_h4 : k0_cond4 i = 1#1 then do
    let v1311 : DmaSems sig S1 := arg21.slice (Rect.unit (s := S2) ![1] S1.size inb_S2_S1_1)
    let v1312 : DmaSems sig S_ := v1311.squeeze S_ squeezes_S1_S_
    let v1313 : Memref sig .tc .hbm S5x84x384 .bf16 := arg13.slice (Rect.unit (s := S150x84x384) (k0_off3 i) S5x84x384.size (k0_off3_inb i k0_h4)) (fun _ => rfl)
    Prog.lift (.enqueueDma arg20 (.here v1313) (.dma v1312.sem) harg20.wordExact (harg13.wordExact_slice rfl _ (k0_off3_wordsbf16 i k0_h4)) ⟨Or.inl rfl, trivial⟩)
    pure ⟨⟩
  else do
    pure ⟨⟩
  if k0_h5 : k0_cond5 i = 1#1 then do
    let v1310 : DmaSems sig S1 := arg21.slice (Rect.unit (s := S2) ![0] S1.size inb_S2_S1_0)
    let v1311 : DmaSems sig S_ := v1310.squeeze S_ squeezes_S1_S_
    let v1312 : Memref sig .tc .hbm S5x84x384 .bf16 := arg13.slice (Rect.unit (s := S150x84x384) (k0_off4 i) S5x84x384.size (k0_off4_inb i k0_h5)) (fun _ => rfl)
    Prog.lift (.enqueueDma arg19 (.here v1312) (.dma v1311.sem) harg19.wordExact (harg13.wordExact_slice rfl _ (k0_off4_wordsbf16 i k0_h5)) ⟨Or.inl rfl, trivial⟩)
    pure ⟨⟩
  else do
    pure ⟨⟩
  pure 15#32

/-- The last wait, at the last point only. -/
def lastP (i : grid0.Coords) (arg1 : Memref sig .tc .vmem S10x84x1024 .fp8e4m3) (harg1 : arg1.IsWhole) (arg2 : Memref sig .tc .smem S1 .f32) (harg2 : arg2.IsWhole) (arg3 : Memref sig .tc .vmem S1024x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x42x384 .fp8e4m3) (harg11 : arg11.IsWhole) (arg12 : Memref sig .tc .smem S1 .f32) (harg12 : arg12.IsWhole) (arg13 : Memref sig .tc .hbm S150x84x384 .bf16) (harg13 : arg13.IsWhole) (arg14 : Memref sig .tc .vmem S10x84x384 .fp8e4m3) (harg14 : arg14.IsWhole) (arg15 : Memref sig .tc .vmem S5x3x88x128 .f32) (harg15 : arg15.IsWhole) (arg16 : Memref sig .tc .vmem S2x3x112x128 .f32) (harg16 : arg16.IsWhole) (arg17 : Memref sig .tc .vmem S7x96x1152 .fp8e4m3) (harg17 : arg17.IsWhole) (arg18 : Memref sig .tc .vmem S7x96x1152 .fp8e4m3) (harg18 : arg18.IsWhole) (arg19 : Memref sig .tc .vmem S5x84x384 .bf16) (harg19 : arg19.IsWhole) (arg20 : Memref sig .tc .vmem S5x84x384 .bf16) (harg20 : arg20.IsWhole) (arg21 : DmaSems sig S2) : PR F PUnit := do
  if k0_h6 : k0_cond6 i = 1#1 then do
    let v1311 : DmaSems sig S1 := arg21.slice (Rect.unit (s := S2) ![1] S1.size inb_S2_S1_1)
    let v1312 : DmaSems sig S_ := v1311.squeeze S_ squeezes_S1_S_
    let v1313 : Memref sig .tc .hbm S5x84x384 .bf16 := arg13.slice (Rect.unit (s := S150x84x384) (k0_off5 i) S5x84x384.size (k0_off5_inb i k0_h6)) (fun _ => rfl)
    Prog.lift (.waitDma2 v1312.sem arg20 v1313 harg20.wordExact (harg13.wordExact_slice rfl _ (k0_off5_wordsbf16 i k0_h6)))
    pure ⟨⟩
  else do
    pure ⟨⟩
  pure ⟨⟩

/-- The whole tail, as printed. -/
def tailP (i : grid0.Coords) (arg1 : Memref sig .tc .vmem S10x84x1024 .fp8e4m3) (harg1 : arg1.IsWhole) (arg2 : Memref sig .tc .smem S1 .f32) (harg2 : arg2.IsWhole) (arg3 : Memref sig .tc .vmem S1024x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x42x384 .fp8e4m3) (harg11 : arg11.IsWhole) (arg12 : Memref sig .tc .smem S1 .f32) (harg12 : arg12.IsWhole) (arg13 : Memref sig .tc .hbm S150x84x384 .bf16) (harg13 : arg13.IsWhole) (arg14 : Memref sig .tc .vmem S10x84x384 .fp8e4m3) (harg14 : arg14.IsWhole) (arg15 : Memref sig .tc .vmem S5x3x88x128 .f32) (harg15 : arg15.IsWhole) (arg16 : Memref sig .tc .vmem S2x3x112x128 .f32) (harg16 : arg16.IsWhole) (arg17 : Memref sig .tc .vmem S7x96x1152 .fp8e4m3) (harg17 : arg17.IsWhole) (arg18 : Memref sig .tc .vmem S7x96x1152 .fp8e4m3) (harg18 : arg18.IsWhole) (arg19 : Memref sig .tc .vmem S5x84x384 .bf16) (harg19 : arg19.IsWhole) (arg20 : Memref sig .tc .vmem S5x84x384 .bf16) (harg20 : arg20.IsWhole) (arg21 : DmaSems sig S2) : PR F PUnit := do
  if k0_h4 : k0_cond4 i = 1#1 then do
    let v1311 : DmaSems sig S1 := arg21.slice (Rect.unit (s := S2) ![1] S1.size inb_S2_S1_1)
    let v1312 : DmaSems sig S_ := v1311.squeeze S_ squeezes_S1_S_
    let v1313 : Memref sig .tc .hbm S5x84x384 .bf16 := arg13.slice (Rect.unit (s := S150x84x384) (k0_off3 i) S5x84x384.size (k0_off3_inb i k0_h4)) (fun _ => rfl)
    Prog.lift (.enqueueDma arg20 (.here v1313) (.dma v1312.sem) harg20.wordExact (harg13.wordExact_slice rfl _ (k0_off3_wordsbf16 i k0_h4)) ⟨Or.inl rfl, trivial⟩)
    pure ⟨⟩
  else do
    pure ⟨⟩
  if k0_h5 : k0_cond5 i = 1#1 then do
    let v1310 : DmaSems sig S1 := arg21.slice (Rect.unit (s := S2) ![0] S1.size inb_S2_S1_0)
    let v1311 : DmaSems sig S_ := v1310.squeeze S_ squeezes_S1_S_
    let v1312 : Memref sig .tc .hbm S5x84x384 .bf16 := arg13.slice (Rect.unit (s := S150x84x384) (k0_off4 i) S5x84x384.size (k0_off4_inb i k0_h5)) (fun _ => rfl)
    Prog.lift (.enqueueDma arg19 (.here v1312) (.dma v1311.sem) harg19.wordExact (harg13.wordExact_slice rfl _ (k0_off4_wordsbf16 i k0_h5)) ⟨Or.inl rfl, trivial⟩)
    pure ⟨⟩
  else do
    pure ⟨⟩
  if k0_h6 : k0_cond6 i = 1#1 then do
    let v1311 : DmaSems sig S1 := arg21.slice (Rect.unit (s := S2) ![1] S1.size inb_S2_S1_1)
    let v1312 : DmaSems sig S_ := v1311.squeeze S_ squeezes_S1_S_
    let v1313 : Memref sig .tc .hbm S5x84x384 .bf16 := arg13.slice (Rect.unit (s := S150x84x384) (k0_off5 i) S5x84x384.size (k0_off5_inb i k0_h6)) (fun _ => rfl)
    Prog.lift (.waitDma2 v1312.sem arg20 v1313 harg20.wordExact (harg13.wordExact_slice rfl _ (k0_off5_wordsbf16 i k0_h6)))
    pure ⟨⟩
  else do
    pure ⟨⟩
  pure ⟨⟩

/-- The printed tail is the two starts and the last wait. -/
theorem tailP_eq (i : grid0.Coords) (arg1 : Memref sig .tc .vmem S10x84x1024 .fp8e4m3) (harg1 : arg1.IsWhole) (arg2 : Memref sig .tc .smem S1 .f32) (harg2 : arg2.IsWhole) (arg3 : Memref sig .tc .vmem S1024x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x42x384 .fp8e4m3) (harg11 : arg11.IsWhole) (arg12 : Memref sig .tc .smem S1 .f32) (harg12 : arg12.IsWhole) (arg13 : Memref sig .tc .hbm S150x84x384 .bf16) (harg13 : arg13.IsWhole) (arg14 : Memref sig .tc .vmem S10x84x384 .fp8e4m3) (harg14 : arg14.IsWhole) (arg15 : Memref sig .tc .vmem S5x3x88x128 .f32) (harg15 : arg15.IsWhole) (arg16 : Memref sig .tc .vmem S2x3x112x128 .f32) (harg16 : arg16.IsWhole) (arg17 : Memref sig .tc .vmem S7x96x1152 .fp8e4m3) (harg17 : arg17.IsWhole) (arg18 : Memref sig .tc .vmem S7x96x1152 .fp8e4m3) (harg18 : arg18.IsWhole) (arg19 : Memref sig .tc .vmem S5x84x384 .bf16) (harg19 : arg19.IsWhole) (arg20 : Memref sig .tc .vmem S5x84x384 .bf16) (harg20 : arg20.IsWhole) (arg21 : DmaSems sig S2) :
    tailP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (startP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => lastP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold tailP startP lastP
  by_cases h4 : k0_cond4 i = 1#1 <;> by_cases h5 : k0_cond5 i = 1#1 <;> by_cases h6 : k0_cond6 i = 1#1 <;>
    simp only [h4, h5, h6, dite_true, dite_false] <;> rfl

/-- What follows the head in the printed first part. -/
def part1b (i : grid0.Coords) (arg1 : Memref sig .tc .vmem S10x84x1024 .fp8e4m3) (harg1 : arg1.IsWhole) (arg2 : Memref sig .tc .smem S1 .f32) (harg2 : arg2.IsWhole) (arg3 : Memref sig .tc .vmem S1024x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x42x384 .fp8e4m3) (harg11 : arg11.IsWhole) (arg12 : Memref sig .tc .smem S1 .f32) (harg12 : arg12.IsWhole) (arg13 : Memref sig .tc .hbm S150x84x384 .bf16) (harg13 : arg13.IsWhole) (arg14 : Memref sig .tc .vmem S10x84x384 .fp8e4m3) (harg14 : arg14.IsWhole) (arg15 : Memref sig .tc .vmem S5x3x88x128 .f32) (harg15 : arg15.IsWhole) (arg16 : Memref sig .tc .vmem S2x3x112x128 .f32) (harg16 : arg16.IsWhole) (arg17 : Memref sig .tc .vmem S7x96x1152 .fp8e4m3) (harg17 : arg17.IsWhole) (arg18 : Memref sig .tc .vmem S7x96x1152 .fp8e4m3) (harg18 : arg18.IsWhole) (arg19 : Memref sig .tc .vmem S5x84x384 .bf16) (harg19 : arg19.IsWhole) (arg20 : Memref sig .tc .vmem S5x84x384 .bf16) (harg20 : arg20.IsWhole) (arg21 : DmaSems sig S2) : Prog (TpuEff nD τ sig (Elt F) Λ₀ .tc) (Σ' (arg0 : BitVec 32) (v1 : BitVec 1) (v11 : Elt F .f32) (v16 : FVec F S42x384 .f32), FVec F S42x128 .f32) := do
  let arg0 : BitVec 32 := BitVec.ofNat 32 (i 0).val
  let v0 : BitVec 32 := Scalar.remsi arg0 5#32
  let v1 : BitVec 1 := Scalar.cmpi .eq v0 0#32
  let v11 : Elt F .f32 ← smemLoad arg12 (Rect.unit (s := S1) ![0] S1.size inb_S1_S1_0) numel1_S1 rfl
  let v12 : Vec F S1x42x384 .fp8e4m3 ← Prog.lift (.load arg11 (Rect.unit (s := S5x42x384) ![0, 0, 0] S1x42x384.size inb_S5x42x384_S1x42x384_0_0_0).toLoadRect (View.loadsAt_vmem h_S1x42x384))
  let v18 : Vec F S1x1x42x128 .f32 ← Prog.lift (.load arg15 (⟨![0, 0, 0, 0], S1x1x42x128.size, ![1, 1, 2, 1], inb_S5x3x88x128_S1x1x42x128_0_0_0_0_s_1_1_2_1⟩ : LoadRect S5x3x88x128) (View.loadsAt_vmem h_S1x1x42x128))
  Prog.lift (.store arg15 ⟨(⟨![0, 0, 0, 0], S1x1x42x128.size, ![1, 1, 2, 1], inb_S5x3x88x128_S1x1x42x128_0_0_0_0_s_1_1_2_1⟩ : LoadRect S5x3x88x128), spos_1_1_2_1⟩ (k0_pay7 v11 v12) Finset.univ (View.stores_vmem_bits_univ h_S1x1x42x128 rfl) (.inl rfl))
  let v21 : Vec F S1x1x42x128 .f32 ← Prog.lift (.load arg15 (⟨![0, 0, 1, 0], S1x1x42x128.size, ![1, 1, 2, 1], inb_S5x3x88x128_S1x1x42x128_0_0_1_0_s_1_1_2_1⟩ : LoadRect S5x3x88x128) (View.loadsAt_vmem h_S1x1x42x128))
  Prog.lift (.store arg15 ⟨(⟨![0, 0, 1, 0], S1x1x42x128.size, ![1, 1, 2, 1], inb_S5x3x88x128_S1x1x42x128_0_0_1_0_s_1_1_2_1⟩ : LoadRect S5x3x88x128), spos_1_1_2_1⟩ (k0_pay8 v11 v12) Finset.univ (View.stores_vmem_bits_univ h_S1x1x42x128 rfl) (.inl rfl))
  let v25 : Vec F S1x1x42x128 .f32 ← Prog.lift (.load arg15 (⟨![0, 1, 0, 0], S1x1x42x128.size, ![1, 1, 2, 1], inb_S5x3x88x128_S1x1x42x128_0_1_0_0_s_1_1_2_1⟩ : LoadRect S5x3x88x128) (View.loadsAt_vmem h_S1x1x42x128))
  Prog.lift (.store arg15 ⟨(⟨![0, 1, 0, 0], S1x1x42x128.size, ![1, 1, 2, 1], inb_S5x3x88x128_S1x1x42x128_0_1_0_0_s_1_1_2_1⟩ : LoadRect S5x3x88x128), spos_1_1_2_1⟩ (k0_pay10 v11 v12) Finset.univ (View.stores_vmem_bits_univ h_S1x1x42x128 rfl) (.inl rfl))
  pure ⟨arg0, v1, v11, k0_pay5 v11 v12, k0_pay9 v11 v12⟩

/-- Two programs that begin with the same effect agree if their continuations do. -/
theorem opc {E : Type → Type} {α β : Type} {e : E β} {k k' : β → Prog E α} (h : ∀ v, k v = k' v) : Prog.op e k = Prog.op e k' := by
  rw [funext h]

theorem part1_eq (i : grid0.Coords) (arg1 : Memref sig .tc .vmem S10x84x1024 .fp8e4m3) (harg1 : arg1.IsWhole) (arg2 : Memref sig .tc .smem S1 .f32) (harg2 : arg2.IsWhole) (arg3 : Memref sig .tc .vmem S1024x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x42x384 .fp8e4m3) (harg11 : arg11.IsWhole) (arg12 : Memref sig .tc .smem S1 .f32) (harg12 : arg12.IsWhole) (arg13 : Memref sig .tc .hbm S150x84x384 .bf16) (harg13 : arg13.IsWhole) (arg14 : Memref sig .tc .vmem S10x84x384 .fp8e4m3) (harg14 : arg14.IsWhole) (arg15 : Memref sig .tc .vmem S5x3x88x128 .f32) (harg15 : arg15.IsWhole) (arg16 : Memref sig .tc .vmem S2x3x112x128 .f32) (harg16 : arg16.IsWhole) (arg17 : Memref sig .tc .vmem S7x96x1152 .fp8e4m3) (harg17 : arg17.IsWhole) (arg18 : Memref sig .tc .vmem S7x96x1152 .fp8e4m3) (harg18 : arg18.IsWhole) (arg19 : Memref sig .tc .vmem S5x84x384 .bf16) (harg19 : arg19.IsWhole) (arg20 : Memref sig .tc .vmem S5x84x384 .bf16) (harg20 : arg20.IsWhole) (arg21 : DmaSems sig S2) :
    k0_part1_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (headP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => part1b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  unfold k0_part1_skel headP
  by_cases h1 : Scalar.cmpi .ne (Scalar.extui (Scalar.cmpi .eq (BitVec.ofNat 32 (i 0).val) 0#32) : BitVec 32) 0#32 = 1#1 <;>
    by_cases h2 : k0_cond2 i = 1#1 <;> by_cases h3 : k0_cond3 i = 1#1 <;>
    simp only [h1, h2, h3, dite_true, dite_false] <;> rfl

/-- The bit that is on except at the first point of an image. -/
def keepBit (i : grid0.Coords) : BitVec 1 :=
  Scalar.xori (Scalar.cmpi .eq (Scalar.remsi (BitVec.ofNat 32 (i 0).val) 5#32) 0#32) 1#1

set_option maxHeartbeats 0 in
/-- The printed kernel is head, straight line, tail. -/
theorem body_eq (i : grid0.Coords) (arg1 : Memref sig .tc .vmem S10x84x1024 .fp8e4m3) (harg1 : arg1.IsWhole) (arg2 : Memref sig .tc .smem S1 .f32) (harg2 : arg2.IsWhole) (arg3 : Memref sig .tc .vmem S1024x384 .fp8e4m3) (harg3 : arg3.IsWhole) (arg4 : Memref sig .tc .vmem S1x384 .f32) (harg4 : arg4.IsWhole) (arg5 : Memref sig .tc .vmem S1x384 .f32) (harg5 : arg5.IsWhole) (arg6 : Memref sig .tc .vmem S3456x384 .fp8e4m3) (harg6 : arg6.IsWhole) (arg7 : Memref sig .tc .vmem S1x384 .f32) (harg7 : arg7.IsWhole) (arg8 : Memref sig .tc .vmem S1x384 .f32) (harg8 : arg8.IsWhole) (arg9 : Memref sig .tc .smem S1 .f32) (harg9 : arg9.IsWhole) (arg10 : Memref sig .tc .smem S1 .f32) (harg10 : arg10.IsWhole) (arg11 : Memref sig .tc .vmem S5x42x384 .fp8e4m3) (harg11 : arg11.IsWhole) (arg12 : Memref sig .tc .smem S1 .f32) (harg12 : arg12.IsWhole) (arg13 : Memref sig .tc .hbm S150x84x384 .bf16) (harg13 : arg13.IsWhole) (arg14 : Memref sig .tc .vmem S10x84x384 .fp8e4m3) (harg14 : arg14.IsWhole) (arg15 : Memref sig .tc .vmem S5x3x88x128 .f32) (harg15 : arg15.IsWhole) (arg16 : Memref sig .tc .vmem S2x3x112x128 .f32) (harg16 : arg16.IsWhole) (arg17 : Memref sig .tc .vmem S7x96x1152 .fp8e4m3) (harg17 : arg17.IsWhole) (arg18 : Memref sig .tc .vmem S7x96x1152 .fp8e4m3) (harg18 : arg18.IsWhole) (arg19 : Memref sig .tc .vmem S5x84x384 .bf16) (harg19 : arg19.IsWhole) (arg20 : Memref sig .tc .vmem S5x84x384 .bf16) (harg20 : arg20.IsWhole) (arg21 : DmaSems sig S2) :
    cc0_level4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (headP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ =>
      (mid lv arg1 arg2 arg3 arg4 arg5 arg6 arg7 arg8 arg9 arg10 arg11 arg12 arg14 harg14 arg15 arg16 arg17 harg17 arg18 harg18 arg19 harg19 arg20 harg20 (keepBit i)).bind
        fun _ => (startP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => lastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
  have e1 : k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 = (headP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21).bind fun _ => part1b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 := by
    rw [k0_part1_eq_skeleton]; exact part1_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21
  unfold cc0_level4 k0_part54
  refine (Prog.bind_assoc _ _ _).trans ?_
  refine (congrArg (fun p => Prog.bind p _) e1).trans ((Prog.bind_assoc _ _ _).trans ?_)
  refine congrArg (Prog.bind _) (funext fun _ => ?_)
  iterate 579 refine opc fun v => ?_
  refine Eq.trans ?_ (tailP_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21)
  rfl

end Cert.Kernel4Ideal.Hand
-- ==== Proof.Flight4.lean ====
/-
  The copies that take finished rows to the result, and the rows of the result.

  The result is held by rows: the rows below some bound at their final values, the rows from another bound on as they
  were at the start, and the rows between them in flight. A copy in flight is the library's `Flight`: when it is waited
  for it delivers its five rows and hands its source back.
-/
module

public import proofs.«01_k».proof.Proof.Body4
public import Idealize.ShloMosaic.Lib.Transfers

@[expose] public section

set_option maxRecDepth 16384

noncomputable section

namespace Cert.Kernel4Ideal.Hand

open Cert.Kernel4Ideal Cert.Kernel4Ideal.Gen Cert.Rules Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The rows `a ≤ r < b` of the result. -/
def rows (a b : ℕ) : Finset S150x84x384.Idx := Finset.univ.filter fun j => a ≤ (j 0).val ∧ (j 0).val < b

theorem mem_rows {a b : ℕ} {j : S150x84x384.Idx} : j ∈ rows a b ↔ a ≤ (j 0).val ∧ (j 0).val < b := by
  unfold rows; rw [Finset.mem_filter]; exact ⟨fun h => h.2, fun h => ⟨Finset.mem_univ _, h⟩⟩

/-- The rows `a ≤ r < b` of the result, held at `g`. -/
def prow (c : Dev nD) (a b : ℕ) (g : Vec F S150x84x384 .bf16) : sProp 𝕄 := ((c : Thread nD τ).loc main_v6_0) ↦[rows a b]{fullShare} g

theorem prow_congr (c : Dev nD) {a b : ℕ} {f g : Vec F S150x84x384 .bf16} (h : ∀ j : S150x84x384.Idx, a ≤ (j 0).val → (j 0).val < b → f j = g j) :
    (prow c a b f : sProp 𝕄) = prow c a b g :=
  pointsTo_congr fun i hi => h i (mem_rows.1 hi).1 (mem_rows.1 hi).2

theorem prow_whole (c : Dev nD) (g : Vec F S150x84x384 .bf16) : (prow c 0 150 g : sProp 𝕄) = ((c : Thread nD τ).loc main_v6_0) ↦{fullShare} g := by
  unfold prow
  rw [show rows 0 150 = Finset.univ from Finset.eq_univ_iff_forall.2 fun j => mem_rows.2 ⟨Nat.zero_le _, (j 0).isLt⟩]

theorem prow_empty (c : Dev nD) {a b : ℕ} (h : 150 ≤ a ∨ b ≤ a) (g : Vec F S150x84x384 .bf16) : (prow c a b g : sProp 𝕄) = iprop(emp) := by
  unfold prow
  rw [show rows a b = ∅ from Finset.eq_empty_iff_forall_notMem.2 fun j hj => by
    have h1 := mem_rows.1 hj
    have h2 : (j 0).val < 150 := (j 0).isLt
    omega]
  exact pointsTo_empty

/-- Adjoining row ranges, at one function. -/
theorem prow_split (c : Dev nD) (a d b : ℕ) (h1 : a ≤ d) (h2 : d ≤ b) (g : Vec F S150x84x384 .bf16) :
    (prow c a b g : sProp 𝕄) ⊣⊢ iprop(prow c a d g ∗ prow c d b g) := by
  unfold prow
  rw [show rows a b = rows a d ∪ rows d b from by
    ext j; rw [Finset.mem_union, mem_rows, mem_rows, mem_rows]; omega]
  exact pointsTo_union (Finset.disjoint_left.2 fun j hj hj' => by
    have h1 := mem_rows.1 hj
    have h2 := mem_rows.1 hj'
    omega)

/-- The two copies' cells. -/
abbrev semA : DmaSem sig := ((cc0_scratch6.slice (Rect.unit (s := S2) ![0] S1.size inb_S2_S1_0)).squeeze S_ squeezes_S1_S_).sem
abbrev semB : DmaSem sig := ((cc0_scratch6.slice (Rect.unit (s := S2) ![1] S1.size inb_S2_S1_1)).squeeze S_ squeezes_S1_S_).sem

/-- The result's array. -/
abbrev pM : Memref sig .tc .hbm S150x84x384 .bf16 := Memref.whole main_v6_0

/-- Five rows of the result. -/
abbrev pRows (off : Fin 3 → ℕ) (h : ∀ a, off a + S5x84x384.size a ≤ S150x84x384.size a) : Memref sig .tc .hbm S5x84x384 .bf16 :=
  pM.slice (Rect.unit (s := S150x84x384) off S5x84x384.size h) (fun _ => rfl)

/-- What is waited for. -/
abbrev credit : ℕ := (pRows ![0, 0, 0] (by decide)).view.dmaCredit

theorem pRows_set (off : Fin 3 → ℕ) (h) (a : ℕ) (ho : off = ![a, 0, 0]) : (pRows off h).view.set = rows a (a + 5) := by
  subst ho
  ext j
  have hs : (pRows ![a, 0, 0] h).view.set = (Rect.unit (s := S150x84x384) ![a, 0, 0] S5x84x384.size h).set := by
    exact (View.set_slice pM.view (Rect.unit (s := S150x84x384) ![a, 0, 0] S5x84x384.size h)).trans Finset.map_refl
  rw [hs, Rect.mem_set_unit, mem_rows]
  constructor
  · intro H; exact H 0
  · intro H x
    match x with
    | 0 => exact H
    | 1 => exact ⟨Nat.zero_le _, by have h : (j 1).val < 84 := (j 1).isLt; show (j 1).val < 0 + 84; omega⟩
    | 2 => exact ⟨Nat.zero_le _, by have h : (j 2).val < 384 := (j 2).isLt; show (j 2).val < 0 + 384; omega⟩

/-- A copy in flight: it delivers rows `a … a + 4` at `G` and hands back its source. -/
def flight (c : Dev nD) (s : DmaSem sig) (o : Memref sig .tc .vmem S5x84x384 .bf16) (a : ℕ) (G : Vec F S150x84x384 .bf16) : sProp 𝕄 :=
  Transfers.Flight (countersEmb (U := Pipeline.UD sig nD τ)) (c : Thread nD τ) (.dma s) () credit iprop(prow c a (a + 5) G ∗ ∃ X, own c o fullShare X)

section
variable (c : Dev nD) {P : Post F}

/-- Starting a copy. -/
theorem start_spec {κ : PUnit.{1} → PR F PUnit.{1}} (s : DmaSem sig) (o : Memref sig .tc .vmem S5x84x384 .bf16) (off : Fin 3 → ℕ) (h) (a : ℕ) (ho : off = ![a, 0, 0])
    {hsrc hdst hsem} (X : Vec F S5x84x384 .bf16) (Vp G : Vec F S150x84x384 .bf16) (ha : a + 5 ≤ 150)
    (hG : ∀ j : S150x84x384.Idx, ∀ i : S5x84x384.Idx, (j 0).val = a + (i 0).val → j 1 = i 1 → j 2 = i 2 → G j = X i) :
    iprop(own c o fullShare X ∗ prow c a 150 Vp ∗ semVal ((c : Thread nD τ), SemLoc.dma s) 0) ⊢
      iprop((iprop(flight c s o a G ∗ prow c (a + 5) 150 Vp) -∗ wpc c (κ ⟨⟩) P)
        -∗ wpc c (.op (.enqueueDma o (.here (pRows off h)) (.dma s) hsrc hdst hsem) κ) P) := by
  have hset := pRows_set off h a ho
  subst ho
  iintro ⟨Ho, Hp, Hs⟩ Hk
  unfold Cert.Rows.own owns
  icases Ho with ⟨%f, %hf, Ho⟩
  ihave Hp := (prow_split c a (a + 5) 150 (by omega) ha Vp).1 $$ Hp
  icases Hp with ⟨Hp, Hr⟩
  iapply (Transfers.wp_dmaLocal (countersEmb (U := Pipeline.UD sig nD τ)) Variants.none (c : Thread nD τ) none () credit (dst := pRows ![a, 0, 0] h) (Sd := rows a (a + 5)) (fd := Vp) (fs := f) rfl ?_ hset.le) $$ [Ho Hp Hs]
  · exact View.dmaCredit_pos _ (by decide)
  · isplitl [Ho]; · iexact Ho
    isplitl [Hp]; · unfold prow; iexact Hp
    iexact Hs
  iintro Hf
  iapply Hk
  isplitl [Hf]
  · unfold flight
    iapply (Transfers.Flight_mono _ _ ?_) $$ Hf
    iintro ⟨Hp, Ho⟩
    isplitl [Hp]
    · unfold prow
      iapply (Entails.of_eq (pointsTo_congr ?_)) $$ Hp
      intro i hi
      have hi' : i ∈ (pRows ![a, 0, 0] h).view.set := hset ▸ hi
      obtain ⟨x, -, rfl⟩ := Finset.mem_map.1 hi'
      refine (congrFun (View.read_write_univ (v := (pRows ![a, 0, 0] h).view) (Val := Elt F) Vp _) x).trans ?_
      refine (congrFun hf x).trans (hG _ x ?_ ?_ ?_).symm
      · show a + 1 * (x 0).val = _; omega
      · refine Fin.ext ?_; show 0 + 1 * (x 1).val = _; omega
      · refine Fin.ext ?_; show 0 + 1 * (x 2).val = _; omega
    · iexists X
      unfold Cert.Rows.own owns
      iexists f
      isplitr; · ipureintro; exact hf
      iexact Ho
  iexact Hr

/-- Waiting for it. -/
theorem wait_spec {κ : PUnit.{1} → PR F PUnit.{1}} (s : DmaSem sig) (o : Memref sig .tc .vmem S5x84x384 .bf16) (off : Fin 3 → ℕ) (h) (a : ℕ)
    {hsrc hdst} (G : Vec F S150x84x384 .bf16) {W : Waits sig Unit} :
    iprop(flight c s o a G ∗ owes (c : Thread nD τ) 0 W) ⊢
      iprop((iprop(prow c a (a + 5) G ∗ (∃ X, own c o fullShare X) ∗ semVal ((c : Thread nD τ), SemLoc.dma s) 0 ∗ (∃ W', owes (c : Thread nD τ) 0 W')) -∗ wpc c (κ ⟨⟩) P)
        -∗ wpc c (.op (.waitDma2 s o (pRows off h) hsrc hdst) κ) P) := by
  iintro H Hk
  unfold flight
  iapply (Transfers.wp_waitLocal (countersEmb (U := Pipeline.UD sig nD τ)) Variants.none (c : Thread nD τ) none (hsrc := hsrc) (hdst := hdst) () (N := credit) rfl) $$ H
  iintro ⟨⟨Hp, Ho⟩, Hs, HW⟩
  iapply Hk
  isplitl [Hp]; · iexact Hp
  isplitl [Ho]; · iexact Ho
  isplitl [Hs]; · iexact Hs
  iexists _
  iexact HW

end

end Cert.Kernel4Ideal.Hand
-- ==== Proof.Step4.lean ====
/-
  What the head and the tail of the kernel do at a grid point.

  Between two points the kernel holds its scratch, of which the rows kept for the next point are known, up to two copies
  in flight, and the rows of the result that are final or untouched. `inv n` states this before point `n`; `head_spec`
  brings the copies in, `tail_spec` sends the next ones off.
-/
module

public import proofs.«01_k».proof.Proof.Shape4
public import proofs.«01_k».proof.Proof.Body4
public import proofs.«01_k».proof.Proof.Flight4

@[expose] public section

set_option maxRecDepth 16384

noncomputable section

namespace Cert.Kernel4Ideal.Hand

open Cert.Kernel4Ideal Cert.Kernel4Ideal.Gen Cert.Rules Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The conditions and the copies' rows, at every point of the grid -/

theorem cond1_iff : ∀ t : Fin grid0.N, Scalar.cmpi .ne (Scalar.extui (Scalar.cmpi .eq (BitVec.ofNat 32 (grid0.coords t 0).val) 0#32) : BitVec 32) 0#32 = 1#1 ↔ t.val = 0 := by
  decide +kernel
theorem cond2_iff : ∀ t : Fin grid0.N, k0_cond2 (grid0.coords t) = 1#1 ↔ 2 ≤ t.val := by decide +kernel
theorem cond3_iff : ∀ t : Fin grid0.N, k0_cond3 (grid0.coords t) = 1#1 ↔ 1 ≤ t.val := by decide +kernel
theorem cond4_iff : ∀ t : Fin grid0.N, k0_cond4 (grid0.coords t) = 1#1 ↔ 1 ≤ t.val := by decide +kernel
theorem cond5_iff : ∀ t : Fin grid0.N, k0_cond5 (grid0.coords t) = 1#1 ↔ t.val < 15 := by decide +kernel
theorem cond6_iff : ∀ t : Fin grid0.N, k0_cond6 (grid0.coords t) = 1#1 ↔ t.val = 15 := by decide +kernel
theorem off3_eq : ∀ t : Fin grid0.N, k0_cond4 (grid0.coords t) = 1#1 → k0_off3 (grid0.coords t) = ![10 * t.val - 5, 0, 0] := by decide +kernel
theorem off4_eq : ∀ t : Fin grid0.N, k0_cond5 (grid0.coords t) = 1#1 → k0_off4 (grid0.coords t) = ![10 * t.val, 0, 0] := by decide +kernel

theorem N_eq (t : Fin grid0.N) : t.val ≤ 15 := by
  have h := t.isLt
  have e : grid0.N = 16 := by decide
  omega

/-- A rectangle of the whole shape contains every index. -/
theorem mem_full {s : Shape} {off size : Fin s.rank → ℕ} {inb} (h0 : ∀ a, off a = 0) (h1 : ∀ a, size a = s.size a) (j : s.Idx) :
    j ∈ (Rect.unit (s := s) off size inb).set :=
  Rect.mem_set_unit.2 fun a => ⟨by rw [h0]; exact Nat.zero_le _, by rw [h0, h1, Nat.zero_add]; exact (j a).isLt⟩

/-! ## The buffers -/

abbrev upM : Memref sig .tc .vmem S5x3x88x128 .f32 := Memref.whole cc0_scratch0
abbrev quM : Memref sig .tc .vmem S2x3x112x128 .f32 := Memref.whole cc0_scratch1
abbrev xaM : Memref sig .tc .vmem S7x96x1152 .fp8e4m3 := Memref.whole cc0_scratch2
abbrev xbM : Memref sig .tc .vmem S7x96x1152 .fp8e4m3 := Memref.whole cc0_scratch3
abbrev oaM : Memref sig .tc .vmem S5x84x384 .bf16 := Memref.whole cc0_scratch4
abbrev obM : Memref sig .tc .vmem S5x84x384 .bf16 := Memref.whole cc0_scratch5

/-- The zero of the scratch. -/
abbrev z32 : S2x3x112x128.Idx → Elt F .f32 := fun _ => Scalar.ofBits .f32 0x00000000#32

section
variable (c : Dev nD) (X : Vec F S7x96x1152 .fp8e4m3) (G Vp : Vec F S150x84x384 .bf16)

/-- The copy of the first five rows of the block before point `n`. -/
def flA (n : ℕ) : sProp 𝕄 :=
  if 1 ≤ n ∧ n ≤ 15 then flight c semA oaM (10 * n - 10) G else iprop((∃ X, own c oaM fullShare X) ∗ semVal ((c : Thread nD τ), SemLoc.dma semA) 0)

/-- The copy of the five rows before those. -/
def flB (n : ℕ) : sProp 𝕄 :=
  if 2 ≤ n ∧ n ≤ 15 then flight c semB obM (10 * n - 15) G else iprop((∃ X, own c obM fullShare X) ∗ semVal ((c : Thread nD τ), SemLoc.dma semB) 0)

theorem flA_busy (n : ℕ) (h : 1 ≤ n ∧ n ≤ 15) : (flA c G n : sProp 𝕄) = flight c semA oaM (10 * n - 10) G := if_pos h
theorem flA_idle (n : ℕ) (h : ¬ (1 ≤ n ∧ n ≤ 15)) : (flA c G n : sProp 𝕄) = iprop((∃ X, own c oaM fullShare X) ∗ semVal ((c : Thread nD τ), SemLoc.dma semA) 0) := if_neg h
theorem flB_busy (n : ℕ) (h : 2 ≤ n ∧ n ≤ 15) : (flB c G n : sProp 𝕄) = flight c semB obM (10 * n - 15) G := if_pos h
theorem flB_idle (n : ℕ) (h : ¬ (2 ≤ n ∧ n ≤ 15)) : (flB c G n : sProp 𝕄) = iprop((∃ X, own c obM fullShare X) ∗ semVal ((c : Thread nD τ), SemLoc.dma semB) 0) := if_neg h

/-- What is held before point `n`: `X` is the operand kept from the point before, `G` the result, `Vp` what its array
held at the start. -/
def inv (n : ℕ) : sProp 𝕄 :=
  iprop((∃ X, own c upM fullShare X) ∗ prt c quM z32 (fun j => n ≠ 0 ∧ border lv j) ∗ (∃ X, own c xaM fullShare X) ∗ prt c xbM X (fun j => n ≠ 0 ∧ (j 0).val < 6)
    ∗ flA c G n ∗ flB c G n ∗ prow c 0 (if n = 16 then 150 else 10 * n - 15) G ∗ prow c (10 * n - 5) 150 Vp)

/-- What is held after the head at point `n`. -/
def after (n : ℕ) : sProp 𝕄 :=
  iprop((∃ X, own c upM fullShare X) ∗ prt c quM z32 (border lv) ∗ (∃ X, own c xaM fullShare X) ∗ prt c xbM X (fun j => (j 0).val < 6)
    ∗ ((∃ X, own c oaM fullShare X) ∗ semVal ((c : Thread nD τ), SemLoc.dma semA) 0) ∗ ((∃ X, own c obM fullShare X) ∗ semVal ((c : Thread nD τ), SemLoc.dma semB) 0)
    ∗ prow c 0 (10 * n - 5) G ∗ prow c (10 * n - 5) 150 Vp)
end

section
variable (c : Dev nD) {P : Post F} (X : Vec F S7x96x1152 .fp8e4m3) (G Vp : Vec F S150x84x384 .bf16)
variable (arg1 : Memref sig .tc .vmem S10x84x1024 .fp8e4m3) (harg1 : arg1.IsWhole)
  (arg2 : Memref sig .tc .smem S1 .f32) (harg2 : arg2.IsWhole)
  (arg3 : Memref sig .tc .vmem S1024x384 .fp8e4m3) (harg3 : arg3.IsWhole)
  (arg4 : Memref sig .tc .vmem S1x384 .f32) (harg4 : arg4.IsWhole)
  (arg5 : Memref sig .tc .vmem S1x384 .f32) (harg5 : arg5.IsWhole)
  (arg6 : Memref sig .tc .vmem S3456x384 .fp8e4m3) (harg6 : arg6.IsWhole)
  (arg7 : Memref sig .tc .vmem S1x384 .f32) (harg7 : arg7.IsWhole)
  (arg8 : Memref sig .tc .vmem S1x384 .f32) (harg8 : arg8.IsWhole)
  (arg9 : Memref sig .tc .smem S1 .f32) (harg9 : arg9.IsWhole)
  (arg10 : Memref sig .tc .smem S1 .f32) (harg10 : arg10.IsWhole)
  (arg11 : Memref sig .tc .vmem S5x42x384 .fp8e4m3) (harg11 : arg11.IsWhole)
  (arg12 : Memref sig .tc .smem S1 .f32) (harg12 : arg12.IsWhole)
  (arg14 : Memref sig .tc .vmem S10x84x384 .fp8e4m3) (harg14 : arg14.IsWhole)

set_option maxHeartbeats 1000000 in
/-- The head at point `t`. -/
theorem head_spec {κ : PUnit.{1} → PR F PUnit.{1}} (t : Fin grid0.N) (hX : t.val = 0 → X = fun _ => Scalar.ofBits .fp8e4m3 0x00#8) (W : Waits sig Unit) :
    iprop(inv c X G Vp t.val ∗ owes (c : Thread nD τ) 0 W) ⊢
      iprop((iprop(after c X G Vp t.val ∗ (∃ W', owes (c : Thread nD τ) 0 W')) -∗ wpc c (κ ⟨⟩) P)
        -∗ wpc c ((headP (F := F) (grid0.coords t) arg1 harg1 arg2 harg2 arg3 harg3 arg4 harg4 arg5 harg5 arg6 harg6 arg7 harg7 arg8 harg8 arg9 harg9 arg10 harg10 arg11 harg11 arg12 harg12 (Memref.whole main_v6_0) (Memref.isWhole_whole _) arg14 harg14 upM (Memref.isWhole_whole _) quM (Memref.isWhole_whole _) xaM (Memref.isWhole_whole _) xbM (Memref.isWhole_whole _) oaM (Memref.isWhole_whole _) obM (Memref.isWhole_whole _) cc0_scratch6) >>= κ) P) := by
  have hN := N_eq t
  have h0 := cond1_iff t
  have h2 := cond2_iff t
  have h3 := cond3_iff t
  have hB : ∀ a b : ℕ, a = b → (prow c 0 a G : sProp 𝕄) ⊢ prow c 0 b G := fun a b h => by rw [h]
  unfold inv after headP
  rw [if_neg (show t.val ≠ 16 by omega)]
  iintro ⟨⟨Hu, Hq, ⟨%Xa, Ha⟩, Hb, HA, HB, Hp, Hr⟩, HW⟩ Hk
  by_cases e0 : t.val = 0
  · have e2 : ¬ k0_cond2 (grid0.coords t) = 1#1 := fun h => by have := h2.1 h; omega
    have e3 : ¬ k0_cond3 (grid0.coords t) = 1#1 := fun h => by have := h3.1 h; omega
    simp only [dif_pos (h0.2 e0), dif_neg e2, dif_neg e3, Prog.bind_assoc]
    ihave HA := (Entails.of_eq (flA_idle c G t.val (by omega))) $$ HA
    ihave HB := (Entails.of_eq (flB_idle c G t.val (by omega))) $$ HB
    iapply (part_load_any (c : Thread nD τ)) $$ Hq
    iintro Hq
    iapply (part_store (c : Thread nD τ) (D' := (border lv)) (fun x => rfl) ?_) $$ Hq
    · intro j _; exact .inr (mem_full (by decide) (by decide) j)
    iintro Hq
    iapply (owns_load (c : Thread nD τ)) $$ Ha
    iintro Ha
    iapply (owns_store (c : Thread nD τ)) $$ Ha
    iintro Ha
    iapply (part_load_any (c : Thread nD τ)) $$ Hb
    iintro Hb
    iapply (part_store (c : Thread nD τ) (D' := fun j => (j 0).val < 6) (fun x => ?_) ?_) $$ Hb
    · intro j _; exact .inr (mem_full (by decide) (by decide) j)
    · rw [hX e0]; rfl
    iintro Hb
    iapply Hk
    isplitr [HW]
    · isplitl [Hu]; · iexact Hu
      isplitl [Hq]; · iexact Hq
      isplitl [Ha]; · iexists _; iexact Ha
      isplitl [Hb]; · iexact Hb
      isplitl [HA]; · iexact HA
      isplitl [HB]; · iexact HB
      isplitl [Hp]; · iapply (hB _ _ (by omega)) $$ Hp
      iexact Hr
    · iexists _; iexact HW
  have hq : (prt c quM z32 (fun j => t.val ≠ 0 ∧ border lv j) : sProp 𝕄) ⊢ prt c quM z32 (border lv) := part_mono _ fun j hj => ⟨⟨e0, hj⟩, rfl⟩
  have hb : (prt c xbM X (fun j => t.val ≠ 0 ∧ (j 0).val < 6) : sProp 𝕄) ⊢ prt c xbM X (fun j => (j 0).val < 6) := part_mono _ fun j hj => ⟨⟨e0, hj⟩, rfl⟩
  ihave Hq := hq $$ Hq
  ihave Hb := hb $$ Hb
  have e3 : k0_cond3 (grid0.coords t) = 1#1 := h3.2 (by omega)
  by_cases e1 : t.val = 1
  · have e2 : ¬ k0_cond2 (grid0.coords t) = 1#1 := fun h => by have := h2.1 h; omega
    simp only [dif_neg (fun h => e0 (h0.1 h)), dif_neg e2, dif_pos e3, Prog.bind_assoc]
    ihave HA := (Entails.of_eq (flA_busy c G t.val (by omega))) $$ HA
    ihave HB := (Entails.of_eq (flB_idle c G t.val (by omega))) $$ HB
    iapply (wait_spec c semA oaM _ _ (10 * t.val - 10) G) $$ [HA HW]
    · isplitl [HA]; · iexact HA
      iexact HW
    iintro ⟨Hp', HA, HA', HW⟩
    iapply Hk
    isplitr [HW]
    · isplitl [Hu]; · iexact Hu
      isplitl [Hq]; · iexact Hq
      isplitl [Ha]; · iexists _; iexact Ha
      isplitl [Hb]; · iexact Hb
      isplitl [HA HA']
      · isplitl [HA]; · iexact HA
        iexact HA'
      isplitl [HB]; · iexact HB
      isplitr [Hr]
      · iapply (prow_split c 0 (10 * t.val - 15) (10 * t.val - 5) (by omega) (by omega) G).2
        isplitl [Hp]; · iexact Hp
        iapply (show (prow c (10 * t.val - 10) (10 * t.val - 10 + 5) G : sProp 𝕄) ⊢ prow c (10 * t.val - 15) (10 * t.val - 5) G from by rw [e1]) $$ Hp'
      iexact Hr
    · iexact HW
  · have e2 : k0_cond2 (grid0.coords t) = 1#1 := h2.2 (by omega)
    simp only [dif_neg (fun h => e0 (h0.1 h)), dif_pos e2, dif_pos e3, Prog.bind_assoc]
    ihave HA := (Entails.of_eq (flA_busy c G t.val (by omega))) $$ HA
    ihave HB := (Entails.of_eq (flB_busy c G t.val (by omega))) $$ HB
    iapply (wait_spec c semB obM _ _ (10 * t.val - 15) G) $$ [HB HW]
    · isplitl [HB]; · iexact HB
      iexact HW
    iintro ⟨Hp1, HB, HB', ⟨%W', HW⟩⟩
    iapply (wait_spec c semA oaM _ _ (10 * t.val - 10) G) $$ [HA HW]
    · isplitl [HA]; · iexact HA
      iexact HW
    iintro ⟨Hp2, HA, HA', HW⟩
    iapply Hk
    isplitr [HW]
    · isplitl [Hu]; · iexact Hu
      isplitl [Hq]; · iexact Hq
      isplitl [Ha]; · iexists _; iexact Ha
      isplitl [Hb]; · iexact Hb
      isplitl [HA HA']
      · isplitl [HA]; · iexact HA
        iexact HA'
      isplitl [HB HB']
      · isplitl [HB]; · iexact HB
        iexact HB'
      isplitr [Hr]
      · iapply (prow_split c 0 (10 * t.val - 15) (10 * t.val - 5) (by omega) (by omega) G).2
        isplitl [Hp]; · iexact Hp
        iapply (prow_split c (10 * t.val - 15) (10 * t.val - 10) (10 * t.val - 5) (by omega) (by omega) G).2
        isplitl [Hp1]
        · iapply (show (prow c (10 * t.val - 15) (10 * t.val - 15 + 5) G : sProp 𝕄) ⊢ prow c (10 * t.val - 15) (10 * t.val - 10) G from by
            rw [show 10 * t.val - 15 + 5 = 10 * t.val - 10 by omega]) $$ Hp1
        · iapply (show (prow c (10 * t.val - 10) (10 * t.val - 10 + 5) G : sProp 𝕄) ⊢ prow c (10 * t.val - 10) (10 * t.val - 5) G from by
            rw [show 10 * t.val - 10 + 5 = 10 * t.val - 5 by omega]) $$ Hp2
      iexact Hr
    · iexact HW

set_option maxHeartbeats 1000000 in
/-- The tail at point `t`, from what the straight line left. -/
theorem tail_spec {κ : PUnit.{1} → PR F PUnit.{1}} (t : Fin grid0.N) (XA XB : Vec F S5x84x384 .bf16) (W : Waits sig Unit)
    (hA : ∀ j : S150x84x384.Idx, ∀ i : S5x84x384.Idx, (j 0).val = 10 * t.val + (i 0).val → j 1 = i 1 → j 2 = i 2 → G j = XA i)
    (hB : 1 ≤ t.val → ∀ j : S150x84x384.Idx, ∀ i : S5x84x384.Idx, (j 0).val = 10 * t.val - 5 + (i 0).val → j 1 = i 1 → j 2 = i 2 → G j = XB i) :
    iprop((∃ X, own c upM fullShare X) ∗ prt c quM z32 (border lv) ∗ (∃ X, own c xaM fullShare X) ∗ prt c xbM X (fun j => (j 0).val < 6)
        ∗ own c oaM fullShare XA ∗ semVal ((c : Thread nD τ), SemLoc.dma semA) 0 ∗ own c obM fullShare XB ∗ semVal ((c : Thread nD τ), SemLoc.dma semB) 0
        ∗ prow c 0 (10 * t.val - 5) G ∗ prow c (10 * t.val - 5) 150 Vp ∗ owes (c : Thread nD τ) 0 W) ⊢
      iprop((iprop(inv c X G Vp (t.val + 1) ∗ (∃ W', owes (c : Thread nD τ) 0 W')) -∗ wpc c (κ ⟨⟩) P)
        -∗ wpc c ((startP (F := F) (grid0.coords t) arg1 harg1 arg2 harg2 arg3 harg3 arg4 harg4 arg5 harg5 arg6 harg6 arg7 harg7 arg8 harg8 arg9 harg9 arg10 harg10 arg11 harg11 arg12 harg12 (Memref.whole main_v6_0) (Memref.isWhole_whole _) arg14 harg14 upM (Memref.isWhole_whole _) quM (Memref.isWhole_whole _) xaM (Memref.isWhole_whole _) xbM (Memref.isWhole_whole _) oaM (Memref.isWhole_whole _) obM (Memref.isWhole_whole _) cc0_scratch6) >>= fun _ =>
          (lastP (F := F) (grid0.coords t) arg1 harg1 arg2 harg2 arg3 harg3 arg4 harg4 arg5 harg5 arg6 harg6 arg7 harg7 arg8 harg8 arg9 harg9 arg10 harg10 arg11 harg11 arg12 harg12 (Memref.whole main_v6_0) (Memref.isWhole_whole _) arg14 harg14 upM (Memref.isWhole_whole _) quM (Memref.isWhole_whole _) xaM (Memref.isWhole_whole _) xbM (Memref.isWhole_whole _) oaM (Memref.isWhole_whole _) obM (Memref.isWhole_whole _) cc0_scratch6) >>= κ) P) := by
  have hN := N_eq t
  have h4 := cond4_iff t
  have h5 := cond5_iff t
  have h6 := cond6_iff t
  have hq : (prt c quM z32 (border lv) : sProp 𝕄) ⊢ prt c quM z32 (fun j => t.val + 1 ≠ 0 ∧ border lv j) := part_mono _ fun j hj => ⟨hj.2, rfl⟩
  have hb : (prt c xbM X (fun j => (j 0).val < 6) : sProp 𝕄) ⊢ prt c xbM X (fun j => t.val + 1 ≠ 0 ∧ (j 0).val < 6) := part_mono _ fun j hj => ⟨hj.2, rfl⟩
  unfold inv startP lastP
  iintro ⟨Hu, Hq, Ha, Hb, HA, HA', HB, HB', Hp, Hr, HW⟩ Hk
  ihave Hq := hq $$ Hq
  ihave Hb := hb $$ Hb
  by_cases e0 : t.val = 0
  · have e4 : ¬ k0_cond4 (grid0.coords t) = 1#1 := fun h => by have := h4.1 h; omega
    have e5 : k0_cond5 (grid0.coords t) = 1#1 := h5.2 (by omega)
    have e6 : ¬ k0_cond6 (grid0.coords t) = 1#1 := fun h => by have := h6.1 h; omega
    simp only [dif_neg e4, dif_pos e5, dif_neg e6, Prog.bind_assoc]
    rw [flA_busy c G (t.val + 1) (by omega), flB_idle c G (t.val + 1) (by omega), if_neg (show ¬ t.val + 1 = 16 by omega)]
    ihave Hr := (show (prow c (10 * t.val - 5) 150 Vp : sProp 𝕄) ⊢ prow c (10 * t.val) 150 Vp from by rw [e0]) $$ Hr
    iapply (start_spec c semA oaM _ _ (10 * t.val) (off4_eq t e5) XA Vp G (by omega) hA) $$ [HA Hr HA']
    · isplitl [HA]; · iexact HA
      isplitl [Hr]; · iexact Hr
      iexact HA'
    iintro ⟨HA, Hr⟩
    iapply Hk
    isplitr [HW]
    · isplitl [Hu]; · iexact Hu
      isplitl [Hq]; · iexact Hq
      isplitl [Ha]; · iexact Ha
      isplitl [Hb]; · iexact Hb
      isplitl [HA]
      · rw [show 10 * (t.val + 1) - 10 = 10 * t.val by omega]; iexact HA
      isplitl [HB HB']
      · isplitl [HB]; · iexists _; iexact HB
        iexact HB'
      isplitl [Hp]
      · rw [show 10 * (t.val + 1) - 15 = 10 * t.val - 5 by omega]; iexact Hp
      · rw [show 10 * (t.val + 1) - 5 = 10 * t.val + 5 by omega]; iexact Hr
    · iexists _; iexact HW
  have e4 : k0_cond4 (grid0.coords t) = 1#1 := h4.2 (by omega)
  by_cases e30 : t.val = 15
  · have e5 : ¬ k0_cond5 (grid0.coords t) = 1#1 := fun h => by have := h5.1 h; omega
    have e6 : k0_cond6 (grid0.coords t) = 1#1 := h6.2 e30
    simp only [dif_pos e4, dif_neg e5, dif_pos e6, Prog.bind_assoc]
    rw [flA_idle c G (t.val + 1) (by omega), flB_idle c G (t.val + 1) (by omega), if_pos (show t.val + 1 = 16 by omega)]
    iapply (start_spec c semB obM _ _ (10 * t.val - 5) (off3_eq t e4) XB Vp G (by omega) (hB (by omega))) $$ [HB Hr HB']
    · isplitl [HB]; · iexact HB
      isplitl [Hr]; · iexact Hr
      iexact HB'
    iintro ⟨HB, Hr⟩
    iapply (wait_spec c semB obM _ _ (10 * t.val - 5) G) $$ [HB HW]
    · isplitl [HB]; · iexact HB
      iexact HW
    iintro ⟨Hp', HB, HB', HW⟩
    iapply Hk
    isplitr [HW]
    · isplitl [Hu]; · iexact Hu
      isplitl [Hq]; · iexact Hq
      isplitl [Ha]; · iexact Ha
      isplitl [Hb]; · iexact Hb
      isplitl [HA HA']
      · isplitl [HA]; · iexists _; iexact HA
        iexact HA'
      isplitl [HB HB']
      · isplitl [HB]; · iexact HB
        iexact HB'
      isplitl [Hp Hp']
      · iapply (prow_split c 0 (10 * t.val - 5) 150 (by omega) (by omega) G).2
        isplitl [Hp]; · iexact Hp
        iapply (show (prow c (10 * t.val - 5) (10 * t.val - 5 + 5) G : sProp 𝕄) ⊢ prow c (10 * t.val - 5) 150 G from by rw [e30]) $$ Hp'
      · iapply (show (prow c (10 * t.val - 5 + 5) 150 Vp : sProp 𝕄) ⊢ prow c (10 * (t.val + 1) - 5) 150 Vp from by
          rw [prow_empty c (by omega), prow_empty c (by omega)]) $$ Hr
    · iexact HW
  · have e5 : k0_cond5 (grid0.coords t) = 1#1 := h5.2 (by omega)
    have e6 : ¬ k0_cond6 (grid0.coords t) = 1#1 := fun h => by have := h6.1 h; omega
    simp only [dif_pos e4, dif_pos e5, dif_neg e6, Prog.bind_assoc]
    rw [flA_busy c G (t.val + 1) (by omega), flB_busy c G (t.val + 1) (by omega), if_neg (show ¬ t.val + 1 = 16 by omega)]
    iapply (start_spec c semB obM _ _ (10 * t.val - 5) (off3_eq t e4) XB Vp G (by omega) (hB (by omega))) $$ [HB Hr HB']
    · isplitl [HB]; · iexact HB
      isplitl [Hr]; · iexact Hr
      iexact HB'
    iintro ⟨HB, Hr⟩
    ihave Hr := (show (prow c (10 * t.val - 5 + 5) 150 Vp : sProp 𝕄) ⊢ prow c (10 * t.val) 150 Vp from by rw [show 10 * t.val - 5 + 5 = 10 * t.val by omega]) $$ Hr
    iapply (start_spec c semA oaM _ _ (10 * t.val) (off4_eq t e5) XA Vp G (by omega) hA) $$ [HA Hr HA']
    · isplitl [HA]; · iexact HA
      isplitl [Hr]; · iexact Hr
      iexact HA'
    iintro ⟨HA, Hr⟩
    iapply Hk
    isplitr [HW]
    · isplitl [Hu]; · iexact Hu
      isplitl [Hq]; · iexact Hq
      isplitl [Ha]; · iexact Ha
      isplitl [Hb]; · iexact Hb
      isplitl [HA]
      · rw [show 10 * (t.val + 1) - 10 = 10 * t.val by omega]; iexact HA
      isplitl [HB]
      · rw [show 10 * (t.val + 1) - 15 = 10 * t.val - 5 by omega]; iexact HB
      isplitl [Hp]
      · rw [show 10 * (t.val + 1) - 15 = 10 * t.val - 5 by omega]; iexact Hp
      · rw [show 10 * (t.val + 1) - 5 = 10 * t.val + 5 by omega]; iexact Hr
    · iexists _; iexact HW

end

end Cert.Kernel4Ideal.Hand
-- ==== Proof.Run4.lean ====
/-
  The run: what every point of the grid leaves, and with it the arrays at the end and the arguments unchanged.
-/
module

public import proofs.«01_k».proof.Proof.Step4
public import proofs.«01_k».proof.Proof.Gen.Kernel4Ideal.Frame
public import Idealize.ShloMosaic.Lib.Pipeline.FrameValue

@[expose] public section

set_option maxRecDepth 16384

noncomputable section

namespace Cert.Kernel4Ideal.Hand

open Cert.Kernel4Ideal Cert.Kernel4Ideal.Gen Cert.Rules Cert.Rows
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The blocks of the inputs, and what a point makes of them -/

section
variable (c : Dev nD)
/-- Input 0's block at point `t`. -/
def bC (t : Fin cfg0.N) : Vec F S10x84x1024 .fp8e4m3 := iblk m c 0 t
/-- Input 1's block at point `t`. -/
def bcs (t : Fin cfg0.N) : Vec F S1 .f32 := iblk m c 1 t
/-- Input 2's block at point `t`. -/
def bW (t : Fin cfg0.N) : Vec F S1024x384 .fp8e4m3 := iblk m c 2 t
/-- Input 3's block at point `t`. -/
def bs4 (t : Fin cfg0.N) : Vec F S1x384 .f32 := iblk m c 3 t
/-- Input 4's block at point `t`. -/
def bb5 (t : Fin cfg0.N) : Vec F S1x384 .f32 := iblk m c 4 t
/-- Input 5's block at point `t`. -/
def bW6 (t : Fin cfg0.N) : Vec F S3456x384 .fp8e4m3 := iblk m c 5 t
/-- Input 6's block at point `t`. -/
def bs7 (t : Fin cfg0.N) : Vec F S1x384 .f32 := iblk m c 6 t
/-- Input 7's block at point `t`. -/
def bb8 (t : Fin cfg0.N) : Vec F S1x384 .f32 := iblk m c 7 t
/-- Input 8's block at point `t`. -/
def bms (t : Fin cfg0.N) : Vec F S1 .f32 := iblk m c 8 t
/-- Input 9's block at point `t`. -/
def binv (t : Fin cfg0.N) : Vec F S1 .f32 := iblk m c 9 t
/-- Input 10's block at point `t`. -/
def bQ (t : Fin cfg0.N) : Vec F S5x42x384 .fp8e4m3 := iblk m c 10 t
/-- Input 11's block at point `t`. -/
def bqs (t : Fin cfg0.N) : Vec F S1 .f32 := iblk m c 11 t

/-- The scales and biases. -/
def bK (t : Fin cfg0.N) : Consts F := constsV (bcs m c t) (bs4 m c t) (bb5 m c t) (bs7 m c t) (bb8 m c t) (bms m c t) (binv m c t)
/-- The up-sampled rows. -/
def bU (t : Fin cfg0.N) : Vec F S5x3x88x128 .f32 := upV lv (bqs m c t (ix1 0)) (bQ m c t)
/-- The block of codes that point `t` computes. -/
def codesB (t : Fin cfg0.N) : Vec F S10x84x384 .fp8e4m3 := codesV lv (bK m c t) (bW m c t) (bC m c t) (bU m c t)

/-- The point of a number. -/
def pt (n : ℕ) : Fin cfg0.N := ⟨min n 15, by have e : cfg0.N = 16 := by decide
                                             omega⟩
theorem pt_val (t : Fin cfg0.N) : pt t.val = t := by
  have h : t.val ≤ 15 := N_eq t
  exact Fin.ext (show min t.val 15 = t.val by omega)

/-- What point `n` finds of the rows the point before kept. -/
def Xin : ℕ → Vec F S7x96x1152 .fp8e4m3
  | 0 => fun _ => Scalar.ofBits .fp8e4m3 0x00#8
  | n + 1 => xbNewV lv (bK m c (pt n)) (bW m c (pt n)) (bC m c (pt n)) (bU m c (pt n))

/-- The five rows of the result that begin with block `t`. -/
def rowsA (t : Fin cfg0.N) : Vec F S5x84x384 .bf16 :=
  convV lv (bK m c t) (xaV lv (keepBit (grid0.coords t)) (Xin m c t.val) (bK m c t) (bW m c t) (bC m c t) (bU m c t)) (bW6 m c t)
/-- The five rows before those. -/
def rowsB (t : Fin cfg0.N) : Vec F S5x84x384 .bf16 :=
  convV lv (bK m c t) (xbOldV lv (keepBit (grid0.coords t)) (Xin m c t.val) (bK m c t) (bW m c t) (bC m c t) (bU m c t)) (bW6 m c t)

/-- The first result: row `10 n + i` from `rowsA` of point `n`, row `10 n - 5 + i` from `rowsB`. -/
def Gp : Vec F S150x84x384 .bf16 := fun j =>
  if (j 0).val % 10 < 5 then rowsA m c (pt ((j 0).val / 10)) (ix3 ⟨(j 0).val % 5, Nat.mod_lt _ (by decide)⟩ (j 1) (j 2))
  else rowsB m c (pt (((j 0).val + 5) / 10)) (ix3 ⟨(j 0).val % 5, Nat.mod_lt _ (by decide)⟩ (j 1) (j 2))

theorem ix3_of (i : S5x84x384.Idx) (a : Fin 5) (b : Fin 84) (d : Fin 384) (h0 : a.val = (i 0).val) (h1 : b = i 1) (h2 : d = i 2) : ix3 a b d = i := by
  rw [eq_ix3 i]; subst h1 h2; exact congrArg (fun x => ix3 x (i 1) (i 2)) (Fin.ext h0)

theorem Gp_A (t : Fin cfg0.N) (j : S150x84x384.Idx) (i : S5x84x384.Idx) (h0 : (j 0).val = 10 * t.val + (i 0).val) (h1 : j 1 = i 1) (h2 : j 2 = i 2) :
    Gp m c j = rowsA m c t i := by
  have hi : (i 0).val < 5 := (i 0).isLt
  unfold Gp
  rw [if_pos (by omega), show (j 0).val / 10 = t.val by omega, pt_val]
  exact congrArg _ (ix3_of i _ _ _ (show (j 0).val % 5 = _ by omega) h1 h2)

theorem Gp_B (t : Fin cfg0.N) (ht : 1 ≤ t.val) (j : S150x84x384.Idx) (i : S5x84x384.Idx) (h0 : (j 0).val = 10 * t.val - 5 + (i 0).val) (h1 : j 1 = i 1) (h2 : j 2 = i 2) :
    Gp m c j = rowsB m c t i := by
  have hi : (i 0).val < 5 := (i 0).isLt
  unfold Gp
  rw [if_neg (by omega), show ((j 0).val + 5) / 10 = t.val by omega, pt_val]
  exact congrArg _ (ix3_of i _ _ _ (show (j 0).val % 5 = _ by omega) h1 h2)

end

/-! ## The proof data -/

/-- The kernel's own cells: the two copies'. -/
abbrev osem0 : Fin 2 → SemLoc sig := fun j => (![SemLoc.dma semA, SemLoc.dma semB] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma semA) 0 ∗ semVal ((c : Thread nD τ), SemLoc.dma semB) 0) := by
  rw [Pipeline.ownSems0_eq_of_list c osem0 [0, 1] (by decide) (by decide)]; rfl

/-- The array that the kernel writes by its own copies. -/
def R0 : Finset (Ref sig .tc) := {main_v6_0}
theorem R0_sub : R0 ⊆ Pipeline.restRefs sig spec0 \ ∅ := by decide

/-- The unscoped buffers at the end. -/
def Gend (c : Dev nD) (b : Ref sig .tc) : Buf (Elt F) ((c : Thread nD τ).loc b) :=
  if h : b = main_v6_0 then h ▸ (Gp m c : Buf (Elt F) ((c : Thread nD τ).loc main_v6_0)) else V m c b

theorem PhiD_eq (G : (c : Dev nD) → (b : Ref sig .tc) → Buf (Elt F) ((c : Thread nD τ).loc b)) (c : Dev nD) :
    (Pipeline.ΦDRG osem0 spec0 ∅ R0 (V m) G c : sProp 𝕄)
      = iprop(iprop((∃ d, own c upM fullShare d) ∗ (∃ d, own c quM fullShare d) ∗ (∃ d, own c xaM fullShare d) ∗ (∃ d, own c xbM fullShare d)
              ∗ (∃ d, own c oaM fullShare d) ∗ (∃ d, own c obM fullShare d))
          ∗ (∃ r, prngReg c r)
          ∗ iprop(semVal ((c : Thread nD τ), SemLoc.dma semA) 0 ∗ semVal ((c : Thread nD τ), SemLoc.dma semB) 0)
          ∗ iprop(emp) ∗ (((c : Thread nD τ).loc main_v6_0) ↦{fullShare} G c main_v6_0)) := by
  rw [Pipeline.ΦDRG_eq, scopedRest0_eq, ownSems00_eq, BI.bigSep_empty]
  unfold Pipeline.routed
  rw [BI.bigSep_eq_bigSepL_of_eq [main_v6_0] (by decide) (by decide)]
  simp only [Cert.Rows.own, upM, quM, xaM, xbM, oaM, obM, owns_whole]; try rfl

/-- The invariant before point `n`. -/
def PhiAt (c : Dev nD) (n : ℕ) : sProp 𝕄 :=
  iprop(inv c (Xin m c n) (Gp m c) (V m c main_v6_0) n ∗ (∃ r, prngReg c r))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => codesB m c t
  Φ t := PhiAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = codesB m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)

/-! ## The body at a point -/
abbrev ms0 (t : Fin cfg0.N) : Memref sig .tc .vmem S10x84x1024 .fp8e4m3 := win0_0.stage (cfg0.slots t 0)
abbrev ms1 (t : Fin cfg0.N) : Memref sig .tc .smem S1 .f32 := win0_1.stage (cfg0.slots t 1)
abbrev ms2 (t : Fin cfg0.N) : Memref sig .tc .vmem S1024x384 .fp8e4m3 := win0_2.stage (cfg0.slots t 2)
abbrev ms3 (t : Fin cfg0.N) : Memref sig .tc .vmem S1x384 .f32 := win0_3.stage (cfg0.slots t 3)
abbrev ms4 (t : Fin cfg0.N) : Memref sig .tc .vmem S1x384 .f32 := win0_4.stage (cfg0.slots t 4)
abbrev ms5 (t : Fin cfg0.N) : Memref sig .tc .vmem S3456x384 .fp8e4m3 := win0_5.stage (cfg0.slots t 5)
abbrev ms6 (t : Fin cfg0.N) : Memref sig .tc .vmem S1x384 .f32 := win0_6.stage (cfg0.slots t 6)
abbrev ms7 (t : Fin cfg0.N) : Memref sig .tc .vmem S1x384 .f32 := win0_7.stage (cfg0.slots t 7)
abbrev ms8 (t : Fin cfg0.N) : Memref sig .tc .smem S1 .f32 := win0_8.stage (cfg0.slots t 8)
abbrev ms9 (t : Fin cfg0.N) : Memref sig .tc .smem S1 .f32 := win0_9.stage (cfg0.slots t 9)
abbrev ms10 (t : Fin cfg0.N) : Memref sig .tc .vmem S5x42x384 .fp8e4m3 := win0_10.stage (cfg0.slots t 10)
abbrev ms11 (t : Fin cfg0.N) : Memref sig .tc .smem S1 .f32 := win0_11.stage (cfg0.slots t 11)
abbrev ms12 (t : Fin cfg0.N) : Memref sig .tc .vmem S10x84x384 .fp8e4m3 := win0_12.stage (cfg0.slots t 12)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

theorem bodyAt0_eq (t : Fin cfg0.N) : bodyAt0 (F := F) t =
    (headP (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) pM (Memref.isWhole_whole _) (ms12 t) (hstage0_12 ((cfg0.slots t 12).cast nbuf0_12)) upM (Memref.isWhole_whole _) quM (Memref.isWhole_whole _) xaM (Memref.isWhole_whole _) xbM (Memref.isWhole_whole _) oaM (Memref.isWhole_whole _) obM (Memref.isWhole_whole _) cc0_scratch6) >>= fun _ =>
    (mid lv (ms0 t) (ms1 t) (ms2 t) (ms3 t) (ms4 t) (ms5 t) (ms6 t) (ms7 t) (ms8 t) (ms9 t) (ms10 t) (ms11 t) (ms12 t) (hstage0_12 ((cfg0.slots t 12).cast nbuf0_12)) upM quM xaM (Memref.isWhole_whole _) xbM (Memref.isWhole_whole _) oaM (Memref.isWhole_whole _) obM (Memref.isWhole_whole _) (keepBit (grid0.coords t))) >>= fun _ =>
    (startP (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) pM (Memref.isWhole_whole _) (ms12 t) (hstage0_12 ((cfg0.slots t 12).cast nbuf0_12)) upM (Memref.isWhole_whole _) quM (Memref.isWhole_whole _) xaM (Memref.isWhole_whole _) xbM (Memref.isWhole_whole _) oaM (Memref.isWhole_whole _) obM (Memref.isWhole_whole _) cc0_scratch6) >>= fun _ =>
    (lastP (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) pM (Memref.isWhole_whole _) (ms12 t) (hstage0_12 ((cfg0.slots t 12).cast nbuf0_12)) upM (Memref.isWhole_whole _) quM (Memref.isWhole_whole _) xaM (Memref.isWhole_whole _) xbM (Memref.isWhole_whole _) oaM (Memref.isWhole_whole _) obM (Memref.isWhole_whole _) cc0_scratch6) >>= fun _ => .ret ⟨⟩ :=
  (body_eq ..).trans (by
    refine congrArg (Prog.bind _) (funext fun _ => congrArg (Prog.bind _) (funext fun _ => congrArg (Prog.bind _) (funext fun _ => ?_)))
    exact (Prog.bind_pure _).symm)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  rw [bodyAt0_eq]
  unfold bodyPre bodyPost
  rw [show (dats m 0 c).Φ t.succ = PhiAt m c (t.val + 1) from rfl, show (dats m 0 c).Φ t.castSucc = PhiAt m c t.val from rfl]
  simp only [before0_0, before0_1, before0_2, before0_3, before0_4, before0_5, before0_6, before0_7, before0_8, before0_9, before0_10, before0_11, after0_0, after0_1, after0_2, after0_3, after0_4, after0_5, after0_6, after0_7, after0_8, after0_9, after0_10, after0_11, after0_12]
  unfold PhiAt Dat.owesAt Pipeline.owesWithin
  rw [show (dats m 0 c).owed t.castSucc = 0 from rfl, show (dats m 0 c).owed t.succ = 0 from rfl]
  iintro ⟨⟨HI, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (head_spec c (Xin m c t.val) (Gp m c) (V m c main_v6_0) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) t (fun h => by rw [h]; rfl) W) $$ [HI HW]
  · isplitl [HI]; · iexact HI
    iexact HW
  unfold after
  iintro ⟨⟨⟨%X15, Hu⟩, Hq, ⟨%X17, Ha⟩, Hb, ⟨⟨%X19, HA⟩, HA'⟩, ⟨⟨%X20, HB⟩, HB'⟩, Hp, Hr⟩, ⟨%W', HW⟩⟩
  ihave Hb := (part_elim (c : Thread nD τ)) $$ Hb
  icases Hb with ⟨%X, %hX, Hb⟩
  iapply (mid_spec lv c (ms0 t) (ms1 t) (ms2 t) (ms3 t) (ms4 t) (ms5 t) (ms6 t) (ms7 t) (ms8 t) (ms9 t) (ms10 t) (ms11 t) (ms12 t) (hstage0_12 ((cfg0.slots t 12).cast nbuf0_12)) upM quM xaM (Memref.isWhole_whole _) xbM (Memref.isWhole_whole _) oaM (Memref.isWhole_whole _) obM (Memref.isWhole_whole _)
    (bK m c t) (bW m c t) (bC m c t) (bU m c t) (bW6 m c t) (keepBit (grid0.coords t)) (bcs m c t) (bs4 m c t) (bb5 m c t) (bs7 m c t) (bb8 m c t) (bms m c t) (binv m c t) (bQ m c t) (bqs m c t) rfl rfl _ X15 X17 X X19 X20)
    $$ [H0 H1 H2 H3 H4 H5 H6 H7 H8 H9 H10 H11 H12 Hu Hq Ha Hb HA HB]
  · unfold insOwn
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    isplitl [Hu]; · iexact Hu
    isplitl [Hq]; · iexact Hq
    isplitl [Ha]; · iexact Ha
    isplitl [Hb]; · iexact Hb
    isplitl [HA]; · iexact HA
    iexact HB
  rw [xaV_congr lv (keepBit (grid0.coords t)) X (bK m c t) (bW m c t) (bC m c t) (bU m c t) (Xin m c t.val) hX, xbOldV_congr lv (keepBit (grid0.coords t)) X (bK m c t) (bW m c t) (bC m c t) (bU m c t) (Xin m c t.val) hX]
  unfold insOwn
  iintro ⟨⟨H0, H1, H2, H3, H4, H5, H6, H7, H8, H9, H10, H11⟩, H12, Hu, Hq, Ha, Hb, HA, HB⟩
  ihave Hu := (part_elim (c : Thread nD τ)) $$ Hu
  icases Hu with ⟨%XU, -, Hu⟩
  iapply (tail_spec c (Xin m c (t.val + 1)) (Gp m c) (V m c main_v6_0) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) t (rowsA m c t) (rowsB m c t) W'
    (fun j i => Gp_A m c t j i) (fun ht j i => Gp_B m c t ht j i)) $$ [Hu Hq Ha Hb HA HA' HB HB' Hp Hr HW]
  · isplitl [Hu]; · iexists _; iexact Hu
    isplitl [Hq]; · iexact Hq
    isplitl [Ha]; · iexists _; iexact Ha
    isplitl [Hb]
    · iapply (show (prt c xbM (xbNewV lv (bK m c t) (bW m c t) (bC m c t) (bU m c t)) (fun j => (j 0).val < 6) : sProp 𝕄) ⊢ prt c xbM (Xin m c (t.val + 1)) (fun j => (j 0).val < 6) from by
        rw [show Xin m c (t.val + 1) = xbNewV lv (bK m c (pt t.val)) (bW m c (pt t.val)) (bC m c (pt t.val)) (bU m c (pt t.val)) from rfl, pt_val]) $$ Hb
    isplitl [HA]; · iexact HA
    isplitl [HA']; · iexact HA'
    isplitl [HB]; · iexact HB
    isplitl [HB']; · iexact HB'
    isplitl [Hp]; · iexact Hp
    isplitl [Hr]; · iexact Hr
    iexact HW
  iintro ⟨HI, ⟨%W'', HW⟩⟩
  iapply le_wp_ret
  isplitl [HI Hg]
  · isplitl [HI]; · iexact HI
    iexact Hg
  isplitl [HW]
  · iexists W''; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Entering and leaving -/

theorem enter (c : Dev nD) : Pipeline.ΦDRG osem0 spec0 ∅ R0 (V m) (V m) c ⊢ (dats m 0 c).Φ 0 := by
  rw [PhiD_eq, show (dats m 0 c).Φ 0 = PhiAt m c 0 from rfl]
  unfold PhiAt inv
  rw [flA_idle c _ 0 (by omega), flB_idle c _ 0 (by omega), if_neg (by omega), prow_empty c (a := 0) (b := 10 * 0 - 15) (by omega), show 10 * 0 - 5 = 0 from rfl, prow_whole]
  iintro ⟨⟨Hu, ⟨%Xq, Hq⟩, Ha, ⟨%Xb, Hb⟩, HA, HB⟩, Hg, ⟨HA', HB'⟩, HE, Hp⟩
  isplitr [Hg]
  · isplitl [Hu]; · iexact Hu
    isplitl [Hq]; · iapply (owns_part (c : Thread nD τ) (fun j h => absurd rfl h.1)) $$ Hq
    isplitl [Ha]; · iexact Ha
    isplitl [Hb]; · iapply (owns_part (c : Thread nD τ) (fun j h => absurd rfl h.1)) $$ Hb
    isplitl [HA HA']
    · isplitl [HA]; · iexact HA
      iexact HA'
    isplitl [HB HB']
    · isplitl [HB]; · iexact HB
      iexact HB'
    isplitl [HE]; · iexact HE
    iexact Hp
  · iexact Hg

theorem leave (c : Dev nD) : (dats m 0 c).Φ (Fin.last cfg0.N) ⊢ Pipeline.ΦDRG osem0 spec0 ∅ R0 (V m) (Gend m) c := by
  rw [PhiD_eq, show (dats m 0 c).Φ (Fin.last cfg0.N) = PhiAt m c 16 from rfl, show Gend m c main_v6_0 = Gp m c from rfl]
  unfold PhiAt inv
  rw [flA_idle c _ 16 (by omega), flB_idle c _ 16 (by omega), if_pos rfl, prow_empty c (a := 10 * 16 - 5) (b := 150) (by omega), prow_whole]
  iintro ⟨⟨Hu, Hq, Ha, Hb, ⟨HA, HA'⟩, ⟨HB, HB'⟩, Hp, HE⟩, Hg⟩
  ihave Hq := (part_elim (c : Thread nD τ)) $$ Hq
  icases Hq with ⟨%Xq, -, Hq⟩
  ihave Hb := (part_elim (c : Thread nD τ)) $$ Hb
  icases Hb with ⟨%Xb, -, Hb⟩
  isplitl [Hu Hq Ha Hb HA HB]
  · isplitl [Hu]; · iexact Hu
    isplitl [Hq]; · iexists _; iexact Hq
    isplitl [Ha]; · iexact Ha
    isplitl [Hb]; · iexists _; iexact Hb
    isplitl [HA]; · iexact HA
    iexact HB
  isplitl [Hg]; · iexact Hg
  isplitl [HA' HB']
  · isplitl [HA']; · iexact HA'
    iexact HB'
  isplitl [HE]; · iexact HE
  iexact Hp

/-! ## The run -/

set_option maxHeartbeats 800000 in
/-- @main up to the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every weak schedule ends, and at its end the arrays hold what the proof data says. -/
theorem run_main : θ_run defs (onTc (τ := τ) (main (F := F))) (s₀ m ρ) (fun r => Pipeline.FramePostRG cfgs (dats m) 0 R0 (V m) (Gend m) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m c).loose) (hshare := fun c => (dats m 0 c).share_full fun _ => rfl)
    (howed := fun _ _ => rfl) (V := V m) (hmain := hmainD m Variants.none) (hA := A_eq m) (G := Gend m)
    (hin := enter m) (hout := leave m) (hQ' := fun _ h => h)

/-- The arguments are unchanged at the end. -/
theorem args_of (r : PUnit × MemSt nD τ sig (Elt F)) (h : Pipeline.FramePostRG cfgs (dats m) 0 R0 (V m) (Gend m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h.1 c).2 main_arg0 (Finset.mem_sdiff.mpr ⟨Pipeline.mem_restRefs_of main_arg0 (by decide) (by decide), by decide⟩)).trans (V_main_arg0 m c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).1 8).trans (((dats m 0 c).arrAt_in 8 rfl _).trans ((A_eq m c 8).trans (V_main_arg8 m c))),
      ((h.1 c).1 9).trans (((dats m 0 c).arrAt_in 9 rfl _).trans ((A_eq m c 9).trans (V_main_arg9 m c))),
      ((h.1 c).1 10).trans (((dats m 0 c).arrAt_in 10 rfl _).trans ((A_eq m c 10).trans (V_main_arg10 m c))),
      ((h.1 c).1 11).trans (((dats m 0 c).arrAt_in 11 rfl _).trans ((A_eq m c 11).trans (V_main_arg11 m c)))⟩

/-- The program ends without fault and leaves its arguments unchanged. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r h => ⟨fun c => args_of m r h.1 c, h.2⟩) (run_main m ρ)

end Cert.Kernel4Ideal.Hand
-- ==== Proof.Bits4.lean ====
/-
  The run of `Kernel4` on bits: it is the run of `Kernel4Ideal`.

  The two programs are one text, so their bodies and their mains are equal by definition, and the frame proved of
  `Kernel4Ideal` over every reading of the floats is also a frame of `Kernel4`.
-/
module

public import proofs.«01_k».proof.Defs
public import proofs.«01_k».proof.Proof.Gen.Kernel4
public import proofs.«01_k».proof.Proof.Run4

@[expose] public section

set_option maxRecDepth 100000
set_option maxHeartbeats 0

noncomputable section

namespace Cert.Kernel4.Hand

open Idealize.ShloMosaic Idealize.SL.Sem

variable {F : FTy → Type} [FloatOps F]

/-- The bodies are equal. -/
theorem defs0_eq : (@Cert.Kernel4.defs₀ F _ Cert.Kernel4.Gen.facts) = (@Cert.Kernel4Ideal.defs₀ F _ Cert.Kernel4Ideal.Gen.facts) := by
  funext c ℓ x
  match c, ℓ, x with
  | .tc, 0, (t, s) => rfl
  | .scScalar _, 0, _ => rfl
  | .scVector _ _, 0, _ => rfl

/-- The mains are equal. -/
theorem main_eq : (@Cert.Kernel4.main F Cert.Kernel4.Gen.facts) = (@Cert.Kernel4Ideal.main F Cert.Kernel4Ideal.Gen.facts) := rfl

theorem defs_eq : (@Cert.Kernel4.defs F _ Cert.Kernel4.Gen.facts) = (@Cert.Kernel4Ideal.defs F _ Cert.Kernel4Ideal.Gen.facts) :=
  congrArg (Pipeline.defs (@Cert.Kernel4Ideal.pcfgs F Cert.Kernel4Ideal.Gen.facts)) defs0_eq

/-- The frame, on bits. -/
theorem frame : Cert.quiescent_Kernel4 (hKernel4 := Cert.Kernel4.Gen.facts) := by
  intro m ρ _
  have h := Cert.Kernel4Ideal.Hand.frame_main (F := Bits) m ρ
  rw [← defs_eq, ← main_eq] at h
  exact h

end Cert.Kernel4.Hand

end
-- ==== Proof.Math.lean ====
/-
  What a level computes, as plain mathematics over the extended reals.

  `Args` holds the arguments as functions of their coordinates, for a level of `H` rows, `W` columns and `C` channels.
  `Args.code` is the quantised merged map, `Args.pad` the same map with a border of zeros, and `Args.out` the 3x3
  convolution of the padded map.
-/
module

public import Idealize.ShloMosaic.Lib.Pointwise

@[expose] public section

noncomputable section

namespace Cert.Math

open Idealize.ShloMosaic

/-- The arguments of a level. -/
structure Args (H W C : ℕ) where
  /-- The codes of the level's input. -/
  c : Fin 3 → Fin H → Fin W → Fin C → EReal
  /-- Their scale. -/
  cs : EReal
  /-- The weights of the 1x1 convolution, their scales and the bias. -/
  w : Fin C → Fin 384 → EReal
  s : Fin 384 → EReal
  b : Fin 384 → EReal
  /-- The weights of the 3x3 convolution, their scales and the bias. -/
  wo : Fin 3 → Fin 3 → Fin 384 → Fin 384 → EReal
  so : Fin 384 → EReal
  bo : Fin 384 → EReal
  /-- The scale of the merged map and its inverse. -/
  ms : EReal
  inv : EReal
  /-- The code of the coarser level's map at half the row and half the column, and the scale of those codes. -/
  q : Fin 3 → Fin H → Fin W → Fin 384 → EReal
  qs : EReal

section
open Idealize.ShloMosaic.Pointwise

/-- The arguments' arrays as functions of their coordinates, the coarser map's apart. -/
def argsOf {H W C : ℕ} (a0 : Vec Ideal ⟨4, ![3, H, W, C]⟩ .fp8e4m3) (a1 : Vec Ideal ⟨1, ![1]⟩ .f32) (a2 : Vec Ideal ⟨2, ![C, 384]⟩ .fp8e4m3) (a3 a4 : Vec Ideal ⟨1, ![384]⟩ .f32)
    (a5 : Vec Ideal ⟨4, ![3, 3, 384, 384]⟩ .fp8e4m3) (a6 a7 : Vec Ideal ⟨1, ![384]⟩ .f32) (a8 a9 : Vec Ideal ⟨1, ![1]⟩ .f32)
    (q : Fin 3 → Fin H → Fin W → Fin 384 → EReal) (a11 : Vec Ideal ⟨1, ![1]⟩ .f32) : Args H W C where
  c n h x k := a0 (ix4 n h x k)
  cs := a1 (ix1 0)
  w k d := a2 (ix2 k d)
  s d := a3 (ix1 d)
  b d := a4 (ix1 d)
  wo i j k d := a5 (ix4 i j k d)
  so d := a6 (ix1 d)
  bo d := a7 (ix1 d)
  ms := a8 (ix1 0)
  inv := a9 (ix1 0)
  q := q
  qs := a11 (ix1 0)

/-- The coarser map under level 2. -/
def half2 (a : Vec Ideal ⟨3, ![300, 168, 384]⟩ .fp8e4m3) (n : Fin 3) (h : Fin 200) (x : Fin 336) (d : Fin 384) : EReal :=
  a (ix3 ⟨n.val * 100 + h.val / 2, by omega⟩ ⟨x.val / 2, by omega⟩ d)

/-- The coarser map under level 3. -/
def half3 (a : Vec Ideal ⟨3, ![150, 84, 384]⟩ .fp8e4m3) (n : Fin 3) (h : Fin 100) (x : Fin 168) (d : Fin 384) : EReal :=
  a (ix3 ⟨n.val * 50 + h.val / 2, by omega⟩ ⟨x.val / 2, by omega⟩ d)

/-- The coarser map under level 4. -/
def half4 (a : Vec Ideal ⟨3, ![75, 42, 384]⟩ .fp8e4m3) (n : Fin 3) (h : Fin 50) (x : Fin 84) (d : Fin 384) : EReal :=
  a (ix3 ⟨n.val * 25 + h.val / 2, by omega⟩ ⟨x.val / 2, by omega⟩ d)

end

variable {H W C : ℕ} (A : Args H W C)

/-- The merged map: the 1x1 convolution, scaled and biased, plus the coarser map at half the row and half the column. -/
def Args.map (n : Fin 3) (h : Fin H) (x : Fin W) (d : Fin 384) : EReal :=
  (∑ k : Fin C, A.c n h x k * A.w k d) * (A.cs * A.s d) + A.b d + A.q n h x d * A.qs

/-- The merged map over its scale, clipped to ±448. -/
def Args.code (n : Fin 3) (h : Fin H) (x : Fin W) (d : Fin 384) : EReal :=
  min (Ideal.ofBits .f32 0x43E00000#32) (max (Ideal.ofBits .f32 0xC3E00000#32) (A.map n h x d * A.inv))

/-- The quantised map with a border of zeros one wide. -/
def Args.pad (n : Fin 3) (i j : ℕ) (d : Fin 384) : EReal :=
  if h : (1 ≤ i ∧ i ≤ H) ∧ (1 ≤ j ∧ j ≤ W) then A.code n ⟨i - 1, by omega⟩ ⟨j - 1, by omega⟩ d else 0

/-- The 3x3 convolution of the quantised map, scaled and biased. -/
def Args.out (n : Fin 3) (h : Fin H) (x : Fin W) (d : Fin 384) : EReal :=
  (∑ i : Fin 3, ∑ j : Fin 3, ∑ k : Fin 384, A.pad n (h.val + i.val) (x.val + j.val) k * A.wo i j k d) * (A.ms * A.so d) + A.bo d

/-- The padded map is zero in the row above an image and in the row below. -/
theorem pad_zero (n : Fin 3) (i j : ℕ) (d : Fin 384) (h : i = 0 ∨ H < i) : A.pad n i j d = 0 := by
  unfold Args.pad
  rw [dif_neg (by omega)]

/-- A sum over `a * b` positions, row by row. -/
theorem sum_rows (a b n : ℕ) (hn : n = a * b) (f : Fin n → EReal) :
    ∑ k : Fin n, f k = ∑ i : Fin a, ∑ j : Fin b, f ⟨b * i.val + j.val, by
      subst hn; have := i.isLt; have := j.isLt; calc b * i.val + j.val < b * i.val + b := by omega
        _ = b * (i.val + 1) := by ring
        _ ≤ b * a := Nat.mul_le_mul_left _ (by omega)
        _ = a * b := Nat.mul_comm ..⟩ := by
  subst hn
  rw [← Equiv.sum_comp finProdFinEquiv, Fintype.sum_prod_type]
  refine Finset.sum_congr rfl fun i _ => Finset.sum_congr rfl fun j _ => congrArg f (Fin.ext ?_)
  show j.val + b * i.val = b * i.val + j.val
  omega

/-- The zero code. -/
theorem zero8 : (Scalar.ofBits (F := Ideal) .fp8e4m3 0x00#8 : EReal) = 0 := by
  show Ideal.ofBits .fp8e4m3 0x00#8 = 0
  simp [Ideal.ofBits, Ideal.e4m3fn, Ideal.ieee]

end Cert.Math

end
-- ==== Proof.BlockMath.lean ====
/-
  What one block of the kernel computes over the extended reals, at every index.

  `bcode` is the quantised merged map of a block, in coordinates of the block. `codesV` holds it (`codesV_at`), a row
  of the convolution's operands holds its three shifts with zeros at the ends (`xrowV_apply`), and a product over the
  3456 lanes of three operand rows is the sum over the nine taps (`convV_at`).
-/
module

public import proofs.«01_k».proof.Proof.MidIdeal
public import proofs.«01_k».proof.Proof.Math

@[expose] public section

set_option maxRecDepth 16384

noncomputable section

namespace Cert.KernelIdeal.Hand

open Cert.KernelIdeal Cert.KernelIdeal.Gen Cert.Math
open Idealize.ShloMosaic Idealize.ShloMosaic.Pointwise

/-! ## The parts of a row -/

theorem merged_apply (c : ℕ) (hc : c < 3) (sc bi : FVec Ideal S1x384 .f32) (y : FVec Ideal S336x512 .f32) (u : Vec Ideal S1x1x336x128 .f32) (p : Fin 336) (q : Fin 128) :
    merged (F := Ideal) c hc sc bi y u (ix2 p q)
      = y (ix2 p ⟨128 * c + q.val, by omega⟩) * sc (ix2 0 ⟨128 * c + q.val, by omega⟩) + bi (ix2 0 ⟨128 * c + q.val, by omega⟩) + u (ix4 0 0 p q) := by
  pointwise [merged]

theorem latDot_apply (w : Vec Ideal S256x384 .fp8e4m3) (w' : Vec Ideal S256x128 .fp8e4m3) (x : Vec Ideal S1x336x256 .fp8e4m3) (p : Fin 336) (j : Fin 512) (hj : j.val < 384) :
    latDot (F := Ideal) w w' x (ix2 p j) = ∑ k : Fin 256, x (ix3 0 p k) * w (ix2 k ⟨j.val, hj⟩) := by
  pointwise [latDot]
  simp only [hj, dif_pos]

theorem clipped_apply (inv : Elt Ideal .f32) (v : FVec Ideal S336x128 .f32) (j : S336x128.Idx) :
    clipped (F := Ideal) inv v j = min (Ideal.ofBits .f32 0x43E00000#32) (max (Ideal.ofBits .f32 0xC3E00000#32) (v j * inv)) := by
  pointwise [clipped]

theorem deqChunk_apply (c : ℕ) (hc : c < 3) (qs : Elt Ideal .f32) (v : Vec Ideal S1x168x384 .fp8e4m3) (p : Fin 168) (q : Fin 128) :
    deqChunk (F := Ideal) c hc (deq qs v) (ix2 p q) = v (ix3 0 p ⟨128 * c + q.val, by omega⟩) * qs := by
  pointwise [deqChunk, deq]

theorem upV_at (qs : Elt Ideal .f32) (Q : Vec Ideal S4x168x384 .fp8e4m3) (u : Fin 4) (ch : Fin 3) (p : Fin 336) (q : Fin 128) :
    upV (F := Ideal) qs Q (ix4 u ch p q) = Q (ix3 u ⟨p.val / 2, by omega⟩ ⟨128 * ch.val + q.val, by omega⟩) * qs := by
  refine (deqChunk_apply ch.val ch.isLt qs _ ⟨p.val / 2, by omega⟩ q).trans (congrArg (fun z => Q z * qs) ?_)
  funext a
  apply Fin.ext
  match a with
  | 0 => show u.val + 1 * 0 = u.val; omega
  | 1 => show 0 + 1 * (p.val / 2) = p.val / 2; omega
  | 2 => show 0 + 1 * (128 * ch.val + q.val) = 128 * ch.val + q.val; omega

/-! ## A block of codes -/

section
variable (K : Consts Ideal) (W : Vec Ideal S256x384 .fp8e4m3) (C : Vec Ideal S8x336x256 .fp8e4m3) (qs : Elt Ideal .f32) (Q : Vec Ideal S4x168x384 .fp8e4m3)

/-- The quantised merged map of a block. -/
def bcode (r : Fin 8) (x : Fin 336) (d : Fin 384) : EReal :=
  min (Ideal.ofBits .f32 0x43E00000#32) (max (Ideal.ofBits .f32 0xC3E00000#32)
    (((∑ k : Fin 256, C (ix3 r x k) * W (ix2 k d)) * K.sc (ix2 0 d) + K.bi (ix2 0 d) + Q (ix3 ⟨r.val / 2, by omega⟩ ⟨x.val / 2, by omega⟩ d) * qs) * K.inv))

theorem qv_apply (r ch : ℕ) (hr : r < 8) (hu : r / 2 < 4) (hc : ch < 3) (p : Fin 336) (q : Fin 128) (d : Fin 384) (hd : d.val = 128 * ch + q.val) :
    qv (F := Ideal) K W C (upV qs Q) r (r / 2) ch hr hu hc (ix2 p q) = bcode K W C qs Q ⟨r, hr⟩ p d := by
  have ed : (⟨128 * ch + q.val, by omega⟩ : Fin 384) = d := Fin.ext hd.symm
  unfold qv bcode
  rw [clipped_apply, merged_apply, latDot_apply _ _ _ _ _ (by show 128 * ch + q.val < 384; omega), ed]
  have eC : ∀ k : Fin 256, C ((rC r hr).toLoadRect.idx (ix3 (0 : Fin 1) p k)) = C (ix3 ⟨r, hr⟩ p k) := fun k => congrArg C (by
    funext a
    apply Fin.ext
    match a with
    | 0 => show r + 1 * 0 = r; omega
    | 1 => show 0 + 1 * p.val = p.val; omega
    | 2 => show 0 + 1 * k.val = k.val; omega)
  have eW : ∀ k : Fin 256, W ((Rect.unit (s := S256x384) ![0, 0] S256x384.size inb_S256x384_S256x384_0_0).toLoadRect.idx (ix2 k d)) = W (ix2 k d) := fun k => congrArg W (by
    funext a
    apply Fin.ext
    match a with
    | 0 => show 0 + 1 * k.val = k.val; omega
    | 1 => show 0 + 1 * d.val = d.val; omega)
  have eU : upV qs Q ((rU (r / 2) ch hu hc).toLoadRect.idx (ix4 (0 : Fin 1) (0 : Fin 1) p q)) = upV qs Q (ix4 ⟨r / 2, hu⟩ ⟨ch, hc⟩ p q) := congrArg (upV qs Q) (by
    funext a
    apply Fin.ext
    match a with
    | 0 => show r / 2 + 1 * 0 = r / 2; omega
    | 1 => show ch + 1 * 0 = ch; omega
    | 2 => show 0 + 1 * p.val = p.val; omega
    | 3 => show 0 + 1 * q.val = q.val; omega)
  have eU' := eU.trans (upV_at qs Q ⟨r / 2, hu⟩ ⟨ch, hc⟩ p q)
  simp only [ed] at eU'
  simp only [eC, eW, eU']

theorem codesV_at (r : Fin 8) (x : Fin 336) (d : Fin 384) : codesV (F := Ideal) K W C (upV qs Q) (ix3 r x d) = bcode K W C qs Q r x d :=
  qv_apply K W C qs Q r.val (d.val / 128) r.isLt (by omega) (by omega) x ⟨d.val % 128, Nat.mod_lt _ (by omega)⟩ d (by show d.val = 128 * (d.val / 128) + d.val % 128; omega)

theorem xrowV_apply (r p l : ℕ) (hr : r < 8) (hp : p < 352) (hl : l < 1152) (j : Fin 3) (d : Fin 384) (h : l = 384 * j.val + d.val) :
    xrowV (F := Ideal) K W C (upV qs Q) r hr p l hp hl
      = if hh : 1 ≤ p + j.val ∧ p + j.val ≤ 336 then bcode K W C qs Q ⟨r, hr⟩ ⟨p + j.val - 1, by omega⟩ d else 0 := by
  have hj : l / 384 = j.val := by omega
  have hd : l % 384 = d.val := by omega
  show quantV (F := Ideal) K W C (upV qs Q) r hr (ix4 (0 : Fin 2) ⟨l % 384 / 128, by omega⟩ ⟨p + 7 + l / 384, by omega⟩ ⟨l % 128, Nat.mod_lt _ (by omega)⟩) = _
  by_cases hh : 1 ≤ p + j.val ∧ p + j.val ≤ 336
  · rw [dif_pos hh]
    refine (dif_pos (show 8 ≤ p + 7 + l / 384 ∧ p + 7 + l / 384 < 344 by omega)).trans ?_
    refine (qv_apply K W C qs Q r (l % 384 / 128) hr (by omega) (by omega) ⟨p + 7 + l / 384 - 8, by omega⟩ ⟨l % 128, Nat.mod_lt _ (by omega)⟩ d
      (by show d.val = 128 * (l % 384 / 128) + l % 128; omega)).trans ?_
    exact congrArg (fun z => bcode K W C qs Q ⟨r, hr⟩ z d) (Fin.ext (show p + 7 + l / 384 - 8 = p + j.val - 1 by omega))
  · rw [dif_neg hh]
    exact (dif_neg (show ¬ (8 ≤ p + 7 + l / 384 ∧ p + 7 + l / 384 < 344) by omega)).trans Ideal.ofBits_zero_f32

end

/-! ## The product -/

theorem outRow_apply (l : ℕ) (hl : l ≤ 352) (so bo : FVec Ideal S1x384 .f32) (y : FVec Ideal S704x384 .f32) (x : Fin 336) (d : Fin 384) :
    outRow (F := Ideal) l hl so bo y (ix2 x d) = y (ix2 ⟨l + x.val, by omega⟩ d) * so (ix2 0 d) + bo (ix2 0 d) := by
  pointwise [outRow]

/-- The left operand of the product at row `y`: lane `1152 a + l` is lane `l` of row `y` of the `a`-th part. -/
theorem convDot_apply (f : Fin 3 → Vec Ideal S2x352x1152 .fp8e4m3) (w : Vec Ideal S3456x384 .fp8e4m3) (y : Fin 704) (d : Fin 384) :
    convDot (F := Ideal) (f 0) (f 1) (f 2) w (ix2 y d)
      = ∑ a : Fin 3, ∑ l : Fin 1152, f a (ix3 ⟨y.val / 352, by omega⟩ ⟨y.val % 352, by omega⟩ l) * w (ix2 ⟨1152 * a.val + l.val, by omega⟩ d) := by
  pointwise [convDot]
  rw [sum_rows 3 1152 3456 (by decide)]
  refine Finset.sum_congr rfl fun i _ => Finset.sum_congr rfl fun j _ => congrArg (· * _) ?_
  have hj := j.isLt
  match i with
  | 0 => exact (dif_pos (show 1152 * 0 + j.val < 1152 by omega)).trans (congrArg (fun z => f 0 (ix3 _ _ z)) (Fin.ext (show 1152 * 0 + j.val = j.val by omega)))
  | 1 => exact (dif_neg (show ¬ 1152 * 1 + j.val < 1152 by omega)).trans ((dif_pos (show 1152 * 1 + j.val - 1152 < 1152 by omega)).trans
      (congrArg (fun z => f 1 (ix3 _ _ z)) (Fin.ext (show 1152 * 1 + j.val - 1152 = j.val by omega))))
  | 2 => exact (dif_neg (show ¬ 1152 * 2 + j.val < 1152 by omega)).trans ((dif_neg (show ¬ 1152 * 2 + j.val - 1152 < 1152 by omega)).trans
      (congrArg (fun z => f 2 (ix3 _ _ z)) (Fin.ext (show 1152 * 2 + j.val - 1152 - 1152 = j.val by omega))))

/-- Four output rows: row `i` from the operand rows `i`, `i + 1`, `i + 2`. -/
theorem convV_at (K : Consts Ideal) (V : Vec Ideal S6x352x1152 .fp8e4m3) (W6 : Vec Ideal S3456x384 .fp8e4m3) (i : Fin 4) (x : Fin 336) (d : Fin 384) :
    convV (F := Ideal) K V W6 (ix3 i x d)
      = (∑ a : Fin 3, ∑ j : Fin 3, ∑ k : Fin 384, V (ix3 ⟨i.val + a.val, by omega⟩ ⟨x.val, by omega⟩ ⟨384 * j.val + k.val, by omega⟩)
          * W6 (ix2 ⟨1152 * a.val + (384 * j.val + k.val), by omega⟩ d)) * K.so (ix2 0 d) + K.bo (ix2 0 d) := by
  have hi := i.isLt
  have hx := x.isLt
  refine (outRow_apply (352 * (i.val % 2)) (by omega) K.so K.bo _ x d).trans (congrArg (fun z => z * K.so (ix2 0 d) + K.bo (ix2 0 d)) ?_)
  refine (convDot_apply (fun a y => V ((rXtwo (i.val / 2 * 2 + a.val) (by omega)).toLoadRect.idx y)) _ ⟨352 * (i.val % 2) + x.val, by omega⟩ d).trans ?_
  refine Finset.sum_congr rfl fun a _ => ?_
  rw [sum_rows 3 384 1152 (by decide)]
  refine Finset.sum_congr rfl fun j _ => Finset.sum_congr rfl fun k _ => congrArg₂ (· * ·) (congrArg V ?_) (congrArg W6 ?_)
  · funext b
    apply Fin.ext
    match b with
    | 0 => show i.val / 2 * 2 + a.val + 1 * ((352 * (i.val % 2) + x.val) / 352) = i.val + a.val; omega
    | 1 => show 0 + 1 * ((352 * (i.val % 2) + x.val) % 352) = x.val; omega
    | 2 => show 0 + 1 * (384 * j.val + k.val) = 384 * j.val + k.val; omega
  · funext b
    apply Fin.ext
    match b with
    | 0 => show 0 + 1 * (1152 * a.val + (384 * j.val + k.val)) = 1152 * a.val + (384 * j.val + k.val); omega
    | 1 => show 0 + 1 * d.val = d.val; omega

end Cert.KernelIdeal.Hand

end
-- ==== Proof.KernelMath.lean ====
/-
  What the kernel's two results hold, at every index: `Math.Args.code` and `Math.Args.out` of its arguments.

  The blocks of the input windows are read at coordinates, so that a block's quantised map is `Args.code` at the block's
  rows (`bcode_eq`). A row of the convolution's operands is then a row of the padded map (`xrow_eq`), also the row kept
  from the block before and the row of the block after, and the border rows of an image are rows of zeros.
-/
module

public import proofs.«01_k».proof.Proof.RunIdeal
public import proofs.«01_k».proof.Proof.BlockMath
public import Idealize.ShloMosaic.Lib.Pipeline.ValueKit

@[expose] public section

set_option maxRecDepth 16384

noncomputable section

namespace Cert.KernelIdeal.Hand

open Cert.KernelIdeal Cert.KernelIdeal.Gen Cert.Math
open Idealize.ShloMosaic Idealize.ShloMosaic.TcCoe Idealize.ShloMosaic.Pointwise Idealize.SL.Sem

variable (m : (ℓ : Loc nD τ sig) → Buf (Elt Ideal) ℓ) (c : Dev nD)

/-- The kernel's arguments on core `c`. -/
def kargs : Args 200 336 256 := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (half2 (m ((c : Thread nD τ).loc main_arg10)))
  (m ((c : Thread nD τ).loc main_arg11))

/-! ## The reshapes before the call -/

theorem V_main_v0 : (V m c main_v0 : Vec Ideal S600x336x256 .fp8e4m3)
    = shapeCast S600x336x256 (m ((c : Thread nD τ).loc main_arg0) : Vec Ideal S3x200x336x256 .fp8e4m3) shapeCasts_S3x200x336x256_S600x336x256 := by
  show StableHlo.after hostOps0 _ (Proc.devRef .tc main_v0) = _
  after_results
  rfl
theorem V_main_v1 : (V m c main_v1 : Vec Ideal S1x384 .f32)
    = shapeCast S1x384 (m ((c : Thread nD τ).loc main_arg3) : Vec Ideal S384 .f32) shapeCasts_S384_S1x384 := by
  show StableHlo.after hostOps0 _ (Proc.devRef .tc main_v1) = _
  after_results
  rfl
theorem V_main_v2 : (V m c main_v2 : Vec Ideal S1x384 .f32)
    = shapeCast S1x384 (m ((c : Thread nD τ).loc main_arg4) : Vec Ideal S384 .f32) shapeCasts_S384_S1x384 := by
  show StableHlo.after hostOps0 _ (Proc.devRef .tc main_v2) = _
  after_results
  rfl
theorem V_main_v3 : (V m c main_v3 : Vec Ideal S3456x384 .fp8e4m3)
    = shapeCast S3456x384 (m ((c : Thread nD τ).loc main_arg5) : Vec Ideal S3x3x384x384 .fp8e4m3) shapeCasts_S3x3x384x384_S3456x384 := by
  show StableHlo.after hostOps0 _ (Proc.devRef .tc main_v3) = _
  after_results
  rfl
theorem V_main_v4 : (V m c main_v4 : Vec Ideal S1x384 .f32)
    = shapeCast S1x384 (m ((c : Thread nD τ).loc main_arg6) : Vec Ideal S384 .f32) shapeCasts_S384_S1x384 := by
  show StableHlo.after hostOps0 _ (Proc.devRef .tc main_v4) = _
  after_results
  rfl
theorem V_main_v5 : (V m c main_v5 : Vec Ideal S1x384 .f32)
    = shapeCast S1x384 (m ((c : Thread nD τ).loc main_arg7) : Vec Ideal S384 .f32) shapeCasts_S384_S1x384 := by
  show StableHlo.after hostOps0 _ (Proc.devRef .tc main_v5) = _
  after_results
  rfl

theorem cast_c (v : Vec Ideal S3x200x336x256 .fp8e4m3) (R : Fin 600) (x : Fin 336) (k : Fin 256) :
    shapeCast S600x336x256 v shapeCasts_S3x200x336x256_S600x336x256 (ix3 R x k) = v (ix4 ⟨R.val / 200, by omega⟩ ⟨R.val % 200, by omega⟩ x k) := by
  pointwise
theorem cast_row (v : Vec Ideal S384 .f32) (d : Fin 384) : shapeCast S1x384 v shapeCasts_S384_S1x384 (ix2 0 d) = v (ix1 d) := by
  pointwise
theorem cast_same (v : Vec Ideal S1x384 .f32) (d : Fin 384) : shapeCast S1x384 v shapeCasts_S1x384_S1x384 (ix2 0 d) = v (ix2 0 d) := by
  pointwise
theorem cast_w (v : Vec Ideal S3x3x384x384 .fp8e4m3) (a j : Fin 3) (k d : Fin 384) (l : Fin 3456) (hl : l.val = 1152 * a.val + (384 * j.val + k.val)) :
    shapeCast S3456x384 v shapeCasts_S3x3x384x384_S3456x384 (ix2 l d) = v (ix4 a j k d) := by
  pointwise
  have e0 : l.val / 1152 = a.val := by omega
  have e1 : l.val / 384 % 3 = j.val := by omega
  have e2 : l.val % 384 = k.val := by omega
  simp only [e0, e1, e2, Fin.eta]

/-! ## Where the blocks lie -/

theorem index0 : ∀ t : Fin cfg0.N, win0_0.index t = ![min t.val 74, 0, 0] := (by decide +kernel : ∀ t : Fin grid0.N, _)
theorem index1 : ∀ t : Fin cfg0.N, win0_1.index t = ![0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0] := (by decide +kernel : ∀ t : Fin grid0.N, _)
theorem index9 : ∀ t : Fin cfg0.N, win0_9.index t = ![0] := (by decide +kernel : ∀ t : Fin grid0.N, _)
theorem index10 : ∀ t : Fin cfg0.N, win0_10.index t = ![min t.val 74, 0, 0] := (by decide +kernel : ∀ t : Fin grid0.N, _)
theorem index11 : ∀ t : Fin cfg0.N, win0_11.index t = ![0] := (by decide +kernel : ∀ t : Fin grid0.N, _)
theorem index12 : ∀ t : Fin cfg0.N, win0_12.index t = ![min t.val 74, 0, 0] := (by decide +kernel : ∀ t : Fin grid0.N, _)

/-- The bit is on except at the first point of an image. -/
theorem keep_iff : ∀ t : Fin cfg0.N, keepBit (grid0.coords t) = 1#1 ↔ t.val % 25 ≠ 0 := (by decide +kernel : ∀ t : Fin grid0.N, _)

/-! ## The blocks at coordinates -/

theorem bC_apply (t : Fin cfg0.N) (r : Fin 8) (x : Fin 336) (k : Fin 256) (R : Fin 600) (hR : R.val = 8 * min t.val 74 + r.val) :
    bC m c t (ix3 r x k) = (kargs m c).c ⟨R.val / 200, by omega⟩ ⟨R.val % 200, by omega⟩ x k := by
  have e : (((cfg0.win 0).blk t).view.emb (ix3 r x k) : S600x336x256.Idx) = ix3 R x k := by
    blk_ext [index0]
  show (V m c main_v0 : Vec Ideal S600x336x256 .fp8e4m3) (((cfg0.win 0).blk t).view.emb (ix3 r x k)) = _
  rw [e, V_main_v0, cast_c]
  rfl

theorem bcs_apply (t : Fin cfg0.N) : bcs m c t (ix1 0) = (kargs m c).cs := by
  have e : (((cfg0.win 1).blk t).view.emb (ix1 0) : S1.Idx) = ix1 0 := by
    blk_ext [index1]
  show V m c main_arg1 (((cfg0.win 1).blk t).view.emb (ix1 0)) = _
  rw [e, V_main_arg1]
  rfl
theorem bW_apply (t : Fin cfg0.N) (k : Fin 256) (d : Fin 384) : bW m c t (ix2 k d) = (kargs m c).w k d := by
  have e : (((cfg0.win 2).blk t).view.emb (ix2 k d) : S256x384.Idx) = ix2 k d := by
    blk_ext [index2]
  show V m c main_arg2 (((cfg0.win 2).blk t).view.emb (ix2 k d)) = _
  rw [e, V_main_arg2]
  rfl
theorem bs4_apply (t : Fin cfg0.N) (d : Fin 384) : bs4 m c t (ix2 0 d) = (kargs m c).s d := by
  have e : (((cfg0.win 3).blk t).view.emb (ix2 0 d) : S1x384.Idx) = ix2 0 d := by
    blk_ext [index3]
  show V m c main_v1 (((cfg0.win 3).blk t).view.emb (ix2 0 d)) = _
  rw [e, V_main_v1, cast_row]
  rfl
theorem bb5_apply (t : Fin cfg0.N) (d : Fin 384) : bb5 m c t (ix2 0 d) = (kargs m c).b d := by
  have e : (((cfg0.win 4).blk t).view.emb (ix2 0 d) : S1x384.Idx) = ix2 0 d := by
    blk_ext [index4]
  show V m c main_v2 (((cfg0.win 4).blk t).view.emb (ix2 0 d)) = _
  rw [e, V_main_v2, cast_row]
  rfl
theorem bW6_apply (t : Fin cfg0.N) (a j : Fin 3) (k d : Fin 384) (l : Fin 3456) (hl : l.val = 1152 * a.val + (384 * j.val + k.val)) : bW6 m c t (ix2 l d) = (kargs m c).wo a j k d := by
  have e : (((cfg0.win 5).blk t).view.emb (ix2 l d) : S3456x384.Idx) = ix2 l d := by
    blk_ext [index5]
  show V m c main_v3 (((cfg0.win 5).blk t).view.emb (ix2 l d)) = _
  rw [e, V_main_v3, cast_w _ a j k d l hl]
  rfl
theorem bs7_apply (t : Fin cfg0.N) (d : Fin 384) : bs7 m c t (ix2 0 d) = (kargs m c).so d := by
  have e : (((cfg0.win 6).blk t).view.emb (ix2 0 d) : S1x384.Idx) = ix2 0 d := by
    blk_ext [index6]
  show V m c main_v4 (((cfg0.win 6).blk t).view.emb (ix2 0 d)) = _
  rw [e, V_main_v4, cast_row]
  rfl
theorem bb8_apply (t : Fin cfg0.N) (d : Fin 384) : bb8 m c t (ix2 0 d) = (kargs m c).bo d := by
  have e : (((cfg0.win 7).blk t).view.emb (ix2 0 d) : S1x384.Idx) = ix2 0 d := by
    blk_ext [index7]
  show V m c main_v5 (((cfg0.win 7).blk t).view.emb (ix2 0 d)) = _
  rw [e, V_main_v5, cast_row]
  rfl
theorem bms_apply (t : Fin cfg0.N) : bms m c t (ix1 0) = (kargs m c).ms := by
  have e : (((cfg0.win 8).blk t).view.emb (ix1 0) : S1.Idx) = ix1 0 := by
    blk_ext [index8]
  show V m c main_arg8 (((cfg0.win 8).blk t).view.emb (ix1 0)) = _
  rw [e, V_main_arg8]
  rfl
theorem binv_apply (t : Fin cfg0.N) : binv m c t (ix1 0) = (kargs m c).inv := by
  have e : (((cfg0.win 9).blk t).view.emb (ix1 0) : S1.Idx) = ix1 0 := by
    blk_ext [index9]
  show V m c main_arg9 (((cfg0.win 9).blk t).view.emb (ix1 0)) = _
  rw [e, V_main_arg9]
  rfl
theorem bQ_apply (t : Fin cfg0.N) (r : Fin 4) (x : Fin 168) (d : Fin 384) (R : Fin 300) (hR : R.val = 4 * min t.val 74 + r.val) :
    bQ m c t (ix3 r x d) = (m ((c : Thread nD τ).loc main_arg10) : Vec Ideal S300x168x384 .fp8e4m3) (ix3 R x d) := by
  have e : (((cfg0.win 10).blk t).view.emb (ix3 r x d) : S300x168x384.Idx) = ix3 R x d := by
    blk_ext [index10]
  show V m c main_arg10 (((cfg0.win 10).blk t).view.emb (ix3 r x d)) = _
  rw [e, V_main_arg10]
theorem bqs_apply (t : Fin cfg0.N) : bqs m c t (ix1 0) = (kargs m c).qs := by
  have e : (((cfg0.win 11).blk t).view.emb (ix1 0) : S1.Idx) = ix1 0 := by
    blk_ext [index11]
  show V m c main_arg11 (((cfg0.win 11).blk t).view.emb (ix1 0)) = _
  rw [e, V_main_arg11]
  rfl

/-! ## The scales, and a block's quantised map -/

theorem row_idx (d : Fin 384) : (Rect.unit (s := S1x384) ![0, 0] S1x384.size inb_S1x384_S1x384_0_0).toLoadRect.idx (ix2 (0 : Fin 1) d) = ix2 0 d := by
  funext a
  apply Fin.ext
  match a with
  | 0 => show 0 + 1 * 0 = 0; omega
  | 1 => show 0 + 1 * d.val = d.val; omega

section
variable (cs : Vec Ideal S1 .f32) (s4 b5 s7 b8 : Vec Ideal S1x384 .f32) (ms inv : Vec Ideal S1 .f32) (d : Fin 384)
theorem constsV_sc : (constsV cs s4 b5 s7 b8 ms inv).sc (ix2 0 d) = (cs (ix1 0) * s4 (ix2 0 d) : EReal) := by
  refine congrArg (fun z : EReal => (cs (ix1 0) : EReal) * z) ((cast_same _ d).trans (congrArg s4 (row_idx d)))
theorem constsV_bi : (constsV cs s4 b5 s7 b8 ms inv).bi (ix2 0 d) = b5 (ix2 0 d) := by
  exact (cast_same (fun x => b5 ((Rect.unit (s := S1x384) ![0, 0] S1x384.size inb_S1x384_S1x384_0_0).toLoadRect.idx x)) d).trans (congrArg b5 (row_idx d))
theorem constsV_so : (constsV cs s4 b5 s7 b8 ms inv).so (ix2 0 d) = (ms (ix1 0) * s7 (ix2 0 d) : EReal) := by
  refine congrArg (fun z : EReal => (ms (ix1 0) : EReal) * z) ((cast_same _ d).trans (congrArg s7 (row_idx d)))
theorem constsV_bo : (constsV cs s4 b5 s7 b8 ms inv).bo (ix2 0 d) = b8 (ix2 0 d) := by
  exact (cast_same (fun x => b8 ((Rect.unit (s := S1x384) ![0, 0] S1x384.size inb_S1x384_S1x384_0_0).toLoadRect.idx x)) d).trans (congrArg b8 (row_idx d))
end

theorem bK_sc (t : Fin cfg0.N) (d : Fin 384) : (bK m c t).sc (ix2 0 d) = (kargs m c).cs * (kargs m c).s d := by
  unfold bK
  rw [constsV_sc, bs4_apply m c t d, bcs_apply m c t]
theorem bK_bi (t : Fin cfg0.N) (d : Fin 384) : (bK m c t).bi (ix2 0 d) = (kargs m c).b d := by
  unfold bK
  rw [constsV_bi, bb5_apply m c t d]
theorem bK_so (t : Fin cfg0.N) (d : Fin 384) : (bK m c t).so (ix2 0 d) = (kargs m c).ms * (kargs m c).so d := by
  unfold bK
  rw [constsV_so, bs7_apply m c t d, bms_apply m c t]
theorem bK_bo (t : Fin cfg0.N) (d : Fin 384) : (bK m c t).bo (ix2 0 d) = (kargs m c).bo d := by
  unfold bK
  rw [constsV_bo, bb8_apply m c t d]
theorem bK_inv (t : Fin cfg0.N) : (bK m c t).inv = (kargs m c).inv := binv_apply m c t

/-- Row `r` of point `t`'s block is row `R` of the map. -/
theorem bcode_eq (t : Fin cfg0.N) (r : Fin 8) (x : Fin 336) (d : Fin 384) (R : Fin 600) (hR : R.val = 8 * min t.val 74 + r.val) :
    bcode (bK m c t) (bW m c t) (bC m c t) (bqs m c t (ix1 0)) (bQ m c t) r x d
      = (kargs m c).code ⟨R.val / 200, by omega⟩ ⟨R.val % 200, by omega⟩ x d := by
  unfold bcode Args.code Args.map
  rw [bK_sc, bK_bi, bK_inv, bqs_apply,
    bQ_apply m c t ⟨r.val / 2, by omega⟩ ⟨x.val / 2, by omega⟩ d ⟨R.val / 200 * 100 + R.val % 200 / 2, by omega⟩
      (by show R.val / 200 * 100 + R.val % 200 / 2 = 4 * min t.val 74 + r.val / 2; omega)]
  simp only [fun k => bC_apply m c t r x k R hR, bW_apply]
  rfl

/-- A row of the convolution's operands is a row of the padded map, at its three shifts. -/
theorem xrow_eq (t : Fin cfg0.N) (r : ℕ) (hr : r < 8) (p l : ℕ) (hp : p < 352) (hl : l < 1152) (j : Fin 3) (d : Fin 384) (h : l = 384 * j.val + d.val)
    (n : Fin 3) (i : ℕ) (hi : 200 * n.val + i = 8 * min t.val 74 + r + 1) (h1 : 1 ≤ i) (h2 : i ≤ 200) :
    xrowV (bK m c t) (bW m c t) (bC m c t) (bU m c t) r hr p l hp hl = (kargs m c).pad n i (p + j.val) d := by
  refine (xrowV_apply (bK m c t) (bW m c t) (bC m c t) (bqs m c t (ix1 0)) (bQ m c t) r p l hr hp hl j d h).trans ?_
  unfold Args.pad
  by_cases hh : 1 ≤ p + j.val ∧ p + j.val ≤ 336
  · rw [dif_pos hh, dif_pos ⟨⟨h1, h2⟩, hh⟩]
    rw [bcode_eq m c t ⟨r, hr⟩ ⟨p + j.val - 1, by omega⟩ d ⟨200 * n.val + i - 1, by omega⟩ (by show 200 * n.val + i - 1 = 8 * min t.val 74 + r; omega)]
    have e0 : (200 * n.val + i - 1) / 200 = n.val := by omega
    have e1 : (200 * n.val + i - 1) % 200 = i - 1 := by omega
    simp only [e0, e1, Fin.eta]
  · rw [dif_neg hh, dif_neg (fun h => hh h.2)]

/-- Row `a` of what the point before `t` kept. -/
theorem Xin_eq (t : ℕ) (h1 : 1 ≤ t) (ht : t ≤ 75) (a : Fin 6) (ha : a.val < 5) (p : Fin 352) (l : Fin 1152) (j : Fin 3) (d : Fin 384) (h : l.val = 384 * j.val + d.val)
    (n : Fin 3) (i : ℕ) (hi : 200 * n.val + i = 8 * (t - 1) + a.val + 3 + 1) (hi1 : 1 ≤ i) (hi2 : i ≤ 200) :
    Xin m c t (ix3 a p l) = (kargs m c).pad n i (p.val + j.val) d := by
  obtain ⟨t, rfl⟩ : ∃ s, t = s + 1 := ⟨t - 1, by omega⟩
  show xbNewV (bK m c (pt t)) (bW m c (pt t)) (bC m c (pt t)) (bU m c (pt t)) (ix3 a p l) = _
  refine (dif_pos (show a.val < 5 from ha)).trans ?_
  exact xrow_eq m c (pt t) (a.val + 3) (by omega) p.val l.val p.isLt l.isLt j d h n i (by show _ = 8 * min (min t 75) 74 + _ + 1; omega) hi1 hi2

/-! ## The rows of the first result -/

theorem rows_apply (t : Fin cfg0.N) (V : Vec Ideal S6x352x1152 .fp8e4m3) (i : Fin 4) (n : Fin 3) (h : Fin 200) (x : Fin 336) (d : Fin 384)
    (hV : ∀ (a j : Fin 3) (k : Fin 384), V (ix3 ⟨i.val + a.val, by omega⟩ ⟨x.val, by omega⟩ ⟨384 * j.val + k.val, by omega⟩) = (kargs m c).pad n (h.val + a.val) (x.val + j.val) k) :
    convV (bK m c t) V (bW6 m c t) (ix3 i x d) = (kargs m c).out n h x d := by
  rw [convV_at, bK_so, bK_bo]
  unfold Args.out
  refine congrArg (fun z => z * _ + _) ?_
  refine Finset.sum_congr rfl fun a _ => Finset.sum_congr rfl fun j _ => Finset.sum_congr rfl fun k _ => ?_
  rw [hV a j k, bW6_apply m c t a j k d _ rfl]

theorem rowsA_apply (t : Fin cfg0.N) (ht : t.val ≤ 74) (i : Fin 4) (n : Fin 3) (h : Fin 200) (hR : 200 * n.val + h.val = 8 * t.val + i.val) (x : Fin 336) (d : Fin 384) :
    rowsA m c t (ix3 i x d) = (kargs m c).out n h x d := by
  refine rows_apply m c t _ i n h x d fun a j k => ?_
  by_cases h0 : i.val + a.val = 0
  · refine (xaV_0 _ _ _ _ _ _ _ (show i.val + a.val = 0 from h0)).trans ?_
    by_cases hk : keepBit (grid0.coords t) = 1#1
    · rw [if_pos hk]
      have := (keep_iff t).mp hk
      exact Xin_eq m c t.val (by omega) (by omega) 4 (by decide) _ _ j k rfl n (h.val + a.val) (by show _ = 8 * (t.val - 1) + 4 + 3 + 1; omega) (by omega) (by omega)
    · rw [if_neg hk, zero8]
      have : t.val % 25 = 0 := by
        by_contra hc
        exact hk ((keep_iff t).mpr hc)
      exact (pad_zero _ _ _ _ _ (by omega)).symm
  · refine (xaV_row _ _ _ _ _ _ (i.val + a.val - 1) (by omega) _ (show i.val + a.val = i.val + a.val - 1 + 1 by omega)).trans ?_
    exact xrow_eq m c t (i.val + a.val - 1) (by omega) x.val _ _ _ j k rfl n (h.val + a.val) (by omega) (by omega) (by omega)

theorem rowsB_apply (t : Fin cfg0.N) (h1 : 1 ≤ t.val) (ht : t.val ≤ 75) (i : Fin 4) (n : Fin 3) (h : Fin 200) (hR : 200 * n.val + h.val = 8 * t.val - 4 + i.val) (x : Fin 336) (d : Fin 384) :
    rowsB m c t (ix3 i x d) = (kargs m c).out n h x d := by
  refine rows_apply m c t _ i n h x d fun a j k => ?_
  by_cases h5 : i.val + a.val = 5
  · refine (xbOldV_5 _ _ _ _ _ _ _ (show i.val + a.val = 5 from h5)).trans ?_
    by_cases hk : keepBit (grid0.coords t) = 1#1
    · rw [if_pos hk]
      have := (keep_iff t).mp hk
      exact xrow_eq m c t 0 (by omega) x.val _ _ _ j k rfl n (h.val + a.val) (by omega) (by omega) (by omega)
    · rw [if_neg hk, zero8]
      have : t.val % 25 = 0 := by
        by_contra hc
        exact hk ((keep_iff t).mpr hc)
      exact (pad_zero _ _ _ _ _ (by omega)).symm
  · refine (xbOldV_ne _ _ _ _ _ _ _ (show i.val + a.val ≠ 5 from h5)).trans ?_
    exact Xin_eq m c t.val h1 ht ⟨i.val + a.val, by omega⟩ (by show i.val + a.val < 5; omega) _ _ j k rfl n (h.val + a.val)
      (by show _ = 8 * (t.val - 1) + (i.val + a.val) + 3 + 1; omega) (by omega) (by omega)

/-- The first result. -/
theorem Gp_apply (R : Fin 600) (x : Fin 336) (d : Fin 384) :
    Gp m c (ix3 R x d) = (kargs m c).out ⟨R.val / 200, by omega⟩ ⟨R.val % 200, by omega⟩ x d := by
  have hR := R.isLt
  by_cases h : R.val % 8 < 4
  · refine (if_pos (show R.val % 8 < 4 from h)).trans ?_
    exact rowsA_apply m c (pt (R.val / 8)) (by show min (R.val / 8) 75 ≤ 74; omega) ⟨R.val % 4, Nat.mod_lt _ (by decide)⟩ _ _
      (by show 200 * (R.val / 200) + R.val % 200 = 8 * min (R.val / 8) 75 + R.val % 4; omega) x d
  · refine (if_neg (show ¬ R.val % 8 < 4 from h)).trans ?_
    exact rowsB_apply m c (pt ((R.val + 4) / 8)) (by show 1 ≤ min ((R.val + 4) / 8) 75; omega) (by show min ((R.val + 4) / 8) 75 ≤ 75; omega) ⟨R.val % 4, Nat.mod_lt _ (by decide)⟩ _ _
      (by show 200 * (R.val / 200) + R.val % 200 = 8 * min ((R.val + 4) / 8) 75 - 4 + R.val % 4; omega) x d

/-! ## The second result -/

/-- The codes as an array. -/
def Gq : Vec Ideal S600x336x384 .fp8e4m3 := fun j =>
  (kargs m c).code ⟨(j 0).val / 200, by have h : (j 0).val < 600 := (j 0).isLt; omega⟩ ⟨(j 0).val % 200, by omega⟩ (j 1) (j 2)

theorem final12 : (dats m 0 c).arrAt 12 cfg0.N = Gq m c := by
  refine (dats m 0 c).arrAt_eq_of_covers 12 _ (by decide +kernel) fun t hf y => ?_
  blk_simp
  rw [after0_12]
  have ey : (y : S8x336x384.Idx) = ix3 (y 0) (y 1) (y 2) := eq_ix3 y
  have h0 : (y 0).val < 8 := (y 0).isLt
  have e : (((win0_12).blk t).view.emb y : S600x336x384.Idx) = ix3 ⟨8 * min t.val 74 + (y 0).val, by omega⟩ (y 1) (y 2) := by
    blk_ext [index12]
  rw [e]
  refine (congrArg (codesB m c t) ey).trans ?_
  refine (codesV_at (bK m c t) (bW m c t) (bC m c t) (bqs m c t (ix1 0)) (bQ m c t) (y 0) (y 1) (y 2)).trans ?_
  exact bcode_eq m c t (y 0) (y 1) (y 2) ⟨8 * min t.val 74 + (y 0).val, by omega⟩ rfl

end Cert.KernelIdeal.Hand

end
-- ==== Proof.RefMath.lean ====
/-
  What the reference's two results hold, at every index: `Math.Args.code` and `Math.Args.out` of its arguments.
-/
module

public import proofs.«01_k».proof.Proof.Gen.ReferenceIdeal.Value
public import proofs.«01_k».proof.Proof.Math

@[expose] public section

set_option maxRecDepth 16384

noncomputable section

namespace Cert.ReferenceIdeal.Hand

open Cert.ReferenceIdeal Cert.ReferenceIdeal.Gen Cert.Math Idealize.ShloMosaic Idealize.ShloMosaic.Pointwise

/-- The quantised map, before any of its uses. -/
theorem pay2_apply (a0 : Vec Ideal S3x200x336x256 .fp8e4m3) (a1 : Vec Ideal S1 .f32) (a2 : Vec Ideal S256x384 .fp8e4m3) (a3 a4 : Vec Ideal S384 .f32)
    (a5 : Vec Ideal S3x3x384x384 .fp8e4m3) (a6 a7 : Vec Ideal S384 .f32) (a8 a9 : Vec Ideal S1 .f32)
    (a10 : Vec Ideal S300x168x384 .fp8e4m3) (a11 : Vec Ideal S1 .f32) (n : Fin 3) (h : Fin 200) (x : Fin 336) (d : Fin 384) :
    k0_pay2 (F := Ideal) a0 a2 a1 a3 a4 a10 a11 a9 (ix4 n h x d) = (argsOf a0 a1 a2 a3 a4 a5 a6 a7 a8 a9 (half2 a10) a11).code n h x d := by
  pointwise [k0_pay2]
  rfl

theorem pay5_apply (v : Vec Ideal S3x200x336x384 .bf16) (n : Fin 3) (i : Fin 202) (j : Fin 338) (d : Fin 384) :
    k0_pay5 (F := Ideal) v (ix4 n i j d)
      = if h : (1 ≤ i.val ∧ i.val ≤ 200) ∧ (1 ≤ j.val ∧ j.val ≤ 336) then v (ix4 n ⟨i.val - 1, by omega⟩ ⟨j.val - 1, by omega⟩ d) else 0 := by
  pointwise [k0_pay5]
  have hz : (((0#32 : BitVec 32).toInt : ℝ) : EReal) = 0 := by simp
  rw [hz]
  have := i.isLt
  have := j.isLt
  by_cases hh : (1 ≤ i.val ∧ i.val ≤ 200) ∧ (1 ≤ j.val ∧ j.val ≤ 336)
  · rw [dif_pos hh, dif_pos (by omega), dif_neg (by omega), dif_pos (by omega), dif_neg (by omega)]
  · rw [dif_neg hh]
    split_ifs <;> first | rfl | omega

/-- Part `![i, j, 0, 0]` of the weights is the matrix of tap `(i, j)`. -/
theorem ld_apply (w : Vec Ideal S3x3x384x384 .fp8e4m3) (i j : Fin 3) (h : ∀ a, (![i.val, j.val, 0, 0] : Fin 4 → ℕ) a + S1x1x384x384.size a ≤ S3x3x384x384.size a)
    (k d : Fin 384) :
    View.ld (Val := Elt Ideal) w (Rect.unit (s := S3x3x384x384) ![i.val, j.val, 0, 0] S1x1x384x384.size h) (ix4 0 0 k d) = w (ix4 i j k d) := by
  refine congrArg w ?_
  funext a
  apply Fin.ext
  match a with
  | 0 => show i.val + 1 * 0 = i.val; omega
  | 1 => show j.val + 1 * 0 = j.val; omega
  | 2 => show 0 + 1 * k.val = k.val; omega
  | 3 => show 0 + 1 * d.val = d.val; omega

/-- The nine products, over the padded map. -/
theorem taps_apply (v : Vec Ideal S3x200x336x384 .bf16) (w : Vec Ideal S3x3x384x384 .fp8e4m3) (n : Fin 3) (h : Fin 200) (x : Fin 336) (d : Fin 384) :
    k0_pay8 (F := Ideal) (k0_pay5 v) (k0_pay6 v (View.ld w r0_6) (View.ld w r0_7) (View.ld w r0_8) (View.ld w r0_9)) (k0_pay7 v)
        (View.ld w r0_10) (View.ld w r0_11) (View.ld w r0_12) (View.ld w r0_13) (View.ld w r0_14) (ix4 n h x d)
      = ∑ i : Fin 3, ∑ j : Fin 3, ∑ k : Fin 384,
          k0_pay5 (F := Ideal) v (ix4 n ⟨i.val + h.val, by omega⟩ ⟨j.val + x.val, by omega⟩ k) * w (ix4 i j k d) := by
  have e6 : ∀ k, View.ld (Val := Elt Ideal) w r0_6 (ix4 0 0 k d) = w (ix4 0 0 k d) := fun k => ld_apply w 0 0 _ k d
  have e7 : ∀ k, View.ld (Val := Elt Ideal) w r0_7 (ix4 0 0 k d) = w (ix4 0 1 k d) := fun k => ld_apply w 0 1 _ k d
  have e8 : ∀ k, View.ld (Val := Elt Ideal) w r0_8 (ix4 0 0 k d) = w (ix4 0 2 k d) := fun k => ld_apply w 0 2 _ k d
  have e9 : ∀ k, View.ld (Val := Elt Ideal) w r0_9 (ix4 0 0 k d) = w (ix4 1 0 k d) := fun k => ld_apply w 1 0 _ k d
  have e10 : ∀ k, View.ld (Val := Elt Ideal) w r0_10 (ix4 0 0 k d) = w (ix4 1 1 k d) := fun k => ld_apply w 1 1 _ k d
  have e11 : ∀ k, View.ld (Val := Elt Ideal) w r0_11 (ix4 0 0 k d) = w (ix4 1 2 k d) := fun k => ld_apply w 1 2 _ k d
  have e12 : ∀ k, View.ld (Val := Elt Ideal) w r0_12 (ix4 0 0 k d) = w (ix4 2 0 k d) := fun k => ld_apply w 2 0 _ k d
  have e13 : ∀ k, View.ld (Val := Elt Ideal) w r0_13 (ix4 0 0 k d) = w (ix4 2 1 k d) := fun k => ld_apply w 2 1 _ k d
  have e14 : ∀ k, View.ld (Val := Elt Ideal) w r0_14 (ix4 0 0 k d) = w (ix4 2 2 k d) := fun k => ld_apply w 2 2 _ k d
  generalize View.ld (Val := Elt Ideal) w r0_6 = w6 at *
  generalize View.ld (Val := Elt Ideal) w r0_7 = w7 at *
  generalize View.ld (Val := Elt Ideal) w r0_8 = w8 at *
  generalize View.ld (Val := Elt Ideal) w r0_9 = w9 at *
  generalize View.ld (Val := Elt Ideal) w r0_10 = w10 at *
  generalize View.ld (Val := Elt Ideal) w r0_11 = w11 at *
  generalize View.ld (Val := Elt Ideal) w r0_12 = w12 at *
  generalize View.ld (Val := Elt Ideal) w r0_13 = w13 at *
  generalize View.ld (Val := Elt Ideal) w r0_14 = w14 at *
  pointwise [k0_pay6, k0_pay7, k0_pay8]
  simp only [e6, e7, e8, e9, e10, e11, e12, e13, e14, Fin.sum_univ_three]
  simp only [← add_assoc]
  simp only [Fin.val_zero, Fin.val_one, Fin.val_two, zero_add]

variable (a0 : Vec Ideal S3x200x336x256 .fp8e4m3) (a1 : Vec Ideal S1 .f32) (a2 : Vec Ideal S256x384 .fp8e4m3) (a3 a4 : Vec Ideal S384 .f32)
    (a5 : Vec Ideal S3x3x384x384 .fp8e4m3) (a6 a7 : Vec Ideal S384 .f32) (a8 a9 : Vec Ideal S1 .f32)
    (a10 : Vec Ideal S300x168x384 .fp8e4m3) (a11 : Vec Ideal S1 .f32)

/-- The reference's second result: the quantised map. -/
theorem G13_apply (R : Fin 600) (x : Fin 336) (d : Fin 384) :
    Value.G13 (F := Ideal) a0 a1 a2 a3 a4 a5 a6 a7 a8 a9 a10 a11 (ix3 R x d)
      = (argsOf a0 a1 a2 a3 a4 a5 a6 a7 a8 a9 (half2 a10) a11).code ⟨R.val / 200, by omega⟩ ⟨R.val % 200, by omega⟩ x d := by
  rw [← pay2_apply]
  unfold Value.G13
  pointwise [k0_pay3]

/-- A load of the whole of an array is the array. -/
theorem pay10_apply (n : Fin 3) (h : Fin 200) (x : Fin 336) (d : Fin 384) :
    k0_pay10 (F := Ideal) a0 a1 a2 a3 a4 a5 a6 a7 a8 a9 a10 a11 (ix4 n h x d)
      = (argsOf a0 a1 a2 a3 a4 a5 a6 a7 a8 a9 (half2 a10) a11).code n h x d := by
  rw [← pay2_apply]
  unfold k0_pay10
  rw [View.ld_unit_zero (S := S3x200x336x256) (by decide) _ a0, View.ld_unit_zero (S := S256x384) (by decide) _ a2,
    View.ld_unit_zero (S := S1) (by decide) _ a1, View.ld_unit_zero (S := S384) (by decide) _ a3, View.ld_unit_zero (S := S384) (by decide) _ a4,
    View.ld_unit_zero (S := S300x168x384) (by decide) _ a10, View.ld_unit_zero (S := S1) (by decide) _ a11, View.ld_unit_zero (S := S1) (by decide) _ a9]
  pointwise [k0_pay4]

/-- The reference's first result: the convolution. -/
theorem G12_apply (R : Fin 600) (x : Fin 336) (d : Fin 384) :
    Value.G12 (F := Ideal) a0 a1 a2 a3 a4 a5 a6 a7 a8 a9 a10 a11 (ix3 R x d)
      = (argsOf a0 a1 a2 a3 a4 a5 a6 a7 a8 a9 (half2 a10) a11).out ⟨R.val / 200, by omega⟩ ⟨R.val % 200, by omega⟩ x d := by
  unfold Value.G12
  have ht := taps_apply (k0_pay10 (F := Ideal) a0 a1 a2 a3 a4 a5 a6 a7 a8 a9 a10 a11) a5 ⟨R.val / 200, by omega⟩ ⟨R.val % 200, by omega⟩ x d
  have hp : ∀ (n : Fin 3) (i : Fin 202) (j : Fin 338) (k : Fin 384), k0_pay5 (k0_pay10 (F := Ideal) a0 a1 a2 a3 a4 a5 a6 a7 a8 a9 a10 a11) (ix4 n i j k)
      = (argsOf a0 a1 a2 a3 a4 a5 a6 a7 a8 a9 (half2 a10) a11).pad n i.val j.val k := fun n i j k => by
    rw [pay5_apply]; unfold Args.pad; simp only [pay10_apply]
  simp only [hp] at ht
  generalize k0_pay8 (F := Ideal) _ _ _ _ _ _ _ _ = y at ht
  pointwise [k0_pay1, k0_pay9]
  rw [ht]
  unfold Args.out
  refine congrArg (fun z => z * _ + _) ?_
  refine Finset.sum_congr rfl fun i _ => Finset.sum_congr rfl fun j _ => Finset.sum_congr rfl fun k _ => ?_
  rw [Nat.add_comm i.val, Nat.add_comm j.val]
  rfl

end Cert.ReferenceIdeal.Hand

end
-- ==== Proof.Value.lean ====
/-
  The two runs meet: the kernel's results and the reference's, from equal arguments, are the same functions.
-/
module

public import proofs.«01_k».proof.Proof.KernelMath
public import proofs.«01_k».proof.Proof.RefMath

@[expose] public section

noncomputable section

namespace Cert.KernelIdeal.Hand

open Cert.KernelIdeal Cert.KernelIdeal.Gen Cert.Math
open Idealize.ShloMosaic Idealize.ShloMosaic.TcCoe Idealize.ShloMosaic.Pointwise Idealize.SL.Sem

variable (m : (ℓ : Loc nD τ sig) → Buf (Elt Ideal) ℓ) (ρ : Dev nD → PrngReg)

/-- The kernel's run: both results, and the arguments as launched. -/
theorem run_values : θ_run defs (onTc (τ := τ) (main (F := Ideal))) ⟨m, fun _ => 0, ρ⟩ (fun r => ∀ c : Dev nD,
    r.2.mem ((c : Thread nD τ).loc main_v6_0) = Gp m c
    ∧ r.2.mem ((c : Thread nD τ).loc main_v6_1) = Gq m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)) := by
  refine (θ_run _ _ _).mono (fun r h c => ⟨h.1.2 c main_v6_0 (by decide), ((h.1.1 c).1 12).trans (final12 m c), args_of m r h.1 c⟩) (run_main m ρ)

/-- The first results agree. -/
theorem out_eq (c : Dev nD) : (Gp m c : Vec Ideal S600x336x384 .bf16)
    = Cert.ReferenceIdeal.Value.G12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext j
  rw [eq_ix3 j]
  exact (Gp_apply m c (j 0) (j 1) (j 2)).trans (Cert.ReferenceIdeal.Hand.G12_apply _ _ _ _ _ _ _ _ _ _ _ _ (j 0) (j 1) (j 2)).symm

/-- The second results agree. -/
theorem code_eq (c : Dev nD) : (Gq m c : Vec Ideal S600x336x384 .fp8e4m3)
    = Cert.ReferenceIdeal.Value.G13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext j
  rw [eq_ix3 j]
  exact (Cert.ReferenceIdeal.Hand.G13_apply _ _ _ _ _ _ _ _ _ _ _ _ (j 0) (j 1) (j 2)).symm

end Cert.KernelIdeal.Hand

end
-- ==== Proof.BlockMath3.lean ====
/-
  What one block of the kernel computes over the extended reals, at every index.

  `bcode` is the quantised merged map of a block, in coordinates of the block. `codesV` holds it (`codesV_at`), a row
  of the convolution's operands holds its three shifts with zeros at the ends (`xrowV_apply`), and a product over the
  3456 lanes of three operand rows is the sum over the nine taps (`convV_at`).
-/
module

public import proofs.«01_k».proof.Proof.Body3
public import proofs.«01_k».proof.Proof.Math

@[expose] public section

set_option maxRecDepth 16384

noncomputable section

namespace Cert.Kernel3Ideal.Hand

open Cert.Kernel3Ideal Cert.Kernel3Ideal.Gen Cert.Math Cert.Rows
open Idealize.ShloMosaic Idealize.ShloMosaic.Pointwise

/-! ## The parts of a row -/

theorem merged_apply (c : ℕ) (hc : c < 3) (sc bi : FVec Ideal S1x384 .f32) (y : FVec Ideal S168x512 .f32) (u : Vec Ideal S1x1x168x128 .f32) (p : Fin 168) (q : Fin 128) :
    merged lv (F := Ideal) c hc sc bi y u (ix2 p q)
      = y (ix2 p ⟨128 * c + q.val, by omega⟩) * sc (ix2 0 ⟨128 * c + q.val, by omega⟩) + bi (ix2 0 ⟨128 * c + q.val, by omega⟩) + u (ix4 0 0 p q) := by
  pointwise [merged]

theorem latDot_apply (w : Vec Ideal S512x384 .fp8e4m3) (w' : Vec Ideal S512x128 .fp8e4m3) (x : Vec Ideal S1x168x512 .fp8e4m3) (p : Fin 168) (j : Fin 512) (hj : j.val < 384) :
    latDot lv (F := Ideal) w w' x (ix2 p j) = ∑ k : Fin 512, x (ix3 0 p k) * w (ix2 k ⟨j.val, hj⟩) := by
  pointwise [latDot]
  simp only [hj, dif_pos]

theorem clipped_apply (inv : Elt Ideal .f32) (v : FVec Ideal S168x128 .f32) (j : S168x128.Idx) :
    clipped lv (F := Ideal) inv v j = min (Ideal.ofBits .f32 0x43E00000#32) (max (Ideal.ofBits .f32 0xC3E00000#32) (v j * inv)) := by
  pointwise [clipped]

theorem deqChunk_apply (c : ℕ) (hc : c < 3) (qs : Elt Ideal .f32) (v : Vec Ideal S1x84x384 .fp8e4m3) (p : Fin 84) (q : Fin 128) :
    deqChunk lv (F := Ideal) c hc (deq lv qs v) (ix2 p q) = v (ix3 0 p ⟨128 * c + q.val, by omega⟩) * qs := by
  pointwise [deqChunk, deq]

theorem upV_at (qs : Elt Ideal .f32) (Q : Vec Ideal S5x84x384 .fp8e4m3) (u : Fin 5) (ch : Fin 3) (p : Fin 168) (q : Fin 128) :
    upV lv (F := Ideal) qs Q (ix4 u ch p q) = Q (ix3 u ⟨p.val / 2, by omega⟩ ⟨128 * ch.val + q.val, by omega⟩) * qs := by
  refine (upV_apply lv qs Q _ u.isLt ch.isLt ⟨p.val / 2, by show _ < 84; omega⟩ q rfl rfl rfl rfl).trans
    ((deqChunk_apply ch.val ch.isLt qs _ ⟨p.val / 2, by omega⟩ q).trans (congrArg (fun z => Q z * qs) ?_))
  funext a
  apply Fin.ext
  match a with
  | 0 => show u.val + 1 * 0 = u.val; omega
  | 1 => show 0 + 1 * (p.val / 2) = p.val / 2; omega
  | 2 => show 0 + 1 * (128 * ch.val + q.val) = 128 * ch.val + q.val; omega

/-! ## A block of codes -/

section
variable (K : Consts Ideal) (W : Vec Ideal S512x384 .fp8e4m3) (C : Vec Ideal S10x168x512 .fp8e4m3) (qs : Elt Ideal .f32) (Q : Vec Ideal S5x84x384 .fp8e4m3)

/-- The quantised merged map of a block. -/
def bcode (r : Fin 10) (x : Fin 168) (d : Fin 384) : EReal :=
  min (Ideal.ofBits .f32 0x43E00000#32) (max (Ideal.ofBits .f32 0xC3E00000#32)
    (((∑ k : Fin 512, C (ix3 r x k) * W (ix2 k d)) * K.sc (ix2 0 d) + K.bi (ix2 0 d) + Q (ix3 ⟨r.val / 2, by omega⟩ ⟨x.val / 2, by omega⟩ d) * qs) * K.inv))

theorem qv_apply (r ch : ℕ) (hr : r < 10) (hu : r / 2 < 5) (hc : ch < 3) (p : Fin 168) (q : Fin 128) (d : Fin 384) (hd : d.val = 128 * ch + q.val) :
    qv lv (F := Ideal) K W C (upV lv qs Q) r (r / 2) ch hr hu hc (ix2 p q) = bcode K W C qs Q ⟨r, hr⟩ p d := by
  have ed : (⟨128 * ch + q.val, by omega⟩ : Fin 384) = d := Fin.ext hd.symm
  unfold qv bcode
  rw [clipped_apply, merged_apply, latDot_apply _ _ _ _ _ (by show 128 * ch + q.val < 384; omega), ed]
  have eC : ∀ k : Fin 512, C ((rC lv r hr).toLoadRect.idx (ix3 (0 : Fin 1) p k)) = C (ix3 ⟨r, hr⟩ p k) := fun k => congrArg C (by
    funext a
    apply Fin.ext
    match a with
    | 0 => show r + 1 * 0 = r; omega
    | 1 => show 0 + 1 * p.val = p.val; omega
    | 2 => show 0 + 1 * k.val = k.val; omega)
  have eW : ∀ k : Fin 512, W ((Rect.unit (s := S512x384) ![0, 0] S512x384.size inb_S512x384_S512x384_0_0).toLoadRect.idx (ix2 k d)) = W (ix2 k d) := fun k => congrArg W (by
    funext a
    apply Fin.ext
    match a with
    | 0 => show 0 + 1 * k.val = k.val; omega
    | 1 => show 0 + 1 * d.val = d.val; omega)
  have eU : upV lv qs Q ((rU lv (r / 2) ch hu hc).toLoadRect.idx (ix4 (0 : Fin 1) (0 : Fin 1) p q)) = upV lv qs Q (ix4 ⟨r / 2, hu⟩ ⟨ch, hc⟩ p q) := congrArg (upV lv qs Q) (by
    funext a
    apply Fin.ext
    match a with
    | 0 => show r / 2 + 1 * 0 = r / 2; omega
    | 1 => show ch + 1 * 0 = ch; omega
    | 2 => show 0 + 1 * p.val = p.val; omega
    | 3 => show 0 + 1 * q.val = q.val; omega)
  have eU' := eU.trans (upV_at qs Q ⟨r / 2, hu⟩ ⟨ch, hc⟩ p q)
  simp only [ed] at eU'
  simp only [eC, eW, eU']

theorem codesV_at (r : Fin 10) (x : Fin 168) (d : Fin 384) : codesV lv (F := Ideal) K W C (upV lv qs Q) (ix3 r x d) = bcode K W C qs Q r x d :=
  qv_apply K W C qs Q r.val (d.val / 128) r.isLt (by omega) (by omega) x ⟨d.val % 128, Nat.mod_lt _ (by omega)⟩ d (by show d.val = 128 * (d.val / 128) + d.val % 128; omega)

theorem xrowV_apply (r p l : ℕ) (hr : r < 10) (hp : p < 192) (hl : l < 1152) (j : Fin 3) (d : Fin 384) (h : l = 384 * j.val + d.val) :
    xrowV lv (F := Ideal) K W C (upV lv qs Q) r hr p l hp hl
      = if hh : 1 ≤ p + j.val ∧ p + j.val ≤ 168 then bcode K W C qs Q ⟨r, hr⟩ ⟨p + j.val - 1, by omega⟩ d else 0 := by
  have hj : l / 384 = j.val := by omega
  have hd : l % 384 = d.val := by omega
  show quantV lv (F := Ideal) K W C (upV lv qs Q) r hr (ix4 (0 : Fin 2) ⟨l % 384 / 128, by omega⟩ ⟨p + 7 + l / 384, by show _ < 208; omega⟩ ⟨l % 128, Nat.mod_lt _ (by omega)⟩) = _
  by_cases hh : 1 ≤ p + j.val ∧ p + j.val ≤ 168
  · rw [dif_pos hh]
    refine (dif_pos (show 8 ≤ p + 7 + l / 384 ∧ p + 7 + l / 384 < 176 by omega)).trans ?_
    refine (qv_apply K W C qs Q r (l % 384 / 128) hr (by omega) (by omega) ⟨p + 7 + l / 384 - 8, by omega⟩ ⟨l % 128, Nat.mod_lt _ (by omega)⟩ d
      (by show d.val = 128 * (l % 384 / 128) + l % 128; omega)).trans ?_
    exact congrArg (fun z => bcode K W C qs Q ⟨r, hr⟩ z d) (Fin.ext (show p + 7 + l / 384 - 8 = p + j.val - 1 by omega))
  · rw [dif_neg hh]
    exact (dif_neg (show ¬ (8 ≤ p + 7 + l / 384 ∧ p + 7 + l / 384 < 176) by omega)).trans Ideal.ofBits_zero_f32

end

/-! ## The product -/

theorem outRow_apply (l : ℕ) (hl : l ≤ 192) (so bo : FVec Ideal S1x384 .f32) (y : FVec Ideal S384x384 .f32) (x : Fin 168) (d : Fin 384) :
    outRow lv (F := Ideal) l hl so bo y (ix2 x d) = y (ix2 ⟨l + x.val, by omega⟩ d) * so (ix2 0 d) + bo (ix2 0 d) := by
  pointwise [outRow]

theorem outRow1_apply (so bo : FVec Ideal S1x384 .f32) (y : FVec Ideal S192x384 .f32) (x : Fin 168) (d : Fin 384) :
    outRow1 lv (F := Ideal) so bo y (ix2 x d) = y (ix2 ⟨x.val, by omega⟩ d) * so (ix2 0 d) + bo (ix2 0 d) := by
  pointwise [outRow1]

/-- The left operand of the product at row `y`: lane `1152 a + l` is lane `l` of row `y` of the `a`-th part. -/
theorem convDot_apply (f : Fin 3 → Vec Ideal S2x192x1152 .fp8e4m3) (w : Vec Ideal S3456x384 .fp8e4m3) (y : Fin 384) (d : Fin 384) :
    convDot lv (F := Ideal) (f 0) (f 1) (f 2) w (ix2 y d)
      = ∑ a : Fin 3, ∑ l : Fin 1152, f a (ix3 ⟨y.val / 192, by omega⟩ ⟨y.val % 192, by omega⟩ l) * w (ix2 ⟨1152 * a.val + l.val, by omega⟩ d) := by
  pointwise [convDot]
  rw [sum_rows 3 1152 3456 (by decide)]
  refine Finset.sum_congr rfl fun i _ => Finset.sum_congr rfl fun j _ => congrArg (· * _) ?_
  have hj := j.isLt
  match i with
  | 0 => exact (dif_pos (show 1152 * 0 + j.val < 1152 by omega)).trans (congrArg (fun z => f 0 (ix3 _ _ z)) (Fin.ext (show 1152 * 0 + j.val = j.val by omega)))
  | 1 => exact (dif_neg (show ¬ 1152 * 1 + j.val < 1152 by omega)).trans ((dif_pos (show 1152 * 1 + j.val - 1152 < 1152 by omega)).trans
      (congrArg (fun z => f 1 (ix3 _ _ z)) (Fin.ext (show 1152 * 1 + j.val - 1152 = j.val by omega))))
  | 2 => exact (dif_neg (show ¬ 1152 * 2 + j.val < 1152 by omega)).trans ((dif_neg (show ¬ 1152 * 2 + j.val - 1152 < 1152 by omega)).trans
      (congrArg (fun z => f 2 (ix3 _ _ z)) (Fin.ext (show 1152 * 2 + j.val - 1152 - 1152 = j.val by omega))))

/-- The same of the product of one row, at row `y`: lane `1152 a + l` is lane `l` of row `y` of the `a`-th part. -/
theorem convDot1_apply (f : Fin 3 → Vec Ideal S1x192x1152 .fp8e4m3) (w : Vec Ideal S3456x384 .fp8e4m3) (y : Fin 192) (d : Fin 384) :
    convDot1 lv (F := Ideal) (f 0) (f 1) (f 2) w (ix2 y d)
      = ∑ a : Fin 3, ∑ l : Fin 1152, f a (ix3 0 y l) * w (ix2 ⟨1152 * a.val + l.val, by omega⟩ d) := by
  pointwise [convDot1]
  rw [sum_rows 3 1152 3456 (by decide)]
  refine Finset.sum_congr rfl fun i _ => Finset.sum_congr rfl fun j _ => congrArg (· * _) ?_
  have hj := j.isLt
  match i with
  | 0 => exact (dif_pos (show 1152 * 0 + j.val < 1152 by omega)).trans (congrArg (fun z => f 0 (ix3 _ _ z)) (Fin.ext (show 1152 * 0 + j.val = j.val by omega)))
  | 1 => exact (dif_neg (show ¬ 1152 * 1 + j.val < 1152 by omega)).trans ((dif_pos (show 1152 * 1 + j.val - 1152 < 1152 by omega)).trans
      (congrArg (fun z => f 1 (ix3 _ _ z)) (Fin.ext (show 1152 * 1 + j.val - 1152 = j.val by omega))))
  | 2 => exact (dif_neg (show ¬ 1152 * 2 + j.val < 1152 by omega)).trans ((dif_neg (show ¬ 1152 * 2 + j.val - 1152 < 1152 by omega)).trans
      (congrArg (fun z => f 2 (ix3 _ _ z)) (Fin.ext (show 1152 * 2 + j.val - 1152 - 1152 = j.val by omega))))

/-- The output rows: row `i` from the operand rows `i`, `i + 1`, `i + 2`. -/
theorem convV_at (K : Consts Ideal) (V : Vec Ideal S7x192x1152 .fp8e4m3) (W6 : Vec Ideal S3456x384 .fp8e4m3) (i : Fin 5) (x : Fin 168) (d : Fin 384) :
    convV lv (F := Ideal) K V W6 (ix3 i x d)
      = (∑ a : Fin 3, ∑ j : Fin 3, ∑ k : Fin 384, V (ix3 ⟨i.val + a.val, by omega⟩ ⟨x.val, by omega⟩ ⟨384 * j.val + k.val, by omega⟩)
          * W6 (ix2 ⟨1152 * a.val + (384 * j.val + k.val), by omega⟩ d)) * K.so (ix2 0 d) + K.bo (ix2 0 d) := by
  have hi := i.isLt
  have hx := x.isLt
  by_cases h4 : i.val < 4
  · refine (dif_pos (show i.val < 4 from h4)).trans ?_
    refine (outRow_apply (192 * (i.val % 2)) (by omega) K.so K.bo _ x d).trans (congrArg (fun z => z * K.so (ix2 0 d) + K.bo (ix2 0 d)) ?_)
    refine (convDot_apply (fun a y => V ((rXtwo lv (i.val / 2 * 2 + a.val) (by omega)).toLoadRect.idx y)) _ ⟨192 * (i.val % 2) + x.val, by omega⟩ d).trans ?_
    refine Finset.sum_congr rfl fun a _ => ?_
    rw [sum_rows 3 384 1152 (by decide)]
    refine Finset.sum_congr rfl fun j _ => Finset.sum_congr rfl fun k _ => congrArg₂ (· * ·) (congrArg V ?_) (congrArg W6 ?_)
    · funext b
      apply Fin.ext
      match b with
      | 0 => show i.val / 2 * 2 + a.val + 1 * ((192 * (i.val % 2) + x.val) / 192) = i.val + a.val; omega
      | 1 => show 0 + 1 * ((192 * (i.val % 2) + x.val) % 192) = x.val; omega
      | 2 => show 0 + 1 * (384 * j.val + k.val) = 384 * j.val + k.val; omega
    · funext b
      apply Fin.ext
      match b with
      | 0 => show 0 + 1 * (1152 * a.val + (384 * j.val + k.val)) = 1152 * a.val + (384 * j.val + k.val); omega
      | 1 => show 0 + 1 * d.val = d.val; omega
  · refine (dif_neg (show ¬ i.val < 4 from h4)).trans ?_
    have ei : i.val = 4 := by omega
    refine (outRow1_apply K.so K.bo _ x d).trans (congrArg (fun z => z * K.so (ix2 0 d) + K.bo (ix2 0 d)) ?_)
    refine (convDot1_apply (fun a y => V ((rXrow lv (4 + a.val) (by omega)).toLoadRect.idx y)) _ ⟨x.val, by omega⟩ d).trans ?_
    refine Finset.sum_congr rfl fun a _ => ?_
    rw [sum_rows 3 384 1152 (by decide)]
    refine Finset.sum_congr rfl fun j _ => Finset.sum_congr rfl fun k _ => congrArg₂ (· * ·) (congrArg V ?_) (congrArg W6 ?_)
    · funext b
      apply Fin.ext
      match b with
      | 0 => show 4 + a.val + 1 * 0 = i.val + a.val; omega
      | 1 => show 0 + 1 * x.val = x.val; omega
      | 2 => show 0 + 1 * (384 * j.val + k.val) = 384 * j.val + k.val; omega
    · funext b
      apply Fin.ext
      match b with
      | 0 => show 0 + 1 * (1152 * a.val + (384 * j.val + k.val)) = 1152 * a.val + (384 * j.val + k.val); omega
      | 1 => show 0 + 1 * d.val = d.val; omega

end Cert.Kernel3Ideal.Hand

end
-- ==== Proof.KernelMath3.lean ====
/-
  What the kernel's two results hold, at every index: `Math.Args.code` and `Math.Args.out` of its arguments.

  The blocks of the input windows are read at coordinates, so that a block's quantised map is `Args.code` at the block's
  rows (`bcode_eq`). A row of the convolution's operands is then a row of the padded map (`xrow_eq`), also the row kept
  from the block before and the row of the block after, and the border rows of an image are rows of zeros.
-/
module

public import proofs.«01_k».proof.Proof.Run3
public import proofs.«01_k».proof.Proof.BlockMath3
public import Idealize.ShloMosaic.Lib.Pipeline.ValueKit

@[expose] public section

set_option maxRecDepth 16384

noncomputable section

namespace Cert.Kernel3Ideal.Hand

open Cert.Kernel3Ideal Cert.Kernel3Ideal.Gen Cert.Math Cert.Rows
open Idealize.ShloMosaic Idealize.ShloMosaic.TcCoe Idealize.ShloMosaic.Pointwise Idealize.SL.Sem

variable (m : (ℓ : Loc nD τ sig) → Buf (Elt Ideal) ℓ) (c : Dev nD)

/-- The kernel's arguments on core `c`. -/
def kargs : Args 100 168 512 := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (half3 (m ((c : Thread nD τ).loc main_arg10)))
  (m ((c : Thread nD τ).loc main_arg11))

/-! ## The reshapes before the call -/

theorem V_main_v0 : (V m c main_v0 : Vec Ideal S300x168x512 .fp8e4m3)
    = shapeCast S300x168x512 (m ((c : Thread nD τ).loc main_arg0) : Vec Ideal S3x100x168x512 .fp8e4m3) shapeCasts_S3x100x168x512_S300x168x512 := by
  show StableHlo.after hostOps0 _ (Proc.devRef .tc main_v0) = _
  after_results
  rfl
theorem V_main_v1 : (V m c main_v1 : Vec Ideal S1x384 .f32)
    = shapeCast S1x384 (m ((c : Thread nD τ).loc main_arg3) : Vec Ideal S384 .f32) shapeCasts_S384_S1x384 := by
  show StableHlo.after hostOps0 _ (Proc.devRef .tc main_v1) = _
  after_results
  rfl
theorem V_main_v2 : (V m c main_v2 : Vec Ideal S1x384 .f32)
    = shapeCast S1x384 (m ((c : Thread nD τ).loc main_arg4) : Vec Ideal S384 .f32) shapeCasts_S384_S1x384 := by
  show StableHlo.after hostOps0 _ (Proc.devRef .tc main_v2) = _
  after_results
  rfl
theorem V_main_v3 : (V m c main_v3 : Vec Ideal S3456x384 .fp8e4m3)
    = shapeCast S3456x384 (m ((c : Thread nD τ).loc main_arg5) : Vec Ideal S3x3x384x384 .fp8e4m3) shapeCasts_S3x3x384x384_S3456x384 := by
  show StableHlo.after hostOps0 _ (Proc.devRef .tc main_v3) = _
  after_results
  rfl
theorem V_main_v4 : (V m c main_v4 : Vec Ideal S1x384 .f32)
    = shapeCast S1x384 (m ((c : Thread nD τ).loc main_arg6) : Vec Ideal S384 .f32) shapeCasts_S384_S1x384 := by
  show StableHlo.after hostOps0 _ (Proc.devRef .tc main_v4) = _
  after_results
  rfl
theorem V_main_v5 : (V m c main_v5 : Vec Ideal S1x384 .f32)
    = shapeCast S1x384 (m ((c : Thread nD τ).loc main_arg7) : Vec Ideal S384 .f32) shapeCasts_S384_S1x384 := by
  show StableHlo.after hostOps0 _ (Proc.devRef .tc main_v5) = _
  after_results
  rfl

theorem cast_c (v : Vec Ideal S3x100x168x512 .fp8e4m3) (R : Fin 300) (x : Fin 168) (k : Fin 512) :
    shapeCast S300x168x512 v shapeCasts_S3x100x168x512_S300x168x512 (ix3 R x k) = v (ix4 ⟨R.val / 100, by omega⟩ ⟨R.val % 100, by omega⟩ x k) := by
  pointwise
theorem cast_row (v : Vec Ideal S384 .f32) (d : Fin 384) : shapeCast S1x384 v shapeCasts_S384_S1x384 (ix2 0 d) = v (ix1 d) := by
  pointwise
theorem cast_same (v : Vec Ideal S1x384 .f32) (d : Fin 384) : shapeCast S1x384 v shapeCasts_S1x384_S1x384 (ix2 0 d) = v (ix2 0 d) := by
  pointwise
theorem cast_w (v : Vec Ideal S3x3x384x384 .fp8e4m3) (a j : Fin 3) (k d : Fin 384) (l : Fin 3456) (hl : l.val = 1152 * a.val + (384 * j.val + k.val)) :
    shapeCast S3456x384 v shapeCasts_S3x3x384x384_S3456x384 (ix2 l d) = v (ix4 a j k d) := by
  pointwise
  have e0 : l.val / 1152 = a.val := by omega
  have e1 : l.val / 384 % 3 = j.val := by omega
  have e2 : l.val % 384 = k.val := by omega
  simp only [e0, e1, e2, Fin.eta]

/-! ## Where the blocks lie -/

theorem index0 : ∀ t : Fin cfg0.N, win0_0.index t = ![min t.val 29, 0, 0] := (by decide +kernel : ∀ t : Fin grid0.N, _)
theorem index1 : ∀ t : Fin cfg0.N, win0_1.index t = ![0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0] := (by decide +kernel : ∀ t : Fin grid0.N, _)
theorem index9 : ∀ t : Fin cfg0.N, win0_9.index t = ![0] := (by decide +kernel : ∀ t : Fin grid0.N, _)
theorem index10 : ∀ t : Fin cfg0.N, win0_10.index t = ![min t.val 29, 0, 0] := (by decide +kernel : ∀ t : Fin grid0.N, _)
theorem index11 : ∀ t : Fin cfg0.N, win0_11.index t = ![0] := (by decide +kernel : ∀ t : Fin grid0.N, _)
theorem index12 : ∀ t : Fin cfg0.N, win0_12.index t = ![min t.val 29, 0, 0] := (by decide +kernel : ∀ t : Fin grid0.N, _)

/-- The bit is on except at the first point of an image. -/
theorem keep_iff : ∀ t : Fin cfg0.N, keepBit (grid0.coords t) = 1#1 ↔ t.val % 10 ≠ 0 := (by decide +kernel : ∀ t : Fin grid0.N, _)

/-! ## The blocks at coordinates -/

theorem bC_apply (t : Fin cfg0.N) (r : Fin 10) (x : Fin 168) (k : Fin 512) (R : Fin 300) (hR : R.val = 10 * min t.val 29 + r.val) :
    bC m c t (ix3 r x k) = (kargs m c).c ⟨R.val / 100, by omega⟩ ⟨R.val % 100, by omega⟩ x k := by
  have e : (((cfg0.win 0).blk t).view.emb (ix3 r x k) : S300x168x512.Idx) = ix3 R x k := by
    blk_ext [index0]
  show (V m c main_v0 : Vec Ideal S300x168x512 .fp8e4m3) (((cfg0.win 0).blk t).view.emb (ix3 r x k)) = _
  rw [e, V_main_v0, cast_c]
  rfl

theorem bcs_apply (t : Fin cfg0.N) : bcs m c t (ix1 0) = (kargs m c).cs := by
  have e : (((cfg0.win 1).blk t).view.emb (ix1 0) : S1.Idx) = ix1 0 := by
    blk_ext [index1]
  show V m c main_arg1 (((cfg0.win 1).blk t).view.emb (ix1 0)) = _
  rw [e, V_main_arg1]
  rfl
theorem bW_apply (t : Fin cfg0.N) (k : Fin 512) (d : Fin 384) : bW m c t (ix2 k d) = (kargs m c).w k d := by
  have e : (((cfg0.win 2).blk t).view.emb (ix2 k d) : S512x384.Idx) = ix2 k d := by
    blk_ext [index2]
  show V m c main_arg2 (((cfg0.win 2).blk t).view.emb (ix2 k d)) = _
  rw [e, V_main_arg2]
  rfl
theorem bs4_apply (t : Fin cfg0.N) (d : Fin 384) : bs4 m c t (ix2 0 d) = (kargs m c).s d := by
  have e : (((cfg0.win 3).blk t).view.emb (ix2 0 d) : S1x384.Idx) = ix2 0 d := by
    blk_ext [index3]
  show V m c main_v1 (((cfg0.win 3).blk t).view.emb (ix2 0 d)) = _
  rw [e, V_main_v1, cast_row]
  rfl
theorem bb5_apply (t : Fin cfg0.N) (d : Fin 384) : bb5 m c t (ix2 0 d) = (kargs m c).b d := by
  have e : (((cfg0.win 4).blk t).view.emb (ix2 0 d) : S1x384.Idx) = ix2 0 d := by
    blk_ext [index4]
  show V m c main_v2 (((cfg0.win 4).blk t).view.emb (ix2 0 d)) = _
  rw [e, V_main_v2, cast_row]
  rfl
theorem bW6_apply (t : Fin cfg0.N) (a j : Fin 3) (k d : Fin 384) (l : Fin 3456) (hl : l.val = 1152 * a.val + (384 * j.val + k.val)) : bW6 m c t (ix2 l d) = (kargs m c).wo a j k d := by
  have e : (((cfg0.win 5).blk t).view.emb (ix2 l d) : S3456x384.Idx) = ix2 l d := by
    blk_ext [index5]
  show V m c main_v3 (((cfg0.win 5).blk t).view.emb (ix2 l d)) = _
  rw [e, V_main_v3, cast_w _ a j k d l hl]
  rfl
theorem bs7_apply (t : Fin cfg0.N) (d : Fin 384) : bs7 m c t (ix2 0 d) = (kargs m c).so d := by
  have e : (((cfg0.win 6).blk t).view.emb (ix2 0 d) : S1x384.Idx) = ix2 0 d := by
    blk_ext [index6]
  show V m c main_v4 (((cfg0.win 6).blk t).view.emb (ix2 0 d)) = _
  rw [e, V_main_v4, cast_row]
  rfl
theorem bb8_apply (t : Fin cfg0.N) (d : Fin 384) : bb8 m c t (ix2 0 d) = (kargs m c).bo d := by
  have e : (((cfg0.win 7).blk t).view.emb (ix2 0 d) : S1x384.Idx) = ix2 0 d := by
    blk_ext [index7]
  show V m c main_v5 (((cfg0.win 7).blk t).view.emb (ix2 0 d)) = _
  rw [e, V_main_v5, cast_row]
  rfl
theorem bms_apply (t : Fin cfg0.N) : bms m c t (ix1 0) = (kargs m c).ms := by
  have e : (((cfg0.win 8).blk t).view.emb (ix1 0) : S1.Idx) = ix1 0 := by
    blk_ext [index8]
  show V m c main_arg8 (((cfg0.win 8).blk t).view.emb (ix1 0)) = _
  rw [e, V_main_arg8]
  rfl
theorem binv_apply (t : Fin cfg0.N) : binv m c t (ix1 0) = (kargs m c).inv := by
  have e : (((cfg0.win 9).blk t).view.emb (ix1 0) : S1.Idx) = ix1 0 := by
    blk_ext [index9]
  show V m c main_arg9 (((cfg0.win 9).blk t).view.emb (ix1 0)) = _
  rw [e, V_main_arg9]
  rfl
theorem bQ_apply (t : Fin cfg0.N) (r : Fin 5) (x : Fin 84) (d : Fin 384) (R : Fin 150) (hR : R.val = 5 * min t.val 29 + r.val) :
    bQ m c t (ix3 r x d) = (m ((c : Thread nD τ).loc main_arg10) : Vec Ideal S150x84x384 .fp8e4m3) (ix3 R x d) := by
  have e : (((cfg0.win 10).blk t).view.emb (ix3 r x d) : S150x84x384.Idx) = ix3 R x d := by
    blk_ext [index10]
  show V m c main_arg10 (((cfg0.win 10).blk t).view.emb (ix3 r x d)) = _
  rw [e, V_main_arg10]
theorem bqs_apply (t : Fin cfg0.N) : bqs m c t (ix1 0) = (kargs m c).qs := by
  have e : (((cfg0.win 11).blk t).view.emb (ix1 0) : S1.Idx) = ix1 0 := by
    blk_ext [index11]
  show V m c main_arg11 (((cfg0.win 11).blk t).view.emb (ix1 0)) = _
  rw [e, V_main_arg11]
  rfl

/-! ## The scales, and a block's quantised map -/

theorem row_idx (d : Fin 384) : (Rect.unit (s := S1x384) ![0, 0] S1x384.size inb_S1x384_S1x384_0_0).toLoadRect.idx (ix2 (0 : Fin 1) d) = ix2 0 d := by
  funext a
  apply Fin.ext
  match a with
  | 0 => show 0 + 1 * 0 = 0; omega
  | 1 => show 0 + 1 * d.val = d.val; omega

section
variable (cs : Vec Ideal S1 .f32) (s4 b5 s7 b8 : Vec Ideal S1x384 .f32) (ms inv : Vec Ideal S1 .f32) (d : Fin 384)
theorem constsV_sc : (constsV cs s4 b5 s7 b8 ms inv).sc (ix2 0 d) = (cs (ix1 0) * s4 (ix2 0 d) : EReal) := by
  refine congrArg (fun z : EReal => (cs (ix1 0) : EReal) * z) ((cast_same _ d).trans (congrArg s4 (row_idx d)))
theorem constsV_bi : (constsV cs s4 b5 s7 b8 ms inv).bi (ix2 0 d) = b5 (ix2 0 d) := by
  exact (cast_same (fun x => b5 ((Rect.unit (s := S1x384) ![0, 0] S1x384.size inb_S1x384_S1x384_0_0).toLoadRect.idx x)) d).trans (congrArg b5 (row_idx d))
theorem constsV_so : (constsV cs s4 b5 s7 b8 ms inv).so (ix2 0 d) = (ms (ix1 0) * s7 (ix2 0 d) : EReal) := by
  refine congrArg (fun z : EReal => (ms (ix1 0) : EReal) * z) ((cast_same _ d).trans (congrArg s7 (row_idx d)))
theorem constsV_bo : (constsV cs s4 b5 s7 b8 ms inv).bo (ix2 0 d) = b8 (ix2 0 d) := by
  exact (cast_same (fun x => b8 ((Rect.unit (s := S1x384) ![0, 0] S1x384.size inb_S1x384_S1x384_0_0).toLoadRect.idx x)) d).trans (congrArg b8 (row_idx d))
end

theorem bK_sc (t : Fin cfg0.N) (d : Fin 384) : (bK m c t).sc (ix2 0 d) = (kargs m c).cs * (kargs m c).s d := by
  unfold bK
  rw [constsV_sc, bs4_apply m c t d, bcs_apply m c t]
theorem bK_bi (t : Fin cfg0.N) (d : Fin 384) : (bK m c t).bi (ix2 0 d) = (kargs m c).b d := by
  unfold bK
  rw [constsV_bi, bb5_apply m c t d]
theorem bK_so (t : Fin cfg0.N) (d : Fin 384) : (bK m c t).so (ix2 0 d) = (kargs m c).ms * (kargs m c).so d := by
  unfold bK
  rw [constsV_so, bs7_apply m c t d, bms_apply m c t]
theorem bK_bo (t : Fin cfg0.N) (d : Fin 384) : (bK m c t).bo (ix2 0 d) = (kargs m c).bo d := by
  unfold bK
  rw [constsV_bo, bb8_apply m c t d]
theorem bK_inv (t : Fin cfg0.N) : (bK m c t).inv = (kargs m c).inv := binv_apply m c t

/-- Row `r` of point `t`'s block is row `R` of the map. -/
theorem bcode_eq (t : Fin cfg0.N) (r : Fin 10) (x : Fin 168) (d : Fin 384) (R : Fin 300) (hR : R.val = 10 * min t.val 29 + r.val) :
    bcode (bK m c t) (bW m c t) (bC m c t) (bqs m c t (ix1 0)) (bQ m c t) r x d
      = (kargs m c).code ⟨R.val / 100, by omega⟩ ⟨R.val % 100, by omega⟩ x d := by
  unfold bcode Args.code Args.map
  rw [bK_sc, bK_bi, bK_inv, bqs_apply,
    bQ_apply m c t ⟨r.val / 2, by omega⟩ ⟨x.val / 2, by omega⟩ d ⟨R.val / 100 * 50 + R.val % 100 / 2, by omega⟩
      (by show R.val / 100 * 50 + R.val % 100 / 2 = 5 * min t.val 29 + r.val / 2; omega)]
  simp only [fun k => bC_apply m c t r x k R hR, bW_apply]
  rfl

/-- A row of the convolution's operands is a row of the padded map, at its three shifts. -/
theorem xrow_eq (t : Fin cfg0.N) (r : ℕ) (hr : r < 10) (p l : ℕ) (hp : p < 192) (hl : l < 1152) (j : Fin 3) (d : Fin 384) (h : l = 384 * j.val + d.val)
    (n : Fin 3) (i : ℕ) (hi : 100 * n.val + i = 10 * min t.val 29 + r + 1) (h1 : 1 ≤ i) (h2 : i ≤ 100) :
    xrowV lv (bK m c t) (bW m c t) (bC m c t) (bU m c t) r hr p l hp hl = (kargs m c).pad n i (p + j.val) d := by
  refine (xrowV_apply (bK m c t) (bW m c t) (bC m c t) (bqs m c t (ix1 0)) (bQ m c t) r p l hr hp hl j d h).trans ?_
  unfold Args.pad
  by_cases hh : 1 ≤ p + j.val ∧ p + j.val ≤ 168
  · rw [dif_pos hh, dif_pos ⟨⟨h1, h2⟩, hh⟩]
    rw [bcode_eq m c t ⟨r, hr⟩ ⟨p + j.val - 1, by omega⟩ d ⟨100 * n.val + i - 1, by omega⟩ (by show 100 * n.val + i - 1 = 10 * min t.val 29 + r; omega)]
    have e0 : (100 * n.val + i - 1) / 100 = n.val := by omega
    have e1 : (100 * n.val + i - 1) % 100 = i - 1 := by omega
    simp only [e0, e1, Fin.eta]
  · rw [dif_neg hh, dif_neg (fun h => hh h.2)]

/-- Row `a` of what the point before `t` kept. -/
theorem Xin_eq (t : ℕ) (h1 : 1 ≤ t) (ht : t ≤ 30) (a : Fin 7) (ha : a.val < 6) (p : Fin 192) (l : Fin 1152) (j : Fin 3) (d : Fin 384) (h : l.val = 384 * j.val + d.val)
    (n : Fin 3) (i : ℕ) (hi : 100 * n.val + i = 10 * (t - 1) + a.val + 4 + 1) (hi1 : 1 ≤ i) (hi2 : i ≤ 100) :
    Xin m c t (ix3 a p l) = (kargs m c).pad n i (p.val + j.val) d := by
  obtain ⟨t, rfl⟩ : ∃ s, t = s + 1 := ⟨t - 1, by omega⟩
  show xbNewV lv (bK m c (pt t)) (bW m c (pt t)) (bC m c (pt t)) (bU m c (pt t)) (ix3 a p l) = _
  refine (dif_pos (show a.val < 6 from ha)).trans ?_
  exact xrow_eq m c (pt t) (a.val + 4) (by omega) p.val l.val p.isLt l.isLt j d h n i (by show _ = 10 * min (min t 30) 29 + _ + 1; omega) hi1 hi2

/-! ## The rows of the first result -/

theorem rows_apply (t : Fin cfg0.N) (V : Vec Ideal S7x192x1152 .fp8e4m3) (i : Fin 5) (n : Fin 3) (h : Fin 100) (x : Fin 168) (d : Fin 384)
    (hV : ∀ (a j : Fin 3) (k : Fin 384), V (ix3 ⟨i.val + a.val, by omega⟩ ⟨x.val, by omega⟩ ⟨384 * j.val + k.val, by omega⟩) = (kargs m c).pad n (h.val + a.val) (x.val + j.val) k) :
    convV lv (bK m c t) V (bW6 m c t) (ix3 i x d) = (kargs m c).out n h x d := by
  rw [convV_at, bK_so, bK_bo]
  unfold Args.out
  refine congrArg (fun z => z * _ + _) ?_
  refine Finset.sum_congr rfl fun a _ => Finset.sum_congr rfl fun j _ => Finset.sum_congr rfl fun k _ => ?_
  rw [hV a j k, bW6_apply m c t a j k d _ rfl]

theorem rowsA_apply (t : Fin cfg0.N) (ht : t.val ≤ 29) (i : Fin 5) (n : Fin 3) (h : Fin 100) (hR : 100 * n.val + h.val = 10 * t.val + i.val) (x : Fin 168) (d : Fin 384) :
    rowsA m c t (ix3 i x d) = (kargs m c).out n h x d := by
  refine rows_apply m c t _ i n h x d fun a j k => ?_
  by_cases h0 : i.val + a.val = 0
  · refine (xaV_0 lv _ _ _ _ _ _ _ (show i.val + a.val = 0 from h0)).trans ?_
    by_cases hk : keepBit (grid0.coords t) = 1#1
    · rw [if_pos hk]
      have := (keep_iff t).mp hk
      exact Xin_eq m c t.val (by omega) (by omega) 5 (by decide) _ _ j k rfl n (h.val + a.val) (by show _ = 10 * (t.val - 1) + 5 + 4 + 1; omega) (by omega) (by omega)
    · rw [if_neg hk, zero8]
      have : t.val % 10 = 0 := by
        by_contra hc
        exact hk ((keep_iff t).mpr hc)
      exact (pad_zero _ _ _ _ _ (by omega)).symm
  · refine (xaV_row lv _ _ _ _ _ _ (i.val + a.val - 1) (by omega) _ (show i.val + a.val = i.val + a.val - 1 + 1 by omega)).trans ?_
    exact xrow_eq m c t (i.val + a.val - 1) (by omega) x.val _ _ _ j k rfl n (h.val + a.val) (by omega) (by omega) (by omega)

theorem rowsB_apply (t : Fin cfg0.N) (h1 : 1 ≤ t.val) (ht : t.val ≤ 30) (i : Fin 5) (n : Fin 3) (h : Fin 100) (hR : 100 * n.val + h.val = 10 * t.val - 5 + i.val) (x : Fin 168) (d : Fin 384) :
    rowsB m c t (ix3 i x d) = (kargs m c).out n h x d := by
  refine rows_apply m c t _ i n h x d fun a j k => ?_
  by_cases h5 : i.val + a.val = 6
  · refine (xbOldV_6 lv _ _ _ _ _ _ _ (show i.val + a.val = 6 from h5)).trans ?_
    by_cases hk : keepBit (grid0.coords t) = 1#1
    · rw [if_pos hk]
      have := (keep_iff t).mp hk
      exact xrow_eq m c t 0 (by omega) x.val _ _ _ j k rfl n (h.val + a.val) (by omega) (by omega) (by omega)
    · rw [if_neg hk, zero8]
      have : t.val % 10 = 0 := by
        by_contra hc
        exact hk ((keep_iff t).mpr hc)
      exact (pad_zero _ _ _ _ _ (by omega)).symm
  · refine (xbOldV_ne lv _ _ _ _ _ _ _ (show i.val + a.val ≠ 6 from h5)).trans ?_
    exact Xin_eq m c t.val h1 ht ⟨i.val + a.val, by omega⟩ (by show i.val + a.val < 6; omega) _ _ j k rfl n (h.val + a.val)
      (by show _ = 10 * (t.val - 1) + (i.val + a.val) + 4 + 1; omega) (by omega) (by omega)

/-- The first result. -/
theorem Gp_apply (R : Fin 300) (x : Fin 168) (d : Fin 384) :
    Gp m c (ix3 R x d) = (kargs m c).out ⟨R.val / 100, by omega⟩ ⟨R.val % 100, by omega⟩ x d := by
  have hR := R.isLt
  by_cases h : R.val % 10 < 5
  · refine (if_pos (show R.val % 10 < 5 from h)).trans ?_
    exact rowsA_apply m c (pt (R.val / 10)) (by show min (R.val / 10) 30 ≤ 29; omega) ⟨R.val % 5, Nat.mod_lt _ (by decide)⟩ _ _
      (by show 100 * (R.val / 100) + R.val % 100 = 10 * min (R.val / 10) 30 + R.val % 5; omega) x d
  · refine (if_neg (show ¬ R.val % 10 < 5 from h)).trans ?_
    exact rowsB_apply m c (pt ((R.val + 5) / 10)) (by show 1 ≤ min ((R.val + 5) / 10) 30; omega) (by show min ((R.val + 5) / 10) 30 ≤ 30; omega) ⟨R.val % 5, Nat.mod_lt _ (by decide)⟩ _ _
      (by show 100 * (R.val / 100) + R.val % 100 = 10 * min ((R.val + 5) / 10) 30 - 5 + R.val % 5; omega) x d

/-! ## The second result -/

/-- The codes as an array. -/
def Gq : Vec Ideal S300x168x384 .fp8e4m3 := fun j =>
  (kargs m c).code ⟨(j 0).val / 100, by have h : (j 0).val < 300 := (j 0).isLt; omega⟩ ⟨(j 0).val % 100, by omega⟩ (j 1) (j 2)

theorem final12 : (dats m 0 c).arrAt 12 cfg0.N = Gq m c := by
  refine (dats m 0 c).arrAt_eq_of_covers 12 _ (by decide +kernel) fun t hf y => ?_
  blk_simp
  rw [after0_12]
  have ey : (y : S10x168x384.Idx) = ix3 (y 0) (y 1) (y 2) := eq_ix3 y
  have h0 : (y 0).val < 10 := (y 0).isLt
  have e : (((win0_12).blk t).view.emb y : S300x168x384.Idx) = ix3 ⟨10 * min t.val 29 + (y 0).val, by omega⟩ (y 1) (y 2) := by
    blk_ext [index12]
  rw [e]
  refine (congrArg (codesB m c t) ey).trans ?_
  refine (codesV_at (bK m c t) (bW m c t) (bC m c t) (bqs m c t (ix1 0)) (bQ m c t) (y 0) (y 1) (y 2)).trans ?_
  exact bcode_eq m c t (y 0) (y 1) (y 2) ⟨10 * min t.val 29 + (y 0).val, by omega⟩ rfl

end Cert.Kernel3Ideal.Hand

end
-- ==== Proof.RefMath3.lean ====
/-
  What the reference's two results hold, at every index: `Math.Args.code` and `Math.Args.out` of its arguments.
-/
module

public import proofs.«01_k».proof.Proof.Gen.Reference3Ideal.Value
public import proofs.«01_k».proof.Proof.Math

@[expose] public section

set_option maxRecDepth 16384

noncomputable section

namespace Cert.Reference3Ideal.Hand

open Cert.Reference3Ideal Cert.Reference3Ideal.Gen Cert.Math Idealize.ShloMosaic Idealize.ShloMosaic.Pointwise

/-- The quantised map, before any of its uses. -/
theorem pay2_apply (a0 : Vec Ideal S3x100x168x512 .fp8e4m3) (a1 : Vec Ideal S1 .f32) (a2 : Vec Ideal S512x384 .fp8e4m3) (a3 a4 : Vec Ideal S384 .f32)
    (a5 : Vec Ideal S3x3x384x384 .fp8e4m3) (a6 a7 : Vec Ideal S384 .f32) (a8 a9 : Vec Ideal S1 .f32)
    (a10 : Vec Ideal S150x84x384 .fp8e4m3) (a11 : Vec Ideal S1 .f32) (n : Fin 3) (h : Fin 100) (x : Fin 168) (d : Fin 384) :
    k0_pay2 (F := Ideal) a0 a2 a1 a3 a4 a10 a11 a9 (ix4 n h x d) = (argsOf a0 a1 a2 a3 a4 a5 a6 a7 a8 a9 (half3 a10) a11).code n h x d := by
  pointwise [k0_pay2]
  rfl

theorem pay5_apply (v : Vec Ideal S3x100x168x384 .bf16) (n : Fin 3) (i : Fin 102) (j : Fin 170) (d : Fin 384) :
    k0_pay5 (F := Ideal) v (ix4 n i j d)
      = if h : (1 ≤ i.val ∧ i.val ≤ 100) ∧ (1 ≤ j.val ∧ j.val ≤ 168) then v (ix4 n ⟨i.val - 1, by omega⟩ ⟨j.val - 1, by omega⟩ d) else 0 := by
  pointwise [k0_pay5]
  have hz : (((0#32 : BitVec 32).toInt : ℝ) : EReal) = 0 := by simp
  rw [hz]
  have := i.isLt
  have := j.isLt
  by_cases hh : (1 ≤ i.val ∧ i.val ≤ 100) ∧ (1 ≤ j.val ∧ j.val ≤ 168)
  · rw [dif_pos hh, dif_pos (by omega), dif_neg (by omega), dif_pos (by omega), dif_neg (by omega)]
  · rw [dif_neg hh]
    split_ifs <;> first | rfl | omega

/-- Part `![i, j, 0, 0]` of the weights is the matrix of tap `(i, j)`. -/
theorem ld_apply (w : Vec Ideal S3x3x384x384 .fp8e4m3) (i j : Fin 3) (h : ∀ a, (![i.val, j.val, 0, 0] : Fin 4 → ℕ) a + S1x1x384x384.size a ≤ S3x3x384x384.size a)
    (k d : Fin 384) :
    View.ld (Val := Elt Ideal) w (Rect.unit (s := S3x3x384x384) ![i.val, j.val, 0, 0] S1x1x384x384.size h) (ix4 0 0 k d) = w (ix4 i j k d) := by
  refine congrArg w ?_
  funext a
  apply Fin.ext
  match a with
  | 0 => show i.val + 1 * 0 = i.val; omega
  | 1 => show j.val + 1 * 0 = j.val; omega
  | 2 => show 0 + 1 * k.val = k.val; omega
  | 3 => show 0 + 1 * d.val = d.val; omega

/-- The nine products, over the padded map. -/
theorem taps_apply (v : Vec Ideal S3x100x168x384 .bf16) (w : Vec Ideal S3x3x384x384 .fp8e4m3) (n : Fin 3) (h : Fin 100) (x : Fin 168) (d : Fin 384) :
    k0_pay8 (F := Ideal) (k0_pay5 v) (k0_pay6 v (View.ld w r0_6) (View.ld w r0_7) (View.ld w r0_8) (View.ld w r0_9)) (k0_pay7 v)
        (View.ld w r0_10) (View.ld w r0_11) (View.ld w r0_12) (View.ld w r0_13) (View.ld w r0_14) (ix4 n h x d)
      = ∑ i : Fin 3, ∑ j : Fin 3, ∑ k : Fin 384,
          k0_pay5 (F := Ideal) v (ix4 n ⟨i.val + h.val, by omega⟩ ⟨j.val + x.val, by omega⟩ k) * w (ix4 i j k d) := by
  have e6 : ∀ k, View.ld (Val := Elt Ideal) w r0_6 (ix4 0 0 k d) = w (ix4 0 0 k d) := fun k => ld_apply w 0 0 _ k d
  have e7 : ∀ k, View.ld (Val := Elt Ideal) w r0_7 (ix4 0 0 k d) = w (ix4 0 1 k d) := fun k => ld_apply w 0 1 _ k d
  have e8 : ∀ k, View.ld (Val := Elt Ideal) w r0_8 (ix4 0 0 k d) = w (ix4 0 2 k d) := fun k => ld_apply w 0 2 _ k d
  have e9 : ∀ k, View.ld (Val := Elt Ideal) w r0_9 (ix4 0 0 k d) = w (ix4 1 0 k d) := fun k => ld_apply w 1 0 _ k d
  have e10 : ∀ k, View.ld (Val := Elt Ideal) w r0_10 (ix4 0 0 k d) = w (ix4 1 1 k d) := fun k => ld_apply w 1 1 _ k d
  have e11 : ∀ k, View.ld (Val := Elt Ideal) w r0_11 (ix4 0 0 k d) = w (ix4 1 2 k d) := fun k => ld_apply w 1 2 _ k d
  have e12 : ∀ k, View.ld (Val := Elt Ideal) w r0_12 (ix4 0 0 k d) = w (ix4 2 0 k d) := fun k => ld_apply w 2 0 _ k d
  have e13 : ∀ k, View.ld (Val := Elt Ideal) w r0_13 (ix4 0 0 k d) = w (ix4 2 1 k d) := fun k => ld_apply w 2 1 _ k d
  have e14 : ∀ k, View.ld (Val := Elt Ideal) w r0_14 (ix4 0 0 k d) = w (ix4 2 2 k d) := fun k => ld_apply w 2 2 _ k d
  generalize View.ld (Val := Elt Ideal) w r0_6 = w6 at *
  generalize View.ld (Val := Elt Ideal) w r0_7 = w7 at *
  generalize View.ld (Val := Elt Ideal) w r0_8 = w8 at *
  generalize View.ld (Val := Elt Ideal) w r0_9 = w9 at *
  generalize View.ld (Val := Elt Ideal) w r0_10 = w10 at *
  generalize View.ld (Val := Elt Ideal) w r0_11 = w11 at *
  generalize View.ld (Val := Elt Ideal) w r0_12 = w12 at *
  generalize View.ld (Val := Elt Ideal) w r0_13 = w13 at *
  generalize View.ld (Val := Elt Ideal) w r0_14 = w14 at *
  pointwise [k0_pay6, k0_pay7, k0_pay8]
  simp only [e6, e7, e8, e9, e10, e11, e12, e13, e14, Fin.sum_univ_three]
  simp only [← add_assoc]
  simp only [Fin.val_zero, Fin.val_one, Fin.val_two, zero_add]

variable (a0 : Vec Ideal S3x100x168x512 .fp8e4m3) (a1 : Vec Ideal S1 .f32) (a2 : Vec Ideal S512x384 .fp8e4m3) (a3 a4 : Vec Ideal S384 .f32)
    (a5 : Vec Ideal S3x3x384x384 .fp8e4m3) (a6 a7 : Vec Ideal S384 .f32) (a8 a9 : Vec Ideal S1 .f32)
    (a10 : Vec Ideal S150x84x384 .fp8e4m3) (a11 : Vec Ideal S1 .f32)

/-- The reference's second result: the quantised map. -/
theorem G13_apply (R : Fin 300) (x : Fin 168) (d : Fin 384) :
    Value.G13 (F := Ideal) a0 a1 a2 a3 a4 a5 a6 a7 a8 a9 a10 a11 (ix3 R x d)
      = (argsOf a0 a1 a2 a3 a4 a5 a6 a7 a8 a9 (half3 a10) a11).code ⟨R.val / 100, by omega⟩ ⟨R.val % 100, by omega⟩ x d := by
  rw [← pay2_apply]
  unfold Value.G13
  pointwise [k0_pay3]

/-- A load of the whole of an array is the array. -/
theorem pay10_apply (n : Fin 3) (h : Fin 100) (x : Fin 168) (d : Fin 384) :
    k0_pay10 (F := Ideal) a0 a1 a2 a3 a4 a5 a6 a7 a8 a9 a10 a11 (ix4 n h x d)
      = (argsOf a0 a1 a2 a3 a4 a5 a6 a7 a8 a9 (half3 a10) a11).code n h x d := by
  rw [← pay2_apply]
  unfold k0_pay10
  rw [View.ld_unit_zero (S := S3x100x168x512) (by decide) _ a0, View.ld_unit_zero (S := S512x384) (by decide) _ a2,
    View.ld_unit_zero (S := S1) (by decide) _ a1, View.ld_unit_zero (S := S384) (by decide) _ a3, View.ld_unit_zero (S := S384) (by decide) _ a4,
    View.ld_unit_zero (S := S150x84x384) (by decide) _ a10, View.ld_unit_zero (S := S1) (by decide) _ a11, View.ld_unit_zero (S := S1) (by decide) _ a9]
  pointwise [k0_pay4]

/-- The reference's first result: the convolution. -/
theorem G12_apply (R : Fin 300) (x : Fin 168) (d : Fin 384) :
    Value.G12 (F := Ideal) a0 a1 a2 a3 a4 a5 a6 a7 a8 a9 a10 a11 (ix3 R x d)
      = (argsOf a0 a1 a2 a3 a4 a5 a6 a7 a8 a9 (half3 a10) a11).out ⟨R.val / 100, by omega⟩ ⟨R.val % 100, by omega⟩ x d := by
  unfold Value.G12
  have ht := taps_apply (k0_pay10 (F := Ideal) a0 a1 a2 a3 a4 a5 a6 a7 a8 a9 a10 a11) a5 ⟨R.val / 100, by omega⟩ ⟨R.val % 100, by omega⟩ x d
  have hp : ∀ (n : Fin 3) (i : Fin 102) (j : Fin 170) (k : Fin 384), k0_pay5 (k0_pay10 (F := Ideal) a0 a1 a2 a3 a4 a5 a6 a7 a8 a9 a10 a11) (ix4 n i j k)
      = (argsOf a0 a1 a2 a3 a4 a5 a6 a7 a8 a9 (half3 a10) a11).pad n i.val j.val k := fun n i j k => by
    rw [pay5_apply]; unfold Args.pad; simp only [pay10_apply]
  simp only [hp] at ht
  generalize k0_pay8 (F := Ideal) _ _ _ _ _ _ _ _ = y at ht
  pointwise [k0_pay1, k0_pay9]
  rw [ht]
  unfold Args.out
  refine congrArg (fun z => z * _ + _) ?_
  refine Finset.sum_congr rfl fun i _ => Finset.sum_congr rfl fun j _ => Finset.sum_congr rfl fun k _ => ?_
  rw [Nat.add_comm i.val, Nat.add_comm j.val]
  rfl

end Cert.Reference3Ideal.Hand

end
-- ==== Proof.Value3.lean ====
/-
  The two runs meet: the kernel's results and the reference's, from equal arguments, are the same functions.
-/
module

public import proofs.«01_k».proof.Proof.KernelMath3
public import proofs.«01_k».proof.Proof.RefMath3

@[expose] public section

noncomputable section

namespace Cert.Kernel3Ideal.Hand

open Cert.Kernel3Ideal Cert.Kernel3Ideal.Gen Cert.Math Cert.Rows
open Idealize.ShloMosaic Idealize.ShloMosaic.TcCoe Idealize.ShloMosaic.Pointwise Idealize.SL.Sem

variable (m : (ℓ : Loc nD τ sig) → Buf (Elt Ideal) ℓ) (ρ : Dev nD → PrngReg)

/-- The kernel's run: both results, and the arguments as launched. -/
theorem run_values : θ_run defs (onTc (τ := τ) (main (F := Ideal))) ⟨m, fun _ => 0, ρ⟩ (fun r => ∀ c : Dev nD,
    r.2.mem ((c : Thread nD τ).loc main_v6_0) = Gp m c
    ∧ r.2.mem ((c : Thread nD τ).loc main_v6_1) = Gq m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)) := by
  refine (θ_run _ _ _).mono (fun r h c => ⟨h.1.2 c main_v6_0 (by decide), ((h.1.1 c).1 12).trans (final12 m c), args_of m r h.1 c⟩) (run_main m ρ)

/-- The first results agree. -/
theorem out_eq (c : Dev nD) : (Gp m c : Vec Ideal S300x168x384 .bf16)
    = Cert.Reference3Ideal.Value.G12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext j
  rw [eq_ix3 j]
  exact (Gp_apply m c (j 0) (j 1) (j 2)).trans (Cert.Reference3Ideal.Hand.G12_apply _ _ _ _ _ _ _ _ _ _ _ _ (j 0) (j 1) (j 2)).symm

/-- The second results agree. -/
theorem code_eq (c : Dev nD) : (Gq m c : Vec Ideal S300x168x384 .fp8e4m3)
    = Cert.Reference3Ideal.Value.G13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext j
  rw [eq_ix3 j]
  exact (Cert.Reference3Ideal.Hand.G13_apply _ _ _ _ _ _ _ _ _ _ _ _ (j 0) (j 1) (j 2)).symm

end Cert.Kernel3Ideal.Hand

end
-- ==== Proof.BlockMath4.lean ====
/-
  What one block of the kernel computes over the extended reals, at every index.

  `bcode` is the quantised merged map of a block, in coordinates of the block. `codesV` holds it (`codesV_at`), a row
  of the convolution's operands holds its three shifts with zeros at the ends (`xrowV_apply`), and a product over the
  3456 lanes of three operand rows is the sum over the nine taps (`convV_at`).
-/
module

public import proofs.«01_k».proof.Proof.Body4
public import proofs.«01_k».proof.Proof.Math

@[expose] public section

set_option maxRecDepth 16384

noncomputable section

namespace Cert.Kernel4Ideal.Hand

open Cert.Kernel4Ideal Cert.Kernel4Ideal.Gen Cert.Math Cert.Rows
open Idealize.ShloMosaic Idealize.ShloMosaic.Pointwise

/-! ## The parts of a row -/

theorem merged_apply (c : ℕ) (hc : c < 3) (sc bi : FVec Ideal S1x384 .f32) (y : FVec Ideal S84x512 .f32) (u : Vec Ideal S1x1x84x128 .f32) (p : Fin 84) (q : Fin 128) :
    merged lv (F := Ideal) c hc sc bi y u (ix2 p q)
      = y (ix2 p ⟨128 * c + q.val, by omega⟩) * sc (ix2 0 ⟨128 * c + q.val, by omega⟩) + bi (ix2 0 ⟨128 * c + q.val, by omega⟩) + u (ix4 0 0 p q) := by
  pointwise [merged]

theorem latDot_apply (w : Vec Ideal S1024x384 .fp8e4m3) (w' : Vec Ideal S1024x128 .fp8e4m3) (x : Vec Ideal S1x84x1024 .fp8e4m3) (p : Fin 84) (j : Fin 512) (hj : j.val < 384) :
    latDot lv (F := Ideal) w w' x (ix2 p j) = ∑ k : Fin 1024, x (ix3 0 p k) * w (ix2 k ⟨j.val, hj⟩) := by
  pointwise [latDot]
  simp only [hj, dif_pos]

theorem clipped_apply (inv : Elt Ideal .f32) (v : FVec Ideal S84x128 .f32) (j : S84x128.Idx) :
    clipped lv (F := Ideal) inv v j = min (Ideal.ofBits .f32 0x43E00000#32) (max (Ideal.ofBits .f32 0xC3E00000#32) (v j * inv)) := by
  pointwise [clipped]

theorem deqChunk_apply (c : ℕ) (hc : c < 3) (qs : Elt Ideal .f32) (v : Vec Ideal S1x42x384 .fp8e4m3) (p : Fin 42) (q : Fin 128) :
    deqChunk lv (F := Ideal) c hc (deq lv qs v) (ix2 p q) = v (ix3 0 p ⟨128 * c + q.val, by omega⟩) * qs := by
  pointwise [deqChunk, deq]

theorem upV_at (qs : Elt Ideal .f32) (Q : Vec Ideal S5x42x384 .fp8e4m3) (u : Fin 5) (ch : Fin 3) (p : Fin 84) (q : Fin 128) :
    upV lv (F := Ideal) qs Q (ix4 u ch (⟨p.val, by omega⟩ : Fin 88) q) = Q (ix3 u ⟨p.val / 2, by omega⟩ ⟨128 * ch.val + q.val, by omega⟩) * qs := by
  refine (upV_apply lv qs Q _ u.isLt ch.isLt ⟨p.val / 2, by show _ < 42; omega⟩ q rfl rfl rfl rfl).trans
    ((deqChunk_apply ch.val ch.isLt qs _ ⟨p.val / 2, by omega⟩ q).trans (congrArg (fun z => Q z * qs) ?_))
  funext a
  apply Fin.ext
  match a with
  | 0 => show u.val + 1 * 0 = u.val; omega
  | 1 => show 0 + 1 * (p.val / 2) = p.val / 2; omega
  | 2 => show 0 + 1 * (128 * ch.val + q.val) = 128 * ch.val + q.val; omega

/-! ## A block of codes -/

section
variable (K : Consts Ideal) (W : Vec Ideal S1024x384 .fp8e4m3) (C : Vec Ideal S10x84x1024 .fp8e4m3) (qs : Elt Ideal .f32) (Q : Vec Ideal S5x42x384 .fp8e4m3)

/-- The quantised merged map of a block. -/
def bcode (r : Fin 10) (x : Fin 84) (d : Fin 384) : EReal :=
  min (Ideal.ofBits .f32 0x43E00000#32) (max (Ideal.ofBits .f32 0xC3E00000#32)
    (((∑ k : Fin 1024, C (ix3 r x k) * W (ix2 k d)) * K.sc (ix2 0 d) + K.bi (ix2 0 d) + Q (ix3 ⟨r.val / 2, by omega⟩ ⟨x.val / 2, by omega⟩ d) * qs) * K.inv))

theorem qv_apply (r ch : ℕ) (hr : r < 10) (hu : r / 2 < 5) (hc : ch < 3) (p : Fin 84) (q : Fin 128) (d : Fin 384) (hd : d.val = 128 * ch + q.val) :
    qv lv (F := Ideal) K W C (upV lv qs Q) r (r / 2) ch hr hu hc (ix2 p q) = bcode K W C qs Q ⟨r, hr⟩ p d := by
  have ed : (⟨128 * ch + q.val, by omega⟩ : Fin 384) = d := Fin.ext hd.symm
  unfold qv bcode
  rw [clipped_apply, merged_apply, latDot_apply _ _ _ _ _ (by show 128 * ch + q.val < 384; omega), ed]
  have eC : ∀ k : Fin 1024, C ((rC lv r hr).toLoadRect.idx (ix3 (0 : Fin 1) p k)) = C (ix3 ⟨r, hr⟩ p k) := fun k => congrArg C (by
    funext a
    apply Fin.ext
    match a with
    | 0 => show r + 1 * 0 = r; omega
    | 1 => show 0 + 1 * p.val = p.val; omega
    | 2 => show 0 + 1 * k.val = k.val; omega)
  have eW : ∀ k : Fin 1024, W ((Rect.unit (s := S1024x384) ![0, 0] S1024x384.size inb_S1024x384_S1024x384_0_0).toLoadRect.idx (ix2 k d)) = W (ix2 k d) := fun k => congrArg W (by
    funext a
    apply Fin.ext
    match a with
    | 0 => show 0 + 1 * k.val = k.val; omega
    | 1 => show 0 + 1 * d.val = d.val; omega)
  have eU : upV lv qs Q ((rU lv (r / 2) ch hu hc).toLoadRect.idx (ix4 (0 : Fin 1) (0 : Fin 1) p q)) = upV lv qs Q (ix4 ⟨r / 2, hu⟩ ⟨ch, hc⟩ (⟨p.val, by omega⟩ : Fin 88) q) := congrArg (upV lv qs Q) (by
    funext a
    apply Fin.ext
    match a with
    | 0 => show r / 2 + 1 * 0 = r / 2; omega
    | 1 => show ch + 1 * 0 = ch; omega
    | 2 => show 0 + 1 * p.val = p.val; omega
    | 3 => show 0 + 1 * q.val = q.val; omega)
  have eU' := eU.trans (upV_at qs Q ⟨r / 2, hu⟩ ⟨ch, hc⟩ p q)
  simp only [ed] at eU'
  simp only [eC, eW, eU']

theorem codesV_at (r : Fin 10) (x : Fin 84) (d : Fin 384) : codesV lv (F := Ideal) K W C (upV lv qs Q) (ix3 r x d) = bcode K W C qs Q r x d :=
  qv_apply K W C qs Q r.val (d.val / 128) r.isLt (by omega) (by omega) x ⟨d.val % 128, Nat.mod_lt _ (by omega)⟩ d (by show d.val = 128 * (d.val / 128) + d.val % 128; omega)

theorem xrowV_apply (r p l : ℕ) (hr : r < 10) (hp : p < 96) (hl : l < 1152) (j : Fin 3) (d : Fin 384) (h : l = 384 * j.val + d.val) :
    xrowV lv (F := Ideal) K W C (upV lv qs Q) r hr p l hp hl
      = if hh : 1 ≤ p + j.val ∧ p + j.val ≤ 84 then bcode K W C qs Q ⟨r, hr⟩ ⟨p + j.val - 1, by omega⟩ d else 0 := by
  have hj : l / 384 = j.val := by omega
  have hd : l % 384 = d.val := by omega
  show quantV lv (F := Ideal) K W C (upV lv qs Q) r hr (ix4 (0 : Fin 2) ⟨l % 384 / 128, by omega⟩ ⟨p + 7 + l / 384, by show _ < 112; omega⟩ ⟨l % 128, Nat.mod_lt _ (by omega)⟩) = _
  by_cases hh : 1 ≤ p + j.val ∧ p + j.val ≤ 84
  · rw [dif_pos hh]
    refine (dif_pos (show 8 ≤ p + 7 + l / 384 ∧ p + 7 + l / 384 < 92 by omega)).trans ?_
    refine (qv_apply K W C qs Q r (l % 384 / 128) hr (by omega) (by omega) ⟨p + 7 + l / 384 - 8, by omega⟩ ⟨l % 128, Nat.mod_lt _ (by omega)⟩ d
      (by show d.val = 128 * (l % 384 / 128) + l % 128; omega)).trans ?_
    exact congrArg (fun z => bcode K W C qs Q ⟨r, hr⟩ z d) (Fin.ext (show p + 7 + l / 384 - 8 = p + j.val - 1 by omega))
  · rw [dif_neg hh]
    exact (dif_neg (show ¬ (8 ≤ p + 7 + l / 384 ∧ p + 7 + l / 384 < 92) by omega)).trans Ideal.ofBits_zero_f32

end

/-! ## The product -/

theorem outRow_apply (l : ℕ) (hl : l ≤ 96) (so bo : FVec Ideal S1x384 .f32) (y : FVec Ideal S192x384 .f32) (x : Fin 84) (d : Fin 384) :
    outRow lv (F := Ideal) l hl so bo y (ix2 x d) = y (ix2 ⟨l + x.val, by omega⟩ d) * so (ix2 0 d) + bo (ix2 0 d) := by
  pointwise [outRow]

theorem outRow1_apply (so bo : FVec Ideal S1x384 .f32) (y : FVec Ideal S96x384 .f32) (x : Fin 84) (d : Fin 384) :
    outRow1 lv (F := Ideal) so bo y (ix2 x d) = y (ix2 ⟨x.val, by omega⟩ d) * so (ix2 0 d) + bo (ix2 0 d) := by
  pointwise [outRow1]

/-- The left operand of the product at row `y`: lane `1152 a + l` is lane `l` of row `y` of the `a`-th part. -/
theorem convDot_apply (f : Fin 3 → Vec Ideal S2x96x1152 .fp8e4m3) (w : Vec Ideal S3456x384 .fp8e4m3) (y : Fin 192) (d : Fin 384) :
    convDot lv (F := Ideal) (f 0) (f 1) (f 2) w (ix2 y d)
      = ∑ a : Fin 3, ∑ l : Fin 1152, f a (ix3 ⟨y.val / 96, by omega⟩ ⟨y.val % 96, by omega⟩ l) * w (ix2 ⟨1152 * a.val + l.val, by omega⟩ d) := by
  pointwise [convDot]
  rw [sum_rows 3 1152 3456 (by decide)]
  refine Finset.sum_congr rfl fun i _ => Finset.sum_congr rfl fun j _ => congrArg (· * _) ?_
  have hj := j.isLt
  match i with
  | 0 => exact (dif_pos (show 1152 * 0 + j.val < 1152 by omega)).trans (congrArg (fun z => f 0 (ix3 _ _ z)) (Fin.ext (show 1152 * 0 + j.val = j.val by omega)))
  | 1 => exact (dif_neg (show ¬ 1152 * 1 + j.val < 1152 by omega)).trans ((dif_pos (show 1152 * 1 + j.val - 1152 < 1152 by omega)).trans
      (congrArg (fun z => f 1 (ix3 _ _ z)) (Fin.ext (show 1152 * 1 + j.val - 1152 = j.val by omega))))
  | 2 => exact (dif_neg (show ¬ 1152 * 2 + j.val < 1152 by omega)).trans ((dif_neg (show ¬ 1152 * 2 + j.val - 1152 < 1152 by omega)).trans
      (congrArg (fun z => f 2 (ix3 _ _ z)) (Fin.ext (show 1152 * 2 + j.val - 1152 - 1152 = j.val by omega))))

/-- The same of the product of one row, at row `y`: lane `1152 a + l` is lane `l` of row `y` of the `a`-th part. -/
theorem convDot1_apply (f : Fin 3 → Vec Ideal S1x96x1152 .fp8e4m3) (w : Vec Ideal S3456x384 .fp8e4m3) (y : Fin 96) (d : Fin 384) :
    convDot1 lv (F := Ideal) (f 0) (f 1) (f 2) w (ix2 y d)
      = ∑ a : Fin 3, ∑ l : Fin 1152, f a (ix3 0 y l) * w (ix2 ⟨1152 * a.val + l.val, by omega⟩ d) := by
  pointwise [convDot1]
  rw [sum_rows 3 1152 3456 (by decide)]
  refine Finset.sum_congr rfl fun i _ => Finset.sum_congr rfl fun j _ => congrArg (· * _) ?_
  have hj := j.isLt
  match i with
  | 0 => exact (dif_pos (show 1152 * 0 + j.val < 1152 by omega)).trans (congrArg (fun z => f 0 (ix3 _ _ z)) (Fin.ext (show 1152 * 0 + j.val = j.val by omega)))
  | 1 => exact (dif_neg (show ¬ 1152 * 1 + j.val < 1152 by omega)).trans ((dif_pos (show 1152 * 1 + j.val - 1152 < 1152 by omega)).trans
      (congrArg (fun z => f 1 (ix3 _ _ z)) (Fin.ext (show 1152 * 1 + j.val - 1152 = j.val by omega))))
  | 2 => exact (dif_neg (show ¬ 1152 * 2 + j.val < 1152 by omega)).trans ((dif_neg (show ¬ 1152 * 2 + j.val - 1152 < 1152 by omega)).trans
      (congrArg (fun z => f 2 (ix3 _ _ z)) (Fin.ext (show 1152 * 2 + j.val - 1152 - 1152 = j.val by omega))))

/-- The output rows: row `i` from the operand rows `i`, `i + 1`, `i + 2`. -/
theorem convV_at (K : Consts Ideal) (V : Vec Ideal S7x96x1152 .fp8e4m3) (W6 : Vec Ideal S3456x384 .fp8e4m3) (i : Fin 5) (x : Fin 84) (d : Fin 384) :
    convV lv (F := Ideal) K V W6 (ix3 i x d)
      = (∑ a : Fin 3, ∑ j : Fin 3, ∑ k : Fin 384, V (ix3 ⟨i.val + a.val, by omega⟩ ⟨x.val, by omega⟩ ⟨384 * j.val + k.val, by omega⟩)
          * W6 (ix2 ⟨1152 * a.val + (384 * j.val + k.val), by omega⟩ d)) * K.so (ix2 0 d) + K.bo (ix2 0 d) := by
  have hi := i.isLt
  have hx := x.isLt
  by_cases h4 : i.val < 4
  · refine (dif_pos (show i.val < 4 from h4)).trans ?_
    refine (outRow_apply (96 * (i.val % 2)) (by omega) K.so K.bo _ x d).trans (congrArg (fun z => z * K.so (ix2 0 d) + K.bo (ix2 0 d)) ?_)
    refine (convDot_apply (fun a y => V ((rXtwo lv (i.val / 2 * 2 + a.val) (by omega)).toLoadRect.idx y)) _ ⟨96 * (i.val % 2) + x.val, by omega⟩ d).trans ?_
    refine Finset.sum_congr rfl fun a _ => ?_
    rw [sum_rows 3 384 1152 (by decide)]
    refine Finset.sum_congr rfl fun j _ => Finset.sum_congr rfl fun k _ => congrArg₂ (· * ·) (congrArg V ?_) (congrArg W6 ?_)
    · funext b
      apply Fin.ext
      match b with
      | 0 => show i.val / 2 * 2 + a.val + 1 * ((96 * (i.val % 2) + x.val) / 96) = i.val + a.val; omega
      | 1 => show 0 + 1 * ((96 * (i.val % 2) + x.val) % 96) = x.val; omega
      | 2 => show 0 + 1 * (384 * j.val + k.val) = 384 * j.val + k.val; omega
    · funext b
      apply Fin.ext
      match b with
      | 0 => show 0 + 1 * (1152 * a.val + (384 * j.val + k.val)) = 1152 * a.val + (384 * j.val + k.val); omega
      | 1 => show 0 + 1 * d.val = d.val; omega
  · refine (dif_neg (show ¬ i.val < 4 from h4)).trans ?_
    have ei : i.val = 4 := by omega
    refine (outRow1_apply K.so K.bo _ x d).trans (congrArg (fun z => z * K.so (ix2 0 d) + K.bo (ix2 0 d)) ?_)
    refine (convDot1_apply (fun a y => V ((rXrow lv (4 + a.val) (by omega)).toLoadRect.idx y)) _ ⟨x.val, by omega⟩ d).trans ?_
    refine Finset.sum_congr rfl fun a _ => ?_
    rw [sum_rows 3 384 1152 (by decide)]
    refine Finset.sum_congr rfl fun j _ => Finset.sum_congr rfl fun k _ => congrArg₂ (· * ·) (congrArg V ?_) (congrArg W6 ?_)
    · funext b
      apply Fin.ext
      match b with
      | 0 => show 4 + a.val + 1 * 0 = i.val + a.val; omega
      | 1 => show 0 + 1 * x.val = x.val; omega
      | 2 => show 0 + 1 * (384 * j.val + k.val) = 384 * j.val + k.val; omega
    · funext b
      apply Fin.ext
      match b with
      | 0 => show 0 + 1 * (1152 * a.val + (384 * j.val + k.val)) = 1152 * a.val + (384 * j.val + k.val); omega
      | 1 => show 0 + 1 * d.val = d.val; omega

end Cert.Kernel4Ideal.Hand

end
-- ==== Proof.KernelMath4.lean ====
/-
  What the kernel's two results hold, at every index: `Math.Args.code` and `Math.Args.out` of its arguments.

  The blocks of the input windows are read at coordinates, so that a block's quantised map is `Args.code` at the block's
  rows (`bcode_eq`). A row of the convolution's operands is then a row of the padded map (`xrow_eq`), also the row kept
  from the block before and the row of the block after, and the border rows of an image are rows of zeros.
-/
module

public import proofs.«01_k».proof.Proof.Run4
public import proofs.«01_k».proof.Proof.BlockMath4
public import Idealize.ShloMosaic.Lib.Pipeline.ValueKit

@[expose] public section

set_option maxRecDepth 16384

noncomputable section

namespace Cert.Kernel4Ideal.Hand

open Cert.Kernel4Ideal Cert.Kernel4Ideal.Gen Cert.Math Cert.Rows
open Idealize.ShloMosaic Idealize.ShloMosaic.TcCoe Idealize.ShloMosaic.Pointwise Idealize.SL.Sem

variable (m : (ℓ : Loc nD τ sig) → Buf (Elt Ideal) ℓ) (c : Dev nD)

/-- The kernel's arguments on core `c`. -/
def kargs : Args 50 84 1024 := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (half4 (m ((c : Thread nD τ).loc main_arg10)))
  (m ((c : Thread nD τ).loc main_arg11))

/-! ## The reshapes before the call -/

theorem V_main_v0 : (V m c main_v0 : Vec Ideal S150x84x1024 .fp8e4m3)
    = shapeCast S150x84x1024 (m ((c : Thread nD τ).loc main_arg0) : Vec Ideal S3x50x84x1024 .fp8e4m3) shapeCasts_S3x50x84x1024_S150x84x1024 := by
  show StableHlo.after hostOps0 _ (Proc.devRef .tc main_v0) = _
  after_results
  rfl
theorem V_main_v1 : (V m c main_v1 : Vec Ideal S1x384 .f32)
    = shapeCast S1x384 (m ((c : Thread nD τ).loc main_arg3) : Vec Ideal S384 .f32) shapeCasts_S384_S1x384 := by
  show StableHlo.after hostOps0 _ (Proc.devRef .tc main_v1) = _
  after_results
  rfl
theorem V_main_v2 : (V m c main_v2 : Vec Ideal S1x384 .f32)
    = shapeCast S1x384 (m ((c : Thread nD τ).loc main_arg4) : Vec Ideal S384 .f32) shapeCasts_S384_S1x384 := by
  show StableHlo.after hostOps0 _ (Proc.devRef .tc main_v2) = _
  after_results
  rfl
theorem V_main_v3 : (V m c main_v3 : Vec Ideal S3456x384 .fp8e4m3)
    = shapeCast S3456x384 (m ((c : Thread nD τ).loc main_arg5) : Vec Ideal S3x3x384x384 .fp8e4m3) shapeCasts_S3x3x384x384_S3456x384 := by
  show StableHlo.after hostOps0 _ (Proc.devRef .tc main_v3) = _
  after_results
  rfl
theorem V_main_v4 : (V m c main_v4 : Vec Ideal S1x384 .f32)
    = shapeCast S1x384 (m ((c : Thread nD τ).loc main_arg6) : Vec Ideal S384 .f32) shapeCasts_S384_S1x384 := by
  show StableHlo.after hostOps0 _ (Proc.devRef .tc main_v4) = _
  after_results
  rfl
theorem V_main_v5 : (V m c main_v5 : Vec Ideal S1x384 .f32)
    = shapeCast S1x384 (m ((c : Thread nD τ).loc main_arg7) : Vec Ideal S384 .f32) shapeCasts_S384_S1x384 := by
  show StableHlo.after hostOps0 _ (Proc.devRef .tc main_v5) = _
  after_results
  rfl

theorem cast_c (v : Vec Ideal S3x50x84x1024 .fp8e4m3) (R : Fin 150) (x : Fin 84) (k : Fin 1024) :
    shapeCast S150x84x1024 v shapeCasts_S3x50x84x1024_S150x84x1024 (ix3 R x k) = v (ix4 ⟨R.val / 50, by omega⟩ ⟨R.val % 50, by omega⟩ x k) := by
  pointwise
theorem cast_row (v : Vec Ideal S384 .f32) (d : Fin 384) : shapeCast S1x384 v shapeCasts_S384_S1x384 (ix2 0 d) = v (ix1 d) := by
  pointwise
theorem cast_same (v : Vec Ideal S1x384 .f32) (d : Fin 384) : shapeCast S1x384 v shapeCasts_S1x384_S1x384 (ix2 0 d) = v (ix2 0 d) := by
  pointwise
theorem cast_w (v : Vec Ideal S3x3x384x384 .fp8e4m3) (a j : Fin 3) (k d : Fin 384) (l : Fin 3456) (hl : l.val = 1152 * a.val + (384 * j.val + k.val)) :
    shapeCast S3456x384 v shapeCasts_S3x3x384x384_S3456x384 (ix2 l d) = v (ix4 a j k d) := by
  pointwise
  have e0 : l.val / 1152 = a.val := by omega
  have e1 : l.val / 384 % 3 = j.val := by omega
  have e2 : l.val % 384 = k.val := by omega
  simp only [e0, e1, e2, Fin.eta]

/-! ## Where the blocks lie -/

theorem index0 : ∀ t : Fin cfg0.N, win0_0.index t = ![min t.val 14, 0, 0] := (by decide +kernel : ∀ t : Fin grid0.N, _)
theorem index1 : ∀ t : Fin cfg0.N, win0_1.index t = ![0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0] := (by decide +kernel : ∀ t : Fin grid0.N, _)
theorem index9 : ∀ t : Fin cfg0.N, win0_9.index t = ![0] := (by decide +kernel : ∀ t : Fin grid0.N, _)
theorem index10 : ∀ t : Fin cfg0.N, win0_10.index t = ![min t.val 14, 0, 0] := (by decide +kernel : ∀ t : Fin grid0.N, _)
theorem index11 : ∀ t : Fin cfg0.N, win0_11.index t = ![0] := (by decide +kernel : ∀ t : Fin grid0.N, _)
theorem index12 : ∀ t : Fin cfg0.N, win0_12.index t = ![min t.val 14, 0, 0] := (by decide +kernel : ∀ t : Fin grid0.N, _)

/-- The bit is on except at the first point of an image. -/
theorem keep_iff : ∀ t : Fin cfg0.N, keepBit (grid0.coords t) = 1#1 ↔ t.val % 5 ≠ 0 := (by decide +kernel : ∀ t : Fin grid0.N, _)

/-! ## The blocks at coordinates -/

theorem bC_apply (t : Fin cfg0.N) (r : Fin 10) (x : Fin 84) (k : Fin 1024) (R : Fin 150) (hR : R.val = 10 * min t.val 14 + r.val) :
    bC m c t (ix3 r x k) = (kargs m c).c ⟨R.val / 50, by omega⟩ ⟨R.val % 50, by omega⟩ x k := by
  have e : (((cfg0.win 0).blk t).view.emb (ix3 r x k) : S150x84x1024.Idx) = ix3 R x k := by
    blk_ext [index0]
  show (V m c main_v0 : Vec Ideal S150x84x1024 .fp8e4m3) (((cfg0.win 0).blk t).view.emb (ix3 r x k)) = _
  rw [e, V_main_v0, cast_c]
  rfl

theorem bcs_apply (t : Fin cfg0.N) : bcs m c t (ix1 0) = (kargs m c).cs := by
  have e : (((cfg0.win 1).blk t).view.emb (ix1 0) : S1.Idx) = ix1 0 := by
    blk_ext [index1]
  show V m c main_arg1 (((cfg0.win 1).blk t).view.emb (ix1 0)) = _
  rw [e, V_main_arg1]
  rfl
theorem bW_apply (t : Fin cfg0.N) (k : Fin 1024) (d : Fin 384) : bW m c t (ix2 k d) = (kargs m c).w k d := by
  have e : (((cfg0.win 2).blk t).view.emb (ix2 k d) : S1024x384.Idx) = ix2 k d := by
    blk_ext [index2]
  show V m c main_arg2 (((cfg0.win 2).blk t).view.emb (ix2 k d)) = _
  rw [e, V_main_arg2]
  rfl
theorem bs4_apply (t : Fin cfg0.N) (d : Fin 384) : bs4 m c t (ix2 0 d) = (kargs m c).s d := by
  have e : (((cfg0.win 3).blk t).view.emb (ix2 0 d) : S1x384.Idx) = ix2 0 d := by
    blk_ext [index3]
  show V m c main_v1 (((cfg0.win 3).blk t).view.emb (ix2 0 d)) = _
  rw [e, V_main_v1, cast_row]
  rfl
theorem bb5_apply (t : Fin cfg0.N) (d : Fin 384) : bb5 m c t (ix2 0 d) = (kargs m c).b d := by
  have e : (((cfg0.win 4).blk t).view.emb (ix2 0 d) : S1x384.Idx) = ix2 0 d := by
    blk_ext [index4]
  show V m c main_v2 (((cfg0.win 4).blk t).view.emb (ix2 0 d)) = _
  rw [e, V_main_v2, cast_row]
  rfl
theorem bW6_apply (t : Fin cfg0.N) (a j : Fin 3) (k d : Fin 384) (l : Fin 3456) (hl : l.val = 1152 * a.val + (384 * j.val + k.val)) : bW6 m c t (ix2 l d) = (kargs m c).wo a j k d := by
  have e : (((cfg0.win 5).blk t).view.emb (ix2 l d) : S3456x384.Idx) = ix2 l d := by
    blk_ext [index5]
  show V m c main_v3 (((cfg0.win 5).blk t).view.emb (ix2 l d)) = _
  rw [e, V_main_v3, cast_w _ a j k d l hl]
  rfl
theorem bs7_apply (t : Fin cfg0.N) (d : Fin 384) : bs7 m c t (ix2 0 d) = (kargs m c).so d := by
  have e : (((cfg0.win 6).blk t).view.emb (ix2 0 d) : S1x384.Idx) = ix2 0 d := by
    blk_ext [index6]
  show V m c main_v4 (((cfg0.win 6).blk t).view.emb (ix2 0 d)) = _
  rw [e, V_main_v4, cast_row]
  rfl
theorem bb8_apply (t : Fin cfg0.N) (d : Fin 384) : bb8 m c t (ix2 0 d) = (kargs m c).bo d := by
  have e : (((cfg0.win 7).blk t).view.emb (ix2 0 d) : S1x384.Idx) = ix2 0 d := by
    blk_ext [index7]
  show V m c main_v5 (((cfg0.win 7).blk t).view.emb (ix2 0 d)) = _
  rw [e, V_main_v5, cast_row]
  rfl
theorem bms_apply (t : Fin cfg0.N) : bms m c t (ix1 0) = (kargs m c).ms := by
  have e : (((cfg0.win 8).blk t).view.emb (ix1 0) : S1.Idx) = ix1 0 := by
    blk_ext [index8]
  show V m c main_arg8 (((cfg0.win 8).blk t).view.emb (ix1 0)) = _
  rw [e, V_main_arg8]
  rfl
theorem binv_apply (t : Fin cfg0.N) : binv m c t (ix1 0) = (kargs m c).inv := by
  have e : (((cfg0.win 9).blk t).view.emb (ix1 0) : S1.Idx) = ix1 0 := by
    blk_ext [index9]
  show V m c main_arg9 (((cfg0.win 9).blk t).view.emb (ix1 0)) = _
  rw [e, V_main_arg9]
  rfl
theorem bQ_apply (t : Fin cfg0.N) (r : Fin 5) (x : Fin 42) (d : Fin 384) (R : Fin 75) (hR : R.val = 5 * min t.val 14 + r.val) :
    bQ m c t (ix3 r x d) = (m ((c : Thread nD τ).loc main_arg10) : Vec Ideal S75x42x384 .fp8e4m3) (ix3 R x d) := by
  have e : (((cfg0.win 10).blk t).view.emb (ix3 r x d) : S75x42x384.Idx) = ix3 R x d := by
    blk_ext [index10]
  show V m c main_arg10 (((cfg0.win 10).blk t).view.emb (ix3 r x d)) = _
  rw [e, V_main_arg10]
theorem bqs_apply (t : Fin cfg0.N) : bqs m c t (ix1 0) = (kargs m c).qs := by
  have e : (((cfg0.win 11).blk t).view.emb (ix1 0) : S1.Idx) = ix1 0 := by
    blk_ext [index11]
  show V m c main_arg11 (((cfg0.win 11).blk t).view.emb (ix1 0)) = _
  rw [e, V_main_arg11]
  rfl

/-! ## The scales, and a block's quantised map -/

theorem row_idx (d : Fin 384) : (Rect.unit (s := S1x384) ![0, 0] S1x384.size inb_S1x384_S1x384_0_0).toLoadRect.idx (ix2 (0 : Fin 1) d) = ix2 0 d := by
  funext a
  apply Fin.ext
  match a with
  | 0 => show 0 + 1 * 0 = 0; omega
  | 1 => show 0 + 1 * d.val = d.val; omega

section
variable (cs : Vec Ideal S1 .f32) (s4 b5 s7 b8 : Vec Ideal S1x384 .f32) (ms inv : Vec Ideal S1 .f32) (d : Fin 384)
theorem constsV_sc : (constsV cs s4 b5 s7 b8 ms inv).sc (ix2 0 d) = (cs (ix1 0) * s4 (ix2 0 d) : EReal) := by
  refine congrArg (fun z : EReal => (cs (ix1 0) : EReal) * z) ((cast_same _ d).trans (congrArg s4 (row_idx d)))
theorem constsV_bi : (constsV cs s4 b5 s7 b8 ms inv).bi (ix2 0 d) = b5 (ix2 0 d) := by
  exact (cast_same (fun x => b5 ((Rect.unit (s := S1x384) ![0, 0] S1x384.size inb_S1x384_S1x384_0_0).toLoadRect.idx x)) d).trans (congrArg b5 (row_idx d))
theorem constsV_so : (constsV cs s4 b5 s7 b8 ms inv).so (ix2 0 d) = (ms (ix1 0) * s7 (ix2 0 d) : EReal) := by
  refine congrArg (fun z : EReal => (ms (ix1 0) : EReal) * z) ((cast_same _ d).trans (congrArg s7 (row_idx d)))
theorem constsV_bo : (constsV cs s4 b5 s7 b8 ms inv).bo (ix2 0 d) = b8 (ix2 0 d) := by
  exact (cast_same (fun x => b8 ((Rect.unit (s := S1x384) ![0, 0] S1x384.size inb_S1x384_S1x384_0_0).toLoadRect.idx x)) d).trans (congrArg b8 (row_idx d))
end

theorem bK_sc (t : Fin cfg0.N) (d : Fin 384) : (bK m c t).sc (ix2 0 d) = (kargs m c).cs * (kargs m c).s d := by
  unfold bK
  rw [constsV_sc, bs4_apply m c t d, bcs_apply m c t]
theorem bK_bi (t : Fin cfg0.N) (d : Fin 384) : (bK m c t).bi (ix2 0 d) = (kargs m c).b d := by
  unfold bK
  rw [constsV_bi, bb5_apply m c t d]
theorem bK_so (t : Fin cfg0.N) (d : Fin 384) : (bK m c t).so (ix2 0 d) = (kargs m c).ms * (kargs m c).so d := by
  unfold bK
  rw [constsV_so, bs7_apply m c t d, bms_apply m c t]
theorem bK_bo (t : Fin cfg0.N) (d : Fin 384) : (bK m c t).bo (ix2 0 d) = (kargs m c).bo d := by
  unfold bK
  rw [constsV_bo, bb8_apply m c t d]
theorem bK_inv (t : Fin cfg0.N) : (bK m c t).inv = (kargs m c).inv := binv_apply m c t

/-- Row `r` of point `t`'s block is row `R` of the map. -/
theorem bcode_eq (t : Fin cfg0.N) (r : Fin 10) (x : Fin 84) (d : Fin 384) (R : Fin 150) (hR : R.val = 10 * min t.val 14 + r.val) :
    bcode (bK m c t) (bW m c t) (bC m c t) (bqs m c t (ix1 0)) (bQ m c t) r x d
      = (kargs m c).code ⟨R.val / 50, by omega⟩ ⟨R.val % 50, by omega⟩ x d := by
  unfold bcode Args.code Args.map
  rw [bK_sc, bK_bi, bK_inv, bqs_apply,
    bQ_apply m c t ⟨r.val / 2, by omega⟩ ⟨x.val / 2, by omega⟩ d ⟨R.val / 50 * 25 + R.val % 50 / 2, by omega⟩
      (by show R.val / 50 * 25 + R.val % 50 / 2 = 5 * min t.val 14 + r.val / 2; omega)]
  simp only [fun k => bC_apply m c t r x k R hR, bW_apply]
  rfl

/-- A row of the convolution's operands is a row of the padded map, at its three shifts. -/
theorem xrow_eq (t : Fin cfg0.N) (r : ℕ) (hr : r < 10) (p l : ℕ) (hp : p < 96) (hl : l < 1152) (j : Fin 3) (d : Fin 384) (h : l = 384 * j.val + d.val)
    (n : Fin 3) (i : ℕ) (hi : 50 * n.val + i = 10 * min t.val 14 + r + 1) (h1 : 1 ≤ i) (h2 : i ≤ 50) :
    xrowV lv (bK m c t) (bW m c t) (bC m c t) (bU m c t) r hr p l hp hl = (kargs m c).pad n i (p + j.val) d := by
  refine (xrowV_apply (bK m c t) (bW m c t) (bC m c t) (bqs m c t (ix1 0)) (bQ m c t) r p l hr hp hl j d h).trans ?_
  unfold Args.pad
  by_cases hh : 1 ≤ p + j.val ∧ p + j.val ≤ 84
  · rw [dif_pos hh, dif_pos ⟨⟨h1, h2⟩, hh⟩]
    rw [bcode_eq m c t ⟨r, hr⟩ ⟨p + j.val - 1, by omega⟩ d ⟨50 * n.val + i - 1, by omega⟩ (by show 50 * n.val + i - 1 = 10 * min t.val 14 + r; omega)]
    have e0 : (50 * n.val + i - 1) / 50 = n.val := by omega
    have e1 : (50 * n.val + i - 1) % 50 = i - 1 := by omega
    simp only [e0, e1, Fin.eta]
  · rw [dif_neg hh, dif_neg (fun h => hh h.2)]

/-- Row `a` of what the point before `t` kept. -/
theorem Xin_eq (t : ℕ) (h1 : 1 ≤ t) (ht : t ≤ 15) (a : Fin 7) (ha : a.val < 6) (p : Fin 96) (l : Fin 1152) (j : Fin 3) (d : Fin 384) (h : l.val = 384 * j.val + d.val)
    (n : Fin 3) (i : ℕ) (hi : 50 * n.val + i = 10 * (t - 1) + a.val + 4 + 1) (hi1 : 1 ≤ i) (hi2 : i ≤ 50) :
    Xin m c t (ix3 a p l) = (kargs m c).pad n i (p.val + j.val) d := by
  obtain ⟨t, rfl⟩ : ∃ s, t = s + 1 := ⟨t - 1, by omega⟩
  show xbNewV lv (bK m c (pt t)) (bW m c (pt t)) (bC m c (pt t)) (bU m c (pt t)) (ix3 a p l) = _
  refine (dif_pos (show a.val < 6 from ha)).trans ?_
  exact xrow_eq m c (pt t) (a.val + 4) (by omega) p.val l.val p.isLt l.isLt j d h n i (by show _ = 10 * min (min t 15) 14 + _ + 1; omega) hi1 hi2

/-! ## The rows of the first result -/

theorem rows_apply (t : Fin cfg0.N) (V : Vec Ideal S7x96x1152 .fp8e4m3) (i : Fin 5) (n : Fin 3) (h : Fin 50) (x : Fin 84) (d : Fin 384)
    (hV : ∀ (a j : Fin 3) (k : Fin 384), V (ix3 ⟨i.val + a.val, by omega⟩ ⟨x.val, by omega⟩ ⟨384 * j.val + k.val, by omega⟩) = (kargs m c).pad n (h.val + a.val) (x.val + j.val) k) :
    convV lv (bK m c t) V (bW6 m c t) (ix3 i x d) = (kargs m c).out n h x d := by
  rw [convV_at, bK_so, bK_bo]
  unfold Args.out
  refine congrArg (fun z => z * _ + _) ?_
  refine Finset.sum_congr rfl fun a _ => Finset.sum_congr rfl fun j _ => Finset.sum_congr rfl fun k _ => ?_
  rw [hV a j k, bW6_apply m c t a j k d _ rfl]

theorem rowsA_apply (t : Fin cfg0.N) (ht : t.val ≤ 14) (i : Fin 5) (n : Fin 3) (h : Fin 50) (hR : 50 * n.val + h.val = 10 * t.val + i.val) (x : Fin 84) (d : Fin 384) :
    rowsA m c t (ix3 i x d) = (kargs m c).out n h x d := by
  refine rows_apply m c t _ i n h x d fun a j k => ?_
  by_cases h0 : i.val + a.val = 0
  · refine (xaV_0 lv _ _ _ _ _ _ _ (show i.val + a.val = 0 from h0)).trans ?_
    by_cases hk : keepBit (grid0.coords t) = 1#1
    · rw [if_pos hk]
      have := (keep_iff t).mp hk
      exact Xin_eq m c t.val (by omega) (by omega) 5 (by decide) _ _ j k rfl n (h.val + a.val) (by show _ = 10 * (t.val - 1) + 5 + 4 + 1; omega) (by omega) (by omega)
    · rw [if_neg hk, zero8]
      have : t.val % 5 = 0 := by
        by_contra hc
        exact hk ((keep_iff t).mpr hc)
      exact (pad_zero _ _ _ _ _ (by omega)).symm
  · refine (xaV_row lv _ _ _ _ _ _ (i.val + a.val - 1) (by omega) _ (show i.val + a.val = i.val + a.val - 1 + 1 by omega)).trans ?_
    exact xrow_eq m c t (i.val + a.val - 1) (by omega) x.val _ _ _ j k rfl n (h.val + a.val) (by omega) (by omega) (by omega)

theorem rowsB_apply (t : Fin cfg0.N) (h1 : 1 ≤ t.val) (ht : t.val ≤ 15) (i : Fin 5) (n : Fin 3) (h : Fin 50) (hR : 50 * n.val + h.val = 10 * t.val - 5 + i.val) (x : Fin 84) (d : Fin 384) :
    rowsB m c t (ix3 i x d) = (kargs m c).out n h x d := by
  refine rows_apply m c t _ i n h x d fun a j k => ?_
  by_cases h5 : i.val + a.val = 6
  · refine (xbOldV_6 lv _ _ _ _ _ _ _ (show i.val + a.val = 6 from h5)).trans ?_
    by_cases hk : keepBit (grid0.coords t) = 1#1
    · rw [if_pos hk]
      have := (keep_iff t).mp hk
      exact xrow_eq m c t 0 (by omega) x.val _ _ _ j k rfl n (h.val + a.val) (by omega) (by omega) (by omega)
    · rw [if_neg hk, zero8]
      have : t.val % 5 = 0 := by
        by_contra hc
        exact hk ((keep_iff t).mpr hc)
      exact (pad_zero _ _ _ _ _ (by omega)).symm
  · refine (xbOldV_ne lv _ _ _ _ _ _ _ (show i.val + a.val ≠ 6 from h5)).trans ?_
    exact Xin_eq m c t.val h1 ht ⟨i.val + a.val, by omega⟩ (by show i.val + a.val < 6; omega) _ _ j k rfl n (h.val + a.val)
      (by show _ = 10 * (t.val - 1) + (i.val + a.val) + 4 + 1; omega) (by omega) (by omega)

/-- The first result. -/
theorem Gp_apply (R : Fin 150) (x : Fin 84) (d : Fin 384) :
    Gp m c (ix3 R x d) = (kargs m c).out ⟨R.val / 50, by omega⟩ ⟨R.val % 50, by omega⟩ x d := by
  have hR := R.isLt
  by_cases h : R.val % 10 < 5
  · refine (if_pos (show R.val % 10 < 5 from h)).trans ?_
    exact rowsA_apply m c (pt (R.val / 10)) (by show min (R.val / 10) 15 ≤ 14; omega) ⟨R.val % 5, Nat.mod_lt _ (by decide)⟩ _ _
      (by show 50 * (R.val / 50) + R.val % 50 = 10 * min (R.val / 10) 15 + R.val % 5; omega) x d
  · refine (if_neg (show ¬ R.val % 10 < 5 from h)).trans ?_
    exact rowsB_apply m c (pt ((R.val + 5) / 10)) (by show 1 ≤ min ((R.val + 5) / 10) 15; omega) (by show min ((R.val + 5) / 10) 15 ≤ 15; omega) ⟨R.val % 5, Nat.mod_lt _ (by decide)⟩ _ _
      (by show 50 * (R.val / 50) + R.val % 50 = 10 * min ((R.val + 5) / 10) 15 - 5 + R.val % 5; omega) x d

/-! ## The second result -/

/-- The codes as an array. -/
def Gq : Vec Ideal S150x84x384 .fp8e4m3 := fun j =>
  (kargs m c).code ⟨(j 0).val / 50, by have h : (j 0).val < 150 := (j 0).isLt; omega⟩ ⟨(j 0).val % 50, by omega⟩ (j 1) (j 2)

theorem final12 : (dats m 0 c).arrAt 12 cfg0.N = Gq m c := by
  refine (dats m 0 c).arrAt_eq_of_covers 12 _ (by decide +kernel) fun t hf y => ?_
  blk_simp
  rw [after0_12]
  have ey : (y : S10x84x384.Idx) = ix3 (y 0) (y 1) (y 2) := eq_ix3 y
  have h0 : (y 0).val < 10 := (y 0).isLt
  have e : (((win0_12).blk t).view.emb y : S150x84x384.Idx) = ix3 ⟨10 * min t.val 14 + (y 0).val, by omega⟩ (y 1) (y 2) := by
    blk_ext [index12]
  rw [e]
  refine (congrArg (codesB m c t) ey).trans ?_
  refine (codesV_at (bK m c t) (bW m c t) (bC m c t) (bqs m c t (ix1 0)) (bQ m c t) (y 0) (y 1) (y 2)).trans ?_
  exact bcode_eq m c t (y 0) (y 1) (y 2) ⟨10 * min t.val 14 + (y 0).val, by omega⟩ rfl

end Cert.Kernel4Ideal.Hand

end
-- ==== Proof.RefMath4.lean ====
/-
  What the reference's two results hold, at every index: `Math.Args.code` and `Math.Args.out` of its arguments.
-/
module

public import proofs.«01_k».proof.Proof.Gen.Reference4Ideal.Value
public import proofs.«01_k».proof.Proof.Math

@[expose] public section

set_option maxRecDepth 16384

noncomputable section

namespace Cert.Reference4Ideal.Hand

open Cert.Reference4Ideal Cert.Reference4Ideal.Gen Cert.Math Idealize.ShloMosaic Idealize.ShloMosaic.Pointwise

/-- The quantised map, before any of its uses. -/
theorem pay2_apply (a0 : Vec Ideal S3x50x84x1024 .fp8e4m3) (a1 : Vec Ideal S1 .f32) (a2 : Vec Ideal S1024x384 .fp8e4m3) (a3 a4 : Vec Ideal S384 .f32)
    (a5 : Vec Ideal S3x3x384x384 .fp8e4m3) (a6 a7 : Vec Ideal S384 .f32) (a8 a9 : Vec Ideal S1 .f32)
    (a10 : Vec Ideal S75x42x384 .fp8e4m3) (a11 : Vec Ideal S1 .f32) (n : Fin 3) (h : Fin 50) (x : Fin 84) (d : Fin 384) :
    k0_pay2 (F := Ideal) a0 a2 a1 a3 a4 a10 a11 a9 (ix4 n h x d) = (argsOf a0 a1 a2 a3 a4 a5 a6 a7 a8 a9 (half4 a10) a11).code n h x d := by
  pointwise [k0_pay2]
  rfl

theorem pay5_apply (v : Vec Ideal S3x50x84x384 .bf16) (n : Fin 3) (i : Fin 52) (j : Fin 86) (d : Fin 384) :
    k0_pay5 (F := Ideal) v (ix4 n i j d)
      = if h : (1 ≤ i.val ∧ i.val ≤ 50) ∧ (1 ≤ j.val ∧ j.val ≤ 84) then v (ix4 n ⟨i.val - 1, by omega⟩ ⟨j.val - 1, by omega⟩ d) else 0 := by
  pointwise [k0_pay5]
  have hz : (((0#32 : BitVec 32).toInt : ℝ) : EReal) = 0 := by simp
  rw [hz]
  have := i.isLt
  have := j.isLt
  by_cases hh : (1 ≤ i.val ∧ i.val ≤ 50) ∧ (1 ≤ j.val ∧ j.val ≤ 84)
  · rw [dif_pos hh, dif_pos (by omega), dif_neg (by omega), dif_pos (by omega), dif_neg (by omega)]
  · rw [dif_neg hh]
    split_ifs <;> first | rfl | omega

/-- Part `![i, j, 0, 0]` of the weights is the matrix of tap `(i, j)`. -/
theorem ld_apply (w : Vec Ideal S3x3x384x384 .fp8e4m3) (i j : Fin 3) (h : ∀ a, (![i.val, j.val, 0, 0] : Fin 4 → ℕ) a + S1x1x384x384.size a ≤ S3x3x384x384.size a)
    (k d : Fin 384) :
    View.ld (Val := Elt Ideal) w (Rect.unit (s := S3x3x384x384) ![i.val, j.val, 0, 0] S1x1x384x384.size h) (ix4 0 0 k d) = w (ix4 i j k d) := by
  refine congrArg w ?_
  funext a
  apply Fin.ext
  match a with
  | 0 => show i.val + 1 * 0 = i.val; omega
  | 1 => show j.val + 1 * 0 = j.val; omega
  | 2 => show 0 + 1 * k.val = k.val; omega
  | 3 => show 0 + 1 * d.val = d.val; omega

/-- The nine products, over the padded map. -/
theorem taps_apply (v : Vec Ideal S3x50x84x384 .bf16) (w : Vec Ideal S3x3x384x384 .fp8e4m3) (n : Fin 3) (h : Fin 50) (x : Fin 84) (d : Fin 384) :
    k0_pay8 (F := Ideal) (k0_pay5 v) (k0_pay6 v (View.ld w r0_6) (View.ld w r0_7) (View.ld w r0_8) (View.ld w r0_9)) (k0_pay7 v)
        (View.ld w r0_10) (View.ld w r0_11) (View.ld w r0_12) (View.ld w r0_13) (View.ld w r0_14) (ix4 n h x d)
      = ∑ i : Fin 3, ∑ j : Fin 3, ∑ k : Fin 384,
          k0_pay5 (F := Ideal) v (ix4 n ⟨i.val + h.val, by omega⟩ ⟨j.val + x.val, by omega⟩ k) * w (ix4 i j k d) := by
  have e6 : ∀ k, View.ld (Val := Elt Ideal) w r0_6 (ix4 0 0 k d) = w (ix4 0 0 k d) := fun k => ld_apply w 0 0 _ k d
  have e7 : ∀ k, View.ld (Val := Elt Ideal) w r0_7 (ix4 0 0 k d) = w (ix4 0 1 k d) := fun k => ld_apply w 0 1 _ k d
  have e8 : ∀ k, View.ld (Val := Elt Ideal) w r0_8 (ix4 0 0 k d) = w (ix4 0 2 k d) := fun k => ld_apply w 0 2 _ k d
  have e9 : ∀ k, View.ld (Val := Elt Ideal) w r0_9 (ix4 0 0 k d) = w (ix4 1 0 k d) := fun k => ld_apply w 1 0 _ k d
  have e10 : ∀ k, View.ld (Val := Elt Ideal) w r0_10 (ix4 0 0 k d) = w (ix4 1 1 k d) := fun k => ld_apply w 1 1 _ k d
  have e11 : ∀ k, View.ld (Val := Elt Ideal) w r0_11 (ix4 0 0 k d) = w (ix4 1 2 k d) := fun k => ld_apply w 1 2 _ k d
  have e12 : ∀ k, View.ld (Val := Elt Ideal) w r0_12 (ix4 0 0 k d) = w (ix4 2 0 k d) := fun k => ld_apply w 2 0 _ k d
  have e13 : ∀ k, View.ld (Val := Elt Ideal) w r0_13 (ix4 0 0 k d) = w (ix4 2 1 k d) := fun k => ld_apply w 2 1 _ k d
  have e14 : ∀ k, View.ld (Val := Elt Ideal) w r0_14 (ix4 0 0 k d) = w (ix4 2 2 k d) := fun k => ld_apply w 2 2 _ k d
  generalize View.ld (Val := Elt Ideal) w r0_6 = w6 at *
  generalize View.ld (Val := Elt Ideal) w r0_7 = w7 at *
  generalize View.ld (Val := Elt Ideal) w r0_8 = w8 at *
  generalize View.ld (Val := Elt Ideal) w r0_9 = w9 at *
  generalize View.ld (Val := Elt Ideal) w r0_10 = w10 at *
  generalize View.ld (Val := Elt Ideal) w r0_11 = w11 at *
  generalize View.ld (Val := Elt Ideal) w r0_12 = w12 at *
  generalize View.ld (Val := Elt Ideal) w r0_13 = w13 at *
  generalize View.ld (Val := Elt Ideal) w r0_14 = w14 at *
  pointwise [k0_pay6, k0_pay7, k0_pay8]
  simp only [e6, e7, e8, e9, e10, e11, e12, e13, e14, Fin.sum_univ_three]
  simp only [← add_assoc]
  simp only [Fin.val_zero, Fin.val_one, Fin.val_two, zero_add]

variable (a0 : Vec Ideal S3x50x84x1024 .fp8e4m3) (a1 : Vec Ideal S1 .f32) (a2 : Vec Ideal S1024x384 .fp8e4m3) (a3 a4 : Vec Ideal S384 .f32)
    (a5 : Vec Ideal S3x3x384x384 .fp8e4m3) (a6 a7 : Vec Ideal S384 .f32) (a8 a9 : Vec Ideal S1 .f32)
    (a10 : Vec Ideal S75x42x384 .fp8e4m3) (a11 : Vec Ideal S1 .f32)

/-- The reference's second result: the quantised map. -/
theorem G13_apply (R : Fin 150) (x : Fin 84) (d : Fin 384) :
    Value.G13 (F := Ideal) a0 a1 a2 a3 a4 a5 a6 a7 a8 a9 a10 a11 (ix3 R x d)
      = (argsOf a0 a1 a2 a3 a4 a5 a6 a7 a8 a9 (half4 a10) a11).code ⟨R.val / 50, by omega⟩ ⟨R.val % 50, by omega⟩ x d := by
  rw [← pay2_apply]
  unfold Value.G13
  pointwise [k0_pay3]

/-- A load of the whole of an array is the array. -/
theorem pay10_apply (n : Fin 3) (h : Fin 50) (x : Fin 84) (d : Fin 384) :
    k0_pay10 (F := Ideal) a0 a1 a2 a3 a4 a5 a6 a7 a8 a9 a10 a11 (ix4 n h x d)
      = (argsOf a0 a1 a2 a3 a4 a5 a6 a7 a8 a9 (half4 a10) a11).code n h x d := by
  rw [← pay2_apply]
  unfold k0_pay10
  rw [View.ld_unit_zero (S := S3x50x84x1024) (by decide) _ a0, View.ld_unit_zero (S := S1024x384) (by decide) _ a2,
    View.ld_unit_zero (S := S1) (by decide) _ a1, View.ld_unit_zero (S := S384) (by decide) _ a3, View.ld_unit_zero (S := S384) (by decide) _ a4,
    View.ld_unit_zero (S := S75x42x384) (by decide) _ a10, View.ld_unit_zero (S := S1) (by decide) _ a11, View.ld_unit_zero (S := S1) (by decide) _ a9]
  pointwise [k0_pay4]

/-- The reference's first result: the convolution. -/
theorem G12_apply (R : Fin 150) (x : Fin 84) (d : Fin 384) :
    Value.G12 (F := Ideal) a0 a1 a2 a3 a4 a5 a6 a7 a8 a9 a10 a11 (ix3 R x d)
      = (argsOf a0 a1 a2 a3 a4 a5 a6 a7 a8 a9 (half4 a10) a11).out ⟨R.val / 50, by omega⟩ ⟨R.val % 50, by omega⟩ x d := by
  unfold Value.G12
  have ht := taps_apply (k0_pay10 (F := Ideal) a0 a1 a2 a3 a4 a5 a6 a7 a8 a9 a10 a11) a5 ⟨R.val / 50, by omega⟩ ⟨R.val % 50, by omega⟩ x d
  have hp : ∀ (n : Fin 3) (i : Fin 52) (j : Fin 86) (k : Fin 384), k0_pay5 (k0_pay10 (F := Ideal) a0 a1 a2 a3 a4 a5 a6 a7 a8 a9 a10 a11) (ix4 n i j k)
      = (argsOf a0 a1 a2 a3 a4 a5 a6 a7 a8 a9 (half4 a10) a11).pad n i.val j.val k := fun n i j k => by
    rw [pay5_apply]; unfold Args.pad; simp only [pay10_apply]
  simp only [hp] at ht
  generalize k0_pay8 (F := Ideal) _ _ _ _ _ _ _ _ = y at ht
  pointwise [k0_pay1, k0_pay9]
  rw [ht]
  unfold Args.out
  refine congrArg (fun z => z * _ + _) ?_
  refine Finset.sum_congr rfl fun i _ => Finset.sum_congr rfl fun j _ => Finset.sum_congr rfl fun k _ => ?_
  rw [Nat.add_comm i.val, Nat.add_comm j.val]
  rfl

end Cert.Reference4Ideal.Hand

end
-- ==== Proof.Value4.lean ====
/-
  The two runs meet: the kernel's results and the reference's, from equal arguments, are the same functions.
-/
module

public import proofs.«01_k».proof.Proof.KernelMath4
public import proofs.«01_k».proof.Proof.RefMath4

@[expose] public section

noncomputable section

namespace Cert.Kernel4Ideal.Hand

open Cert.Kernel4Ideal Cert.Kernel4Ideal.Gen Cert.Math Cert.Rows
open Idealize.ShloMosaic Idealize.ShloMosaic.TcCoe Idealize.ShloMosaic.Pointwise Idealize.SL.Sem

variable (m : (ℓ : Loc nD τ sig) → Buf (Elt Ideal) ℓ) (ρ : Dev nD → PrngReg)

/-- The kernel's run: both results, and the arguments as launched. -/
theorem run_values : θ_run defs (onTc (τ := τ) (main (F := Ideal))) ⟨m, fun _ => 0, ρ⟩ (fun r => ∀ c : Dev nD,
    r.2.mem ((c : Thread nD τ).loc main_v6_0) = Gp m c
    ∧ r.2.mem ((c : Thread nD τ).loc main_v6_1) = Gq m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)) := by
  refine (θ_run _ _ _).mono (fun r h c => ⟨h.1.2 c main_v6_0 (by decide), ((h.1.1 c).1 12).trans (final12 m c), args_of m r h.1 c⟩) (run_main m ρ)

/-- The first results agree. -/
theorem out_eq (c : Dev nD) : (Gp m c : Vec Ideal S150x84x384 .bf16)
    = Cert.Reference4Ideal.Value.G12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext j
  rw [eq_ix3 j]
  exact (Gp_apply m c (j 0) (j 1) (j 2)).trans (Cert.Reference4Ideal.Hand.G12_apply _ _ _ _ _ _ _ _ _ _ _ _ (j 0) (j 1) (j 2)).symm

/-- The second results agree. -/
theorem code_eq (c : Dev nD) : (Gq m c : Vec Ideal S150x84x384 .fp8e4m3)
    = Cert.Reference4Ideal.Value.G13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext j
  rw [eq_ix3 j]
  exact (Cert.Reference4Ideal.Hand.G13_apply _ _ _ _ _ _ _ _ _ _ _ _ (j 0) (j 1) (j 2)).symm

end Cert.Kernel4Ideal.Hand

end
-- ==== Proof.lean ====
/-
  The proof of `Cert.Claim`: the kernel, its reading over the extended reals and the reference end without fault and
  leave their arguments unchanged, and over the extended reals kernel and reference compute the same two arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Skeleton
public import proofs.«01_k».proof.Proof.Gen.Reference3Ideal.Launch
public import proofs.«01_k».proof.Proof.Gen.Reference3Ideal.Points
public import proofs.«01_k».proof.Proof.Gen.Reference3Ideal.Frame
public import proofs.«01_k».proof.Proof.Gen.Reference3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Skeleton
public import proofs.«01_k».proof.Proof.Gen.Reference4Ideal.Launch
public import proofs.«01_k».proof.Proof.Gen.Reference4Ideal.Points
public import proofs.«01_k».proof.Proof.Gen.Reference4Ideal.Frame
public import proofs.«01_k».proof.Proof.Gen.Reference4Ideal.Value
public import proofs.«01_k».proof.Proof.Bits
public import proofs.«01_k».proof.Proof.Bits3
public import proofs.«01_k».proof.Proof.Bits4
public import proofs.«01_k».proof.Proof.Value
public import proofs.«01_k».proof.Proof.Value3
public import proofs.«01_k».proof.Proof.Value4
public import Idealize.ShloMosaic.Adequacy
public import Idealize.ShloMosaic.Init

@[expose] public section

noncomputable section

namespace Cert.Proof

open Idealize.ShloMosaic Idealize.SL.Sem Cert.Kernel

/-- The values of level 2: from equal arguments both programs end with equal results. -/
theorem algebraic2 : Cert.algebraic_KernelIdeal_ReferenceIdeal (hKernelIdeal := Cert.KernelIdeal.Gen.facts) (hReferenceIdeal := Cert.ReferenceIdeal.Gen.facts) := by
  intro m g m' g' _ hm
  refine ⟨Cert.KernelIdeal.Hand.Gp m, Cert.KernelIdeal.Hand.Gq m, Cert.KernelIdeal.Hand.run_values m g, ?_⟩
  refine (θ_run _ _ _).mono (fun r h c => ?_) (Cert.ReferenceIdeal.Value.run m' g')
  obtain ⟨h0, h1, hargs⟩ := h c
  obtain ⟨e0, e1, e2, e3, e4, e5, e6, e7, e8, e9, e10, e11⟩ := hm c
  refine ⟨h0.trans ?_, h1.trans ?_, hargs⟩
  · rw [e0, e1, e2, e3, e4, e5, e6, e7, e8, e9, e10, e11]
    exact (Cert.KernelIdeal.Hand.out_eq m c).symm
  · rw [e0, e1, e2, e3, e4, e5, e6, e7, e8, e9, e10, e11]
    exact (Cert.KernelIdeal.Hand.code_eq m c).symm

/-- The values of level 3: from equal arguments both programs end with equal results. -/
theorem algebraic3 : Cert.algebraic_Kernel3Ideal_Reference3Ideal (hKernel3Ideal := Cert.Kernel3Ideal.Gen.facts) (hReference3Ideal := Cert.Reference3Ideal.Gen.facts) := by
  intro m g m' g' _ hm
  refine ⟨Cert.Kernel3Ideal.Hand.Gp m, Cert.Kernel3Ideal.Hand.Gq m, Cert.Kernel3Ideal.Hand.run_values m g, ?_⟩
  refine (θ_run _ _ _).mono (fun r h c => ?_) (Cert.Reference3Ideal.Value.run m' g')
  obtain ⟨h0, h1, hargs⟩ := h c
  obtain ⟨e0, e1, e2, e3, e4, e5, e6, e7, e8, e9, e10, e11⟩ := hm c
  refine ⟨h0.trans ?_, h1.trans ?_, hargs⟩
  · rw [e0, e1, e2, e3, e4, e5, e6, e7, e8, e9, e10, e11]
    exact (Cert.Kernel3Ideal.Hand.out_eq m c).symm
  · rw [e0, e1, e2, e3, e4, e5, e6, e7, e8, e9, e10, e11]
    exact (Cert.Kernel3Ideal.Hand.code_eq m c).symm

/-- The values of level 4: from equal arguments both programs end with equal results. -/
theorem algebraic4 : Cert.algebraic_Kernel4Ideal_Reference4Ideal (hKernel4Ideal := Cert.Kernel4Ideal.Gen.facts) (hReference4Ideal := Cert.Reference4Ideal.Gen.facts) := by
  intro m g m' g' _ hm
  refine ⟨Cert.Kernel4Ideal.Hand.Gp m, Cert.Kernel4Ideal.Hand.Gq m, Cert.Kernel4Ideal.Hand.run_values m g, ?_⟩
  refine (θ_run _ _ _).mono (fun r h c => ?_) (Cert.Reference4Ideal.Value.run m' g')
  obtain ⟨h0, h1, hargs⟩ := h c
  obtain ⟨e0, e1, e2, e3, e4, e5, e6, e7, e8, e9, e10, e11⟩ := hm c
  refine ⟨h0.trans ?_, h1.trans ?_, hargs⟩
  · rw [e0, e1, e2, e3, e4, e5, e6, e7, e8, e9, e10, e11]
    exact (Cert.Kernel4Ideal.Hand.out_eq m c).symm
  · rw [e0, e1, e2, e3, e4, e5, e6, e7, e8, e9, e10, e11]
    exact (Cert.Kernel4Ideal.Hand.code_eq m c).symm

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel.Hand.frame, fun m ρ _ => Cert.KernelIdeal.Hand.frame_main m ρ, fun m ρ _ => Cert.ReferenceIdeal.Gen.frame m ρ,
  Cert.Kernel3.Hand.frame, fun m ρ _ => Cert.Kernel3Ideal.Hand.frame_main m ρ, fun m ρ _ => Cert.Reference3Ideal.Gen.frame m ρ,
  Cert.Kernel4.Hand.frame, fun m ρ _ => Cert.Kernel4Ideal.Hand.frame_main m ρ, fun m ρ _ => Cert.Reference4Ideal.Gen.frame m ρ,
  trivial, algebraic2, trivial, algebraic3, trivial, algebraic4⟩

end Cert.Proof

end
